-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.sign_bit.Statement Cert.KernelIdeal.S96x96 .f32

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v50_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v50_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x96x128 : Shape := ⟨3, ![16, 96, 128]⟩
abbrev S16x96x4 : Shape := ⟨3, ![16, 96, 4]⟩
abbrev S16x9120 : Shape := ⟨2, ![16, 9120]⟩
abbrev S16x96x16 : Shape := ⟨3, ![16, 96, 16]⟩
abbrev S128x258 : Shape := ⟨2, ![128, 258]⟩
abbrev S128 : Shape := ⟨1, ![128]⟩
abbrev S128x128 : Shape := ⟨2, ![128, 128]⟩
abbrev S128x272 : Shape := ⟨2, ![128, 272]⟩
abbrev S1x128 : Shape := ⟨2, ![1, 128]⟩
abbrev S1 : Shape := ⟨1, ![1]⟩
abbrev S_ : Shape := ⟨0, ![]⟩

class Facts : Prop where
  bcast_S_S16x96x128 : S_.BroadcastsInDim S16x96x128 (![] : Fin 0 → Fin S16x96x128.rank)
  bcast_S_S16x96x4 : S_.BroadcastsInDim S16x96x4 (![] : Fin 0 → Fin S16x96x4.rank)
  bcast_S_S16x9120 : S_.BroadcastsInDim S16x9120 (![] : Fin 0 → Fin S16x9120.rank)
  bcast_S_S128x258 : S_.BroadcastsInDim S128x258 (![] : Fin 0 → Fin S128x258.rank)
  bcast_S_S128 : S_.BroadcastsInDim S128 (![] : Fin 0 → Fin S128.rank)

variable [Facts]

def fn_part1 {F : FTy → Type} [FloatOps F] (main_arg6 : FVec F S128 .f32) (main_v2 : IVec S16x96x128 1) (main_v5 : IVec S16x96x4 1) (main_v10 : IVec S16x9120 1) (main_v15 : IVec S16x9120 1) (main_v16 : FVec F S128x258 .f32) (main_cst_4 : FVec F S_ .f32) : IVec S16x96x128 1 × IVec S16x96x4 1 × IVec S16x9120 1 × IVec S16x9120 1 × IVec S128x258 1 × IVec S128 1 :=
  let main_v17 : FVec F S128x258 .f32 := broadcastInDim S128x258 ![] bcast_S_S128x258 main_cst_4
  let main_v18 : IVec S128x258 1 := cmpf .olt main_v16 main_v17
  let main_v19 : FVec F S128 .f32 := Host.absf main_arg6
  let main_cst_5 : FVec F S_ .f32 := constant S_ .f32 0x7F800000#32
  let main_v20 : FVec F S128 .f32 := broadcastInDim S128 ![] bcast_S_S128 main_cst_5
  let main_v21 : IVec S128 1 := cmpf .olt main_v19 main_v20
  (main_v2, main_v5, main_v10, main_v15, main_v18, main_v21)

def fn {F : FTy → Type} [FloatOps F] (main_arg0 : FVec F S16x96x128 .f32) (main_arg1 : FVec F S16x96x4 .f32) (main_arg2 : IVec S16x9120 32) (main_arg3 : IVec S16x9120 32) (main_arg4 : FVec F S16x96x16 .f32) (main_arg5 : FVec F S128x258 .f32) (main_arg6 : FVec F S128 .f32) (main_arg7 : FVec F S128 .f32) (main_arg8 : FVec F S128x128 .f32) (main_arg9 : FVec F S128 .f32) (main_arg10 : FVec F S128x272 .f32) (main_arg11 : FVec F S128 .f32) (main_arg12 : FVec F S128 .f32) (main_arg13 : FVec F S128 .f32) (main_arg14 : FVec F S128x128 .f32) (main_arg15 : FVec F S128 .f32) (main_arg16 : FVec F S128x128 .f32) (main_arg17 : FVec F S128 .f32) (main_arg18 : FVec F S1x128 .f32) (main_arg19 : FVec F S1x128 .f32) (main_arg20 : FVec F S1 .f32) : IVec S16x96x128 1 × IVec S16x96x4 1 × IVec S16x9120 1 × IVec S16x9120 1 × IVec S128x258 1 × IVec S128 1 :=
  let main_v0 : FVec F S16x96x128 .f32 := Host.absf main_arg0
  let main_cst : FVec F S_ .f32 := constant S_ .f32 0x7F800000#32
  let main_v1 : FVec F S16x96x128 .f32 := broadcastInDim S16x96x128 ![] bcast_S_S16x96x128 main_cst
  let main_v2 : IVec S16x96x128 1 := cmpf .olt main_v0 main_v1
  let main_v3 : FVec F S16x96x4 .f32 := Host.absf main_arg1
  let main_cst_0 : FVec F S_ .f32 := constant S_ .f32 0x7F800000#32
  let main_v4 : FVec F S16x96x4 .f32 := broadcastInDim S16x96x4 ![] bcast_S_S16x96x4 main_cst_0
  let main_v5 : IVec S16x96x4 1 := cmpf .olt main_v3 main_v4
  let main_c : IVec S_ 32 := constantI S_ 32 0#32
  let main_v6 : IVec S16x9120 32 := broadcastInDim S16x9120 ![] bcast_S_S16x9120 main_c
  let main_v7 : IVec S16x9120 1 := cmpi .sge main_arg2 main_v6
  let main_c_1 : IVec S_ 32 := constantI S_ 32 96#32
  let main_v8 : IVec S16x9120 32 := broadcastInDim S16x9120 ![] bcast_S_S16x9120 main_c_1
  let main_v9 : IVec S16x9120 1 := cmpi .slt main_arg2 main_v8
  let main_v10 : IVec S16x9120 1 := andi main_v7 main_v9
  let main_c_2 : IVec S_ 32 := constantI S_ 32 0#32
  let main_v11 : IVec S16x9120 32 := broadcastInDim S16x9120 ![] bcast_S_S16x9120 main_c_2
  let main_v12 : IVec S16x9120 1 := cmpi .sge main_arg3 main_v11
  let main_c_3 : IVec S_ 32 := constantI S_ 32 96#32
  let main_v13 : IVec S16x9120 32 := broadcastInDim S16x9120 ![] bcast_S_S16x9120 main_c_3
  let main_v14 : IVec S16x9120 1 := cmpi .slt main_arg3 main_v13
  let main_v15 : IVec S16x9120 1 := andi main_v12 main_v14
  let main_v16 : FVec F S128x258 .f32 := Host.absf main_arg5
  let main_cst_4 : FVec F S_ .f32 := constant S_ .f32 0x7F800000#32
  fn_part1 (F := F) main_arg6 main_v2 main_v5 main_v10 main_v15 main_v16 main_cst_4
-- ==== Kernel.lean ====
abbrev S16x96x128 : Shape := ⟨3, ![16, 96, 128]⟩
abbrev S16x96x4 : Shape := ⟨3, ![16, 96, 4]⟩
abbrev S16x9120 : Shape := ⟨2, ![16, 9120]⟩
abbrev S16x96x16 : Shape := ⟨3, ![16, 96, 16]⟩
abbrev S128x258 : Shape := ⟨2, ![128, 258]⟩
abbrev S128 : Shape := ⟨1, ![128]⟩
abbrev S128x128 : Shape := ⟨2, ![128, 128]⟩
abbrev S128x272 : Shape := ⟨2, ![128, 272]⟩
abbrev S1x128 : Shape := ⟨2, ![1, 128]⟩
abbrev S1 : Shape := ⟨1, ![1]⟩
abbrev S128x1 : Shape := ⟨2, ![128, 1]⟩
abbrev S16x4x96 : Shape := ⟨3, ![16, 4, 96]⟩
abbrev S16x3x3040x1 : Shape := ⟨4, ![16, 3, 3040, 1]⟩
abbrev S16x3x1x3040 : Shape := ⟨4, ![16, 3, 1, 3040]⟩
abbrev S8x128 : Shape := ⟨2, ![8, 128]⟩
abbrev S1x1x3040x1 : Shape := ⟨4, ![1, 1, 3040, 1]⟩
abbrev S1x96x128 : Shape := ⟨3, ![1, 96, 128]⟩
abbrev S1x96x4 : Shape := ⟨3, ![1, 96, 4]⟩
abbrev S1x4x96 : Shape := ⟨3, ![1, 4, 96]⟩
abbrev S128x384 : Shape := ⟨2, ![128, 384]⟩
abbrev S128x8 : Shape := ⟨2, ![128, 8]⟩
abbrev S96x128 : Shape := ⟨2, ![96, 128]⟩
abbrev S96x4 : Shape := ⟨2, ![96, 4]⟩
abbrev S4x96 : Shape := ⟨2, ![4, 96]⟩
abbrev S1x4 : Shape := ⟨2, ![1, 4]⟩
abbrev S4x1 : Shape := ⟨2, ![4, 1]⟩
abbrev S96x96 : Shape := ⟨2, ![96, 96]⟩
abbrev S96 : Shape := ⟨1, ![96]⟩
abbrev S96x1 : Shape := ⟨2, ![96, 1]⟩
abbrev S1x96 : Shape := ⟨2, ![1, 96]⟩
abbrev S96x32 : Shape := ⟨2, ![96, 32]⟩
abbrev S32x384 : Shape := ⟨2, ![32, 384]⟩
abbrev S96x384 : Shape := ⟨2, ![96, 384]⟩
abbrev S32x128 : Shape := ⟨2, ![32, 128]⟩
abbrev S96x8 : Shape := ⟨2, ![96, 8]⟩
abbrev S32x8 : Shape := ⟨2, ![32, 8]⟩
abbrev S3040x1 : Shape := ⟨2, ![3040, 1]⟩
abbrev S3040x128 : Shape := ⟨2, ![3040, 128]⟩
abbrev S3040x384 : Shape := ⟨2, ![3040, 384]⟩
abbrev S_ : Shape := ⟨0, ![]⟩
abbrev S1x1 : Shape := ⟨2, ![1, 1]⟩
abbrev S16x9120x128 : Shape := ⟨3, ![16, 9120, 128]⟩
abbrev S16x96x8 : Shape := ⟨3, ![16, 96, 8]⟩
abbrev S1x1x1x3040 : Shape := ⟨4, ![1, 1, 1, 3040]⟩
abbrev S1x3040x128 : Shape := ⟨3, ![1, 3040, 128]⟩
abbrev S1x96x8 : Shape := ⟨3, ![1, 96, 8]⟩
abbrev S3040x8 : Shape := ⟨2, ![3040, 8]⟩
abbrev S1x8 : Shape := ⟨2, ![1, 8]⟩
abbrev S1x3040 : Shape := ⟨2, ![1, 3040]⟩
abbrev S96x3040 : Shape := ⟨2, ![96, 3040]⟩
abbrev S128x16 : Shape := ⟨2, ![128, 16]⟩
abbrev S16x128 : Shape := ⟨2, ![16, 128]⟩
abbrev S1536x128 : Shape := ⟨2, ![1536, 128]⟩
abbrev S1536x16 : Shape := ⟨2, ![1536, 16]⟩
abbrev S16x96x1 : Shape := ⟨3, ![16, 96, 1]⟩

abbrev nBuf : Space → Nat
  | .hbm => 90
  | .vmem => 67
  | .smem => 0
  | _ => 0

abbrev bufTy : (tb : Table) → Fin (tcTables nBuf tb) → BufTy
  | .hbm, ⟨0, _⟩ => ⟨S16x96x128, .f32⟩
  | .hbm, ⟨1, _⟩ => ⟨S16x96x4, .f32⟩
  | .hbm, ⟨2, _⟩ => ⟨S16x9120, .i32⟩
  | .hbm, ⟨3, _⟩ => ⟨S16x9120, .i32⟩
  | .hbm, ⟨4, _⟩ => ⟨S16x96x16, .f32⟩
  | .hbm, ⟨5, _⟩ => ⟨S128x258, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x272, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S1, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x1, .f32⟩
  | .hbm, ⟨26, _⟩ => ⟨S128, .f32⟩
  | .hbm, ⟨27, _⟩ => ⟨S1x128, .f32⟩
  | .hbm, ⟨28, _⟩ => ⟨S128x128, .f32⟩
  | .hbm, ⟨29, _⟩ => ⟨S128x128, .bf16⟩
  | .hbm, ⟨30, _⟩ => ⟨S128x1, .f32⟩
  | .hbm, ⟨31, _⟩ => ⟨S128, .f32⟩
  | .hbm, ⟨32, _⟩ => ⟨S1x128, .f32⟩
  | .hbm, ⟨33, _⟩ => ⟨S128x128, .f32⟩
  | .hbm, ⟨34, _⟩ => ⟨S128x128, .bf16⟩
  | .hbm, ⟨35, _⟩ => ⟨S16x4x96, .f32⟩
  | .hbm, ⟨36, _⟩ => ⟨S16x3x3040x1, .i32⟩
  | .hbm, ⟨37, _⟩ => ⟨S16x3x3040x1, .i32⟩
  | .hbm, ⟨38, _⟩ => ⟨S16x3x1x3040, .i32⟩
  | .hbm, ⟨39, _⟩ => ⟨S8x128, .f32⟩
  | .hbm, ⟨40, _⟩ => ⟨S1x128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S1x128, .f32⟩
  | .hbm, ⟨61, _⟩ => ⟨S128x128, .f32⟩
  | .hbm, ⟨62, _⟩ => ⟨S128x128, .bf16⟩
  | .hbm, ⟨63, _⟩ => ⟨S1x128, .f32⟩
  | .hbm, ⟨64, _⟩ => ⟨S128x1, .f32⟩
  | .hbm, ⟨65, _⟩ => ⟨S128x128, .f32⟩
  | .hbm, ⟨66, _⟩ => ⟨S128x128, .bf16⟩
  | .hbm, ⟨67, _⟩ => ⟨S1x1, .f32⟩
  | .hbm, ⟨68, _⟩ => ⟨S128x128, .f32⟩
  | .hbm, ⟨69, _⟩ => ⟨S128x128, .bf16⟩
  | .hbm, ⟨70, _⟩ => ⟨S1x128, .f32⟩
  | .hbm, ⟨71, _⟩ => ⟨S128x1, .f32⟩
  | .hbm, ⟨72, _⟩ => ⟨S128x8, .f32⟩
  | .hbm, ⟨73, _⟩ => ⟨S128x8, .bf16⟩
  | .hbm, ⟨74, _⟩ => ⟨S16x9120x128, .f32⟩
  | .hbm, ⟨75, _⟩ => ⟨S16x96x128, .f32⟩
  | .hbm, ⟨76, _⟩ => ⟨S16x96x8, .f32⟩
  | .hbm, ⟨77, _⟩ => ⟨S128x128, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S128x16, .f32⟩
  | .hbm, ⟨82, _⟩ => ⟨S16x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S128x128, .f32⟩
  | .hbm, ⟨87, _⟩ => ⟨S1x128, .f32⟩
  | .hbm, ⟨88, _⟩ => ⟨S16x96x128, .f32⟩
  | .hbm, ⟨89, _⟩ => ⟨S16x96x4, .f32⟩
  | .local _ .vmem, ⟨0, _⟩ => ⟨S1x1x3040x1, .i32⟩
  | .local _ .vmem, ⟨1, _⟩ => ⟨S1x1x3040x1, .i32⟩
  | .local _ .vmem, ⟨2, _⟩ => ⟨S1x1x3040x1, .i32⟩
  | .local _ .vmem, ⟨3, _⟩ => ⟨S1x1x3040x1, .i32⟩
  | .local _ .vmem, ⟨4, _⟩ => ⟨S1x96x128, .f32⟩
  | .local _ .vmem, ⟨5, _⟩ => ⟨S1x96x128, .f32⟩
  | .local _ .vmem, ⟨6, _⟩ => ⟨S1x96x4, .f32⟩
  | .local _ .vmem, ⟨7, _⟩ => ⟨S1x96x4, .f32⟩
  | .local _ .vmem, ⟨8, _⟩ => ⟨S1x4x96, .f32⟩
  | .local _ .vmem, ⟨9, _⟩ => ⟨S1x4x96, .f32⟩
  | .local _ .vmem, ⟨10, _⟩ => ⟨S128x128, .f32⟩
  | .local _ .vmem, ⟨11, _⟩ => ⟨S128x128, .f32⟩
  | .local _ .vmem, ⟨12, _⟩ => ⟨S128x128, .bf16⟩
  | .local _ .vmem, ⟨13, _⟩ => ⟨S128x128, .bf16⟩
  | .local _ .vmem, ⟨14, _⟩ => ⟨S8x128, .f32⟩
  | .local _ .vmem, ⟨15, _⟩ => ⟨S128x384, .bf16⟩
  | .local _ .vmem, ⟨16, _⟩ => ⟨S128x128, .bf16⟩
  | .local _ .vmem, ⟨17, _⟩ => ⟨S128x8, .bf16⟩
  | .local _ .vmem, ⟨18, _⟩ => ⟨S1x1x3040x1, .i32⟩
  | .local _ .vmem, ⟨19, _⟩ => ⟨S1x1x3040x1, .i32⟩
  | .local _ .vmem, ⟨20, _⟩ => ⟨S1x1x3040x1, .i32⟩
  | .local _ .vmem, ⟨21, _⟩ => ⟨S1x1x3040x1, .i32⟩
  | .local _ .vmem, ⟨22, _⟩ => ⟨S1x1x1x3040, .i32⟩
  | .local _ .vmem, ⟨23, _⟩ => ⟨S1x1x1x3040, .i32⟩
  | .local _ .vmem, ⟨24, _⟩ => ⟨S1x96x128, .f32⟩
  | .local _ .vmem, ⟨25, _⟩ => ⟨S1x96x128, .f32⟩
  | .local _ .vmem, ⟨26, _⟩ => ⟨S1x96x4, .f32⟩
  | .local _ .vmem, ⟨27, _⟩ => ⟨S1x96x4, .f32⟩
  | .local _ .vmem, ⟨28, _⟩ => ⟨S1x4x96, .f32⟩
  | .local _ .vmem, ⟨29, _⟩ => ⟨S1x4x96, .f32⟩
  | .local _ .vmem, ⟨30, _⟩ => ⟨S128x128, .f32⟩
  | .local _ .vmem, ⟨31, _⟩ => ⟨S128x128, .f32⟩
  | .local _ .vmem, ⟨32, _⟩ => ⟨S128x128, .bf16⟩
  | .local _ .vmem, ⟨33, _⟩ => ⟨S128x128, .bf16⟩
  | .local _ .vmem, ⟨34, _⟩ => ⟨S1x128, .f32⟩
  | .local _ .vmem, ⟨35, _⟩ => ⟨S1x128, .f32⟩
  | .local _ .vmem, ⟨36, _⟩ => ⟨S128x128, .bf16⟩
  | .local _ .vmem, ⟨37, _⟩ => ⟨S1x128, .f32⟩
  | .local _ .vmem, ⟨38, _⟩ => ⟨S128x128, .bf16⟩
  | .local _ .vmem, ⟨39, _⟩ => ⟨S1x1, .f32⟩
  | .local _ .vmem, ⟨40, _⟩ => ⟨S128x128, .bf16⟩
  | .local _ .vmem, ⟨41, _⟩ => ⟨S1x128, .f32⟩
  | .local _ .vmem, ⟨42, _⟩ => ⟨S128x8, .bf16⟩
  | .local _ .vmem, ⟨43, _⟩ => ⟨S1x3040x128, .f32⟩
  | .local _ .vmem, ⟨44, _⟩ => ⟨S1x3040x128, .f32⟩
  | .local _ .vmem, ⟨45, _⟩ => ⟨S1x96x128, .f32⟩
  | .local _ .vmem, ⟨46, _⟩ => ⟨S1x96x128, .f32⟩
  | .local _ .vmem, ⟨47, _⟩ => ⟨S1x96x8, .f32⟩
  | .local _ .vmem, ⟨48, _⟩ => ⟨S1x96x8, .f32⟩
  | .local _ .vmem, ⟨49, _⟩ => ⟨S128x384, .bf16⟩
  | .local _ .vmem, ⟨50, _⟩ => ⟨S128x128, .bf16⟩
  | .local _ .vmem, ⟨51, _⟩ => ⟨S128x8, .bf16⟩
  | .local _ .vmem, ⟨52, _⟩ => ⟨S16x96x128, .f32⟩
  | .local _ .vmem, ⟨53, _⟩ => ⟨S16x96x128, .f32⟩
  | .local _ .vmem, ⟨54, _⟩ => ⟨S16x96x16, .f32⟩
  | .local _ .vmem, ⟨55, _⟩ => ⟨S16x96x4, .f32⟩
  | .local _ .vmem, ⟨56, _⟩ => ⟨S16x96x8, .f32⟩
  | .local _ .vmem, ⟨57, _⟩ => ⟨S128x128, .f32⟩
  | .local _ .vmem, ⟨58, _⟩ => ⟨S128x128, .f32⟩
  | .local _ .vmem, ⟨59, _⟩ => ⟨S16x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S128x128, .f32⟩
  | .local _ .vmem, ⟨64, _⟩ => ⟨S1x128, .f32⟩
  | .local _ .vmem, ⟨65, _⟩ => ⟨S16x96x128, .f32⟩
  | .local _ .vmem, ⟨66, _⟩ => ⟨S16x96x4, .f32⟩
  | _, _ => ⟨S16x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_1 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_v50_2 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62_0 : Ref sig .tc := ⟨.hbm, 88, rfl⟩
abbrev main_v62_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg13_0 : Ref sig .tc := ⟨.vmem, 37, rfl⟩
abbrev cc1_stg14_0 : Ref sig .tc := ⟨.vmem, 38, rfl⟩
abbrev cc1_stg15_0 : Ref sig .tc := ⟨.vmem, 39, rfl⟩
abbrev cc1_stg16_0 : Ref sig .tc := ⟨.vmem, 40, rfl⟩
abbrev cc1_stg17_0 : Ref sig .tc := ⟨.vmem, 41, rfl⟩
abbrev cc1_stg18_0 : Ref sig .tc := ⟨.vmem, 42, rfl⟩
abbrev cc1_stg19_0 : Ref sig .tc := ⟨.vmem, 43, rfl⟩
abbrev cc1_stg19_1 : Ref sig .tc := ⟨.vmem, 44, rfl⟩
abbrev cc1_stg20_0 : Ref sig .tc := ⟨.vmem, 45, rfl⟩
abbrev cc1_stg20_1 : Ref sig .tc := ⟨.vmem, 46, rfl⟩
abbrev cc1_stg21_0 : Ref sig .tc := ⟨.vmem, 47, rfl⟩
abbrev cc1_stg21_1 : Ref sig .tc := ⟨.vmem, 48, rfl⟩
abbrev cc1_scratch0 : Ref sig .tc := ⟨.vmem, 49, rfl⟩
abbrev cc1_scratch1 : Ref sig .tc := ⟨.vmem, 50, rfl⟩
abbrev cc1_scratch2 : Ref sig .tc := ⟨.vmem, 51, rfl⟩
abbrev cc2_stg0_0 : Ref sig .tc := ⟨.vmem, 52, rfl⟩
abbrev cc2_stg1_0 : Ref sig .tc := ⟨.vmem, 53, rfl⟩
abbrev cc2_stg2_0 : Ref sig .tc := ⟨.vmem, 54, rfl⟩
abbrev cc2_stg3_0 : Ref sig .tc := ⟨.vmem, 55, rfl⟩
abbrev cc2_stg4_0 : Ref sig .tc := ⟨.vmem, 56, rfl⟩
abbrev cc2_stg5_0 : Ref sig .tc := ⟨.vmem, 57, rfl⟩
abbrev cc2_stg6_0 : Ref sig .tc := ⟨.vmem, 58, rfl⟩
abbrev cc2_stg7_0 : Ref sig .tc := ⟨.vmem, 59, rfl⟩
abbrev cc2_stg8_0 : Ref sig .tc := ⟨.vmem, 60, rfl⟩
abbrev cc2_stg9_0 : Ref sig .tc := ⟨.vmem, 61, rfl⟩
abbrev cc2_stg10_0 : Ref sig .tc := ⟨.vmem, 62, rfl⟩
abbrev cc2_stg11_0 : Ref sig .tc := ⟨.vmem, 63, rfl⟩
abbrev cc2_stg12_0 : Ref sig .tc := ⟨.vmem, 64, rfl⟩
abbrev cc2_stg13_0 : Ref sig .tc := ⟨.vmem, 65, rfl⟩
abbrev cc2_stg14_0 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem14_0 : DmaSem sig := 35
abbrev cc1_sem15_0 : DmaSem sig := 36
abbrev cc1_sem16_0 : DmaSem sig := 37
abbrev cc1_sem17_0 : DmaSem sig := 38
abbrev cc1_sem18_0 : DmaSem sig := 39
abbrev cc1_sem19_0 : DmaSem sig := 40
abbrev cc1_sem19_1 : DmaSem sig := 41
abbrev cc1_sem20_0 : DmaSem sig := 42
abbrev cc1_sem20_1 : DmaSem sig := 43
abbrev cc1_sem21_0 : DmaSem sig := 44
abbrev cc1_sem21_1 : DmaSem sig := 45
abbrev cc2_sem0_0 : DmaSem sig := 46
abbrev cc2_sem1_0 : DmaSem sig := 47
abbrev cc2_sem2_0 : DmaSem sig := 48
abbrev cc2_sem3_0 : DmaSem sig := 49
abbrev cc2_sem4_0 : DmaSem sig := 50
abbrev cc2_sem5_0 : DmaSem sig := 51
abbrev cc2_sem6_0 : DmaSem sig := 52
abbrev cc2_sem7_0 : DmaSem sig := 53
abbrev cc2_sem8_0 : DmaSem sig := 54
abbrev cc2_sem9_0 : DmaSem sig := 55
abbrev cc2_sem10_0 : DmaSem sig := 56
abbrev cc2_sem11_0 : DmaSem sig := 57
abbrev cc2_sem12_0 : DmaSem sig := 58
abbrev cc2_sem13_0 : DmaSem sig := 59
abbrev cc2_sem14_0 : DmaSem sig := 60

abbrev nD : Nat := 1
abbrev τ : Topo := Topo.v7x

variable {F : FTy → Type} [BitOps F]

abbrev grid0 : Pipeline.Grid := ⟨2, ![16, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x3040x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3040x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x96x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨2, ![16, 3], ![false, false]⟩

def k1_cond2 (i : grid1.Coords) : BitVec 1 :=
  let arg1 : BitVec 32 := BitVec.ofNat 32 (i 1).val
  let c0_i32_60 : BitVec 32 := 0#32
  let v115 : BitVec 1 := Scalar.cmpi .eq arg1 c0_i32_60
  let v116 : BitVec 32 := Scalar.extui v115
  let c0_i32_61 : BitVec 32 := 0#32
  let v117 : BitVec 1 := Scalar.cmpi .ne v116 c0_i32_61
  v117

def k1_cond3 (i : grid1.Coords) : BitVec 1 :=
  let arg1 : BitVec 32 := BitVec.ofNat 32 (i 1).val
  let c0_i32_62 : BitVec 32 := 0#32
  let v118 : BitVec 1 := Scalar.cmpi .ne arg1 c0_i32_62
  let v119 : BitVec 32 := Scalar.extui v118
  let c0_i32_63 : BitVec 32 := 0#32
  let v120 : BitVec 1 := Scalar.cmpi .ne v119 c0_i32_63
  v120

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_20 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_21 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x3040x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x3040x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1x3040 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x96x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x96x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x4x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S128x128 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S128x128 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S128x128 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S128x8 .bf16 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 2 → Memref sig .tc .vmem S1x3040x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]

abbrev stage1_20 : Fin 2 → Memref sig .tc .vmem S1x96x128 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, false]

abbrev stage1_21 : Fin 2 → Memref sig .tc .vmem S1x96x8 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true, false]

abbrev grid2 : Pipeline.Grid := .none

abbrev stage2_0 : Fin 1 → Memref sig .tc .vmem S16x96x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x96x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x96x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x96x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16x96x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S16x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S16x96x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S16x96x4 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
-- ==== KernelIdeal.lean ====
variable {F : FTy → Type} [FloatOps F]
-- ==== ReferenceIdeal.lean ====
abbrev S16x96x128 : Shape := ⟨3, ![16, 96, 128]⟩
abbrev S16x96x4 : Shape := ⟨3, ![16, 96, 4]⟩
abbrev S16x9120 : Shape := ⟨2, ![16, 9120]⟩
abbrev S16x96x16 : Shape := ⟨3, ![16, 96, 16]⟩
abbrev S128x258 : Shape := ⟨2, ![128, 258]⟩
abbrev S128 : Shape := ⟨1, ![128]⟩
abbrev S128x128 : Shape := ⟨2, ![128, 128]⟩
abbrev S128x272 : Shape := ⟨2, ![128, 272]⟩
abbrev S1x128 : Shape := ⟨2, ![1, 128]⟩
abbrev S1 : Shape := ⟨1, ![1]⟩
abbrev S16x9120x1 : Shape := ⟨3, ![16, 9120, 1]⟩
abbrev S_ : Shape := ⟨0, ![]⟩
abbrev S1x1x1 : Shape := ⟨3, ![1, 1, 1]⟩
abbrev S16x9120x4 : Shape := ⟨3, ![16, 9120, 4]⟩
abbrev S16x9120x128 : Shape := ⟨3, ![16, 9120, 128]⟩
abbrev S16x9120x258 : Shape := ⟨3, ![16, 9120, 258]⟩
abbrev S145920x258 : Shape := ⟨2, ![145920, 258]⟩
abbrev S258x128 : Shape := ⟨2, ![258, 128]⟩
abbrev S145920x128 : Shape := ⟨2, ![145920, 128]⟩
abbrev S128x1 : Shape := ⟨2, ![128, 1]⟩
abbrev S16 : Shape := ⟨1, ![16]⟩
abbrev S16x1 : Shape := ⟨2, ![16, 1]⟩
abbrev S145920 : Shape := ⟨1, ![145920]⟩
abbrev S1x1x128 : Shape := ⟨3, ![1, 1, 128]⟩
abbrev S145920x4 : Shape := ⟨2, ![145920, 4]⟩
abbrev S1536x4 : Shape := ⟨2, ![1536, 4]⟩
abbrev S145920x1 : Shape := ⟨2, ![145920, 1]⟩
abbrev S1536x128 : Shape := ⟨2, ![1536, 128]⟩
abbrev S16x96x272 : Shape := ⟨3, ![16, 96, 272]⟩
abbrev S1536x272 : Shape := ⟨2, ![1536, 272]⟩
abbrev S272x128 : Shape := ⟨2, ![272, 128]⟩

abbrev nBuf : Space → Nat
  | .hbm => 340
  | .vmem => 0
  | .smem => 0
  | _ => 0

abbrev hbmTy0_0 (i : Nat) : BufTy := match i % 128 with
  | 0 => ⟨S16x96x128, .f32⟩
  | 1 => ⟨S16x96x4, .f32⟩
  | 2 => ⟨S16x9120, .i32⟩
  | 3 => ⟨S16x9120, .i32⟩
  | 4 => ⟨S16x96x16, .f32⟩
  | 5 => ⟨S128x258, .f32⟩
  | 6 => ⟨S128, .f32⟩
  | 7 => ⟨S128, .f32⟩
  | 8 => ⟨S128x128, .f32⟩
  | 9 => ⟨S128, .f32⟩
  | 10 => ⟨S128x272, .f32⟩
  | 11 => ⟨S128, .f32⟩
  | 12 => ⟨S128, .f32⟩
  | 13 => ⟨S128, .f32⟩
  | 14 => ⟨S128x128, .f32⟩
  | 15 => ⟨S128, .f32⟩
  | 16 => ⟨S128x128, .f32⟩
  | 17 => ⟨S128, .f32⟩
  | 18 => ⟨S1x128, .f32⟩
  | 19 => ⟨S1x128, .f32⟩
  | 20 => ⟨S1, .f32⟩
  | 21 => ⟨S16x9120x1, .i32⟩
  | 22 => ⟨S_, .i32⟩
  | 23 => ⟨S16x9120x1, .i32⟩
  | 24 => ⟨S16x9120x1, .i1⟩
  | 25 => ⟨S_, .i32⟩
  | 26 => ⟨S16x9120x1, .i32⟩
  | 27 => ⟨S16x9120x1, .i32⟩
  | 28 => ⟨S16x9120x1, .i32⟩
  | 29 => ⟨S1, .i32⟩
  | 30 => ⟨S_, .i32⟩
  | 31 => ⟨S16x9120x1, .i32⟩
  | 32 => ⟨S16x9120x1, .i1⟩
  | 33 => ⟨S1x1x1, .i32⟩
  | 34 => ⟨S16x9120x1, .i32⟩
  | 35 => ⟨S16x9120x1, .i1⟩
  | 36 => ⟨S16x9120x1, .i1⟩
  | 37 => ⟨S_, .i1⟩
  | 38 => ⟨S16x9120, .i1⟩
  | 39 => ⟨S16x9120x4, .f32⟩
  | 40 => ⟨S16x9120x4, .i1⟩
  | 41 => ⟨S_, .f32⟩
  | 42 => ⟨S16x9120x4, .f32⟩
  | 43 => ⟨S16x9120x4, .f32⟩
  | 44 => ⟨S16x9120x1, .i32⟩
  | 45 => ⟨S_, .i32⟩
  | 46 => ⟨S16x9120x1, .i32⟩
  | 47 => ⟨S16x9120x1, .i1⟩
  | 48 => ⟨S_, .i32⟩
  | 49 => ⟨S16x9120x1, .i32⟩
  | 50 => ⟨S16x9120x1, .i32⟩
  | 51 => ⟨S16x9120x1, .i32⟩
  | 52 => ⟨S1, .i32⟩
  | 53 => ⟨S_, .i32⟩
  | 54 => ⟨S16x9120x1, .i32⟩
  | 55 => ⟨S16x9120x1, .i1⟩
  | 56 => ⟨S1x1x1, .i32⟩
  | 57 => ⟨S16x9120x1, .i32⟩
  | 58 => ⟨S16x9120x1, .i1⟩
  | 59 => ⟨S16x9120x1, .i1⟩
  | 60 => ⟨S_, .i1⟩
  | 61 => ⟨S16x9120, .i1⟩
  | 62 => ⟨S16x9120x4, .f32⟩
  | 63 => ⟨S16x9120x4, .i1⟩
  | 64 => ⟨S_, .f32⟩
  | 65 => ⟨S16x9120x4, .f32⟩
  | 66 => ⟨S16x9120x4, .f32⟩
  | 67 => ⟨S16x9120x4, .f32⟩
  | 68 => ⟨S16x9120x4, .f32⟩
  | 69 => ⟨S16x9120x1, .f32⟩
  | 70 => ⟨S16x9120, .f32⟩
  | 71 => ⟨S_, .f32⟩
  | 72 => ⟨S16x9120, .f32⟩
  | 73 => ⟨S16x9120, .f32⟩
  | 74 => ⟨S_, .f32⟩
  | 75 => ⟨S16x9120, .f32⟩
  | 76 => ⟨S16x9120, .f32⟩
  | 77 => ⟨S16x9120, .f32⟩
  | 78 => ⟨S16x9120, .f32⟩
  | 79 => ⟨S_, .f32⟩
  | 80 => ⟨S16x9120, .f32⟩
  | 81 => ⟨S16x9120, .f32⟩
  | 82 => ⟨S16x9120, .f32⟩
  | 83 => ⟨S16x9120, .f32⟩
  | 84 => ⟨S16x9120x1, .f32⟩
  | 85 => ⟨S16x9120x4, .f32⟩
  | 86 => ⟨S16x9120x1, .f32⟩
  | 87 => ⟨S16x9120, .f32⟩
  | 88 => ⟨S_, .f32⟩
  | 89 => ⟨S16x9120, .f32⟩
  | 90 => ⟨S16x9120, .f32⟩
  | 91 => ⟨S_, .f32⟩
  | 92 => ⟨S16x9120, .f32⟩
  | 93 => ⟨S16x9120, .f32⟩
  | 94 => ⟨S16x9120, .f32⟩
  | 95 => ⟨S16x9120, .f32⟩
  | 96 => ⟨S_, .f32⟩
  | 97 => ⟨S16x9120, .f32⟩
  | 98 => ⟨S16x9120, .f32⟩
  | 99 => ⟨S16x9120, .f32⟩
  | 100 => ⟨S16x9120, .f32⟩
  | 101 => ⟨S16x9120x1, .f32⟩
  | 102 => ⟨S16x9120x1, .i32⟩
  | 103 => ⟨S_, .i32⟩
  | 104 => ⟨S16x9120x1, .i32⟩
  | 105 => ⟨S16x9120x1, .i1⟩
  | 106 => ⟨S_, .i32⟩
  | 107 => ⟨S16x9120x1, .i32⟩
  | 108 => ⟨S16x9120x1, .i32⟩
  | 109 => ⟨S16x9120x1, .i32⟩
  | 110 => ⟨S1, .i32⟩
  | 111 => ⟨S_, .i32⟩
  | 112 => ⟨S16x9120x1, .i32⟩
  | 113 => ⟨S16x9120x1, .i1⟩
  | 114 => ⟨S1x1x1, .i32⟩
  | 115 => ⟨S16x9120x1, .i32⟩
  | 116 => ⟨S16x9120x1, .i1⟩
  | 117 => ⟨S16x9120x1, .i1⟩
  | 118 => ⟨S_, .i1⟩
  | 119 => ⟨S16x9120, .i1⟩
  | 120 => ⟨S16x9120x128, .f32⟩
  | 121 => ⟨S16x9120x128, .i1⟩
  | 122 => ⟨S_, .f32⟩
  | 123 => ⟨S16x9120x128, .f32⟩
  | 124 => ⟨S16x9120x128, .f32⟩
  | 125 => ⟨S16x9120x1, .i32⟩
  | 126 => ⟨S_, .i32⟩
  | 127 => ⟨S16x9120x1, .i32⟩
  | _ => ⟨S16x96x128, .f32⟩

abbrev hbmTy0_1 (i : Nat) : BufTy := match i % 128 with
  | 0 => ⟨S16x9120x1, .i1⟩
  | 1 => ⟨S_, .i32⟩
  | 2 => ⟨S16x9120x1, .i32⟩
  | 3 => ⟨S16x9120x1, .i32⟩
  | 4 => ⟨S16x9120x1, .i32⟩
  | 5 => ⟨S1, .i32⟩
  | 6 => ⟨S_, .i32⟩
  | 7 => ⟨S16x9120x1, .i32⟩
  | 8 => ⟨S16x9120x1, .i1⟩
  | 9 => ⟨S1x1x1, .i32⟩
  | 10 => ⟨S16x9120x1, .i32⟩
  | 11 => ⟨S16x9120x1, .i1⟩
  | 12 => ⟨S16x9120x1, .i1⟩
  | 13 => ⟨S_, .i1⟩
  | 14 => ⟨S16x9120, .i1⟩
  | 15 => ⟨S16x9120x128, .f32⟩
  | 16 => ⟨S16x9120x128, .i1⟩
  | 17 => ⟨S_, .f32⟩
  | 18 => ⟨S16x9120x128, .f32⟩
  | 19 => ⟨S16x9120x128, .f32⟩
  | 20 => ⟨S16x9120x258, .f32⟩
  | 21 => ⟨S145920x258, .f32⟩
  | 22 => ⟨S258x128, .f32⟩
  | 23 => ⟨S145920x128, .f32⟩
  | 24 => ⟨S_, .f32⟩
  | 25 => ⟨S128, .f32⟩
  | 26 => ⟨S_, .f32⟩
  | 27 => ⟨S128, .f32⟩
  | 28 => ⟨S128, .f32⟩
  | 29 => ⟨S_, .i32⟩
  | 30 => ⟨S_, .f32⟩
  | 31 => ⟨S128, .f32⟩
  | 32 => ⟨S1x128, .f32⟩
  | 33 => ⟨S_, .f32⟩
  | 34 => ⟨S1x128, .f32⟩
  | 35 => ⟨S1x128, .f32⟩
  | 36 => ⟨S145920x128, .f32⟩
  | 37 => ⟨S145920x128, .f32⟩
  | 38 => ⟨S145920x128, .f32⟩
  | 39 => ⟨S_, .f32⟩
  | 40 => ⟨S_, .f32⟩
  | 41 => ⟨S_, .f32⟩
  | 42 => ⟨S_, .f32⟩
  | 43 => ⟨S128, .f32⟩
  | 44 => ⟨S128, .f32⟩
  | 45 => ⟨S128, .f32⟩
  | 46 => ⟨S_, .f32⟩
  | 47 => ⟨S_, .i1⟩
  | 48 => ⟨S_, .f32⟩
  | 49 => ⟨S_, .f32⟩
  | 50 => ⟨S128, .f32⟩
  | 51 => ⟨S128, .f32⟩
  | 52 => ⟨S1x128, .f32⟩
  | 53 => ⟨S145920x128, .f32⟩
  | 54 => ⟨S145920x128, .f32⟩
  | 55 => ⟨S1x128, .f32⟩
  | 56 => ⟨S145920x128, .f32⟩
  | 57 => ⟨S145920x128, .f32⟩
  | 58 => ⟨S_, .f32⟩
  | 59 => ⟨S128, .f32⟩
  | 60 => ⟨S128, .f32⟩
  | 61 => ⟨S128, .f32⟩
  | 62 => ⟨S1x128, .f32⟩
  | 63 => ⟨S145920x128, .f32⟩
  | 64 => ⟨S145920x128, .f32⟩
  | 65 => ⟨S1x128, .f32⟩
  | 66 => ⟨S145920x128, .f32⟩
  | 67 => ⟨S145920x128, .f32⟩
  | 68 => ⟨S_, .f32⟩
  | 69 => ⟨S145920x128, .f32⟩
  | 70 => ⟨S145920x128, .f32⟩
  | 71 => ⟨S128x128, .f32⟩
  | 72 => ⟨S145920x128, .f32⟩
  | 73 => ⟨S1x128, .f32⟩
  | 74 => ⟨S145920x128, .f32⟩
  | 75 => ⟨S145920x128, .f32⟩
  | 76 => ⟨S_, .f32⟩
  | 77 => ⟨S145920x128, .f32⟩
  | 78 => ⟨S145920x128, .f32⟩
  | 79 => ⟨S16x9120x128, .f32⟩
  | 80 => ⟨S128x1, .f32⟩
  | 81 => ⟨S16x9120x1, .f32⟩
  | 82 => ⟨S1x1x1, .f32⟩
  | 83 => ⟨S16x9120x1, .f32⟩
  | 84 => ⟨S16x9120x1, .f32⟩
  | 85 => ⟨S16x9120x1, .f32⟩
  | 86 => ⟨S16x9120x1, .f32⟩
  | 87 => ⟨S_, .f32⟩
  | 88 => ⟨S16x9120x1, .f32⟩
  | 89 => ⟨S16x9120x1, .f32⟩
  | 90 => ⟨S_, .f32⟩
  | 91 => ⟨S16x9120x1, .f32⟩
  | 92 => ⟨S16x9120x1, .f32⟩
  | 93 => ⟨S16x9120x128, .f32⟩
  | 94 => ⟨S16x9120x128, .f32⟩
  | 95 => ⟨S16, .i32⟩
  | 96 => ⟨S16x1, .i32⟩
  | 97 => ⟨S_, .i32⟩
  | 98 => ⟨S16x1, .i32⟩
  | 99 => ⟨S16x1, .i32⟩
  | 100 => ⟨S16x9120, .i32⟩
  | 101 => ⟨S16x9120, .i32⟩
  | 102 => ⟨S145920, .i32⟩
  | 103 => ⟨S128x128, .f32⟩
  | 104 => ⟨S16x9120x128, .f32⟩
  | 105 => ⟨S1x1x128, .f32⟩
  | 106 => ⟨S16x9120x128, .f32⟩
  | 107 => ⟨S16x9120x128, .f32⟩
  | 108 => ⟨S_, .f32⟩
  | 109 => ⟨S16x9120x128, .f32⟩
  | 110 => ⟨S16x9120x128, .f32⟩
  | 111 => ⟨S128x1, .f32⟩
  | 112 => ⟨S16x9120x1, .f32⟩
  | 113 => ⟨S16x9120x4, .f32⟩
  | 114 => ⟨S16x9120x4, .f32⟩
  | 115 => ⟨S_, .f32⟩
  | 116 => ⟨S_, .f32⟩
  | 117 => ⟨S_, .f32⟩
  | 118 => ⟨S16x9120x4, .f32⟩
  | 119 => ⟨S16x9120x4, .f32⟩
  | 120 => ⟨S_, .f32⟩
  | 121 => ⟨S16x9120x4, .f32⟩
  | 122 => ⟨S16x9120x4, .f32⟩
  | 123 => ⟨S_, .f32⟩
  | 124 => ⟨S16x9120x4, .f32⟩
  | 125 => ⟨S145920x4, .f32⟩
  | 126 => ⟨S_, .f32⟩
  | 127 => ⟨S1536x4, .f32⟩
  | _ => ⟨S16x96x128, .f32⟩

abbrev hbmTy0_2 (i : Nat) : BufTy := match i % 128 with
  | 0 => ⟨S145920x1, .i32⟩
  | 1 => ⟨S1536x4, .f32⟩
  | 2 => ⟨S16x96x4, .f32⟩
  | 3 => ⟨S145920x4, .f32⟩
  | 4 => ⟨S_, .f32⟩
  | 5 => ⟨S1536x4, .f32⟩
  | 6 => ⟨S145920x1, .i32⟩
  | 7 => ⟨S1536x4, .f32⟩
  | 8 => ⟨S16x96x4, .f32⟩
  | 9 => ⟨S_, .f32⟩
  | 10 => ⟨S16x96x4, .f32⟩
  | 11 => ⟨S16x96x4, .f32⟩
  | 12 => ⟨S16x96x4, .f32⟩
  | 13 => ⟨S_, .f32⟩
  | 14 => ⟨S16x96x4, .f32⟩
  | 15 => ⟨S16x96x4, .f32⟩
  | 16 => ⟨S16x96x4, .f32⟩
  | 17 => ⟨S145920x128, .f32⟩
  | 18 => ⟨S_, .f32⟩
  | 19 => ⟨S1536x128, .f32⟩
  | 20 => ⟨S145920x1, .i32⟩
  | 21 => ⟨S1536x128, .f32⟩
  | 22 => ⟨S16x96x128, .f32⟩
  | 23 => ⟨S16x96x272, .f32⟩
  | 24 => ⟨S1536x272, .f32⟩
  | 25 => ⟨S272x128, .f32⟩
  | 26 => ⟨S1536x128, .f32⟩
  | 27 => ⟨S1x128, .f32⟩
  | 28 => ⟨S1536x128, .f32⟩
  | 29 => ⟨S1536x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S1536x128, .f32⟩
  | 43 => ⟨S1536x128, .f32⟩
  | 44 => ⟨S1536x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S1536x128, .f32⟩
  | 60 => ⟨S1536x128, .f32⟩
  | 61 => ⟨S1x128, .f32⟩
  | 62 => ⟨S1536x128, .f32⟩
  | 63 => ⟨S1536x128, .f32⟩
  | 64 => ⟨S_, .f32⟩
  | 65 => ⟨S128, .f32⟩
  | 66 => ⟨S128, .f32⟩
  | 67 => ⟨S128, .f32⟩
  | 68 => ⟨S1x128, .f32⟩
  | 69 => ⟨S1536x128, .f32⟩
  | 70 => ⟨S1536x128, .f32⟩
  | 71 => ⟨S1x128, .f32⟩
  | 72 => ⟨S1536x128, .f32⟩
  | 73 => ⟨S1536x128, .f32⟩
  | 74 => ⟨S_, .f32⟩
  | 75 => ⟨S1536x128, .f32⟩
  | 76 => ⟨S1536x128, .f32⟩
  | 77 => ⟨S128x128, .f32⟩
  | 78 => ⟨S1536x128, .f32⟩
  | 79 => ⟨S1x128, .f32⟩
  | 80 => ⟨S1536x128, .f32⟩
  | 81 => ⟨S1536x128, .f32⟩
  | 82 => ⟨S16x96x128, .f32⟩
  | 83 => ⟨S16x96x128, .f32⟩
  | _ => ⟨S16x96x128, .f32⟩

abbrev hbmTy (i : Nat) : BufTy := match i / 128 with
  | 0 => hbmTy0_0 i
  | 1 => hbmTy0_1 i
  | 2 => hbmTy0_2 i
  | _ => ⟨S16x96x128, .f32⟩

abbrev bufTy : (tb : Table) → Fin (tcTables nBuf tb) → BufTy
  | .hbm, ⟨i, _⟩ => hbmTy i
  | _, _ => ⟨S16x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_c_2 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_c_3 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v1 : Ref sig .tc := ⟨.hbm, 43, rfl⟩
abbrev main_v2 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_c_2 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_c_3 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v3 : Ref sig .tc := ⟨.hbm, 66, rfl⟩
abbrev main_v4 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_cst : Ref sig .tc := ⟨.hbm, 71, rfl⟩
abbrev main_v8 : Ref sig .tc := ⟨.hbm, 72, rfl⟩
abbrev main_v9 : Ref sig .tc := ⟨.hbm, 73, rfl⟩
abbrev main_cst_0 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_cst_1 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_cst_2 : Ref sig .tc := ⟨.hbm, 88, rfl⟩
abbrev main_v22 : Ref sig .tc := ⟨.hbm, 89, rfl⟩
abbrev main_v23 : Ref sig .tc := ⟨.hbm, 90, rfl⟩
abbrev main_cst_3 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_cst_4 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_c_1 : Ref sig .tc := ⟨.hbm, 110, rfl⟩
abbrev main_call2_c_2 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_c_3 : Ref sig .tc := ⟨.hbm, 118, rfl⟩
abbrev main_call2_v11 : Ref sig .tc := ⟨.hbm, 119, rfl⟩
abbrev main_call2_v12 : Ref sig .tc := ⟨.hbm, 120, rfl⟩
abbrev main_call2_v13 : Ref sig .tc := ⟨.hbm, 121, rfl⟩
abbrev main_call2_cst : Ref sig .tc := ⟨.hbm, 122, rfl⟩
abbrev main_call2_v14 : Ref sig .tc := ⟨.hbm, 123, rfl⟩
abbrev main_v34 : Ref sig .tc := ⟨.hbm, 124, rfl⟩
abbrev main_v35 : Ref sig .tc := ⟨.hbm, 125, rfl⟩
abbrev main_call3_c : Ref sig .tc := ⟨.hbm, 126, rfl⟩
abbrev main_call3_v0 : Ref sig .tc := ⟨.hbm, 127, rfl⟩
abbrev main_call3_v1 : Ref sig .tc := ⟨.hbm, 128, rfl⟩
abbrev main_call3_c_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_c_1 : Ref sig .tc := ⟨.hbm, 133, rfl⟩
abbrev main_call3_c_2 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_call3_c_3 : Ref sig .tc := ⟨.hbm, 141, rfl⟩
abbrev main_call3_v11 : Ref sig .tc := ⟨.hbm, 142, rfl⟩
abbrev main_call3_v12 : Ref sig .tc := ⟨.hbm, 143, rfl⟩
abbrev main_call3_v13 : Ref sig .tc := ⟨.hbm, 144, rfl⟩
abbrev main_call3_cst : Ref sig .tc := ⟨.hbm, 145, rfl⟩
abbrev main_call3_v14 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_cst_5 : Ref sig .tc := ⟨.hbm, 152, rfl⟩
abbrev main_v41 : Ref sig .tc := ⟨.hbm, 153, rfl⟩
abbrev main_cst_6 : Ref sig .tc := ⟨.hbm, 154, rfl⟩
abbrev main_v42 : Ref sig .tc := ⟨.hbm, 155, rfl⟩
abbrev main_v43 : Ref sig .tc := ⟨.hbm, 156, rfl⟩
abbrev main_c : Ref sig .tc := ⟨.hbm, 157, rfl⟩
abbrev main_call4_cst : Ref sig .tc := ⟨.hbm, 158, rfl⟩
abbrev main_call4_v0 : Ref sig .tc := ⟨.hbm, 159, rfl⟩
abbrev main_call4_v1 : Ref sig .tc := ⟨.hbm, 160, rfl⟩
abbrev main_call4_cst_0 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_v7 : Ref sig .tc := ⟨.hbm, 167, rfl⟩
abbrev main_call4_cst_1 : Ref sig .tc := ⟨.hbm, 168, rfl⟩
abbrev main_call4_v8 : Ref sig .tc := ⟨.hbm, 169, rfl⟩
abbrev main_call4_cst_2 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_cst_3 : Ref sig .tc := ⟨.hbm, 174, rfl⟩
abbrev main_call4_v12 : Ref sig .tc := ⟨.hbm, 175, rfl⟩
abbrev main_call4_cst_4 : Ref sig .tc := ⟨.hbm, 176, rfl⟩
abbrev main_call4_call0_v0 : Ref sig .tc := ⟨.hbm, 177, rfl⟩
abbrev main_call4_call0_v1 : Ref sig .tc := ⟨.hbm, 178, rfl⟩
abbrev main_v44 : Ref sig .tc := ⟨.hbm, 179, rfl⟩
abbrev main_v45 : Ref sig .tc := ⟨.hbm, 180, rfl⟩
abbrev main_v46 : Ref sig .tc := ⟨.hbm, 181, rfl⟩
abbrev main_v47 : Ref sig .tc := ⟨.hbm, 182, rfl⟩
abbrev main_v48 : Ref sig .tc := ⟨.hbm, 183, rfl⟩
abbrev main_v49 : Ref sig .tc := ⟨.hbm, 184, rfl⟩
abbrev main_v50 : Ref sig .tc := ⟨.hbm, 185, rfl⟩
abbrev main_cst_7 : Ref sig .tc := ⟨.hbm, 186, rfl⟩
abbrev main_v51 : Ref sig .tc := ⟨.hbm, 187, rfl⟩
abbrev main_v52 : Ref sig .tc := ⟨.hbm, 188, rfl⟩
abbrev main_v53 : Ref sig .tc := ⟨.hbm, 189, rfl⟩
abbrev main_v54 : Ref sig .tc := ⟨.hbm, 190, rfl⟩
abbrev main_v55 : Ref sig .tc := ⟨.hbm, 191, rfl⟩
abbrev main_v56 : Ref sig .tc := ⟨.hbm, 192, rfl⟩
abbrev main_v57 : Ref sig .tc := ⟨.hbm, 193, rfl⟩
abbrev main_v58 : Ref sig .tc := ⟨.hbm, 194, rfl⟩
abbrev main_v59 : Ref sig .tc := ⟨.hbm, 195, rfl⟩
abbrev main_cst_8 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩
abbrev main_v63 : Ref sig .tc := ⟨.hbm, 200, rfl⟩
abbrev main_v64 : Ref sig .tc := ⟨.hbm, 201, rfl⟩
abbrev main_v65 : Ref sig .tc := ⟨.hbm, 202, rfl⟩
abbrev main_v66 : Ref sig .tc := ⟨.hbm, 203, rfl⟩
abbrev main_cst_9 : Ref sig .tc := ⟨.hbm, 204, rfl⟩
abbrev main_v67 : Ref sig .tc := ⟨.hbm, 205, rfl⟩
abbrev main_v68 : Ref sig .tc := ⟨.hbm, 206, rfl⟩
abbrev main_v69 : Ref sig .tc := ⟨.hbm, 207, rfl⟩
abbrev main_v70 : Ref sig .tc := ⟨.hbm, 208, rfl⟩
abbrev main_v71 : Ref sig .tc := ⟨.hbm, 209, rfl⟩
abbrev main_v72 : Ref sig .tc := ⟨.hbm, 210, rfl⟩
abbrev main_v73 : Ref sig .tc := ⟨.hbm, 211, rfl⟩
abbrev main_v74 : Ref sig .tc := ⟨.hbm, 212, rfl⟩
abbrev main_v75 : Ref sig .tc := ⟨.hbm, 213, rfl⟩
abbrev main_v76 : Ref sig .tc := ⟨.hbm, 214, rfl⟩
abbrev main_cst_10 : Ref sig .tc := ⟨.hbm, 215, rfl⟩
abbrev main_v77 : Ref sig .tc := ⟨.hbm, 216, rfl⟩
abbrev main_v78 : Ref sig .tc := ⟨.hbm, 217, rfl⟩
abbrev main_cst_11 : Ref sig .tc := ⟨.hbm, 218, rfl⟩
abbrev main_v79 : Ref sig .tc := ⟨.hbm, 219, rfl⟩
abbrev main_v80 : Ref sig .tc := ⟨.hbm, 220, rfl⟩
abbrev main_v81 : Ref sig .tc := ⟨.hbm, 221, rfl⟩
abbrev main_v82 : Ref sig .tc := ⟨.hbm, 222, rfl⟩
abbrev main_v83 : Ref sig .tc := ⟨.hbm, 223, rfl⟩
abbrev main_v84 : Ref sig .tc := ⟨.hbm, 224, rfl⟩
abbrev main_c_12 : Ref sig .tc := ⟨.hbm, 225, rfl⟩
abbrev main_v85 : Ref sig .tc := ⟨.hbm, 226, rfl⟩
abbrev main_v86 : Ref sig .tc := ⟨.hbm, 227, rfl⟩
abbrev main_v87 : Ref sig .tc := ⟨.hbm, 228, rfl⟩
abbrev main_v88 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_cst_13 : Ref sig .tc := ⟨.hbm, 236, rfl⟩
abbrev main_v95 : Ref sig .tc := ⟨.hbm, 237, rfl⟩
abbrev main_v96 : Ref sig .tc := ⟨.hbm, 238, rfl⟩
abbrev main_v97 : Ref sig .tc := ⟨.hbm, 239, rfl⟩
abbrev main_v98 : Ref sig .tc := ⟨.hbm, 240, rfl⟩
abbrev main_v99 : Ref sig .tc := ⟨.hbm, 241, rfl⟩
abbrev main_v100 : Ref sig .tc := ⟨.hbm, 242, rfl⟩
abbrev main_cst_14 : Ref sig .tc := ⟨.hbm, 243, rfl⟩
abbrev main_cst_15 : Ref sig .tc := ⟨.hbm, 244, rfl⟩
abbrev main_call5_v0 : Ref sig .tc := ⟨.hbm, 245, rfl⟩
abbrev main_call5_v1 : Ref sig .tc := ⟨.hbm, 246, rfl⟩
abbrev main_call5_v2 : Ref sig .tc := ⟨.hbm, 247, rfl⟩
abbrev main_call5_v3 : Ref sig .tc := ⟨.hbm, 248, rfl⟩
abbrev main_call5_v4 : Ref sig .tc := ⟨.hbm, 249, rfl⟩
abbrev main_v101 : Ref sig .tc := ⟨.hbm, 250, rfl⟩
abbrev main_cst_16 : Ref sig .tc := ⟨.hbm, 251, rfl⟩
abbrev main_v102 : Ref sig .tc := ⟨.hbm, 252, rfl⟩
abbrev main_v103 : Ref sig .tc := ⟨.hbm, 253, rfl⟩
abbrev main_cst_17 : Ref sig .tc := ⟨.hbm, 254, rfl⟩
abbrev main_v104 : Ref sig .tc := ⟨.hbm, 255, rfl⟩
abbrev main_v105 : Ref sig .tc := ⟨.hbm, 256, rfl⟩
abbrev main_v106 : Ref sig .tc := ⟨.hbm, 257, rfl⟩
abbrev main_v107 : Ref sig .tc := ⟨.hbm, 258, rfl⟩
abbrev main_v108 : Ref sig .tc := ⟨.hbm, 259, rfl⟩
abbrev main_cst_18 : Ref sig .tc := ⟨.hbm, 260, rfl⟩
abbrev main_v109 : Ref sig .tc := ⟨.hbm, 261, rfl⟩
abbrev main_v110 : Ref sig .tc := ⟨.hbm, 262, rfl⟩
abbrev main_v111 : Ref sig .tc := ⟨.hbm, 263, rfl⟩
abbrev main_v112 : Ref sig .tc := ⟨.hbm, 264, rfl⟩
abbrev main_cst_19 : Ref sig .tc := ⟨.hbm, 265, rfl⟩
abbrev main_v113 : Ref sig .tc := ⟨.hbm, 266, rfl⟩
abbrev main_v114 : Ref sig .tc := ⟨.hbm, 267, rfl⟩
abbrev main_v115 : Ref sig .tc := ⟨.hbm, 268, rfl⟩
abbrev main_cst_20 : Ref sig .tc := ⟨.hbm, 269, rfl⟩
abbrev main_v116 : Ref sig .tc := ⟨.hbm, 270, rfl⟩
abbrev main_v117 : Ref sig .tc := ⟨.hbm, 271, rfl⟩
abbrev main_v118 : Ref sig .tc := ⟨.hbm, 272, rfl⟩
abbrev main_v119 : Ref sig .tc := ⟨.hbm, 273, rfl⟩
abbrev main_cst_21 : Ref sig .tc := ⟨.hbm, 274, rfl⟩
abbrev main_v120 : Ref sig .tc := ⟨.hbm, 275, rfl⟩
abbrev main_v121 : Ref sig .tc := ⟨.hbm, 276, rfl⟩
abbrev main_v122 : Ref sig .tc := ⟨.hbm, 277, rfl⟩
abbrev main_v123 : Ref sig .tc := ⟨.hbm, 278, rfl⟩
abbrev main_v124 : Ref sig .tc := ⟨.hbm, 279, rfl⟩
abbrev main_v125 : Ref sig .tc := ⟨.hbm, 280, rfl⟩
abbrev main_v126 : Ref sig .tc := ⟨.hbm, 281, rfl⟩
abbrev main_v127 : Ref sig .tc := ⟨.hbm, 282, rfl⟩
abbrev main_v128 : Ref sig .tc := ⟨.hbm, 283, rfl⟩
abbrev main_v129 : Ref sig .tc := ⟨.hbm, 284, rfl⟩
abbrev main_v130 : Ref sig .tc := ⟨.hbm, 285, rfl⟩
abbrev main_cst_22 : Ref sig .tc := ⟨.hbm, 286, rfl⟩
abbrev main_v131 : Ref sig .tc := ⟨.hbm, 287, rfl⟩
abbrev main_cst_23 : Ref sig .tc := ⟨.hbm, 288, rfl⟩
abbrev main_v132 : Ref sig .tc := ⟨.hbm, 289, rfl⟩
abbrev main_v133 : Ref sig .tc := ⟨.hbm, 290, rfl⟩
abbrev main_c_24 : Ref sig .tc := ⟨.hbm, 291, rfl⟩
abbrev main_call6_cst : Ref sig .tc := ⟨.hbm, 292, rfl⟩
abbrev main_call6_v0 : Ref sig .tc := ⟨.hbm, 293, rfl⟩
abbrev main_call6_v1 : Ref sig .tc := ⟨.hbm, 294, rfl⟩
abbrev main_call6_cst_0 : Ref sig .tc := ⟨.hbm, 295, rfl⟩
abbrev main_call6_v2 : Ref sig .tc := ⟨.hbm, 296, rfl⟩
abbrev main_call6_v3 : Ref sig .tc := ⟨.hbm, 297, rfl⟩
abbrev main_call6_v4 : Ref sig .tc := ⟨.hbm, 298, rfl⟩
abbrev main_call6_v5 : Ref sig .tc := ⟨.hbm, 299, rfl⟩
abbrev main_call6_v6 : Ref sig .tc := ⟨.hbm, 300, rfl⟩
abbrev main_call6_v7 : Ref sig .tc := ⟨.hbm, 301, rfl⟩
abbrev main_call6_cst_1 : Ref sig .tc := ⟨.hbm, 302, rfl⟩
abbrev main_call6_v8 : Ref sig .tc := ⟨.hbm, 303, rfl⟩
abbrev main_call6_cst_2 : Ref sig .tc := ⟨.hbm, 304, rfl⟩
abbrev main_call6_v9 : Ref sig .tc := ⟨.hbm, 305, rfl⟩
abbrev main_call6_v10 : Ref sig .tc := ⟨.hbm, 306, rfl⟩
abbrev main_call6_v11 : Ref sig .tc := ⟨.hbm, 307, rfl⟩
abbrev main_call6_cst_3 : Ref sig .tc := ⟨.hbm, 308, rfl⟩
abbrev main_call6_v12 : Ref sig .tc := ⟨.hbm, 309, rfl⟩
abbrev main_call6_cst_4 : Ref sig .tc := ⟨.hbm, 310, rfl⟩
abbrev main_call6_call0_v0 : Ref sig .tc := ⟨.hbm, 311, rfl⟩
abbrev main_call6_call0_v1 : Ref sig .tc := ⟨.hbm, 312, rfl⟩
abbrev main_v134 : Ref sig .tc := ⟨.hbm, 313, rfl⟩
abbrev main_v135 : Ref sig .tc := ⟨.hbm, 314, rfl⟩
abbrev main_v136 : Ref sig .tc := ⟨.hbm, 315, rfl⟩
abbrev main_v137 : Ref sig .tc := ⟨.hbm, 316, rfl⟩
abbrev main_v138 : Ref sig .tc := ⟨.hbm, 317, rfl⟩
abbrev main_v139 : Ref sig .tc := ⟨.hbm, 318, rfl⟩
abbrev main_v140 : Ref sig .tc := ⟨.hbm, 319, rfl⟩
abbrev main_cst_25 : Ref sig .tc := ⟨.hbm, 320, rfl⟩
abbrev main_v141 : Ref sig .tc := ⟨.hbm, 321, rfl⟩
abbrev main_v142 : Ref sig .tc := ⟨.hbm, 322, rfl⟩
abbrev main_v143 : Ref sig .tc := ⟨.hbm, 323, rfl⟩
abbrev main_v144 : Ref sig .tc := ⟨.hbm, 324, rfl⟩
abbrev main_v145 : Ref sig .tc := ⟨.hbm, 325, rfl⟩
abbrev main_v146 : Ref sig .tc := ⟨.hbm, 326, rfl⟩
abbrev main_v147 : Ref sig .tc := ⟨.hbm, 327, rfl⟩
abbrev main_v148 : Ref sig .tc := ⟨.hbm, 328, rfl⟩
abbrev main_v149 : Ref sig .tc := ⟨.hbm, 329, rfl⟩
abbrev main_cst_26 : Ref sig .tc := ⟨.hbm, 330, rfl⟩
abbrev main_v150 : Ref sig .tc := ⟨.hbm, 331, rfl⟩
abbrev main_v151 : Ref sig .tc := ⟨.hbm, 332, rfl⟩
abbrev main_v152 : Ref sig .tc := ⟨.hbm, 333, rfl⟩
abbrev main_v153 : Ref sig .tc := ⟨.hbm, 334, rfl⟩
abbrev main_v154 : Ref sig .tc := ⟨.hbm, 335, rfl⟩
abbrev main_v155 : Ref sig .tc := ⟨.hbm, 336, rfl⟩
abbrev main_v156 : Ref sig .tc := ⟨.hbm, 337, rfl⟩
abbrev main_v157 : Ref sig .tc := ⟨.hbm, 338, rfl⟩
abbrev main_v158 : Ref sig .tc := ⟨.hbm, 339, rfl⟩

abbrev nD : Nat := 1
abbrev τ : Topo := Topo.v7x

variable {F : FTy → Type} [FloatOps F]
-- ==== Proof.KernelIdeal.Launch.lean ====
/- The launch facts of the program: its three calls, its host operations and how @main chains them. -/
module

public import proofs.«01_k».proof.Proof.Gen.KernelIdeal
public import Idealize.ShloMosaic.Lib.Pipeline.Kit
public import Idealize.ShloMosaic.Lib.Pipeline.Regions

@[expose] public section

-- the launch kit's decided enumerations over 157 references and 22 windows recurse past the default depth
set_option maxRecDepth 3956

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 3 → List (DmaSem sig) :=
  fun | 0 => Pipeline.specSems spec0 | 1 => Pipeline.specSems spec1 | 2 => Pipeline.specSems spec2 | ⟨_ + 3, h⟩ => absurd h (Nat.not_lt.2 (Nat.le_add_left _ _))
theorem semsDistinct : ∀ p : Fin 3, (semTab p).Nodup := by decide
theorem semsDisjoint : ∀ p p' : Fin 3, p ≠ p' → (semTab p).Forall (· ∉ semTab p') := by decide
theorem cellOf_inj : Function.Injective (Pipeline.cellOf (nD := nD) (τ := τ) cfgs) :=
  Pipeline.cellOf_injective_of_table cfgs semTab (fun | 0 => rfl | 1 => rfl | 2 => rfl | ⟨_ + 3, h⟩ => absurd h (Nat.not_lt.2 (Nat.le_add_left _ _))) semsDistinct semsDisjoint

theorem winFacts0 : Pipeline.WinFacts spec0 := by decide
theorem block_pos0 : ∀ w : Fin 10, 0 < (spec0 w).block.numel := by decide
theorem arr_whole0 : ∀ w : Fin 10, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | ⟨_ + 10, h⟩ => absurd h (Nat.not_lt.2 (Nat.le_add_left _ _))
theorem stage_whole0 : ∀ (w : Fin 10) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | ⟨_ + 10, h⟩ => absurd h (Nat.not_lt.2 (Nat.le_add_left _ _))
theorem launch0 : Pipeline.LaunchFacts (nD := nD) (τ := τ) cfgs 0 := ⟨cellOf_inj, winFacts0, block_pos0, arr_whole0, stage_whole0⟩

theorem N_0 : grid0.N = 48 := by decide

theorem bigSep_W0 {M : Type} [URA M] (Φ : Fin 10 → sProp M) : bigSep Finset.univ Φ = iprop(Φ (0 : Fin 10) ∗ Φ (1 : Fin 10) ∗ Φ (2 : Fin 10) ∗ Φ (3 : Fin 10) ∗ Φ (4 : Fin 10) ∗ Φ (5 : Fin 10) ∗ Φ (6 : Fin 10) ∗ Φ (7 : Fin 10) ∗ Φ (8 : Fin 10) ∗ Φ (9 : Fin 10)) :=
  bigSep_univ_eq_bigSepL [(0 : Fin 10), (1 : Fin 10), (2 : Fin 10), (3 : Fin 10), (4 : Fin 10), (5 : Fin 10), (6 : Fin 10), (7 : Fin 10), (8 : Fin 10), (9 : Fin 10)] (by decide) (by decide) Φ
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop(iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f))
          ∗ Pipeline.scopedRestBut (Ix := Ix) (Name := Name) (U := U) (Lvl := Lvl) (Val := Val) spec0 c [cc0_scratch0, cc0_scratch1, cc0_scratch2]) :=
  Pipeline.scopedRest_split_of_list spec0 c [cc0_scratch0, cc0_scratch1, cc0_scratch2] (by decide) (by decide)
-- the unscoped rest of custom_call 0 is 80 buffers: not enumerated (routed whole, as `Pipeline.unscopedRest`)

theorem winFacts1 : Pipeline.WinFacts spec1 := by decide
theorem block_pos1 : ∀ w : Fin 22, 0 < (spec1 w).block.numel := by decide
theorem arr_whole1 : ∀ w : Fin 22, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | 17 => Memref.isWhole_whole _ | 18 => Memref.isWhole_whole _ | 19 => Memref.isWhole_whole _ | 20 => Memref.isWhole_whole _ | 21 => Memref.isWhole_whole _ | ⟨_ + 22, h⟩ => absurd h (Nat.not_lt.2 (Nat.le_add_left _ _))
theorem stage_whole1 : ∀ (w : Fin 22) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | 7 => fun s => hstage1_7 (s.cast nbuf1_7) | 8 => fun s => hstage1_8 (s.cast nbuf1_8) | 9 => fun s => hstage1_9 (s.cast nbuf1_9) | 10 => fun s => hstage1_10 (s.cast nbuf1_10) | 11 => fun s => hstage1_11 (s.cast nbuf1_11) | 12 => fun s => hstage1_12 (s.cast nbuf1_12) | 13 => fun s => hstage1_13 (s.cast nbuf1_13) | 14 => fun s => hstage1_14 (s.cast nbuf1_14) | 15 => fun s => hstage1_15 (s.cast nbuf1_15) | 16 => fun s => hstage1_16 (s.cast nbuf1_16) | 17 => fun s => hstage1_17 (s.cast nbuf1_17) | 18 => fun s => hstage1_18 (s.cast nbuf1_18) | 19 => fun s => hstage1_19 (s.cast nbuf1_19) | 20 => fun s => hstage1_20 (s.cast nbuf1_20) | 21 => fun s => hstage1_21 (s.cast nbuf1_21) | ⟨_ + 22, h⟩ => absurd h (Nat.not_lt.2 (Nat.le_add_left _ _))
theorem launch1 : Pipeline.LaunchFacts (nD := nD) (τ := τ) cfgs 1 := ⟨cellOf_inj, winFacts1, block_pos1, arr_whole1, stage_whole1⟩

theorem N_1 : grid1.N = 48 := by decide

theorem bigSep_W1 {M : Type} [URA M] (Φ : Fin 22 → sProp M) : bigSep Finset.univ Φ = iprop(Φ (0 : Fin 22) ∗ Φ (1 : Fin 22) ∗ Φ (2 : Fin 22) ∗ Φ (3 : Fin 22) ∗ Φ (4 : Fin 22) ∗ Φ (5 : Fin 22) ∗ Φ (6 : Fin 22) ∗ Φ (7 : Fin 22) ∗ Φ (8 : Fin 22) ∗ Φ (9 : Fin 22) ∗ Φ (10 : Fin 22) ∗ Φ (11 : Fin 22) ∗ Φ (12 : Fin 22) ∗ Φ (13 : Fin 22) ∗ Φ (14 : Fin 22) ∗ Φ (15 : Fin 22) ∗ Φ (16 : Fin 22) ∗ Φ (17 : Fin 22) ∗ Φ (18 : Fin 22) ∗ Φ (19 : Fin 22) ∗ Φ (20 : Fin 22) ∗ Φ (21 : Fin 22)) :=
  bigSep_univ_eq_bigSepL [(0 : Fin 22), (1 : Fin 22), (2 : Fin 22), (3 : Fin 22), (4 : Fin 22), (5 : Fin 22), (6 : Fin 22), (7 : Fin 22), (8 : Fin 22), (9 : Fin 22), (10 : Fin 22), (11 : Fin 22), (12 : Fin 22), (13 : Fin 22), (14 : Fin 22), (15 : Fin 22), (16 : Fin 22), (17 : Fin 22), (18 : Fin 22), (19 : Fin 22), (20 : Fin 22), (21 : Fin 22)] (by decide) (by decide) Φ
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc1_scratch2), ((c : Thread nD τ).loc cc1_scratch2) ↦{fullShare} f))
          ∗ Pipeline.scopedRestBut (Ix := Ix) (Name := Name) (U := U) (Lvl := Lvl) (Val := Val) spec1 c [cc1_scratch0, cc1_scratch1, cc1_scratch2]) :=
  Pipeline.scopedRest_split_of_list spec1 c [cc1_scratch0, cc1_scratch1, cc1_scratch2] (by decide) (by decide)
-- the unscoped rest of custom_call 1 is 68 buffers: not enumerated (routed whole, as `Pipeline.unscopedRest`)

theorem winFacts2 : Pipeline.WinFacts spec2 := by decide
theorem block_pos2 : ∀ w : Fin 15, 0 < (spec2 w).block.numel := by decide
theorem arr_whole2 : ∀ w : Fin 15, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | ⟨_ + 15, h⟩ => absurd h (Nat.not_lt.2 (Nat.le_add_left _ _))
theorem stage_whole2 : ∀ (w : Fin 15) (s : Fin (spec2 w).nbuf), ((spec2 w).stage s).IsWhole := fun | 0 => fun _ => Memref.isWhole_whole _ | 1 => fun _ => Memref.isWhole_whole _ | 2 => fun _ => Memref.isWhole_whole _ | 3 => fun _ => Memref.isWhole_whole _ | 4 => fun _ => Memref.isWhole_whole _ | 5 => fun _ => Memref.isWhole_whole _ | 6 => fun _ => Memref.isWhole_whole _ | 7 => fun _ => Memref.isWhole_whole _ | 8 => fun _ => Memref.isWhole_whole _ | 9 => fun _ => Memref.isWhole_whole _ | 10 => fun _ => Memref.isWhole_whole _ | 11 => fun _ => Memref.isWhole_whole _ | 12 => fun _ => Memref.isWhole_whole _ | 13 => fun _ => Memref.isWhole_whole _ | 14 => fun _ => Memref.isWhole_whole _ | ⟨_ + 15, h⟩ => absurd h (Nat.not_lt.2 (Nat.le_add_left _ _))
theorem launch2 : Pipeline.LaunchFacts (nD := nD) (τ := τ) cfgs 2 := ⟨cellOf_inj, winFacts2, block_pos2, arr_whole2, stage_whole2⟩

theorem N_2 : grid2.N = 1 := by decide
def t2_0 : Fin grid2.N := ⟨0, by rw [N_2]; decide⟩
theorem fin_N2 (t : Fin grid2.N) : t = t2_0 := by
  obtain ⟨t, ht⟩ := t; have := N_2; simp only [t2_0, Fin.mk.injEq]; omega

theorem bigSep_W2 {M : Type} [URA M] (Φ : Fin 15 → sProp M) : bigSep Finset.univ Φ = iprop(Φ (0 : Fin 15) ∗ Φ (1 : Fin 15) ∗ Φ (2 : Fin 15) ∗ Φ (3 : Fin 15) ∗ Φ (4 : Fin 15) ∗ Φ (5 : Fin 15) ∗ Φ (6 : Fin 15) ∗ Φ (7 : Fin 15) ∗ Φ (8 : Fin 15) ∗ Φ (9 : Fin 15) ∗ Φ (10 : Fin 15) ∗ Φ (11 : Fin 15) ∗ Φ (12 : Fin 15) ∗ Φ (13 : Fin 15) ∗ Φ (14 : Fin 15)) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ
-- the scoped rest of custom_call 2 is 52 buffers: not enumerated (routed whole, as `Pipeline.scopedRest`)
-- the unscoped rest of custom_call 2 is 75 buffers: not enumerated (routed whole, as `Pipeline.unscopedRest`)

abbrev hostOps0 : List (HloOp τ sig (Elt F)) :=
  [ StableHlo.unary main_arg5 main_v0 ((extractStridedSlice S128x128 ![0, 0] · slices_S128x258_S128x128_0_0) : (⟨S128x258, .f32⟩ : BufTy).Contents (Elt F) → (⟨S128x128, .f32⟩ : BufTy).Contents (Elt F)),
    StableHlo.unary main_v0 main_v1 ((transpose S128x128 [1, 0] · transposes_S128x128_S128x128_1_0) : (⟨S128x128, .f32⟩ : BufTy).Contents (Elt F) → (⟨S128x128, .f32⟩ : BufTy).Contents (Elt F)),
    StableHlo.unary main_arg5 main_v2 ((extractStridedSlice S128x128 ![0, 128] · slices_S128x258_S128x128_0_128) : (⟨S128x258, .f32⟩ : BufTy).Contents (Elt F) → (⟨S128x128, .f32⟩ : BufTy).Contents (Elt F)),
    StableHlo.unary main_v2 main_v3 ((transpose S128x128 [1, 0] · transposes_S128x128_S128x128_1_0) : (⟨S128x128, .f32⟩ : BufTy).Contents (Elt F) → (⟨S128x128, .f32⟩ : BufTy).Contents (Elt F)),
    StableHlo.unary main_arg5 main_v4 ((extractStridedSlice S128x1 ![0, 256] · slices_S128x258_S128x1_0_256) : (⟨S128x258, .f32⟩ : BufTy).Contents (Elt F) → (⟨S128x1, .f32⟩ : BufTy).Contents (Elt F)),
    StableHlo.reshape main_v4 main_v5 (rfl : (.f32 : EltTy) = .f32) shapeCasts_S128x1_S128,
    StableHlo.unary main_v5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S128x128 ![0, 1] bcast_S1x128_S128x128_0_1 : (⟨S1x128, .f32⟩ : BufTy).Contents (Elt F) → (⟨S128x128, .f32⟩ : BufTy).Contents (Elt F)),
    StableHlo.unary main_v7 main_v8 ((truncf .bf16 · bitsLt_bf16_f32) : (⟨S128x128, .f32⟩ : BufTy).Contents (Elt F) → (⟨S128x128, .bf16⟩ : BufTy).Contents (Elt F)),
    StableHlo.unary main_arg5 main_v9 ((extractStridedSlice S128x1 ![0, 257] · slices_S128x258_S128x1_0_257) : (⟨S128x258, .f32⟩ : BufTy).Contents (Elt F) → (⟨S128x1, .f32⟩ : BufTy).Contents (Elt F)),
    StableHlo.reshape main_v9 main_v10 (rfl : (.f32 : EltTy) = .f32) shapeCasts_S128x1_S128,
    StableHlo.unary main_v10 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S128x128 ![0, 1] bcast_S1x128_S128x128_0_1 : (⟨S1x128, .f32⟩ : BufTy).Contents (Elt F) → (⟨S128x128, .f32⟩ : BufTy).Contents (Elt F)),
    StableHlo.unary main_v12 main_v13 ((truncf .bf16 · bitsLt_bf16_f32) : (⟨S128x128, .f32⟩ : BufTy).Contents (Elt F) → (⟨S128x128, .bf16⟩ : BufTy).Contents (Elt F)),
    StableHlo.unary main_arg1 main_v14 ((transpose S16x4x96 [0, 2, 1] · transposes_S16x96x4_S16x4x96_0_2_1) : (⟨S16x96x4, .f32⟩ : BufTy).Contents (Elt F) → (⟨S16x4x96, .f32⟩ : BufTy).Contents (Elt F)),
    StableHlo.reshape main_arg2 main_v15 (rfl : (.i32 : EltTy) = .i32) shapeCasts_S16x9120_S16x3x3040x1,
    StableHlo.reshape main_arg3 main_v16 (rfl : (.i32 : EltTy) = .i32) shapeCasts_S16x9120_S16x3x3040x1,
    StableHlo.reshape main_arg2 main_v17 (rfl : (.i32 : EltTy) = .i32) shapeCasts_S16x9120_S16x3x1x3040 ]
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.reshape_bufs_sub .., StableHlo.reshape_bufs_sub ..⟩
abbrev hostOps1 : List (HloOp τ sig (Elt F)) :=
  ( StableHlo.unary main_v18 main_v19 ((extractStridedSlice S1x128 ![0, 0] · slices_S8x128_S1x128_0_0) : (⟨S8x128, .f32⟩ : BufTy).Contents (Elt F) → (⟨S1x128, .f32⟩ : BufTy).Contents (Elt F))
  :: StableHlo.reshape main_v19 main_v20 (rfl : (.f32 : EltTy) = .f32) shapeCasts_S1x128_S128
  :: StableHlo.nullary main_cst (constant S_ .f32 0x480E8000#32)
  :: StableHlo.unary main_cst main_v21 (broadcastInDim S128 ![] bcast_S_S128 : (⟨S_, .f32⟩ : BufTy).Contents (Elt F) → (⟨S128, .f32⟩ : BufTy).Contents (Elt F))
  :: StableHlo.binary main_v20 main_v21 main_v22 (Host.divf : (⟨S128, .f32⟩ : BufTy).Contents (Elt F) → (⟨S128, .f32⟩ : BufTy).Contents (Elt F) → (⟨S128, .f32⟩ : BufTy).Contents (Elt F))
  :: StableHlo.unary main_v18 main_v23 ((extractStridedSlice S1x128 ![1, 0] · slices_S8x128_S1x128_1_0) : (⟨S8x128, .f32⟩ : BufTy).Contents (Elt F) → (⟨S1x128, .f32⟩ : BufTy).Contents (Elt F))
  :: StableHlo.reshape main_v23 main_v24 (rfl : (.f32 : EltTy) = .f32) shapeCasts_S1x128_S128
  :: StableHlo.nullary main_cst_0 (constant S_ .f32 0x480E8000#32)
  :: StableHlo.unary main_cst_0 main_v25 (broadcastInDim S128 ![] bcast_S_S128 : (⟨S_, .f32⟩ : BufTy).Contents (Elt F) → (⟨S128, .f32⟩ : BufTy).Contents (Elt F))
  :: StableHlo.binary main_v24 main_v25 main_v26 (Host.divf : (⟨S128, .f32⟩ : BufTy).Contents (Elt F) → (⟨S128, .f32⟩ : BufTy).Contents (Elt F) → (⟨S128, .f32⟩ : BufTy).Contents (Elt F))
  :: StableHlo.binary main_v22 main_v22 main_v27 (mulf : (⟨S128, .f32⟩ : BufTy).Contents (Elt F) → (⟨S128, .f32⟩ : BufTy).Contents (Elt F) → (⟨S128, .f32⟩ : BufTy).Contents (Elt F))
  :: StableHlo.binary main_v26 main_v27 main_v28 (subf : (⟨S128, .f32⟩ : BufTy).Contents (Elt F) → (⟨S128, .f32⟩ : BufTy).Contents (Elt F) → (⟨S128, .f32⟩ : BufTy).Contents (Elt F))
  :: StableHlo.nullary main_cst_1 (constant S_ .f32 0x3727C5AC#32)
  :: StableHlo.unary main_cst_1 main_v29 (broadcastInDim S128 ![] bcast_S_S128 : (⟨S_, .f32⟩ : BufTy).Contents (Elt F) → (⟨S128, .f32⟩ : BufTy).Contents (Elt F))
  :: StableHlo.binary main_v28 main_v29 main_v30 (addf : (⟨S128, .f32⟩ : BufTy).Contents (Elt F) → (⟨S128, .f32⟩ : BufTy).Contents (Elt F) → (⟨S128, .f32⟩ : BufTy).Contents (Elt F))
  :: StableHlo.unary main_v30 main_v31 (Host.rsqrt : (⟨S128, .f32⟩ : BufTy).Contents (Elt F) → (⟨S128, .f32⟩ : BufTy).Contents (Elt F))
  :: StableHlo.binary main_arg6 main_v31 main_v32 (mulf : (⟨S128, .f32⟩ : BufTy).Contents (Elt F) → (⟨S128, .f32⟩ : BufTy).Contents (Elt F) → (⟨S128, .f32⟩ : BufTy).Contents (Elt F))
  :: StableHlo.binary main_v22 main_v32 main_v33 (mulf : (⟨S128, .f32⟩ : BufTy).Contents (Elt F) → (⟨S128, .f32⟩ : BufTy).Contents (Elt F) → (⟨S128, .f32⟩ : BufTy).Contents (Elt F))
  :: StableHlo.binary main_arg7 main_v33 main_v34 (subf : (⟨S128, .f32⟩ : BufTy).Contents (Elt F) → (⟨S128, .f32⟩ : BufTy).Contents (Elt F) → (⟨S128, .f32⟩ : BufTy).Contents (Elt F))
  :: StableHlo.unary main_v32 main_v35 (broadcastInDim S1x128 ![1] bcast_S128_S1x128_1 : (⟨S128, .f32⟩ : BufTy).Contents (Elt F) → (⟨S1x128, .f32⟩ : BufTy).Contents (Elt F))
  :: StableHlo.unary main_v34 main_v36 (broadcastInDim S1x128 ![1] bcast_S128_S1x128_1 : (⟨S128, .f32⟩ : BufTy).Contents (Elt F) → (⟨S1x128, .f32⟩ : BufTy).Contents (Elt F))
  :: StableHlo.unary main_arg8 main_v37 ((transpose S128x128 [1, 0] · transposes_S128x128_S128x128_1_0) : (⟨S128x128, .f32⟩ : BufTy).Contents (Elt F) → (⟨S128x128, .f32⟩ : BufTy).Contents (Elt F))
  :: StableHlo.unary main_v37 main_v38 ((truncf .bf16 · bitsLt_bf16_f32) : (⟨S128x128, .f32⟩ : BufTy).Contents (Elt F) → (⟨S128x128, .bf16⟩ : BufTy).Contents (Elt F))
  :: StableHlo.unary main_arg9 main_v39 (broadcastInDim S1x128 ![1] bcast_S128_S1x128_1 : (⟨S128, .f32⟩ : BufTy).Contents (Elt F) → (⟨S1x128, .f32⟩ : BufTy).Contents (Elt F))
  :: StableHlo.unary main_arg19 main_v40 ((transpose S128x1 [1, 0] · transposes_S1x128_S128x1_1_0) : (⟨S1x128, .f32⟩ : BufTy).Contents (Elt F) → (⟨S128x1, .f32⟩ : BufTy).Contents (Elt F))
  :: StableHlo.unary main_v40 main_v41 (broadcastInDim S128x128 ![0, 1] bcast_S128x1_S128x128_0_1 : (⟨S128x1, .f32⟩ : BufTy).Contents (Elt F) → (⟨S128x128, .f32⟩ : BufTy).Contents (Elt F))
  :: StableHlo.unary main_v41 main_v42 ((truncf .bf16 · bitsLt_bf16_f32) : (⟨S128x128, .f32⟩ : BufTy).Contents (Elt F) → (⟨S128x128, .bf16⟩ : BufTy).Contents (Elt F))
  :: StableHlo.reshape main_arg20 main_v43 (rfl : (.f32 : EltTy) = .f32) shapeCasts_S1_S1x1
  :: StableHlo.unary main_arg16 main_v44 ((transpose S128x128 [1, 0] · transposes_S128x128_S128x128_1_0) : (⟨S128x128, .f32⟩ : BufTy).Contents (Elt F) → (⟨S128x128, .f32⟩ : BufTy).Contents (Elt F))
  :: StableHlo.unary main_v44 main_v45 ((truncf .bf16 · bitsLt_bf16_f32) : (⟨S128x128, .f32⟩ : BufTy).Contents (Elt F) → (⟨S128x128, .bf16⟩ : BufTy).Contents (Elt F))
  :: StableHlo.unary main_arg17 main_v46 (broadcastInDim S1x128 ![1] bcast_S128_S1x128_1 : (⟨S128, .f32⟩ : BufTy).Contents (Elt F) → (⟨S1x128, .f32⟩ : BufTy).Contents (Elt F))
  :: StableHlo.unary main_arg18 main_v47 ((transpose S128x1 [1, 0] · transposes_S1x128_S128x1_1_0) : (⟨S1x128, .f32⟩ : BufTy).Contents (Elt F) → (⟨S128x1, .f32⟩ : BufTy).Contents (Elt F))
  :: StableHlo.unary main_v47 main_v48 (broadcastInDim S128x8 ![0, 1] bcast_S128x1_S128x8_0_1 : (⟨S128x1, .f32⟩ : BufTy).Contents (Elt F) → (⟨S128x8, .f32⟩ : BufTy).Contents (Elt F))
  :: StableHlo.unary main_v48 main_v49 ((truncf .bf16 · bitsLt_bf16_f32) : (⟨S128x8, .f32⟩ : BufTy).Contents (Elt F) → (⟨S128x8, .bf16⟩ : BufTy).Contents (Elt F))
  :: [] )
theorem hostOps1_sub : (hostOps1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub ..⟩
abbrev hostOps2 : List (HloOp τ sig (Elt F)) :=
  [ StableHlo.unary main_arg10 main_v51 ((extractStridedSlice S128x128 ![0, 0] · slices_S128x272_S128x128_0_0) : (⟨S128x272, .f32⟩ : BufTy).Contents (Elt F) → (⟨S128x128, .f32⟩ : BufTy).Contents (Elt F)),
    StableHlo.unary main_v51 main_v52 ((transpose S128x128 [1, 0] · transposes_S128x128_S128x128_1_0) : (⟨S128x128, .f32⟩ : BufTy).Contents (Elt F) → (⟨S128x128, .f32⟩ : BufTy).Contents (Elt F)),
    StableHlo.unary main_arg10 main_v53 ((extractStridedSlice S128x128 ![0, 128] · slices_S128x272_S128x128_0_128) : (⟨S128x272, .f32⟩ : BufTy).Contents (Elt F) → (⟨S128x128, .f32⟩ : BufTy).Contents (Elt F)),
    StableHlo.unary main_v53 main_v54 ((transpose S128x128 [1, 0] · transposes_S128x128_S128x128_1_0) : (⟨S128x128, .f32⟩ : BufTy).Contents (Elt F) → (⟨S128x128, .f32⟩ : BufTy).Contents (Elt F)),
    StableHlo.unary main_arg10 main_v55 ((extractStridedSlice S128x16 ![0, 256] · slices_S128x272_S128x16_0_256) : (⟨S128x272, .f32⟩ : BufTy).Contents (Elt F) → (⟨S128x16, .f32⟩ : BufTy).Contents (Elt F)),
    StableHlo.unary main_v55 main_v56 ((transpose S16x128 [1, 0] · transposes_S128x16_S16x128_1_0) : (⟨S128x16, .f32⟩ : BufTy).Contents (Elt F) → (⟨S16x128, .f32⟩ : BufTy).Contents (Elt F)),
    StableHlo.unary main_arg11 main_v57 (broadcastInDim S1x128 ![1] bcast_S128_S1x128_1 : (⟨S128, .f32⟩ : BufTy).Contents (Elt F) → (⟨S1x128, .f32⟩ : BufTy).Contents (Elt F)),
    StableHlo.unary main_arg12 main_v58 (broadcastInDim S1x128 ![1] bcast_S128_S1x128_1 : (⟨S128, .f32⟩ : BufTy).Contents (Elt F) → (⟨S1x128, .f32⟩ : BufTy).Contents (Elt F)),
    StableHlo.unary main_arg13 main_v59 (broadcastInDim S1x128 ![1] bcast_S128_S1x128_1 : (⟨S128, .f32⟩ : BufTy).Contents (Elt F) → (⟨S1x128, .f32⟩ : BufTy).Contents (Elt F)),
    StableHlo.unary main_arg14 main_v60 ((transpose S128x128 [1, 0] · transposes_S128x128_S128x128_1_0) : (⟨S128x128, .f32⟩ : BufTy).Contents (Elt F) → (⟨S128x128, .f32⟩ : BufTy).Contents (Elt F)),
    StableHlo.unary main_arg15 main_v61 (broadcastInDim S1x128 ![1] bcast_S128_S1x128_1 : (⟨S128, .f32⟩ : BufTy).Contents (Elt F) → (⟨S1x128, .f32⟩ : BufTy).Contents (Elt F)) ]
theorem hostOps2_sub : (hostOps2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev main_part0_ops0 : List (HloOp τ sig (Elt F)) :=
  [ StableHlo.unary main_arg5 main_v0 ((extractStridedSlice S128x128 ![0, 0] · slices_S128x258_S128x128_0_0) : (⟨S128x258, .f32⟩ : BufTy).Contents (Elt F) → (⟨S128x128, .f32⟩ : BufTy).Contents (Elt F)),
    StableHlo.unary main_v0 main_v1 ((transpose S128x128 [1, 0] · transposes_S128x128_S128x128_1_0) : (⟨S128x128, .f32⟩ : BufTy).Contents (Elt F) → (⟨S128x128, .f32⟩ : BufTy).Contents (Elt F)),
    StableHlo.unary main_arg5 main_v2 ((extractStridedSlice S128x128 ![0, 128] · slices_S128x258_S128x128_0_128) : (⟨S128x258, .f32⟩ : BufTy).Contents (Elt F) → (⟨S128x128, .f32⟩ : BufTy).Contents (Elt F)),
    StableHlo.unary main_v2 main_v3 ((transpose S128x128 [1, 0] · transposes_S128x128_S128x128_1_0) : (⟨S128x128, .f32⟩ : BufTy).Contents (Elt F) → (⟨S128x128, .f32⟩ : BufTy).Contents (Elt F)),
    StableHlo.unary main_arg5 main_v4 ((extractStridedSlice S128x1 ![0, 256] · slices_S128x258_S128x1_0_256) : (⟨S128x258, .f32⟩ : BufTy).Contents (Elt F) → (⟨S128x1, .f32⟩ : BufTy).Contents (Elt F)),
    StableHlo.reshape main_v4 main_v5 (rfl : (.f32 : EltTy) = .f32) shapeCasts_S128x1_S128,
    StableHlo.unary main_v5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S128x128 ![0, 1] bcast_S1x128_S128x128_0_1 : (⟨S1x128, .f32⟩ : BufTy).Contents (Elt F) → (⟨S128x128, .f32⟩ : BufTy).Contents (Elt F)),
    StableHlo.unary main_v7 main_v8 ((truncf .bf16 · bitsLt_bf16_f32) : (⟨S128x128, .f32⟩ : BufTy).Contents (Elt F) → (⟨S128x128, .bf16⟩ : BufTy).Contents (Elt F)),
    StableHlo.unary main_arg5 main_v9 ((extractStridedSlice S128x1 ![0, 257] · slices_S128x258_S128x1_0_257) : (⟨S128x258, .f32⟩ : BufTy).Contents (Elt F) → (⟨S128x1, .f32⟩ : BufTy).Contents (Elt F)),
    StableHlo.reshape main_v9 main_v10 (rfl : (.f32 : EltTy) = .f32) shapeCasts_S128x1_S128,
    StableHlo.unary main_v10 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S128x128 ![0, 1] bcast_S1x128_S128x128_0_1 : (⟨S1x128, .f32⟩ : BufTy).Contents (Elt F) → (⟨S128x128, .f32⟩ : BufTy).Contents (Elt F)),
    StableHlo.unary main_v12 main_v13 ((truncf .bf16 · bitsLt_bf16_f32) : (⟨S128x128, .f32⟩ : BufTy).Contents (Elt F) → (⟨S128x128, .bf16⟩ : BufTy).Contents (Elt F)),
    StableHlo.unary main_arg1 main_v14 ((transpose S16x4x96 [0, 2, 1] · transposes_S16x96x4_S16x4x96_0_2_1) : (⟨S16x96x4, .f32⟩ : BufTy).Contents (Elt F) → (⟨S16x4x96, .f32⟩ : BufTy).Contents (Elt F)),
    StableHlo.reshape main_arg2 main_v15 (rfl : (.i32 : EltTy) = .i32) shapeCasts_S16x9120_S16x3x3040x1,
    StableHlo.reshape main_arg3 main_v16 (rfl : (.i32 : EltTy) = .i32) shapeCasts_S16x9120_S16x3x3040x1,
    StableHlo.reshape main_arg2 main_v17 (rfl : (.i32 : EltTy) = .i32) shapeCasts_S16x9120_S16x3x1x3040 ]
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.reshape_bufs_sub .., StableHlo.reshape_bufs_sub ..⟩
abbrev main_part0_ops1 : List (HloOp τ sig (Elt F)) :=
  ( StableHlo.unary main_v18 main_v19 ((extractStridedSlice S1x128 ![0, 0] · slices_S8x128_S1x128_0_0) : (⟨S8x128, .f32⟩ : BufTy).Contents (Elt F) → (⟨S1x128, .f32⟩ : BufTy).Contents (Elt F))
  :: StableHlo.reshape main_v19 main_v20 (rfl : (.f32 : EltTy) = .f32) shapeCasts_S1x128_S128
  :: StableHlo.nullary main_cst (constant S_ .f32 0x480E8000#32)
  :: StableHlo.unary main_cst main_v21 (broadcastInDim S128 ![] bcast_S_S128 : (⟨S_, .f32⟩ : BufTy).Contents (Elt F) → (⟨S128, .f32⟩ : BufTy).Contents (Elt F))
  :: StableHlo.binary main_v20 main_v21 main_v22 (Host.divf : (⟨S128, .f32⟩ : BufTy).Contents (Elt F) → (⟨S128, .f32⟩ : BufTy).Contents (Elt F) → (⟨S128, .f32⟩ : BufTy).Contents (Elt F))
  :: StableHlo.unary main_v18 main_v23 ((extractStridedSlice S1x128 ![1, 0] · slices_S8x128_S1x128_1_0) : (⟨S8x128, .f32⟩ : BufTy).Contents (Elt F) → (⟨S1x128, .f32⟩ : BufTy).Contents (Elt F))
  :: StableHlo.reshape main_v23 main_v24 (rfl : (.f32 : EltTy) = .f32) shapeCasts_S1x128_S128
  :: StableHlo.nullary main_cst_0 (constant S_ .f32 0x480E8000#32)
  :: StableHlo.unary main_cst_0 main_v25 (broadcastInDim S128 ![] bcast_S_S128 : (⟨S_, .f32⟩ : BufTy).Contents (Elt F) → (⟨S128, .f32⟩ : BufTy).Contents (Elt F))
  :: StableHlo.binary main_v24 main_v25 main_v26 (Host.divf : (⟨S128, .f32⟩ : BufTy).Contents (Elt F) → (⟨S128, .f32⟩ : BufTy).Contents (Elt F) → (⟨S128, .f32⟩ : BufTy).Contents (Elt F))
  :: StableHlo.binary main_v22 main_v22 main_v27 (mulf : (⟨S128, .f32⟩ : BufTy).Contents (Elt F) → (⟨S128, .f32⟩ : BufTy).Contents (Elt F) → (⟨S128, .f32⟩ : BufTy).Contents (Elt F))
  :: StableHlo.binary main_v26 main_v27 main_v28 (subf : (⟨S128, .f32⟩ : BufTy).Contents (Elt F) → (⟨S128, .f32⟩ : BufTy).Contents (Elt F) → (⟨S128, .f32⟩ : BufTy).Contents (Elt F))
  :: StableHlo.nullary main_cst_1 (constant S_ .f32 0x3727C5AC#32)
  :: StableHlo.unary main_cst_1 main_v29 (broadcastInDim S128 ![] bcast_S_S128 : (⟨S_, .f32⟩ : BufTy).Contents (Elt F) → (⟨S128, .f32⟩ : BufTy).Contents (Elt F))
  :: StableHlo.binary main_v28 main_v29 main_v30 (addf : (⟨S128, .f32⟩ : BufTy).Contents (Elt F) → (⟨S128, .f32⟩ : BufTy).Contents (Elt F) → (⟨S128, .f32⟩ : BufTy).Contents (Elt F))
  :: StableHlo.unary main_v30 main_v31 (Host.rsqrt : (⟨S128, .f32⟩ : BufTy).Contents (Elt F) → (⟨S128, .f32⟩ : BufTy).Contents (Elt F))
  :: StableHlo.binary main_arg6 main_v31 main_v32 (mulf : (⟨S128, .f32⟩ : BufTy).Contents (Elt F) → (⟨S128, .f32⟩ : BufTy).Contents (Elt F) → (⟨S128, .f32⟩ : BufTy).Contents (Elt F))
  :: StableHlo.binary main_v22 main_v32 main_v33 (mulf : (⟨S128, .f32⟩ : BufTy).Contents (Elt F) → (⟨S128, .f32⟩ : BufTy).Contents (Elt F) → (⟨S128, .f32⟩ : BufTy).Contents (Elt F))
  :: StableHlo.binary main_arg7 main_v33 main_v34 (subf : (⟨S128, .f32⟩ : BufTy).Contents (Elt F) → (⟨S128, .f32⟩ : BufTy).Contents (Elt F) → (⟨S128, .f32⟩ : BufTy).Contents (Elt F))
  :: StableHlo.unary main_v32 main_v35 (broadcastInDim S1x128 ![1] bcast_S128_S1x128_1 : (⟨S128, .f32⟩ : BufTy).Contents (Elt F) → (⟨S1x128, .f32⟩ : BufTy).Contents (Elt F))
  :: StableHlo.unary main_v34 main_v36 (broadcastInDim S1x128 ![1] bcast_S128_S1x128_1 : (⟨S128, .f32⟩ : BufTy).Contents (Elt F) → (⟨S1x128, .f32⟩ : BufTy).Contents (Elt F))
  :: StableHlo.unary main_arg8 main_v37 ((transpose S128x128 [1, 0] · transposes_S128x128_S128x128_1_0) : (⟨S128x128, .f32⟩ : BufTy).Contents (Elt F) → (⟨S128x128, .f32⟩ : BufTy).Contents (Elt F))
  :: StableHlo.unary main_v37 main_v38 ((truncf .bf16 · bitsLt_bf16_f32) : (⟨S128x128, .f32⟩ : BufTy).Contents (Elt F) → (⟨S128x128, .bf16⟩ : BufTy).Contents (Elt F))
  :: StableHlo.unary main_arg9 main_v39 (broadcastInDim S1x128 ![1] bcast_S128_S1x128_1 : (⟨S128, .f32⟩ : BufTy).Contents (Elt F) → (⟨S1x128, .f32⟩ : BufTy).Contents (Elt F))
  :: StableHlo.unary main_arg19 main_v40 ((transpose S128x1 [1, 0] · transposes_S1x128_S128x1_1_0) : (⟨S1x128, .f32⟩ : BufTy).Contents (Elt F) → (⟨S128x1, .f32⟩ : BufTy).Contents (Elt F))
  :: StableHlo.unary main_v40 main_v41 (broadcastInDim S128x128 ![0, 1] bcast_S128x1_S128x128_0_1 : (⟨S128x1, .f32⟩ : BufTy).Contents (Elt F) → (⟨S128x128, .f32⟩ : BufTy).Contents (Elt F))
  :: StableHlo.unary main_v41 main_v42 ((truncf .bf16 · bitsLt_bf16_f32) : (⟨S128x128, .f32⟩ : BufTy).Contents (Elt F) → (⟨S128x128, .bf16⟩ : BufTy).Contents (Elt F))
  :: StableHlo.reshape main_arg20 main_v43 (rfl : (.f32 : EltTy) = .f32) shapeCasts_S1_S1x1
  :: StableHlo.unary main_arg16 main_v44 ((transpose S128x128 [1, 0] · transposes_S128x128_S128x128_1_0) : (⟨S128x128, .f32⟩ : BufTy).Contents (Elt F) → (⟨S128x128, .f32⟩ : BufTy).Contents (Elt F))
  :: StableHlo.unary main_v44 main_v45 ((truncf .bf16 · bitsLt_bf16_f32) : (⟨S128x128, .f32⟩ : BufTy).Contents (Elt F) → (⟨S128x128, .bf16⟩ : BufTy).Contents (Elt F))
  :: StableHlo.unary main_arg17 main_v46 (broadcastInDim S1x128 ![1] bcast_S128_S1x128_1 : (⟨S128, .f32⟩ : BufTy).Contents (Elt F) → (⟨S1x128, .f32⟩ : BufTy).Contents (Elt F))
  :: StableHlo.unary main_arg18 main_v47 ((transpose S128x1 [1, 0] · transposes_S1x128_S128x1_1_0) : (⟨S1x128, .f32⟩ : BufTy).Contents (Elt F) → (⟨S128x1, .f32⟩ : BufTy).Contents (Elt F))
  :: StableHlo.unary main_v47 main_v48 (broadcastInDim S128x8 ![0, 1] bcast_S128x1_S128x8_0_1 : (⟨S128x1, .f32⟩ : BufTy).Contents (Elt F) → (⟨S128x8, .f32⟩ : BufTy).Contents (Elt F))
  :: StableHlo.unary main_v48 main_v49 ((truncf .bf16 · bitsLt_bf16_f32) : (⟨S128x8, .f32⟩ : BufTy).Contents (Elt F) → (⟨S128x8, .bf16⟩ : BufTy).Contents (Elt F))
  :: [] )
theorem main_part0_ops1_sub : (main_part0_ops1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub ..⟩
abbrev main_part0_ops2 : List (HloOp τ sig (Elt F)) :=
  [ StableHlo.unary main_arg10 main_v51 ((extractStridedSlice S128x128 ![0, 0] · slices_S128x272_S128x128_0_0) : (⟨S128x272, .f32⟩ : BufTy).Contents (Elt F) → (⟨S128x128, .f32⟩ : BufTy).Contents (Elt F)),
    StableHlo.unary main_v51 main_v52 ((transpose S128x128 [1, 0] · transposes_S128x128_S128x128_1_0) : (⟨S128x128, .f32⟩ : BufTy).Contents (Elt F) → (⟨S128x128, .f32⟩ : BufTy).Contents (Elt F)),
    StableHlo.unary main_arg10 main_v53 ((extractStridedSlice S128x128 ![0, 128] · slices_S128x272_S128x128_0_128) : (⟨S128x272, .f32⟩ : BufTy).Contents (Elt F) → (⟨S128x128, .f32⟩ : BufTy).Contents (Elt F)),
    StableHlo.unary main_v53 main_v54 ((transpose S128x128 [1, 0] · transposes_S128x128_S128x128_1_0) : (⟨S128x128, .f32⟩ : BufTy).Contents (Elt F) → (⟨S128x128, .f32⟩ : BufTy).Contents (Elt F)),
    StableHlo.unary main_arg10 main_v55 ((extractStridedSlice S128x16 ![0, 256] · slices_S128x272_S128x16_0_256) : (⟨S128x272, .f32⟩ : BufTy).Contents (Elt F) → (⟨S128x16, .f32⟩ : BufTy).Contents (Elt F)),
    StableHlo.unary main_v55 main_v56 ((transpose S16x128 [1, 0] · transposes_S128x16_S16x128_1_0) : (⟨S128x16, .f32⟩ : BufTy).Contents (Elt F) → (⟨S16x128, .f32⟩ : BufTy).Contents (Elt F)) ]
theorem main_part0_ops2_sub : (main_part0_ops2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub ..⟩
theorem main_part0_chain (c : Dev nD) : main_part0 (F := F) c = (Pipeline.chainK
  [ StableHlo.seq main_part0_ops0,
    Prog.lift (.customCall (Pipeline.entry 0) ()),
    StableHlo.seq main_part0_ops1,
    Prog.lift (.customCall (Pipeline.entry 1) ()) ]
  (StableHlo.seq main_part0_ops2) : Prog (TpuEff nD τ sig (Elt F) (Pipeline.Sig Λ₀ (Fin 3) fun p => (pcfgs (F := F) p).Adm) .tc) PUnit) := by
  rewrite [StableHlo.chainK_seq_cons, Pipeline.chainK_cons, StableHlo.chainK_seq_cons, Pipeline.chainK_cons]
  chain_rfl

abbrev main_part1_ops0 : List (HloOp τ sig (Elt F)) :=
  [ StableHlo.unary main_arg11 main_v57 (broadcastInDim S1x128 ![1] bcast_S128_S1x128_1 : (⟨S128, .f32⟩ : BufTy).Contents (Elt F) → (⟨S1x128, .f32⟩ : BufTy).Contents (Elt F)),
    StableHlo.unary main_arg12 main_v58 (broadcastInDim S1x128 ![1] bcast_S128_S1x128_1 : (⟨S128, .f32⟩ : BufTy).Contents (Elt F) → (⟨S1x128, .f32⟩ : BufTy).Contents (Elt F)),
    StableHlo.unary main_arg13 main_v59 (broadcastInDim S1x128 ![1] bcast_S128_S1x128_1 : (⟨S128, .f32⟩ : BufTy).Contents (Elt F) → (⟨S1x128, .f32⟩ : BufTy).Contents (Elt F)),
    StableHlo.unary main_arg14 main_v60 ((transpose S128x128 [1, 0] · transposes_S128x128_S128x128_1_0) : (⟨S128x128, .f32⟩ : BufTy).Contents (Elt F) → (⟨S128x128, .f32⟩ : BufTy).Contents (Elt F)),
    StableHlo.unary main_arg15 main_v61 (broadcastInDim S1x128 ![1] bcast_S128_S1x128_1 : (⟨S128, .f32⟩ : BufTy).Contents (Elt F) → (⟨S1x128, .f32⟩ : BufTy).Contents (Elt F)) ]
theorem main_part1_ops0_sub : (main_part1_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub ..⟩
theorem main_part1_chain (c : Dev nD) : main_part1 (F := F) c = (Pipeline.chain
  [ StableHlo.seq main_part1_ops0,
    Prog.lift (.customCall (Pipeline.entry 2) ()) ] : Prog (TpuEff nD τ sig (Elt F) (Pipeline.Sig Λ₀ (Fin 3) fun p => (pcfgs (F := F) p).Adm) .tc) PUnit) := by
  rewrite [StableHlo.chain_seq_cons, Pipeline.chain_cons]
  chain_rfl

theorem main_chain_windows (c : Dev nD) : main (F := F) c = (Pipeline.chain
  [ StableHlo.seq main_part0_ops0,
    Prog.lift (.customCall (Pipeline.entry 0) ()),
    StableHlo.seq main_part0_ops1,
    Prog.lift (.customCall (Pipeline.entry 1) ()),
    StableHlo.seq main_part0_ops2,
    StableHlo.seq main_part1_ops0,
    Prog.lift (.customCall (Pipeline.entry 2) ()) ] : Prog (TpuEff nD τ sig (Elt F) (Pipeline.Sig Λ₀ (Fin 3) fun p => (pcfgs (F := F) p).Adm) .tc) PUnit) := by
  show (main_part0 (F := F) c >>= fun _ => main_part1 (F := F) c) = _
  rewrite [main_part1_chain, main_part0_chain, Pipeline.chainK_bind_chain]
  chain_rfl

abbrev main_groups (c : Dev nD) : List (StableHlo.Group nD τ sig (Elt F) (Pipeline.Sig Λ₀ (Fin 3) fun p => (pcfgs (F := F) p).Adm)) :=
  [ .ops [main_part0_ops0],
    .prog (Prog.lift (.customCall (Pipeline.entry 0) ())),
    .ops [main_part0_ops1],
    .prog (Prog.lift (.customCall (Pipeline.entry 1) ())),
    .ops [main_part0_ops2, main_part1_ops0],
    .prog (Prog.lift (.customCall (Pipeline.entry 2) ())) ]

theorem main_chain_cut (c : Dev nD) : (Pipeline.chain
  [ StableHlo.seq main_part0_ops0,
    Prog.lift (.customCall (Pipeline.entry 0) ()),
    StableHlo.seq main_part0_ops1,
    Prog.lift (.customCall (Pipeline.entry 1) ()),
    StableHlo.seq main_part0_ops2,
    StableHlo.seq main_part1_ops0,
    Prog.lift (.customCall (Pipeline.entry 2) ()) ] : Prog (TpuEff nD τ sig (Elt F) (Pipeline.Sig Λ₀ (Fin 3) fun p => (pcfgs (F := F) p).Adm) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ] : Prog (TpuEff nD τ sig (Elt F) (Pipeline.Sig Λ₀ (Fin 3) fun p => (pcfgs (F := F) p).Adm) .tc) PUnit) := by
  chain_rfl

theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()) ] : Prog (TpuEff nD τ sig (Elt F) (Pipeline.Sig Λ₀ (Fin 3) fun p => (pcfgs (F := F) p).Adm) .tc) PUnit) :=
  (main_chain_windows (F := F) c).trans <| (main_chain_cut (F := F) c).trans <|
    (StableHlo.chain_cut_eq_whole (main_groups (F := F) c)).trans (main_chain_whole (F := F) c)

end Cert.KernelIdeal.Gen

end
-- ==== Proof.KernelIdeal.Base0.lean ====
/- Call 0 of the program: its windows, scratch and branch conditions at a grid point. -/
module

public import proofs.«01_k».proof.Proof.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The condition of the body's branch 0, at the grid coordinates. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 3 = 0)

/-- The condition of the body's branch 1, at the grid coordinates. -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem hcond0_1 : ∀ t : Fin cfg0.N, cond0_1 (grid0.coords t) ↔ t.val % 48 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [cond0_1, e0, e1]
    word_cmp
   : ∀ t : Fin grid0.N, cond0_1 (grid0.coords t) ↔ t.val % 48 = 0)

abbrev ms0_0 (t : Fin cfg0.N) : Memref sig .tc .vmem S1x1x3040x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x3040x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x96x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x96x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x96 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev VO0_9 : View sig .tc .vmem S8x128 .f32 := (Memref.whole cc0_stg9_0 : Memref sig .tc .vmem S8x128 .f32).view
abbrev scM0_0 : Memref sig .tc .vmem S128x384 .bf16 := Memref.whole cc0_scratch0
abbrev VS0_0 : View sig .tc .vmem S128x384 .bf16 := scM0_0.view
abbrev scM0_1 : Memref sig .tc .vmem S128x128 .bf16 := Memref.whole cc0_scratch1
abbrev VS0_1 : View sig .tc .vmem S128x128 .bf16 := scM0_1.view
abbrev scM0_2 : Memref sig .tc .vmem S128x8 .bf16 := Memref.whole cc0_scratch2
abbrev VS0_2 : View sig .tc .vmem S128x8 .bf16 := scM0_2.view
theorem live0_9 : ∀ t : Fin cfg0.N, cfg0.idle 9 (grid0.coords t) = false := fun _ => rfl

/-- What the call does not look at: the other calls' scoped buffers and the generator register. -/
def rest0 (c : Dev nD) : sProp 𝕄 :=
  iprop(Pipeline.scopedRestBut spec0 c [cc0_scratch0, cc0_scratch1, cc0_scratch2] ∗ (∃ r, prngReg c r))

/-- The class invariant with the scratch memrefs in view. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d)) ∗ rest0 (F := F) c) := by
  unfold Pipeline.ΦA rest0; rw [scopedRest0_split, show ∀ P Q R : sProp 𝕄, iprop((P ∗ Q) ∗ R) = iprop(P ∗ Q ∗ R) from fun _ _ _ => Idealize.SL.BI.Entails.antisymm Idealize.SL.BI.sep_assoc Idealize.SL.BI.sep_assoc']; simp only [scM0_0, scM0_1, scM0_2, owns_whole]; try rfl

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Own

end
-- ==== Proof.KernelIdeal.Run0A.lean ====
/- Call 0, the first point: the tables are built and the sums begin: what the body stores, found by running it. -/
module

public import proofs.«01_k».proof.Proof.KernelIdeal.Base0

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The pieces the body leaves in each output's staging memref and in each carried scratch in this case, with the proof that the
    body, on whole memrefs holding what is named, runs to a continuation that holds those pieces written. -/
noncomputable def kernelRun0_A (c : Dev nD) (i : grid0.Coords) (arg2 : Memref sig .tc .vmem S1x1x3040x1 .i32) (harg2 : arg2.IsWhole) (arg3 : Memref sig .tc .vmem S1x1x3040x1 .i32) (harg3 : arg3.IsWhole) (arg4 : Memref sig .tc .vmem S1x96x128 .f32) (harg4 : arg4.IsWhole) (arg5 : Memref sig .tc .vmem S1x96x4 .f32) (harg5 : arg5.IsWhole) (arg6 : Memref sig .tc .vmem S1x4x96 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .bf16) (harg9 : arg9.IsWhole) (arg10 : Memref sig .tc .vmem S128x128 .bf16) (harg10 : arg10.IsWhole) (arg11 : Memref sig .tc .vmem S8x128 .f32) (harg11 : arg11.IsWhole) (arg12 : Memref sig .tc .vmem S128x384 .bf16) (harg12 : arg12.IsWhole) (arg13 : Memref sig .tc .vmem S128x128 .bf16) (harg13 : arg13.IsWhole) (arg14 : Memref sig .tc .vmem S128x8 .bf16) (harg14 : arg14.IsWhole) (hc0 : cond0_0 i) (hc1 : cond0_1 i)
    (x0 : Vec F S1x1x3040x1 .i32) (x1 : Vec F S1x1x3040x1 .i32) (x2 : Vec F S1x96x128 .f32) (x3 : Vec F S1x96x4 .f32) (x4 : Vec F S1x4x96 .f32) (x5 : Vec F S128x128 .f32) (x6 : Vec F S128x128 .f32) (x7 : Vec F S128x128 .bf16) (x8 : Vec F S128x128 .bf16) :
    Σ' (L9 : List (View.Piece (Elt F) S8x128 .f32)), Σ' (LS0 : List (View.Piece (Elt F) S128x384 .bf16)), { LS1 : List (View.Piece (Elt F) S128x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ d, owns (c : Thread nD τ) arg14 fullShare d)) -∗ K ⟨⟩))
          ⊢ wp frame (wpE (defs₀ (F := F)) Variants.none c none) E (cc0__pass1_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__pass1_body_eq_skeleton]; unfold cc0__pass1_body_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _, _; isplitr; swap; · iexact HS2
    ipureintro; rfl

end Cert.KernelIdeal.Own

end
-- ==== Proof.KernelIdeal.Run0C.lean ====
/- Call 0, a graph's first point but the first of all: the tables are built, the sums go on: what the body stores, found by running it. -/
module

public import proofs.«01_k».proof.Proof.KernelIdeal.Base0

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The pieces the body leaves in each output's staging memref and in each carried scratch in this case, with the proof that the
    body, on whole memrefs holding what is named, runs to a continuation that holds those pieces written. -/
noncomputable def kernelRun0_C (c : Dev nD) (i : grid0.Coords) (arg2 : Memref sig .tc .vmem S1x1x3040x1 .i32) (harg2 : arg2.IsWhole) (arg3 : Memref sig .tc .vmem S1x1x3040x1 .i32) (harg3 : arg3.IsWhole) (arg4 : Memref sig .tc .vmem S1x96x128 .f32) (harg4 : arg4.IsWhole) (arg5 : Memref sig .tc .vmem S1x96x4 .f32) (harg5 : arg5.IsWhole) (arg6 : Memref sig .tc .vmem S1x4x96 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .bf16) (harg9 : arg9.IsWhole) (arg10 : Memref sig .tc .vmem S128x128 .bf16) (harg10 : arg10.IsWhole) (arg11 : Memref sig .tc .vmem S8x128 .f32) (harg11 : arg11.IsWhole) (arg12 : Memref sig .tc .vmem S128x384 .bf16) (harg12 : arg12.IsWhole) (arg13 : Memref sig .tc .vmem S128x128 .bf16) (harg13 : arg13.IsWhole) (arg14 : Memref sig .tc .vmem S128x8 .bf16) (harg14 : arg14.IsWhole) (hc0 : cond0_0 i) (hc1 : ¬cond0_1 i)
    (x0 : Vec F S1x1x3040x1 .i32) (x1 : Vec F S1x1x3040x1 .i32) (x2 : Vec F S1x96x128 .f32) (x3 : Vec F S1x96x4 .f32) (x4 : Vec F S1x4x96 .f32) (x5 : Vec F S128x128 .f32) (x6 : Vec F S128x128 .f32) (x7 : Vec F S128x128 .bf16) (x8 : Vec F S128x128 .bf16) (xo9 : Vec F S8x128 .f32) :
    Σ' (L9 : List (View.Piece (Elt F) S8x128 .f32)), Σ' (LS0 : List (View.Piece (Elt F) S128x384 .bf16)), { LS1 : List (View.Piece (Elt F) S128x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} arg11.view.writes (Elt F) (harg11.unread xo9) L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ d, owns (c : Thread nD τ) arg14 fullShare d)) -∗ K ⟨⟩))
          ⊢ wp frame (wpE (defs₀ (F := F)) Variants.none c none) E (cc0__pass1_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__pass1_body_eq_skeleton]; unfold cc0__pass1_body_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [HS0]; · iexists _; iexact HS0
    isplitl [HS1]; · iexists _; iexact HS1
    iexists _, _; isplitr; swap; · iexact HS2
    ipureintro; rfl

end Cert.KernelIdeal.Own

end
-- ==== Proof.KernelIdeal.Run0B.lean ====
/- Call 0, the other points: the tables are read as they are, the sums go on: what the body stores, found by running it. -/
module

public import proofs.«01_k».proof.Proof.KernelIdeal.Base0

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The pieces the body leaves in each output's staging memref and in each carried scratch in this case, with the proof that the
    body, on whole memrefs holding what is named, runs to a continuation that holds those pieces written. -/
noncomputable def kernelRun0_B (c : Dev nD) (i : grid0.Coords) (arg2 : Memref sig .tc .vmem S1x1x3040x1 .i32) (harg2 : arg2.IsWhole) (arg3 : Memref sig .tc .vmem S1x1x3040x1 .i32) (harg3 : arg3.IsWhole) (arg4 : Memref sig .tc .vmem S1x96x128 .f32) (harg4 : arg4.IsWhole) (arg5 : Memref sig .tc .vmem S1x96x4 .f32) (harg5 : arg5.IsWhole) (arg6 : Memref sig .tc .vmem S1x4x96 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .bf16) (harg9 : arg9.IsWhole) (arg10 : Memref sig .tc .vmem S128x128 .bf16) (harg10 : arg10.IsWhole) (arg11 : Memref sig .tc .vmem S8x128 .f32) (harg11 : arg11.IsWhole) (arg12 : Memref sig .tc .vmem S128x384 .bf16) (harg12 : arg12.IsWhole) (arg13 : Memref sig .tc .vmem S128x128 .bf16) (harg13 : arg13.IsWhole) (arg14 : Memref sig .tc .vmem S128x8 .bf16) (harg14 : arg14.IsWhole) (hc0 : ¬cond0_0 i) (hc1 : ¬cond0_1 i)
    (x0 : Vec F S1x1x3040x1 .i32) (x1 : Vec F S1x1x3040x1 .i32) (x2 : Vec F S1x96x128 .f32) (x3 : Vec F S1x96x4 .f32) (x4 : Vec F S1x4x96 .f32) (x5 : Vec F S128x128 .f32) (x6 : Vec F S128x128 .f32) (x7 : Vec F S128x128 .bf16) (x8 : Vec F S128x128 .bf16) (xo9 : Vec F S8x128 .f32) (xs0 : Vec F S128x384 .bf16) (xs1 : Vec F S128x128 .bf16) :
    Σ' (L9 : List (View.Piece (Elt F) S8x128 .f32)), Σ' (LS0 : List (View.Piece (Elt F) S128x384 .bf16)), { LS1 : List (View.Piece (Elt F) S128x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xs0 ∗ owns (c : Thread nD τ) arg13 fullShare xs1 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} arg11.view.writes (Elt F) (harg11.unread xo9) L9) ∗ owns (c : Thread nD τ) arg12 fullShare xs0 ∗ owns (c : Thread nD τ) arg13 fullShare xs1 ∗ (∃ d, owns (c : Thread nD τ) arg14 fullShare d)) -∗ K ⟨⟩))
          ⊢ wp frame (wpE (defs₀ (F := F)) Variants.none c none) E (cc0__pass1_body i arg2 harg2 arg3 harg3 arg4 harg4 arg5 harg5 arg6 harg6 arg7 harg7 arg8 harg8 arg9 harg9 arg10 harg10 arg11 harg11 arg12 harg12 arg13 harg13 arg14 harg14) K } := by
  refine ⟨?_, [], [], fun E K => ?run⟩
  case run =>
    simp only [cc0__pass1_body_eq_skeleton]; unfold cc0__pass1_body_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [HS0]
    · iexists _; isplitr; · ipureintro; exact harg12.read_unread _
      iexact HS0
    isplitl [HS1]
    · iexists _; isplitr; · ipureintro; exact harg13.read_unread _
      iexact HS1
    iexists _, _; isplitr; swap; · iexact HS2
    ipureintro; rfl

end Cert.KernelIdeal.Own

end
-- ==== Proof.KernelIdeal.State0.lean ====
/- Call 0: what every point leaves, as a recursion over the points. -/
module

public import proofs.«01_k».proof.Proof.KernelIdeal.Run0A
public import proofs.«01_k».proof.Proof.KernelIdeal.Run0C
public import proofs.«01_k».proof.Proof.KernelIdeal.Run0B
public import Idealize.ShloMosaic.Lib.Pipeline.Covers

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves that is read later: the outputs' staging contents and the carried scratch. -/
abbrev St0 (F : FTy → Type) [FloatOps F] : Type := Vec F S8x128 .f32 × Vec F S128x384 .bf16 × Vec F S128x128 .bf16

/-- The run at point `t`, the first point: the tables are built and the sums begin. -/
def run0_A (c : Dev nD) (t : Fin cfg0.N) (hz : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr (by have hN : t.val < 48 := lt_of_lt_of_eq t.isLt (show cfg0.N = 48 from N_0); omega)) ((hcond0_1 t).mpr (by have hN : t.val < 48 := lt_of_lt_of_eq t.isLt (show cfg0.N = 48 from N_0); omega)) (iblk0 V c 0 t) (iblk0 V c 1 t) (iblk0 V c 2 t) (iblk0 V c 3 t) (iblk0 V c 4 t) (iblk0 V c 5 t) (iblk0 V c 6 t) (iblk0 V c 7 t) (iblk0 V c 8 t)

theorem cover0_A_9 (c : Dev nD) (t : Fin cfg0.N) (hz : t.val = 0) (y : S8x128.Idx) : ∃ pc ∈ (run0_A V c t hz).1, y ∈ pc.1.set :=
  View.cover_of_tiledBy (run0_A V c t hz).1 ![1, 128] (by sl_kernel_rfl) y

theorem scover0_A_0 (c : Dev nD) (t : Fin cfg0.N) (hz : t.val = 0) (y : S128x384.Idx) : ∃ pc ∈ (run0_A V c t hz).2.1, y ∈ pc.1.set :=
  View.cover_of_tiledL (run0_A V c t hz).2.1 S128x384.size (by sl_kernel_rfl) y

theorem scover0_A_1 (c : Dev nD) (t : Fin cfg0.N) (hz : t.val = 0) (y : S128x128.Idx) : ∃ pc ∈ (run0_A V c t hz).2.2.1, y ∈ pc.1.set :=
  View.cover_of_tiledL (run0_A V c t hz).2.2.1 S128x128.size (by sl_kernel_rfl) y

/-- What this case leaves. -/
def st0_A (c : Dev nD) (t : Fin cfg0.N) (hz : t.val = 0) : St0 F :=
  (VO0_9.read (Elt F) (VO0_9.writes (Elt F) VO0_9.junk (run0_A V c t hz).1),
    VS0_0.read (Elt F) (VS0_0.writes (Elt F) VS0_0.junk (run0_A V c t hz).2.1),
    VS0_1.read (Elt F) (VS0_1.writes (Elt F) VS0_1.junk (run0_A V c t hz).2.2.1))

/-- The run at point `t`, a graph's first point but the first of all: the tables are built, the sums go on. -/
def run0_C (c : Dev nD) (t : Fin cfg0.N) (h0 : t.val % 3 = 0) (hz : t.val ≠ 0) (prev : St0 F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr (by have hN : t.val < 48 := lt_of_lt_of_eq t.isLt (show cfg0.N = 48 from N_0); omega)) (fun q => absurd ((hcond0_1 t).mp q) (by have hN : t.val < 48 := lt_of_lt_of_eq t.isLt (show cfg0.N = 48 from N_0); omega)) (iblk0 V c 0 t) (iblk0 V c 1 t) (iblk0 V c 2 t) (iblk0 V c 3 t) (iblk0 V c 4 t) (iblk0 V c 5 t) (iblk0 V c 6 t) (iblk0 V c 7 t) (iblk0 V c 8 t) (prev.1)

theorem scover0_C_0 (c : Dev nD) (t : Fin cfg0.N) (h0 : t.val % 3 = 0) (hz : t.val ≠ 0) (prev : St0 F) (y : S128x384.Idx) : ∃ pc ∈ (run0_C V c t h0 hz prev).2.1, y ∈ pc.1.set :=
  View.cover_of_tiledL (run0_C V c t h0 hz prev).2.1 S128x384.size (by sl_kernel_rfl) y

theorem scover0_C_1 (c : Dev nD) (t : Fin cfg0.N) (h0 : t.val % 3 = 0) (hz : t.val ≠ 0) (prev : St0 F) (y : S128x128.Idx) : ∃ pc ∈ (run0_C V c t h0 hz prev).2.2.1, y ∈ pc.1.set :=
  View.cover_of_tiledL (run0_C V c t h0 hz prev).2.2.1 S128x128.size (by sl_kernel_rfl) y

/-- What this case leaves. -/
def st0_C (c : Dev nD) (t : Fin cfg0.N) (h0 : t.val % 3 = 0) (hz : t.val ≠ 0) (prev : St0 F) : St0 F :=
  ((ms0_9 t).view.read (Elt F) ((ms0_9 t).view.writes (Elt F) ((hs0_9 t).unread (prev.1)) (run0_C V c t h0 hz prev).1),
    VS0_0.read (Elt F) (VS0_0.writes (Elt F) VS0_0.junk (run0_C V c t h0 hz prev).2.1),
    VS0_1.read (Elt F) (VS0_1.writes (Elt F) VS0_1.junk (run0_C V c t h0 hz prev).2.2.1))

/-- The run at point `t`, the other points: the tables are read as they are, the sums go on. -/
def run0_B (c : Dev nD) (t : Fin cfg0.N) (h0 : ¬t.val % 3 = 0) (prev : St0 F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun q => absurd ((hcond0_0 t).mp q) (by have hN : t.val < 48 := lt_of_lt_of_eq t.isLt (show cfg0.N = 48 from N_0); omega)) (fun q => absurd ((hcond0_1 t).mp q) (by have hN : t.val < 48 := lt_of_lt_of_eq t.isLt (show cfg0.N = 48 from N_0); omega)) (iblk0 V c 0 t) (iblk0 V c 1 t) (iblk0 V c 2 t) (iblk0 V c 3 t) (iblk0 V c 4 t) (iblk0 V c 5 t) (iblk0 V c 6 t) (iblk0 V c 7 t) (iblk0 V c 8 t) (prev.1) (prev.2.1) (prev.2.2)

/-- What this case leaves. -/
def st0_B (c : Dev nD) (t : Fin cfg0.N) (h0 : ¬t.val % 3 = 0) (prev : St0 F) : St0 F :=
  ((ms0_9 t).view.read (Elt F) ((ms0_9 t).view.writes (Elt F) ((hs0_9 t).unread (prev.1)) (run0_B V c t h0 prev).1),
    prev.2.1,
    prev.2.2)

/-- What point `t` leaves over what the point before left. -/
def step0 (c : Dev nD) (t : Fin cfg0.N) (prev : St0 F) : St0 F :=
  if hz : t.val = 0 then st0_A V c t hz else if h0 : t.val % 3 = 0 then st0_C V c t h0 hz prev else st0_B V c t h0 prev

/-- What point `n` leaves: the points one after the other (the first point reads nothing of before). -/
def outs0 (c : Dev nD) : (n : ℕ) → n < cfg0.N → St0 F
  | 0, hn => step0 V c ⟨0, hn⟩ (VO0_9.read (Elt F) VO0_9.junk, VS0_0.read (Elt F) VS0_0.junk, VS0_1.read (Elt F) VS0_1.junk)
  | n + 1, hn => step0 V c ⟨n + 1, hn⟩ (outs0 c n (Nat.lt_of_succ_lt hn))

theorem outs0_A (c : Dev nD) (t : Fin cfg0.N) (hz : t.val = 0) : outs0 V c t.val t.isLt = st0_A V c t hz := by
  obtain ⟨n, hn⟩ := t
  dsimp only at hz; subst hz
  unfold outs0 step0
  rw [dif_pos (show ((⟨0, hn⟩ : Fin cfg0.N).val = 0) from rfl)]

theorem outs0_C (c : Dev nD) (t : Fin cfg0.N) (h0 : t.val % 3 = 0) (hz : t.val ≠ 0) :
    outs0 V c t.val t.isLt = st0_C V c t h0 hz (outs0 V c (t.val - 1) (Nat.lt_of_le_of_lt (Nat.sub_le _ _) t.isLt)) := by
  obtain ⟨n, hn⟩ := t
  cases n with
  | zero => exact absurd rfl hz
  | succ n => rw [outs0, step0, dif_neg hz, dif_pos h0]; rfl

theorem outs0_B (c : Dev nD) (t : Fin cfg0.N) (h0 : ¬t.val % 3 = 0) :
    outs0 V c t.val t.isLt = st0_B V c t h0 (outs0 V c (t.val - 1) (Nat.lt_of_le_of_lt (Nat.sub_le _ _) t.isLt)) := by
  obtain ⟨n, hn⟩ := t
  cases n with
  | zero => exact absurd (Nat.zero_mod 3) h0
  | succ n =>
    rw [outs0, step0, dif_neg (fun q => h0 (by rw [q])), dif_neg h0]; rfl

/-- The invariant before position `n`: at first every scratch at anything; afterwards the carried scratch at what the point
    before left, the others at anything; the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outs0 V c n hn).2.1) ∗ owns (c : Thread nD τ) scM0_1 fullShare ((outs0 V c n hn).2.2) ∗ (∃ d, owns (c : Thread nD τ) scM0_2 fullShare d)) ∗ rest0 (F := F) c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outs0 V c n hn).2.1) ∗ owns (c : Thread nD τ) scM0_1 fullShare ((outs0 V c n hn).2.2) ∗ (∃ d, owns (c : Thread nD τ) scM0_2 fullShare d)) ∗ rest0 (F := F) c) := rfl

theorem PhiS0_pos (c : Dev nD) (n : ℕ) (h : n ≤ cfg0.N) (hz : n ≠ 0) :
    PhiS0 V c n h = iprop(iprop(owns (c : Thread nD τ) scM0_0 fullShare ((outs0 V c (n - 1) (by omega)).2.1) ∗ owns (c : Thread nD τ) scM0_1 fullShare ((outs0 V c (n - 1) (by omega)).2.2) ∗ (∃ d, owns (c : Thread nD τ) scM0_2 fullShare d)) ∗ rest0 (F := F) c) := by
  cases n with
  | zero => exact absurd rfl hz
  | succ n => rfl

/-- The call's proof data: its arrays as it finds them; after a point each input's buffer at its block and the outputs' at what
    the recursion says; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outs0 V c t.val t.isLt).1
  Φ t := PhiS0 V c t.val (Nat.le_of_lt_succ t.isLt)
  q _ := fullShare
  owed _ := 0

theorem A0_eq (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outs0 V c t.val t.isLt).1 := by dsimp only [dat0]
theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d
theorem before0_2 (c : Dev nD) (t : Fin cfg0.N) (d) : (dat0 V c).before 2 t d = iblk0 V c 2 t :=
  before0_2_of V (dat0 V c) (A0_eq V c 2) (after0_2 V c) t d
theorem before0_3 (c : Dev nD) (t : Fin cfg0.N) (d) : (dat0 V c).before 3 t d = iblk0 V c 3 t :=
  before0_3_of V (dat0 V c) (A0_eq V c 3) (after0_3 V c) t d
theorem before0_4 (c : Dev nD) (t : Fin cfg0.N) (d) : (dat0 V c).before 4 t d = iblk0 V c 4 t :=
  before0_4_of V (dat0 V c) (A0_eq V c 4) (after0_4 V c) t d
theorem before0_5 (c : Dev nD) (t : Fin cfg0.N) (d) : (dat0 V c).before 5 t d = iblk0 V c 5 t :=
  before0_5_of V (dat0 V c) (A0_eq V c 5) (after0_5 V c) t d
theorem before0_6 (c : Dev nD) (t : Fin cfg0.N) (d) : (dat0 V c).before 6 t d = iblk0 V c 6 t :=
  before0_6_of V (dat0 V c) (A0_eq V c 6) (after0_6 V c) t d
theorem before0_7 (c : Dev nD) (t : Fin cfg0.N) (d) : (dat0 V c).before 7 t d = iblk0 V c 7 t :=
  before0_7_of V (dat0 V c) (A0_eq V c 7) (after0_7 V c) t d
theorem before0_8 (c : Dev nD) (t : Fin cfg0.N) (d) : (dat0 V c).before 8 t d = iblk0 V c 8 t :=
  before0_8_of V (dat0 V c) (A0_eq V c 8) (after0_8 V c) t d
theorem before0_9_kept (c : Dev nD) (t : Fin cfg0.N) (hz : t.val ≠ 0) (d) :
    (dat0 V c).before 9 t d = (outs0 V c (t.val - 1) (Nat.lt_of_le_of_lt (Nat.sub_le _ _) t.isLt)).1 := by
  have hN : t.val < 48 := lt_of_lt_of_eq t.isLt (show cfg0.N = 48 from N_0)
  rw [Dat.before_out_kept _ 9 rfl t (by omega) (Bool.eq_false_iff.mpr fun h => by have := (flush0_9 _).mp h; dsimp only at this; omega)
    (fun i => by obtain ⟨u, rfl⟩ := grid0.coords_surjective i; exact live0_9 u) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

theorem leaves0_0 (c : Dev nD) (t : Fin cfg0.N) : (dat0 V c).leavesExact 0 t = owns (c : Thread nD τ) (ms0_0 t) fullShare ((dat0 V c).after 0 t) := by
  unfold Dat.leavesExact; rw [show cfg0.idle 0 (grid0.coords t) = false from rfl]
theorem leaves0_1 (c : Dev nD) (t : Fin cfg0.N) : (dat0 V c).leavesExact 1 t = owns (c : Thread nD τ) (ms0_1 t) fullShare ((dat0 V c).after 1 t) := by
  unfold Dat.leavesExact; rw [show cfg0.idle 1 (grid0.coords t) = false from rfl]
theorem leaves0_2 (c : Dev nD) (t : Fin cfg0.N) : (dat0 V c).leavesExact 2 t = owns (c : Thread nD τ) (ms0_2 t) fullShare ((dat0 V c).after 2 t) := by
  unfold Dat.leavesExact; rw [show cfg0.idle 2 (grid0.coords t) = false from rfl]
theorem leaves0_3 (c : Dev nD) (t : Fin cfg0.N) : (dat0 V c).leavesExact 3 t = owns (c : Thread nD τ) (ms0_3 t) fullShare ((dat0 V c).after 3 t) := by
  unfold Dat.leavesExact; rw [show cfg0.idle 3 (grid0.coords t) = false from rfl]
theorem leaves0_4 (c : Dev nD) (t : Fin cfg0.N) : (dat0 V c).leavesExact 4 t = owns (c : Thread nD τ) (ms0_4 t) fullShare ((dat0 V c).after 4 t) := by
  unfold Dat.leavesExact; rw [show cfg0.idle 4 (grid0.coords t) = false from rfl]
theorem leaves0_5 (c : Dev nD) (t : Fin cfg0.N) : (dat0 V c).leavesExact 5 t = owns (c : Thread nD τ) (ms0_5 t) fullShare ((dat0 V c).after 5 t) := by
  unfold Dat.leavesExact; rw [show cfg0.idle 5 (grid0.coords t) = false from rfl]
theorem leaves0_6 (c : Dev nD) (t : Fin cfg0.N) : (dat0 V c).leavesExact 6 t = owns (c : Thread nD τ) (ms0_6 t) fullShare ((dat0 V c).after 6 t) := by
  unfold Dat.leavesExact; rw [show cfg0.idle 6 (grid0.coords t) = false from rfl]
theorem leaves0_7 (c : Dev nD) (t : Fin cfg0.N) : (dat0 V c).leavesExact 7 t = owns (c : Thread nD τ) (ms0_7 t) fullShare ((dat0 V c).after 7 t) := by
  unfold Dat.leavesExact; rw [show cfg0.idle 7 (grid0.coords t) = false from rfl]
theorem leaves0_8 (c : Dev nD) (t : Fin cfg0.N) : (dat0 V c).leavesExact 8 t = owns (c : Thread nD τ) (ms0_8 t) fullShare ((dat0 V c).after 8 t) := by
  unfold Dat.leavesExact; rw [show cfg0.idle 8 (grid0.coords t) = false from rfl]
theorem leaves0_9 (c : Dev nD) (t : Fin cfg0.N) : (dat0 V c).leavesExact 9 t = owns (c : Thread nD τ) (ms0_9 t) fullShare ((dat0 V c).after 9 t) := by
  unfold Dat.leavesExact; rw [live0_9 t]

end Cert.KernelIdeal.Own

end
-- ==== Proof.KernelIdeal.Sound0A.lean ====
/- Call 0: the body at the first point: the tables are built and the sums begin. -/
module

public import proofs.«01_k».proof.Proof.KernelIdeal.State0

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 19200000 in
/-- The body at such a point takes what it is called with to what it returns. -/
theorem sound0_A (c : Dev nD) (t : Fin cfg0.N) (hz : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    leaves0_0, after0_0, leaves0_1, after0_1, leaves0_2, after0_2, leaves0_3, after0_3, leaves0_4, after0_4, leaves0_5, after0_5, leaves0_6, after0_6, leaves0_7, after0_7, leaves0_8, after0_8, leaves0_9, after0_9]
  rw [show (dat0 V c).Φ t.succ = PhiS0 V c (t.val + 1) t.isLt from rfl, PhiS0_succ]
  have hN : t.val < 48 := lt_of_lt_of_eq t.isLt (show cfg0.N = 48 from N_0)
  rw [PhiS0_castSucc V c t, PhiS0_zero V c _ _ hz, PhiA0_eq]
  rw [outs0_A V c t hz]
  unfold st0_A; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run0_A V c t hz).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, ⟨%e9, H9⟩, ⟨%es0, HS0⟩, ⟨%es1, HS1⟩, HS2⟩
  isplitl [HS0 HS1 HS2 Hg]
  · isplitl [HS0 HS1 HS2]
    · isplitl [HS0]
      · unfold owns; iexists _; isplitr
        swap; · iexact HS0
        ipureintro; exact View.read_writes_of_cover _ _ _ _ _ (scover0_A_0 V c t hz)
      isplitl [HS1]
      · unfold owns; iexists _; isplitr
        swap; · iexact HS1
        ipureintro; exact View.read_writes_of_cover _ _ _ _ _ (scover0_A_1 V c t hz)
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_A_9 V c t hz)

end Cert.KernelIdeal.Own

end
-- ==== Proof.KernelIdeal.Sound0C.lean ====
/- Call 0: the body at a graph's first point but the first of all: the tables are built, the sums go on. -/
module

public import proofs.«01_k».proof.Proof.KernelIdeal.State0

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 19200000 in
/-- The body at such a point takes what it is called with to what it returns. -/
theorem sound0_C (c : Dev nD) (t : Fin cfg0.N) (h0 : t.val % 3 = 0) (hz : t.val ≠ 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    leaves0_0, after0_0, leaves0_1, after0_1, leaves0_2, after0_2, leaves0_3, after0_3, leaves0_4, after0_4, leaves0_5, after0_5, leaves0_6, after0_6, leaves0_7, after0_7, leaves0_8, after0_8, leaves0_9, after0_9]
  rw [show (dat0 V c).Φ t.succ = PhiS0 V c (t.val + 1) t.isLt from rfl, PhiS0_succ]
  have hN : t.val < 48 := lt_of_lt_of_eq t.isLt (show cfg0.N = 48 from N_0)
  rw [PhiS0_castSucc V c t, PhiS0_pos V c _ _ (by omega)]
  rw [outs0_C V c t h0 hz]
  simp only [before0_9_kept V c t (by omega)]
  unfold st0_C; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run0_C V c t h0 hz (outs0 V c (t.val - 1) (Nat.lt_of_le_of_lt (Nat.sub_le _ _) t.isLt))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexists _; iexact HS0
  isplitl [HS1]; · iexists _; iexact HS1
  isplitl [HS2]; · iexact HS2
  iintro ⟨H0, H1, H2, H3, H4, H5, H6, H7, H8, H9, ⟨%es0, HS0⟩, ⟨%es1, HS1⟩, HS2⟩
  isplitl [HS0 HS1 HS2 Hg]
  · isplitl [HS0 HS1 HS2]
    · isplitl [HS0]
      · unfold owns; iexists _; isplitr
        swap; · iexact HS0
        ipureintro; exact View.read_writes_of_cover _ _ _ _ _ (scover0_C_0 V c t h0 hz (outs0 V c (t.val - 1) (Nat.lt_of_le_of_lt (Nat.sub_le _ _) t.isLt)))
      isplitl [HS1]
      · unfold owns; iexists _; isplitr
        swap; · iexact HS1
        ipureintro; exact View.read_writes_of_cover _ _ _ _ _ (scover0_C_1 V c t h0 hz (outs0 V c (t.val - 1) (Nat.lt_of_le_of_lt (Nat.sub_le _ _) t.isLt)))
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; rfl

end Cert.KernelIdeal.Own

end
-- ==== Proof.KernelIdeal.Sound0B.lean ====
/- Call 0: the body at the other points: the tables are read as they are, the sums go on. -/
module

public import proofs.«01_k».proof.Proof.KernelIdeal.State0

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 19200000 in
/-- The body at such a point takes what it is called with to what it returns. -/
theorem sound0_B (c : Dev nD) (t : Fin cfg0.N) (h0 : ¬t.val % 3 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    leaves0_0, after0_0, leaves0_1, after0_1, leaves0_2, after0_2, leaves0_3, after0_3, leaves0_4, after0_4, leaves0_5, after0_5, leaves0_6, after0_6, leaves0_7, after0_7, leaves0_8, after0_8, leaves0_9, after0_9]
  rw [show (dat0 V c).Φ t.succ = PhiS0 V c (t.val + 1) t.isLt from rfl, PhiS0_succ]
  have hN : t.val < 48 := lt_of_lt_of_eq t.isLt (show cfg0.N = 48 from N_0)
  rw [PhiS0_castSucc V c t, PhiS0_pos V c _ _ (by omega)]
  rw [outs0_B V c t h0]
  simp only [before0_9_kept V c t (by omega)]
  unfold st0_B; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run0_B V c t h0 (outs0 V c (t.val - 1) (Nat.lt_of_le_of_lt (Nat.sub_le _ _) t.isLt))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; rfl

end Cert.KernelIdeal.Own

end
-- ==== Proof.KernelIdeal.Call0.lean ====
/- Call 0: the body obligation at every point, and the invariant at both ends. -/
module

public import proofs.«01_k».proof.Proof.KernelIdeal.Sound0A
public import proofs.«01_k».proof.Proof.KernelIdeal.Sound0C
public import proofs.«01_k».proof.Proof.KernelIdeal.Sound0B

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound0 (c : Dev nD) (t : Fin cfg0.N) :
    bodyPre0 V c t ⊢ wp frame (wpE (defs₀ (F := F)) Variants.none c none) Set.univ (bodyAt0 t) (fun _ => bodyPost0 V c t) := by
  by_cases hz : t.val = 0
  · exact sound0_A V c t hz
  by_cases h0 : t.val % 3 = 0
  · exact sound0_C V c t h0 hz
  · exact sound0_B V c t h0

theorem defs0_row (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, defs0_row]
  exact triple_restated (sound0 V c t) rfl .rfl fun _ => .rfl

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have ht : (Fin.last cfg0.N).val ≠ 0 := by rw [Fin.val_last]; have : cfg0.N = 48 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HS1, HS2⟩, Hg⟩
  isplitl [HS0 HS1 HS2]
  · isplitl [HS0]; · iexists _; iexact HS0
    isplitl [HS1]; · iexists _; iexact HS1
    iexact HS2
  iexact Hg

end Cert.KernelIdeal.Own

end
-- ==== Proof.KernelIdeal.Base1.lean ====
/- Call 1 of the program: its windows, scratch and branch conditions at a grid point. -/
module

public import proofs.«01_k».proof.Proof.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The condition of the body's branch 0, at the grid coordinates. -/
abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 3 = 0 :=
  (fun t => by
    have ht : t.val < 48 := Nat.lt_of_lt_of_eq t.isLt N_1
    have e0 : (grid1.coords t 0).val = t.val / 3 % 16 := Pipeline.Grid.coords_val t 0 (by decide) rfl
    have e1 : (grid1.coords t 1).val = t.val / 1 % 3 := Pipeline.Grid.coords_val t 1 (by decide) rfl
    simp only [cond1_0, e0, e1]
    word_cmp
   : ∀ t : Fin grid1.N, cond1_0 (grid1.coords t) ↔ t.val % 3 = 0)

/-- The condition of the body's branch 1, at the grid coordinates. -/
abbrev cond1_1 (i : grid1.Coords) : Prop := k1_cond2 i = 1#1

theorem hcond1_1 : ∀ t : Fin cfg1.N, cond1_1 (grid1.coords t) ↔ t.val % 3 = 0 :=
  (fun t => by
    have ht : t.val < 48 := Nat.lt_of_lt_of_eq t.isLt N_1
    have e0 : (grid1.coords t 0).val = t.val / 3 % 16 := Pipeline.Grid.coords_val t 0 (by decide) rfl
    have e1 : (grid1.coords t 1).val = t.val / 1 % 3 := Pipeline.Grid.coords_val t 1 (by decide) rfl
    simp only [cond1_1, k1_cond2, e0, e1]
    word_cmp
   : ∀ t : Fin grid1.N, cond1_1 (grid1.coords t) ↔ t.val % 3 = 0)

/-- The condition of the body's branch 2, at the grid coordinates. -/
abbrev cond1_2 (i : grid1.Coords) : Prop := k1_cond3 i = 1#1

theorem hcond1_2 : ∀ t : Fin cfg1.N, cond1_2 (grid1.coords t) ↔ 1 ≤ t.val % 3 :=
  (fun t => by
    have ht : t.val < 48 := Nat.lt_of_lt_of_eq t.isLt N_1
    have e0 : (grid1.coords t 0).val = t.val / 3 % 16 := Pipeline.Grid.coords_val t 0 (by decide) rfl
    have e1 : (grid1.coords t 1).val = t.val / 1 % 3 := Pipeline.Grid.coords_val t 1 (by decide) rfl
    simp only [cond1_2, k1_cond3, e0, e1]
    word_cmp
   : ∀ t : Fin grid1.N, cond1_2 (grid1.coords t) ↔ 1 ≤ t.val % 3)

abbrev ms1_0 (t : Fin cfg1.N) : Memref sig .tc .vmem S1x1x3040x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x3040x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1x3040 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x96x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x96x4 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4x96 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x128 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x128 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x128 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x128 .bf16 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x1 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S128x128 .bf16 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x128 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S128x8 .bf16 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S1x3040x128 .f32 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S1x96x128 .f32 := win1_20.stage (cfg1.slots t 20)
abbrev hs1_20 (t : Fin cfg1.N) : (ms1_20 t).IsWhole := hstage1_20 ((cfg1.slots t 20).cast nbuf1_20)
abbrev ms1_21 (t : Fin cfg1.N) : Memref sig .tc .vmem S1x96x8 .f32 := win1_21.stage (cfg1.slots t 21)
abbrev hs1_21 (t : Fin cfg1.N) : (ms1_21 t).IsWhole := hstage1_21 ((cfg1.slots t 21).cast nbuf1_21)
abbrev VO1_19 : View sig .tc .vmem S1x3040x128 .f32 := (Memref.whole cc1_stg19_0 : Memref sig .tc .vmem S1x3040x128 .f32).view
abbrev VO1_20 : View sig .tc .vmem S1x96x128 .f32 := (Memref.whole cc1_stg20_0 : Memref sig .tc .vmem S1x96x128 .f32).view
abbrev VO1_21 : View sig .tc .vmem S1x96x8 .f32 := (Memref.whole cc1_stg21_0 : Memref sig .tc .vmem S1x96x8 .f32).view
abbrev scM1_0 : Memref sig .tc .vmem S128x384 .bf16 := Memref.whole cc1_scratch0
abbrev VS1_0 : View sig .tc .vmem S128x384 .bf16 := scM1_0.view
abbrev scM1_1 : Memref sig .tc .vmem S128x128 .bf16 := Memref.whole cc1_scratch1
abbrev VS1_1 : View sig .tc .vmem S128x128 .bf16 := scM1_1.view
abbrev scM1_2 : Memref sig .tc .vmem S128x8 .bf16 := Memref.whole cc1_scratch2
abbrev VS1_2 : View sig .tc .vmem S128x8 .bf16 := scM1_2.view
theorem live1_19 : ∀ t : Fin cfg1.N, cfg1.idle 19 (grid1.coords t) = false := fun _ => rfl
theorem live1_20 : ∀ t : Fin cfg1.N, cfg1.idle 20 (grid1.coords t) = false := by decide +kernel
theorem live1_21 : ∀ t : Fin cfg1.N, cfg1.idle 21 (grid1.coords t) = false := by decide +kernel

/-- What the call does not look at: the other calls' scoped buffers and the generator register. -/
def rest1 (c : Dev nD) : sProp 𝕄 :=
  iprop(Pipeline.scopedRestBut spec1 c [cc1_scratch0, cc1_scratch1, cc1_scratch2] ∗ (∃ r, prngReg c r))

/-- The class invariant with the scratch memrefs in view. -/
theorem PhiA1_eq (c : Dev nD) :
    (Pipeline.ΦA spec1 c : sProp 𝕄) = iprop(iprop((∃ d, owns (c : Thread nD τ) scM1_0 fullShare d) ∗ (∃ d, owns (c : Thread nD τ) scM1_1 fullShare d) ∗ (∃ d, owns (c : Thread nD τ) scM1_2 fullShare d)) ∗ rest1 (F := F) c) := by
  unfold Pipeline.ΦA rest1; rw [scopedRest1_split, show ∀ P Q R : sProp 𝕄, iprop((P ∗ Q) ∗ R) = iprop(P ∗ Q ∗ R) from fun _ _ _ => Idealize.SL.BI.Entails.antisymm Idealize.SL.BI.sep_assoc Idealize.SL.BI.sep_assoc']; simp only [scM1_0, scM1_1, scM1_2, owns_whole]; try rfl

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Own

end
-- ==== Proof.KernelIdeal.Run1A.lean ====
/- Call 1, a graph's first point: the tables are built and the segment sums begin: what the body stores, found by running it. -/
module

public import proofs.«01_k».proof.Proof.KernelIdeal.Base1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The pieces the body leaves in each output's staging memref and in each carried scratch in this case, with the proof that the
    body, on whole memrefs holding what is named, runs to a continuation that holds those pieces written. -/
noncomputable def kernelRun1_A (c : Dev nD) (i : grid1.Coords) (arg2 : Memref sig .tc .vmem S1x1x3040x1 .i32) (harg2 : arg2.IsWhole) (arg3 : Memref sig .tc .vmem S1x1x3040x1 .i32) (harg3 : arg3.IsWhole) (arg4 : Memref sig .tc .vmem S1x1x1x3040 .i32) (harg4 : arg4.IsWhole) (arg5 : Memref sig .tc .vmem S1x96x128 .f32) (harg5 : arg5.IsWhole) (arg6 : Memref sig .tc .vmem S1x96x4 .f32) (harg6 : arg6.IsWhole) (arg7 : Memref sig .tc .vmem S1x4x96 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .bf16) (harg10 : arg10.IsWhole) (arg11 : Memref sig .tc .vmem S128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x1 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S128x8 .bf16) (harg20 : arg20.IsWhole) (arg21 : Memref sig .tc .vmem S1x3040x128 .f32) (harg21 : arg21.IsWhole) (arg22 : Memref sig .tc .vmem S1x96x128 .f32) (harg22 : arg22.IsWhole) (arg23 : Memref sig .tc .vmem S1x96x8 .f32) (harg23 : arg23.IsWhole) (arg24 : Memref sig .tc .vmem S128x384 .bf16) (harg24 : arg24.IsWhole) (arg25 : Memref sig .tc .vmem S128x128 .bf16) (harg25 : arg25.IsWhole) (arg26 : Memref sig .tc .vmem S128x8 .bf16) (harg26 : arg26.IsWhole) (hc0 : cond1_0 i) (hc1 : cond1_1 i) (hc2 : ¬cond1_2 i)
    (x0 : Vec F S1x1x3040x1 .i32) (x1 : Vec F S1x1x3040x1 .i32) (x2 : Vec F S1x1x1x3040 .i32) (x3 : Vec F S1x96x128 .f32) (x4 : Vec F S1x96x4 .f32) (x5 : Vec F S1x4x96 .f32) (x6 : Vec F S128x128 .f32) (x7 : Vec F S128x128 .f32) (x8 : Vec F S128x128 .bf16) (x9 : Vec F S128x128 .bf16) (x10 : Vec F S1x128 .f32) (x11 : Vec F S1x128 .f32) (x12 : Vec F S128x128 .bf16) (x13 : Vec F S1x128 .f32) (x14 : Vec F S128x128 .bf16) (x15 : Vec F S1x1 .f32) (x16 : Vec F S128x128 .bf16) (x17 : Vec F S1x128 .f32) (x18 : Vec F S128x8 .bf16) :
    Σ' (L19 : List (View.Piece (Elt F) S1x3040x128 .f32)), Σ' (L20 : List (View.Piece (Elt F) S1x96x128 .f32)), Σ' (L21 : List (View.Piece (Elt F) S1x96x8 .f32)), Σ' (LS0 : List (View.Piece (Elt F) S128x384 .bf16)), Σ' (LS1 : List (View.Piece (Elt F) S128x128 .bf16)), { LS2 : List (View.Piece (Elt F) S128x8 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2)) -∗ K ⟨⟩))
          ⊢ wp frame (wpE (defs₀ (F := F)) Variants.none c none) E (cc1__pass2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, fun E K => ?run⟩
  case run =>
    simp only [cc1__pass2_body_eq_skeleton]; unfold cc1__pass2_body_skel
    simp only [k1_part3_eq_skeleton, k1_part1_eq_skeleton, k1_part2_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [H20]; · iexists _; iexact H20
    isplitl [H21]; · iexists _; iexact H21
    isplitl [HS0]; · iexists _; iexact HS0
    isplitl [HS1]; · iexists _; iexact HS1
    iexists _; iexact HS2

end Cert.KernelIdeal.Own

end
-- ==== Proof.KernelIdeal.Run1B.lean ====
/- Call 1, the other points: the tables are read as they are, the segment sums go on: what the body stores, found by running it. -/
module

public import proofs.«01_k».proof.Proof.KernelIdeal.Base1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The pieces the body leaves in each output's staging memref and in each carried scratch in this case, with the proof that the
    body, on whole memrefs holding what is named, runs to a continuation that holds those pieces written. -/
noncomputable def kernelRun1_B (c : Dev nD) (i : grid1.Coords) (arg2 : Memref sig .tc .vmem S1x1x3040x1 .i32) (harg2 : arg2.IsWhole) (arg3 : Memref sig .tc .vmem S1x1x3040x1 .i32) (harg3 : arg3.IsWhole) (arg4 : Memref sig .tc .vmem S1x1x1x3040 .i32) (harg4 : arg4.IsWhole) (arg5 : Memref sig .tc .vmem S1x96x128 .f32) (harg5 : arg5.IsWhole) (arg6 : Memref sig .tc .vmem S1x96x4 .f32) (harg6 : arg6.IsWhole) (arg7 : Memref sig .tc .vmem S1x4x96 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .bf16) (harg10 : arg10.IsWhole) (arg11 : Memref sig .tc .vmem S128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x1 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S128x8 .bf16) (harg20 : arg20.IsWhole) (arg21 : Memref sig .tc .vmem S1x3040x128 .f32) (harg21 : arg21.IsWhole) (arg22 : Memref sig .tc .vmem S1x96x128 .f32) (harg22 : arg22.IsWhole) (arg23 : Memref sig .tc .vmem S1x96x8 .f32) (harg23 : arg23.IsWhole) (arg24 : Memref sig .tc .vmem S128x384 .bf16) (harg24 : arg24.IsWhole) (arg25 : Memref sig .tc .vmem S128x128 .bf16) (harg25 : arg25.IsWhole) (arg26 : Memref sig .tc .vmem S128x8 .bf16) (harg26 : arg26.IsWhole) (hc0 : ¬cond1_0 i) (hc1 : ¬cond1_1 i) (hc2 : cond1_2 i)
    (x0 : Vec F S1x1x3040x1 .i32) (x1 : Vec F S1x1x3040x1 .i32) (x2 : Vec F S1x1x1x3040 .i32) (x3 : Vec F S1x96x128 .f32) (x4 : Vec F S1x96x4 .f32) (x5 : Vec F S1x4x96 .f32) (x6 : Vec F S128x128 .f32) (x7 : Vec F S128x128 .f32) (x8 : Vec F S128x128 .bf16) (x9 : Vec F S128x128 .bf16) (x10 : Vec F S1x128 .f32) (x11 : Vec F S1x128 .f32) (x12 : Vec F S128x128 .bf16) (x13 : Vec F S1x128 .f32) (x14 : Vec F S128x128 .bf16) (x15 : Vec F S1x1 .f32) (x16 : Vec F S128x128 .bf16) (x17 : Vec F S1x128 .f32) (x18 : Vec F S128x8 .bf16) (xo20 : Vec F S1x96x128 .f32) (xo21 : Vec F S1x96x8 .f32) (xs0 : Vec F S128x384 .bf16) (xs1 : Vec F S128x128 .bf16) (xs2 : Vec F S128x8 .bf16) :
    Σ' (L19 : List (View.Piece (Elt F) S1x3040x128 .f32)), Σ' (L20 : List (View.Piece (Elt F) S1x96x128 .f32)), Σ' (L21 : List (View.Piece (Elt F) S1x96x8 .f32)), Σ' (LS0 : List (View.Piece (Elt F) S128x384 .bf16)), Σ' (LS1 : List (View.Piece (Elt F) S128x128 .bf16)), { LS2 : List (View.Piece (Elt F) S128x8 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ owns (c : Thread nD τ) arg22 fullShare xo20 ∗ owns (c : Thread nD τ) arg23 fullShare xo21 ∗ owns (c : Thread nD τ) arg24 fullShare xs0 ∗ owns (c : Thread nD τ) arg25 fullShare xs1 ∗ owns (c : Thread nD τ) arg26 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ owns (c : Thread nD τ) arg24 fullShare xs0 ∗ owns (c : Thread nD τ) arg25 fullShare xs1 ∗ owns (c : Thread nD τ) arg26 fullShare xs2) -∗ K ⟨⟩))
          ⊢ wp frame (wpE (defs₀ (F := F)) Variants.none c none) E (cc1__pass2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, [], [], [], fun E K => ?run⟩
  case run =>
    simp only [cc1__pass2_body_eq_skeleton]; unfold cc1__pass2_body_skel
    simp only [k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg22.eq_unread hf20; obtain rfl := harg23.eq_unread hf21; obtain rfl := harg24.eq_unread hfs0; obtain rfl := harg25.eq_unread hfs1; obtain rfl := harg26.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [H20]; · iexists _; iexact H20
    isplitl [H21]; · iexists _; iexact H21
    isplitl [HS0]
    · iexists _; isplitr; · ipureintro; exact harg24.read_unread _
      iexact HS0
    isplitl [HS1]
    · iexists _; isplitr; · ipureintro; exact harg25.read_unread _
      iexact HS1
    iexists _; isplitr; · ipureintro; exact harg26.read_unread _
    iexact HS2

end Cert.KernelIdeal.Own

end
-- ==== Proof.KernelIdeal.State1.lean ====
/- Call 1: what every point leaves, as a recursion over the points. -/
module

public import proofs.«01_k».proof.Proof.KernelIdeal.Run1A
public import proofs.«01_k».proof.Proof.KernelIdeal.Run1B
public import Idealize.ShloMosaic.Lib.Pipeline.Covers

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves that is read later: the outputs' staging contents and the carried scratch. -/
abbrev St1 (F : FTy → Type) [FloatOps F] : Type := Vec F S1x3040x128 .f32 × Vec F S1x96x128 .f32 × Vec F S1x96x8 .f32 × Vec F S128x384 .bf16 × Vec F S128x128 .bf16 × Vec F S128x8 .bf16

/-- The run at point `t`, a graph's first point: the tables are built and the segment sums begin. -/
def run1_A (c : Dev nD) (t : Fin cfg1.N) (h0 : t.val % 3 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (ms1_21 t) (hs1_21 t) scM1_0 (Memref.isWhole_whole _) scM1_1 (Memref.isWhole_whole _) scM1_2 (Memref.isWhole_whole _) ((hcond1_0 t).mpr (by have hN : t.val < 48 := lt_of_lt_of_eq t.isLt (show cfg1.N = 48 from N_1); omega)) ((hcond1_1 t).mpr (by have hN : t.val < 48 := lt_of_lt_of_eq t.isLt (show cfg1.N = 48 from N_1); omega)) (fun q => absurd ((hcond1_2 t).mp q) (by have hN : t.val < 48 := lt_of_lt_of_eq t.isLt (show cfg1.N = 48 from N_1); omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)

theorem cover1_A_19 (c : Dev nD) (t : Fin cfg1.N) (h0 : t.val % 3 = 0) (y : S1x3040x128.Idx) : ∃ pc ∈ (run1_A V c t h0).1, y ∈ pc.1.set :=
  View.cover_of_tiledL (run1_A V c t h0).1 S1x3040x128.size (by sl_kernel_rfl) y

theorem cover1_A_20 (c : Dev nD) (t : Fin cfg1.N) (h0 : t.val % 3 = 0) (y : S1x96x128.Idx) : ∃ pc ∈ (run1_A V c t h0).2.1, y ∈ pc.1.set :=
  View.cover_of_tiledL (run1_A V c t h0).2.1 S1x96x128.size (by sl_kernel_rfl) y

theorem cover1_A_21 (c : Dev nD) (t : Fin cfg1.N) (h0 : t.val % 3 = 0) (y : S1x96x8.Idx) : ∃ pc ∈ (run1_A V c t h0).2.2.1, y ∈ pc.1.set :=
  View.cover_of_tiledL (run1_A V c t h0).2.2.1 S1x96x8.size (by sl_kernel_rfl) y

theorem scover1_A_0 (c : Dev nD) (t : Fin cfg1.N) (h0 : t.val % 3 = 0) (y : S128x384.Idx) : ∃ pc ∈ (run1_A V c t h0).2.2.2.1, y ∈ pc.1.set :=
  View.cover_of_tiledL (run1_A V c t h0).2.2.2.1 S128x384.size (by sl_kernel_rfl) y

theorem scover1_A_1 (c : Dev nD) (t : Fin cfg1.N) (h0 : t.val % 3 = 0) (y : S128x128.Idx) : ∃ pc ∈ (run1_A V c t h0).2.2.2.2.1, y ∈ pc.1.set :=
  View.cover_of_tiledL (run1_A V c t h0).2.2.2.2.1 S128x128.size (by sl_kernel_rfl) y

theorem scover1_A_2 (c : Dev nD) (t : Fin cfg1.N) (h0 : t.val % 3 = 0) (y : S128x8.Idx) : ∃ pc ∈ (run1_A V c t h0).2.2.2.2.2.1, y ∈ pc.1.set :=
  View.cover_of_tiledL (run1_A V c t h0).2.2.2.2.2.1 S128x8.size (by sl_kernel_rfl) y

/-- What this case leaves. -/
def st1_A (c : Dev nD) (t : Fin cfg1.N) (h0 : t.val % 3 = 0) : St1 F :=
  (VO1_19.read (Elt F) (VO1_19.writes (Elt F) VO1_19.junk (run1_A V c t h0).1),
    VO1_20.read (Elt F) (VO1_20.writes (Elt F) VO1_20.junk (run1_A V c t h0).2.1),
    VO1_21.read (Elt F) (VO1_21.writes (Elt F) VO1_21.junk (run1_A V c t h0).2.2.1),
    VS1_0.read (Elt F) (VS1_0.writes (Elt F) VS1_0.junk (run1_A V c t h0).2.2.2.1),
    VS1_1.read (Elt F) (VS1_1.writes (Elt F) VS1_1.junk (run1_A V c t h0).2.2.2.2.1),
    VS1_2.read (Elt F) (VS1_2.writes (Elt F) VS1_2.junk (run1_A V c t h0).2.2.2.2.2.1))

/-- The run at point `t`, the other points: the tables are read as they are, the segment sums go on. -/
def run1_B (c : Dev nD) (t : Fin cfg1.N) (h0 : ¬t.val % 3 = 0) (prev : St1 F) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (ms1_21 t) (hs1_21 t) scM1_0 (Memref.isWhole_whole _) scM1_1 (Memref.isWhole_whole _) scM1_2 (Memref.isWhole_whole _) (fun q => absurd ((hcond1_0 t).mp q) (by have hN : t.val < 48 := lt_of_lt_of_eq t.isLt (show cfg1.N = 48 from N_1); omega)) (fun q => absurd ((hcond1_1 t).mp q) (by have hN : t.val < 48 := lt_of_lt_of_eq t.isLt (show cfg1.N = 48 from N_1); omega)) ((hcond1_2 t).mpr (by have hN : t.val < 48 := lt_of_lt_of_eq t.isLt (show cfg1.N = 48 from N_1); omega)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (prev.2.1) (prev.2.2.1) (prev.2.2.2.1) (prev.2.2.2.2.1) (prev.2.2.2.2.2)

theorem cover1_B_19 (c : Dev nD) (t : Fin cfg1.N) (h0 : ¬t.val % 3 = 0) (prev : St1 F) (y : S1x3040x128.Idx) : ∃ pc ∈ (run1_B V c t h0 prev).1, y ∈ pc.1.set :=
  View.cover_of_tiledL (run1_B V c t h0 prev).1 S1x3040x128.size (by sl_kernel_rfl) y

theorem cover1_B_20 (c : Dev nD) (t : Fin cfg1.N) (h0 : ¬t.val % 3 = 0) (prev : St1 F) (y : S1x96x128.Idx) : ∃ pc ∈ (run1_B V c t h0 prev).2.1, y ∈ pc.1.set :=
  View.cover_of_tiledL (run1_B V c t h0 prev).2.1 S1x96x128.size (by sl_kernel_rfl) y

theorem cover1_B_21 (c : Dev nD) (t : Fin cfg1.N) (h0 : ¬t.val % 3 = 0) (prev : St1 F) (y : S1x96x8.Idx) : ∃ pc ∈ (run1_B V c t h0 prev).2.2.1, y ∈ pc.1.set :=
  View.cover_of_tiledL (run1_B V c t h0 prev).2.2.1 S1x96x8.size (by sl_kernel_rfl) y

/-- What this case leaves. -/
def st1_B (c : Dev nD) (t : Fin cfg1.N) (h0 : ¬t.val % 3 = 0) (prev : St1 F) : St1 F :=
  (VO1_19.read (Elt F) (VO1_19.writes (Elt F) VO1_19.junk (run1_B V c t h0 prev).1),
    VO1_20.read (Elt F) (VO1_20.writes (Elt F) VO1_20.junk (run1_B V c t h0 prev).2.1),
    VO1_21.read (Elt F) (VO1_21.writes (Elt F) VO1_21.junk (run1_B V c t h0 prev).2.2.1),
    prev.2.2.2.1,
    prev.2.2.2.2.1,
    prev.2.2.2.2.2)

/-- What point `t` leaves over what the point before left. -/
def step1 (c : Dev nD) (t : Fin cfg1.N) (prev : St1 F) : St1 F :=
  if h0 : t.val % 3 = 0 then st1_A V c t h0 else st1_B V c t h0 prev

/-- What point `n` leaves: the points one after the other (the first point reads nothing of before). -/
def outs1 (c : Dev nD) : (n : ℕ) → n < cfg1.N → St1 F
  | 0, hn => step1 V c ⟨0, hn⟩ (VO1_19.read (Elt F) VO1_19.junk, VO1_20.read (Elt F) VO1_20.junk, VO1_21.read (Elt F) VO1_21.junk, VS1_0.read (Elt F) VS1_0.junk, VS1_1.read (Elt F) VS1_1.junk, VS1_2.read (Elt F) VS1_2.junk)
  | n + 1, hn => step1 V c ⟨n + 1, hn⟩ (outs1 c n (Nat.lt_of_succ_lt hn))

theorem outs1_A (c : Dev nD) (t : Fin cfg1.N) (h0 : t.val % 3 = 0) : outs1 V c t.val t.isLt = st1_A V c t h0 := by
  obtain ⟨n, hn⟩ := t
  cases n with
  | zero => rw [outs1, step1, dif_pos h0]
  | succ n => rw [outs1, step1, dif_pos h0]

theorem outs1_B (c : Dev nD) (t : Fin cfg1.N) (h0 : ¬t.val % 3 = 0) :
    outs1 V c t.val t.isLt = st1_B V c t h0 (outs1 V c (t.val - 1) (Nat.lt_of_le_of_lt (Nat.sub_le _ _) t.isLt)) := by
  obtain ⟨n, hn⟩ := t
  cases n with
  | zero => exact absurd (Nat.zero_mod 3) h0
  | succ n => rw [outs1, step1, dif_neg h0]; rfl

/-- The invariant before position `n`: at first every scratch at anything; afterwards the carried scratch at what the point
    before left, the others at anything; the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outs1 V c n hn).2.2.2.1) ∗ owns (c : Thread nD τ) scM1_1 fullShare ((outs1 V c n hn).2.2.2.2.1) ∗ owns (c : Thread nD τ) scM1_2 fullShare ((outs1 V c n hn).2.2.2.2.2)) ∗ rest1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outs1 V c n hn).2.2.2.1) ∗ owns (c : Thread nD τ) scM1_1 fullShare ((outs1 V c n hn).2.2.2.2.1) ∗ owns (c : Thread nD τ) scM1_2 fullShare ((outs1 V c n hn).2.2.2.2.2)) ∗ rest1 (F := F) c) := rfl

theorem PhiS1_pos (c : Dev nD) (n : ℕ) (h : n ≤ cfg1.N) (hz : n ≠ 0) :
    PhiS1 V c n h = iprop(iprop(owns (c : Thread nD τ) scM1_0 fullShare ((outs1 V c (n - 1) (by omega)).2.2.2.1) ∗ owns (c : Thread nD τ) scM1_1 fullShare ((outs1 V c (n - 1) (by omega)).2.2.2.2.1) ∗ owns (c : Thread nD τ) scM1_2 fullShare ((outs1 V c (n - 1) (by omega)).2.2.2.2.2)) ∗ rest1 (F := F) c) := by
  cases n with
  | zero => exact absurd rfl hz
  | succ n => rfl

/-- The call's proof data: its arrays as it finds them; after a point each input's buffer at its block and the outputs' at what
    the recursion says; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => (outs1 V c t.val t.isLt).1
    | ⟨20, _⟩ => (outs1 V c t.val t.isLt).2.1
    | ⟨21, _⟩ => (outs1 V c t.val t.isLt).2.2.1
    | ⟨_ + 22, h⟩ => absurd h (Nat.not_lt.2 (Nat.le_add_left _ _))
  Φ t := PhiS1 V c t.val (Nat.le_of_lt_succ t.isLt)
  q _ := fullShare
  owed _ := 0

theorem A1_eq (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = (outs1 V c t.val t.isLt).1 := by dsimp only [dat1]
theorem after1_20 (c : Dev nD) (t : Fin cfg1.N) : (dat1 V c).after 20 t = (outs1 V c t.val t.isLt).2.1 := by dsimp only [dat1]
theorem after1_21 (c : Dev nD) (t : Fin cfg1.N) : (dat1 V c).after 21 t = (outs1 V c t.val t.isLt).2.2.1 := by dsimp only [dat1]
theorem before1_0 (c : Dev nD) (t : Fin cfg1.N) (d) : (dat1 V c).before 0 t d = iblk1 V c 0 t :=
  before1_0_of V (dat1 V c) (A1_eq V c 0) (after1_0 V c) t d
theorem before1_1 (c : Dev nD) (t : Fin cfg1.N) (d) : (dat1 V c).before 1 t d = iblk1 V c 1 t :=
  before1_1_of V (dat1 V c) (A1_eq V c 1) (after1_1 V c) t d
theorem before1_2 (c : Dev nD) (t : Fin cfg1.N) (d) : (dat1 V c).before 2 t d = iblk1 V c 2 t :=
  before1_2_of V (dat1 V c) (A1_eq V c 2) (after1_2 V c) t d
theorem before1_3 (c : Dev nD) (t : Fin cfg1.N) (d) : (dat1 V c).before 3 t d = iblk1 V c 3 t :=
  before1_3_of V (dat1 V c) (A1_eq V c 3) (after1_3 V c) t d
theorem before1_4 (c : Dev nD) (t : Fin cfg1.N) (d) : (dat1 V c).before 4 t d = iblk1 V c 4 t :=
  before1_4_of V (dat1 V c) (A1_eq V c 4) (after1_4 V c) t d
theorem before1_5 (c : Dev nD) (t : Fin cfg1.N) (d) : (dat1 V c).before 5 t d = iblk1 V c 5 t :=
  before1_5_of V (dat1 V c) (A1_eq V c 5) (after1_5 V c) t d
theorem before1_6 (c : Dev nD) (t : Fin cfg1.N) (d) : (dat1 V c).before 6 t d = iblk1 V c 6 t :=
  before1_6_of V (dat1 V c) (A1_eq V c 6) (after1_6 V c) t d
theorem before1_7 (c : Dev nD) (t : Fin cfg1.N) (d) : (dat1 V c).before 7 t d = iblk1 V c 7 t :=
  before1_7_of V (dat1 V c) (A1_eq V c 7) (after1_7 V c) t d
theorem before1_8 (c : Dev nD) (t : Fin cfg1.N) (d) : (dat1 V c).before 8 t d = iblk1 V c 8 t :=
  before1_8_of V (dat1 V c) (A1_eq V c 8) (after1_8 V c) t d
theorem before1_9 (c : Dev nD) (t : Fin cfg1.N) (d) : (dat1 V c).before 9 t d = iblk1 V c 9 t :=
  before1_9_of V (dat1 V c) (A1_eq V c 9) (after1_9 V c) t d
theorem before1_10 (c : Dev nD) (t : Fin cfg1.N) (d) : (dat1 V c).before 10 t d = iblk1 V c 10 t :=
  before1_10_of V (dat1 V c) (A1_eq V c 10) (after1_10 V c) t d
theorem before1_11 (c : Dev nD) (t : Fin cfg1.N) (d) : (dat1 V c).before 11 t d = iblk1 V c 11 t :=
  before1_11_of V (dat1 V c) (A1_eq V c 11) (after1_11 V c) t d
theorem before1_12 (c : Dev nD) (t : Fin cfg1.N) (d) : (dat1 V c).before 12 t d = iblk1 V c 12 t :=
  before1_12_of V (dat1 V c) (A1_eq V c 12) (after1_12 V c) t d
theorem before1_13 (c : Dev nD) (t : Fin cfg1.N) (d) : (dat1 V c).before 13 t d = iblk1 V c 13 t :=
  before1_13_of V (dat1 V c) (A1_eq V c 13) (after1_13 V c) t d
theorem before1_14 (c : Dev nD) (t : Fin cfg1.N) (d) : (dat1 V c).before 14 t d = iblk1 V c 14 t :=
  before1_14_of V (dat1 V c) (A1_eq V c 14) (after1_14 V c) t d
theorem before1_15 (c : Dev nD) (t : Fin cfg1.N) (d) : (dat1 V c).before 15 t d = iblk1 V c 15 t :=
  before1_15_of V (dat1 V c) (A1_eq V c 15) (after1_15 V c) t d
theorem before1_16 (c : Dev nD) (t : Fin cfg1.N) (d) : (dat1 V c).before 16 t d = iblk1 V c 16 t :=
  before1_16_of V (dat1 V c) (A1_eq V c 16) (after1_16 V c) t d
theorem before1_17 (c : Dev nD) (t : Fin cfg1.N) (d) : (dat1 V c).before 17 t d = iblk1 V c 17 t :=
  before1_17_of V (dat1 V c) (A1_eq V c 17) (after1_17 V c) t d
theorem before1_18 (c : Dev nD) (t : Fin cfg1.N) (d) : (dat1 V c).before 18 t d = iblk1 V c 18 t :=
  before1_18_of V (dat1 V c) (A1_eq V c 18) (after1_18 V c) t d
theorem before1_20_kept (c : Dev nD) (t : Fin cfg1.N) (h0 : ¬t.val % 3 = 0) (d) :
    (dat1 V c).before 20 t d = (outs1 V c (t.val - 1) (Nat.lt_of_le_of_lt (Nat.sub_le _ _) t.isLt)).2.1 := by
  have hN : t.val < 48 := lt_of_lt_of_eq t.isLt (show cfg1.N = 48 from N_1)
  rw [Dat.before_out_kept _ 20 rfl t (by omega) (Bool.eq_false_iff.mpr fun h => by have := (flush1_20 _).mp h; dsimp only at this; omega)
    (fun i => by obtain ⟨u, rfl⟩ := grid1.coords_surjective i; exact live1_20 u) (fun _ _ => rfl)]
  dsimp only [dat1]

theorem before1_21_kept (c : Dev nD) (t : Fin cfg1.N) (h0 : ¬t.val % 3 = 0) (d) :
    (dat1 V c).before 21 t d = (outs1 V c (t.val - 1) (Nat.lt_of_le_of_lt (Nat.sub_le _ _) t.isLt)).2.2.1 := by
  have hN : t.val < 48 := lt_of_lt_of_eq t.isLt (show cfg1.N = 48 from N_1)
  rw [Dat.before_out_kept _ 21 rfl t (by omega) (Bool.eq_false_iff.mpr fun h => by have := (flush1_21 _).mp h; dsimp only at this; omega)
    (fun i => by obtain ⟨u, rfl⟩ := grid1.coords_surjective i; exact live1_21 u) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t
    ∗ (dat1 V c).leavesExact 17 t
    ∗ (dat1 V c).leavesExact 18 t
    ∗ (dat1 V c).leavesExact 19 t
    ∗ (dat1 V c).leavesExact 20 t
    ∗ (dat1 V c).leavesExact 21 t)

theorem leaves1_0 (c : Dev nD) (t : Fin cfg1.N) : (dat1 V c).leavesExact 0 t = owns (c : Thread nD τ) (ms1_0 t) fullShare ((dat1 V c).after 0 t) := by
  unfold Dat.leavesExact; rw [show cfg1.idle 0 (grid1.coords t) = false from rfl]
theorem leaves1_1 (c : Dev nD) (t : Fin cfg1.N) : (dat1 V c).leavesExact 1 t = owns (c : Thread nD τ) (ms1_1 t) fullShare ((dat1 V c).after 1 t) := by
  unfold Dat.leavesExact; rw [show cfg1.idle 1 (grid1.coords t) = false from rfl]
theorem leaves1_2 (c : Dev nD) (t : Fin cfg1.N) : (dat1 V c).leavesExact 2 t = owns (c : Thread nD τ) (ms1_2 t) fullShare ((dat1 V c).after 2 t) := by
  unfold Dat.leavesExact; rw [show cfg1.idle 2 (grid1.coords t) = false from rfl]
theorem leaves1_3 (c : Dev nD) (t : Fin cfg1.N) : (dat1 V c).leavesExact 3 t = owns (c : Thread nD τ) (ms1_3 t) fullShare ((dat1 V c).after 3 t) := by
  unfold Dat.leavesExact; rw [show cfg1.idle 3 (grid1.coords t) = false from rfl]
theorem leaves1_4 (c : Dev nD) (t : Fin cfg1.N) : (dat1 V c).leavesExact 4 t = owns (c : Thread nD τ) (ms1_4 t) fullShare ((dat1 V c).after 4 t) := by
  unfold Dat.leavesExact; rw [show cfg1.idle 4 (grid1.coords t) = false from rfl]
theorem leaves1_5 (c : Dev nD) (t : Fin cfg1.N) : (dat1 V c).leavesExact 5 t = owns (c : Thread nD τ) (ms1_5 t) fullShare ((dat1 V c).after 5 t) := by
  unfold Dat.leavesExact; rw [show cfg1.idle 5 (grid1.coords t) = false from rfl]
theorem leaves1_6 (c : Dev nD) (t : Fin cfg1.N) : (dat1 V c).leavesExact 6 t = owns (c : Thread nD τ) (ms1_6 t) fullShare ((dat1 V c).after 6 t) := by
  unfold Dat.leavesExact; rw [show cfg1.idle 6 (grid1.coords t) = false from rfl]
theorem leaves1_7 (c : Dev nD) (t : Fin cfg1.N) : (dat1 V c).leavesExact 7 t = owns (c : Thread nD τ) (ms1_7 t) fullShare ((dat1 V c).after 7 t) := by
  unfold Dat.leavesExact; rw [show cfg1.idle 7 (grid1.coords t) = false from rfl]
theorem leaves1_8 (c : Dev nD) (t : Fin cfg1.N) : (dat1 V c).leavesExact 8 t = owns (c : Thread nD τ) (ms1_8 t) fullShare ((dat1 V c).after 8 t) := by
  unfold Dat.leavesExact; rw [show cfg1.idle 8 (grid1.coords t) = false from rfl]
theorem leaves1_9 (c : Dev nD) (t : Fin cfg1.N) : (dat1 V c).leavesExact 9 t = owns (c : Thread nD τ) (ms1_9 t) fullShare ((dat1 V c).after 9 t) := by
  unfold Dat.leavesExact; rw [show cfg1.idle 9 (grid1.coords t) = false from rfl]
theorem leaves1_10 (c : Dev nD) (t : Fin cfg1.N) : (dat1 V c).leavesExact 10 t = owns (c : Thread nD τ) (ms1_10 t) fullShare ((dat1 V c).after 10 t) := by
  unfold Dat.leavesExact; rw [show cfg1.idle 10 (grid1.coords t) = false from rfl]
theorem leaves1_11 (c : Dev nD) (t : Fin cfg1.N) : (dat1 V c).leavesExact 11 t = owns (c : Thread nD τ) (ms1_11 t) fullShare ((dat1 V c).after 11 t) := by
  unfold Dat.leavesExact; rw [show cfg1.idle 11 (grid1.coords t) = false from rfl]
theorem leaves1_12 (c : Dev nD) (t : Fin cfg1.N) : (dat1 V c).leavesExact 12 t = owns (c : Thread nD τ) (ms1_12 t) fullShare ((dat1 V c).after 12 t) := by
  unfold Dat.leavesExact; rw [show cfg1.idle 12 (grid1.coords t) = false from rfl]
theorem leaves1_13 (c : Dev nD) (t : Fin cfg1.N) : (dat1 V c).leavesExact 13 t = owns (c : Thread nD τ) (ms1_13 t) fullShare ((dat1 V c).after 13 t) := by
  unfold Dat.leavesExact; rw [show cfg1.idle 13 (grid1.coords t) = false from rfl]
theorem leaves1_14 (c : Dev nD) (t : Fin cfg1.N) : (dat1 V c).leavesExact 14 t = owns (c : Thread nD τ) (ms1_14 t) fullShare ((dat1 V c).after 14 t) := by
  unfold Dat.leavesExact; rw [show cfg1.idle 14 (grid1.coords t) = false from rfl]
theorem leaves1_15 (c : Dev nD) (t : Fin cfg1.N) : (dat1 V c).leavesExact 15 t = owns (c : Thread nD τ) (ms1_15 t) fullShare ((dat1 V c).after 15 t) := by
  unfold Dat.leavesExact; rw [show cfg1.idle 15 (grid1.coords t) = false from rfl]
theorem leaves1_16 (c : Dev nD) (t : Fin cfg1.N) : (dat1 V c).leavesExact 16 t = owns (c : Thread nD τ) (ms1_16 t) fullShare ((dat1 V c).after 16 t) := by
  unfold Dat.leavesExact; rw [show cfg1.idle 16 (grid1.coords t) = false from rfl]
theorem leaves1_17 (c : Dev nD) (t : Fin cfg1.N) : (dat1 V c).leavesExact 17 t = owns (c : Thread nD τ) (ms1_17 t) fullShare ((dat1 V c).after 17 t) := by
  unfold Dat.leavesExact; rw [show cfg1.idle 17 (grid1.coords t) = false from rfl]
theorem leaves1_18 (c : Dev nD) (t : Fin cfg1.N) : (dat1 V c).leavesExact 18 t = owns (c : Thread nD τ) (ms1_18 t) fullShare ((dat1 V c).after 18 t) := by
  unfold Dat.leavesExact; rw [show cfg1.idle 18 (grid1.coords t) = false from rfl]
theorem leaves1_19 (c : Dev nD) (t : Fin cfg1.N) : (dat1 V c).leavesExact 19 t = owns (c : Thread nD τ) (ms1_19 t) fullShare ((dat1 V c).after 19 t) := by
  unfold Dat.leavesExact; rw [live1_19 t]
theorem leaves1_20 (c : Dev nD) (t : Fin cfg1.N) : (dat1 V c).leavesExact 20 t = owns (c : Thread nD τ) (ms1_20 t) fullShare ((dat1 V c).after 20 t) := by
  unfold Dat.leavesExact; rw [live1_20 t]
theorem leaves1_21 (c : Dev nD) (t : Fin cfg1.N) : (dat1 V c).leavesExact 21 t = owns (c : Thread nD τ) (ms1_21 t) fullShare ((dat1 V c).after 21 t) := by
  unfold Dat.leavesExact; rw [live1_21 t]

end Cert.KernelIdeal.Own

end
-- ==== Proof.KernelIdeal.Sound1A.lean ====
/- Call 1: the body at a graph's first point: the tables are built and the segment sums begin. -/
module

public import proofs.«01_k».proof.Proof.KernelIdeal.State1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 19200000 in
/-- The body at such a point takes what it is called with to what it returns. -/
theorem sound1_A (c : Dev nD) (t : Fin cfg1.N) (h0 : t.val % 3 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18]
  rw [show (dat1 V c).owesAt () t.succ = (dat1 V c).owesAt () t.castSucc from rfl,
    leaves1_0, after1_0, leaves1_1, after1_1, leaves1_2, after1_2, leaves1_3, after1_3, leaves1_4, after1_4, leaves1_5, after1_5, leaves1_6, after1_6, leaves1_7, after1_7, leaves1_8, after1_8, leaves1_9, after1_9, leaves1_10, after1_10, leaves1_11, after1_11, leaves1_12, after1_12, leaves1_13, after1_13, leaves1_14, after1_14, leaves1_15, after1_15, leaves1_16, after1_16, leaves1_17, after1_17, leaves1_18, after1_18, leaves1_19, after1_19, leaves1_20, after1_20, leaves1_21, after1_21]
  rw [show (dat1 V c).Φ t.succ = PhiS1 V c (t.val + 1) t.isLt from rfl, PhiS1_succ]
  have hN : t.val < 48 := lt_of_lt_of_eq t.isLt (show cfg1.N = 48 from N_1)
  by_cases hz : t.val = 0
  · rw [PhiS1_castSucc V c t, PhiS1_zero V c _ _ hz, PhiA1_eq]
    rw [outs1_A V c t h0]
    unfold st1_A; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((run1_A V c t h0).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [HS0]; · iexact HS0
    isplitl [HS1]; · iexact HS1
    isplitl [HS2]; · iexact HS2
    iintro ⟨H0, H1, H2, H3, H4, H5, H6, H7, H8, H9, H10, H11, H12, H13, H14, H15, H16, H17, H18, ⟨%e19, H19⟩, ⟨%e20, H20⟩, ⟨%e21, H21⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scover1_A_0 V c t h0)
        isplitl [HS1]
        · unfold owns; iexists _; isplitr
          swap; · iexact HS1
          ipureintro; exact View.read_writes_of_cover _ _ _ _ _ (scover1_A_1 V c t h0)
        unfold owns; iexists _; isplitr
        swap; · iexact HS2
        ipureintro; exact View.read_writes_of_cover _ _ _ _ _ (scover1_A_2 V c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]
    · unfold owns; iexists _; isplitr
      swap; · iexact H19
      ipureintro; exact View.read_writes_of_cover _ _ _ _ _ (cover1_A_19 V c t h0)
    isplitl [H20]
    · unfold owns; iexists _; isplitr
      swap; · iexact H20
      ipureintro; exact View.read_writes_of_cover _ _ _ _ _ (cover1_A_20 V c t h0)
    unfold owns; iexists _; isplitr
    swap; · iexact H21
    ipureintro; exact View.read_writes_of_cover _ _ _ _ _ (cover1_A_21 V c t h0)
  · rw [PhiS1_castSucc V c t, PhiS1_pos V c _ _ hz]
    rw [outs1_A V c t h0]
    unfold st1_A; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((run1_A V c t h0).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [HS0]; · iexists _; iexact HS0
    isplitl [HS1]; · iexists _; iexact HS1
    isplitl [HS2]; · iexists _; iexact HS2
    iintro ⟨H0, H1, H2, H3, H4, H5, H6, H7, H8, H9, H10, H11, H12, H13, H14, H15, H16, H17, H18, ⟨%e19, H19⟩, ⟨%e20, H20⟩, ⟨%e21, H21⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scover1_A_0 V c t h0)
        isplitl [HS1]
        · unfold owns; iexists _; isplitr
          swap; · iexact HS1
          ipureintro; exact View.read_writes_of_cover _ _ _ _ _ (scover1_A_1 V c t h0)
        unfold owns; iexists _; isplitr
        swap; · iexact HS2
        ipureintro; exact View.read_writes_of_cover _ _ _ _ _ (scover1_A_2 V c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]
    · unfold owns; iexists _; isplitr
      swap; · iexact H19
      ipureintro; exact View.read_writes_of_cover _ _ _ _ _ (cover1_A_19 V c t h0)
    isplitl [H20]
    · unfold owns; iexists _; isplitr
      swap; · iexact H20
      ipureintro; exact View.read_writes_of_cover _ _ _ _ _ (cover1_A_20 V c t h0)
    unfold owns; iexists _; isplitr
    swap; · iexact H21
    ipureintro; exact View.read_writes_of_cover _ _ _ _ _ (cover1_A_21 V c t h0)

end Cert.KernelIdeal.Own

end
-- ==== Proof.KernelIdeal.Sound1B.lean ====
/- Call 1: the body at the other points: the tables are read as they are, the segment sums go on. -/
module

public import proofs.«01_k».proof.Proof.KernelIdeal.State1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 19200000 in
/-- The body at such a point takes what it is called with to what it returns. -/
theorem sound1_B (c : Dev nD) (t : Fin cfg1.N) (h0 : ¬t.val % 3 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18]
  rw [show (dat1 V c).owesAt () t.succ = (dat1 V c).owesAt () t.castSucc from rfl,
    leaves1_0, after1_0, leaves1_1, after1_1, leaves1_2, after1_2, leaves1_3, after1_3, leaves1_4, after1_4, leaves1_5, after1_5, leaves1_6, after1_6, leaves1_7, after1_7, leaves1_8, after1_8, leaves1_9, after1_9, leaves1_10, after1_10, leaves1_11, after1_11, leaves1_12, after1_12, leaves1_13, after1_13, leaves1_14, after1_14, leaves1_15, after1_15, leaves1_16, after1_16, leaves1_17, after1_17, leaves1_18, after1_18, leaves1_19, after1_19, leaves1_20, after1_20, leaves1_21, after1_21]
  rw [show (dat1 V c).Φ t.succ = PhiS1 V c (t.val + 1) t.isLt from rfl, PhiS1_succ]
  have hN : t.val < 48 := lt_of_lt_of_eq t.isLt (show cfg1.N = 48 from N_1)
  rw [PhiS1_castSucc V c t, PhiS1_pos V c _ _ (by omega)]
  rw [outs1_B V c t h0]
  simp only [before1_20_kept V c t h0]
  simp only [before1_21_kept V c t h0]
  unfold st1_B; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((run1_B V c t h0 (outs1 V c (t.val - 1) (Nat.lt_of_le_of_lt (Nat.sub_le _ _) t.isLt))).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexact H20
  isplitl [H21]; · iexact H21
  isplitl [HS0]; · iexact HS0
  isplitl [HS1]; · iexact HS1
  isplitl [HS2]; · iexact HS2
  iintro ⟨H0, H1, H2, H3, H4, H5, H6, H7, H8, H9, H10, H11, H12, H13, H14, H15, H16, H17, H18, ⟨%e19, H19⟩, ⟨%e20, H20⟩, ⟨%e21, H21⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover1_B_19 V c t h0 (outs1 V c (t.val - 1) (Nat.lt_of_le_of_lt (Nat.sub_le _ _) t.isLt)))
  isplitl [H20]
  · unfold owns; iexists _; isplitr
    swap; · iexact H20
    ipureintro; exact View.read_writes_of_cover _ _ _ _ _ (cover1_B_20 V c t h0 (outs1 V c (t.val - 1) (Nat.lt_of_le_of_lt (Nat.sub_le _ _) t.isLt)))
  unfold owns; iexists _; isplitr
  swap; · iexact H21
  ipureintro; exact View.read_writes_of_cover _ _ _ _ _ (cover1_B_21 V c t h0 (outs1 V c (t.val - 1) (Nat.lt_of_le_of_lt (Nat.sub_le _ _) t.isLt)))

end Cert.KernelIdeal.Own

end
-- ==== Proof.KernelIdeal.Call1.lean ====
/- Call 1: the body obligation at every point, and the invariant at both ends. -/
module

public import proofs.«01_k».proof.Proof.KernelIdeal.Sound1A
public import proofs.«01_k».proof.Proof.KernelIdeal.Sound1B

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound1 (c : Dev nD) (t : Fin cfg1.N) :
    bodyPre1 V c t ⊢ wp frame (wpE (defs₀ (F := F)) Variants.none c none) Set.univ (bodyAt1 t) (fun _ => bodyPost1 V c t) := by
  by_cases h0 : t.val % 3 = 0
  · exact sound1_A V c t h0
  · exact sound1_B V c t h0

theorem defs1_row (t : Fin cfg1.N) : defs₀ (F := F) .tc cfg1.body (cfg1.bodyArgs t (cfg1.slots t)) = bodyAt1 t := by
  unfold defs₀; rw [Defs.onTc_tc]

set_option maxHeartbeats 8000000 in
theorem obligation1 (c : Dev nD) : BodyObligation (dat1 (F := F) V c) (defs₀ (F := F)) Variants.none () Set.univ := fun t => by
  rw [bigSep_W1, bigSep_W1, defs1_row]
  exact triple_restated (sound1 V c t) rfl .rfl fun _ => .rfl

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 48 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

end Cert.KernelIdeal.Own

end
-- ==== Proof.KernelIdeal.Base2.lean ====
/- Call 2 of the program: its windows, scratch and branch conditions at a grid point. -/
module

public import proofs.«01_k».proof.Proof.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S16x96x128 .f32 := win2_0.stage (cfg2.slots t 0)
abbrev hs2_0 (t : Fin cfg2.N) : (ms2_0 t).IsWhole := hstage2_0 0
abbrev ms2_1 (t : Fin cfg2.N) : Memref sig .tc .vmem S16x96x128 .f32 := win2_1.stage (cfg2.slots t 1)
abbrev hs2_1 (t : Fin cfg2.N) : (ms2_1 t).IsWhole := hstage2_1 0
abbrev ms2_2 (t : Fin cfg2.N) : Memref sig .tc .vmem S16x96x16 .f32 := win2_2.stage (cfg2.slots t 2)
abbrev hs2_2 (t : Fin cfg2.N) : (ms2_2 t).IsWhole := hstage2_2 0
abbrev ms2_3 (t : Fin cfg2.N) : Memref sig .tc .vmem S16x96x4 .f32 := win2_3.stage (cfg2.slots t 3)
abbrev hs2_3 (t : Fin cfg2.N) : (ms2_3 t).IsWhole := hstage2_3 0
abbrev ms2_4 (t : Fin cfg2.N) : Memref sig .tc .vmem S16x96x8 .f32 := win2_4.stage (cfg2.slots t 4)
abbrev hs2_4 (t : Fin cfg2.N) : (ms2_4 t).IsWhole := hstage2_4 0
abbrev ms2_5 (t : Fin cfg2.N) : Memref sig .tc .vmem S128x128 .f32 := win2_5.stage (cfg2.slots t 5)
abbrev hs2_5 (t : Fin cfg2.N) : (ms2_5 t).IsWhole := hstage2_5 0
abbrev ms2_6 (t : Fin cfg2.N) : Memref sig .tc .vmem S128x128 .f32 := win2_6.stage (cfg2.slots t 6)
abbrev hs2_6 (t : Fin cfg2.N) : (ms2_6 t).IsWhole := hstage2_6 0
abbrev ms2_7 (t : Fin cfg2.N) : Memref sig .tc .vmem S16x128 .f32 := win2_7.stage (cfg2.slots t 7)
abbrev hs2_7 (t : Fin cfg2.N) : (ms2_7 t).IsWhole := hstage2_7 0
abbrev ms2_8 (t : Fin cfg2.N) : Memref sig .tc .vmem S1x128 .f32 := win2_8.stage (cfg2.slots t 8)
abbrev hs2_8 (t : Fin cfg2.N) : (ms2_8 t).IsWhole := hstage2_8 0
abbrev ms2_9 (t : Fin cfg2.N) : Memref sig .tc .vmem S1x128 .f32 := win2_9.stage (cfg2.slots t 9)
abbrev hs2_9 (t : Fin cfg2.N) : (ms2_9 t).IsWhole := hstage2_9 0
abbrev ms2_10 (t : Fin cfg2.N) : Memref sig .tc .vmem S1x128 .f32 := win2_10.stage (cfg2.slots t 10)
abbrev hs2_10 (t : Fin cfg2.N) : (ms2_10 t).IsWhole := hstage2_10 0
abbrev ms2_11 (t : Fin cfg2.N) : Memref sig .tc .vmem S128x128 .f32 := win2_11.stage (cfg2.slots t 11)
abbrev hs2_11 (t : Fin cfg2.N) : (ms2_11 t).IsWhole := hstage2_11 0
abbrev ms2_12 (t : Fin cfg2.N) : Memref sig .tc .vmem S1x128 .f32 := win2_12.stage (cfg2.slots t 12)
abbrev hs2_12 (t : Fin cfg2.N) : (ms2_12 t).IsWhole := hstage2_12 0
abbrev ms2_13 (t : Fin cfg2.N) : Memref sig .tc .vmem S16x96x128 .f32 := win2_13.stage (cfg2.slots t 13)
abbrev hs2_13 (t : Fin cfg2.N) : (ms2_13 t).IsWhole := hstage2_13 0
abbrev ms2_14 (t : Fin cfg2.N) : Memref sig .tc .vmem S16x96x4 .f32 := win2_14.stage (cfg2.slots t 14)
abbrev hs2_14 (t : Fin cfg2.N) : (ms2_14 t).IsWhole := hstage2_14 0
abbrev VO2_13 : View sig .tc .vmem S16x96x128 .f32 := (Memref.whole cc2_stg13_0 : Memref sig .tc .vmem S16x96x128 .f32).view
abbrev VO2_14 : View sig .tc .vmem S16x96x4 .f32 := (Memref.whole cc2_stg14_0 : Memref sig .tc .vmem S16x96x4 .f32).view
theorem live2_13 : ∀ t : Fin cfg2.N, cfg2.idle 13 (grid2.coords t) = false := fun _ => rfl
theorem live2_14 : ∀ t : Fin cfg2.N, cfg2.idle 14 (grid2.coords t) = false := fun _ => rfl

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

end Cert.KernelIdeal.Own

end
-- ==== Proof.KernelIdeal.Run2A.lean ====
/- Call 2, the one point: what the body stores, found by running it. -/
module

public import proofs.«01_k».proof.Proof.KernelIdeal.Base2

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The pieces the body leaves in each output's staging memref and in each carried scratch in this case, with the proof that the
    body, on whole memrefs holding what is named, runs to a continuation that holds those pieces written. -/
noncomputable def kernelRun2_A (c : Dev nD) (arg0 : Memref sig .tc .vmem S16x96x128 .f32) (harg0 : arg0.IsWhole) (arg1 : Memref sig .tc .vmem S16x96x128 .f32) (harg1 : arg1.IsWhole) (arg2 : Memref sig .tc .vmem S16x96x16 .f32) (harg2 : arg2.IsWhole) (arg3 : Memref sig .tc .vmem S16x96x4 .f32) (harg3 : arg3.IsWhole) (arg4 : Memref sig .tc .vmem S16x96x8 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S16x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S16x96x128 .f32) (harg13 : arg13.IsWhole) (arg14 : Memref sig .tc .vmem S16x96x4 .f32) (harg14 : arg14.IsWhole)
    (x0 : Vec F S16x96x128 .f32) (x1 : Vec F S16x96x128 .f32) (x2 : Vec F S16x96x16 .f32) (x3 : Vec F S16x96x4 .f32) (x4 : Vec F S16x96x8 .f32) (x5 : Vec F S128x128 .f32) (x6 : Vec F S128x128 .f32) (x7 : Vec F S16x128 .f32) (x8 : Vec F S1x128 .f32) (x9 : Vec F S1x128 .f32) (x10 : Vec F S1x128 .f32) (x11 : Vec F S128x128 .f32) (x12 : Vec F S1x128 .f32) :
    Σ' (L13 : List (View.Piece (Elt F) S16x96x128 .f32)), { L14 : List (View.Piece (Elt F) S16x96x4 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc2__node_body arg0 harg0 arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc2__node_body_eq_skeleton]; unfold cc2__node_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    iexists _; iexact H14

end Cert.KernelIdeal.Own

end
-- ==== Proof.KernelIdeal.State2.lean ====
/- Call 2: what every point leaves, as a recursion over the points. -/
module

public import proofs.«01_k».proof.Proof.KernelIdeal.Run2A
public import Idealize.ShloMosaic.Lib.Pipeline.Covers

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves that is read later: the outputs' staging contents and the carried scratch. -/
abbrev St2 (F : FTy → Type) [FloatOps F] : Type := Vec F S16x96x128 .f32 × Vec F S16x96x4 .f32

/-- The run at point `t`, the one point. -/
def run2_A (c : Dev nD) (t : Fin cfg2.N)  :=
  kernelRun2_A (F := F) c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t)  (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)

theorem cover2_A_13 (c : Dev nD) (t : Fin cfg2.N)  (y : S16x96x128.Idx) : ∃ pc ∈ (run2_A V c t).1, y ∈ pc.1.set :=
  View.cover_of_tiledL (run2_A V c t).1 S16x96x128.size (by sl_kernel_rfl) y

theorem cover2_A_14 (c : Dev nD) (t : Fin cfg2.N)  (y : S16x96x4.Idx) : ∃ pc ∈ (run2_A V c t).2.1, y ∈ pc.1.set :=
  View.cover_of_tiledL (run2_A V c t).2.1 S16x96x4.size (by sl_kernel_rfl) y

/-- What this case leaves. -/
def st2_A (c : Dev nD) (t : Fin cfg2.N)  : St2 F :=
  (VO2_13.read (Elt F) (VO2_13.writes (Elt F) VO2_13.junk (run2_A V c t).1),
    VO2_14.read (Elt F) (VO2_14.writes (Elt F) VO2_14.junk (run2_A V c t).2.1))

/-- What point `t` leaves over what the point before left. -/
def step2 (c : Dev nD) (t : Fin cfg2.N) (prev : St2 F) : St2 F :=
  st2_A V c t

/-- What point `n` leaves: the points one after the other (the first point reads nothing of before). -/
def outs2 (c : Dev nD) : (n : ℕ) → n < cfg2.N → St2 F
  | 0, hn => step2 V c ⟨0, hn⟩ (VO2_13.read (Elt F) VO2_13.junk, VO2_14.read (Elt F) VO2_14.junk)
  | n + 1, hn => step2 V c ⟨n + 1, hn⟩ (outs2 c n (Nat.lt_of_succ_lt hn))

theorem outs2_A (c : Dev nD) (t : Fin cfg2.N) : outs2 V c t.val t.isLt = st2_A V c t := by
  obtain ⟨n, hn⟩ := t
  cases n with
  | zero => rfl
  | succ n => rfl

/-- The call's proof data: its arrays as it finds them; after a point each input's buffer at its block and the outputs' at what
    the recursion says; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => (outs2 V c t.val t.isLt).1
    | ⟨14, _⟩ => (outs2 V c t.val t.isLt).2
  Φ t := Pipeline.ΦA spec2 c
  q _ := fullShare
  owed _ := 0

theorem A2_eq (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = (outs2 V c t.val t.isLt).1 := by dsimp only [dat2]
theorem after2_14 (c : Dev nD) (t : Fin cfg2.N) : (dat2 V c).after 14 t = (outs2 V c t.val t.isLt).2 := by dsimp only [dat2]
theorem before2_0 (c : Dev nD) (t : Fin cfg2.N) (d) : (dat2 V c).before 0 t d = iblk2 V c 0 t :=
  before2_0_of V (dat2 V c) (A2_eq V c 0) (after2_0 V c) t d
theorem before2_1 (c : Dev nD) (t : Fin cfg2.N) (d) : (dat2 V c).before 1 t d = iblk2 V c 1 t :=
  before2_1_of V (dat2 V c) (A2_eq V c 1) (after2_1 V c) t d
theorem before2_2 (c : Dev nD) (t : Fin cfg2.N) (d) : (dat2 V c).before 2 t d = iblk2 V c 2 t :=
  before2_2_of V (dat2 V c) (A2_eq V c 2) (after2_2 V c) t d
theorem before2_3 (c : Dev nD) (t : Fin cfg2.N) (d) : (dat2 V c).before 3 t d = iblk2 V c 3 t :=
  before2_3_of V (dat2 V c) (A2_eq V c 3) (after2_3 V c) t d
theorem before2_4 (c : Dev nD) (t : Fin cfg2.N) (d) : (dat2 V c).before 4 t d = iblk2 V c 4 t :=
  before2_4_of V (dat2 V c) (A2_eq V c 4) (after2_4 V c) t d
theorem before2_5 (c : Dev nD) (t : Fin cfg2.N) (d) : (dat2 V c).before 5 t d = iblk2 V c 5 t :=
  before2_5_of V (dat2 V c) (A2_eq V c 5) (after2_5 V c) t d
theorem before2_6 (c : Dev nD) (t : Fin cfg2.N) (d) : (dat2 V c).before 6 t d = iblk2 V c 6 t :=
  before2_6_of V (dat2 V c) (A2_eq V c 6) (after2_6 V c) t d
theorem before2_7 (c : Dev nD) (t : Fin cfg2.N) (d) : (dat2 V c).before 7 t d = iblk2 V c 7 t :=
  before2_7_of V (dat2 V c) (A2_eq V c 7) (after2_7 V c) t d
theorem before2_8 (c : Dev nD) (t : Fin cfg2.N) (d) : (dat2 V c).before 8 t d = iblk2 V c 8 t :=
  before2_8_of V (dat2 V c) (A2_eq V c 8) (after2_8 V c) t d
theorem before2_9 (c : Dev nD) (t : Fin cfg2.N) (d) : (dat2 V c).before 9 t d = iblk2 V c 9 t :=
  before2_9_of V (dat2 V c) (A2_eq V c 9) (after2_9 V c) t d
theorem before2_10 (c : Dev nD) (t : Fin cfg2.N) (d) : (dat2 V c).before 10 t d = iblk2 V c 10 t :=
  before2_10_of V (dat2 V c) (A2_eq V c 10) (after2_10 V c) t d
theorem before2_11 (c : Dev nD) (t : Fin cfg2.N) (d) : (dat2 V c).before 11 t d = iblk2 V c 11 t :=
  before2_11_of V (dat2 V c) (A2_eq V c 11) (after2_11 V c) t d
theorem before2_12 (c : Dev nD) (t : Fin cfg2.N) (d) : (dat2 V c).before 12 t d = iblk2 V c 12 t :=
  before2_12_of V (dat2 V c) (A2_eq V c 12) (after2_12 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t
    ∗ (dat2 V c).leavesExact 13 t
    ∗ (dat2 V c).leavesExact 14 t)

theorem leaves2_0 (c : Dev nD) (t : Fin cfg2.N) : (dat2 V c).leavesExact 0 t = owns (c : Thread nD τ) (ms2_0 t) fullShare ((dat2 V c).after 0 t) := by
  unfold Dat.leavesExact; rw [show cfg2.idle 0 (grid2.coords t) = false from rfl]
theorem leaves2_1 (c : Dev nD) (t : Fin cfg2.N) : (dat2 V c).leavesExact 1 t = owns (c : Thread nD τ) (ms2_1 t) fullShare ((dat2 V c).after 1 t) := by
  unfold Dat.leavesExact; rw [show cfg2.idle 1 (grid2.coords t) = false from rfl]
theorem leaves2_2 (c : Dev nD) (t : Fin cfg2.N) : (dat2 V c).leavesExact 2 t = owns (c : Thread nD τ) (ms2_2 t) fullShare ((dat2 V c).after 2 t) := by
  unfold Dat.leavesExact; rw [show cfg2.idle 2 (grid2.coords t) = false from rfl]
theorem leaves2_3 (c : Dev nD) (t : Fin cfg2.N) : (dat2 V c).leavesExact 3 t = owns (c : Thread nD τ) (ms2_3 t) fullShare ((dat2 V c).after 3 t) := by
  unfold Dat.leavesExact; rw [show cfg2.idle 3 (grid2.coords t) = false from rfl]
theorem leaves2_4 (c : Dev nD) (t : Fin cfg2.N) : (dat2 V c).leavesExact 4 t = owns (c : Thread nD τ) (ms2_4 t) fullShare ((dat2 V c).after 4 t) := by
  unfold Dat.leavesExact; rw [show cfg2.idle 4 (grid2.coords t) = false from rfl]
theorem leaves2_5 (c : Dev nD) (t : Fin cfg2.N) : (dat2 V c).leavesExact 5 t = owns (c : Thread nD τ) (ms2_5 t) fullShare ((dat2 V c).after 5 t) := by
  unfold Dat.leavesExact; rw [show cfg2.idle 5 (grid2.coords t) = false from rfl]
theorem leaves2_6 (c : Dev nD) (t : Fin cfg2.N) : (dat2 V c).leavesExact 6 t = owns (c : Thread nD τ) (ms2_6 t) fullShare ((dat2 V c).after 6 t) := by
  unfold Dat.leavesExact; rw [show cfg2.idle 6 (grid2.coords t) = false from rfl]
theorem leaves2_7 (c : Dev nD) (t : Fin cfg2.N) : (dat2 V c).leavesExact 7 t = owns (c : Thread nD τ) (ms2_7 t) fullShare ((dat2 V c).after 7 t) := by
  unfold Dat.leavesExact; rw [show cfg2.idle 7 (grid2.coords t) = false from rfl]
theorem leaves2_8 (c : Dev nD) (t : Fin cfg2.N) : (dat2 V c).leavesExact 8 t = owns (c : Thread nD τ) (ms2_8 t) fullShare ((dat2 V c).after 8 t) := by
  unfold Dat.leavesExact; rw [show cfg2.idle 8 (grid2.coords t) = false from rfl]
theorem leaves2_9 (c : Dev nD) (t : Fin cfg2.N) : (dat2 V c).leavesExact 9 t = owns (c : Thread nD τ) (ms2_9 t) fullShare ((dat2 V c).after 9 t) := by
  unfold Dat.leavesExact; rw [show cfg2.idle 9 (grid2.coords t) = false from rfl]
theorem leaves2_10 (c : Dev nD) (t : Fin cfg2.N) : (dat2 V c).leavesExact 10 t = owns (c : Thread nD τ) (ms2_10 t) fullShare ((dat2 V c).after 10 t) := by
  unfold Dat.leavesExact; rw [show cfg2.idle 10 (grid2.coords t) = false from rfl]
theorem leaves2_11 (c : Dev nD) (t : Fin cfg2.N) : (dat2 V c).leavesExact 11 t = owns (c : Thread nD τ) (ms2_11 t) fullShare ((dat2 V c).after 11 t) := by
  unfold Dat.leavesExact; rw [show cfg2.idle 11 (grid2.coords t) = false from rfl]
theorem leaves2_12 (c : Dev nD) (t : Fin cfg2.N) : (dat2 V c).leavesExact 12 t = owns (c : Thread nD τ) (ms2_12 t) fullShare ((dat2 V c).after 12 t) := by
  unfold Dat.leavesExact; rw [show cfg2.idle 12 (grid2.coords t) = false from rfl]
theorem leaves2_13 (c : Dev nD) (t : Fin cfg2.N) : (dat2 V c).leavesExact 13 t = owns (c : Thread nD τ) (ms2_13 t) fullShare ((dat2 V c).after 13 t) := by
  unfold Dat.leavesExact; rw [live2_13 t]
theorem leaves2_14 (c : Dev nD) (t : Fin cfg2.N) : (dat2 V c).leavesExact 14 t = owns (c : Thread nD τ) (ms2_14 t) fullShare ((dat2 V c).after 14 t) := by
  unfold Dat.leavesExact; rw [live2_14 t]

end Cert.KernelIdeal.Own

end
-- ==== Proof.KernelIdeal.Sound2A.lean ====
/- Call 2: the body at the one point. -/
module

public import proofs.«01_k».proof.Proof.KernelIdeal.State2

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 19200000 in
/-- The body at such a point takes what it is called with to what it returns. -/
theorem sound2_A (c : Dev nD) (t : Fin cfg2.N)  :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12]
  rw [show (dat2 V c).owesAt () t.succ = (dat2 V c).owesAt () t.castSucc from rfl,
    leaves2_0, after2_0, leaves2_1, after2_1, leaves2_2, after2_2, leaves2_3, after2_3, leaves2_4, after2_4, leaves2_5, after2_5, leaves2_6, after2_6, leaves2_7, after2_7, leaves2_8, after2_8, leaves2_9, after2_9, leaves2_10, after2_10, leaves2_11, after2_11, leaves2_12, after2_12, leaves2_13, after2_13, leaves2_14, after2_14]
  rw [show (dat2 V c).Φ t.succ = Pipeline.ΦA spec2 c from rfl, show (dat2 V c).Φ t.castSucc = Pipeline.ΦA spec2 c from rfl]
  rw [outs2_A V c t]
  unfold st2_A; (try dsimp only)
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((run2_A V c t).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, ⟨%e13, H13⟩, ⟨%e14, H14⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover2_A_13 V c t)
  unfold owns; iexists _; isplitr
  swap; · iexact H14
  ipureintro; exact View.read_writes_of_cover _ _ _ _ _ (cover2_A_14 V c t)

end Cert.KernelIdeal.Own

end
-- ==== Proof.KernelIdeal.Call2.lean ====
/- Call 2: the body obligation at every point, and the invariant at both ends. -/
module

public import proofs.«01_k».proof.Proof.KernelIdeal.Sound2A

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound2 (c : Dev nD) (t : Fin cfg2.N) :
    bodyPre2 V c t ⊢ wp frame (wpE (defs₀ (F := F)) Variants.none c none) Set.univ (bodyAt2 t) (fun _ => bodyPost2 V c t) := by
  exact sound2_A V c t

theorem defs2_row (t : Fin cfg2.N) : defs₀ (F := F) .tc cfg2.body (cfg2.bodyArgs t (cfg2.slots t)) = bodyAt2 t := by
  unfold defs₀; rw [Defs.onTc_tc]

theorem obligation2 (c : Dev nD) : BodyObligation (dat2 (F := F) V c) (defs₀ (F := F)) Variants.none () Set.univ := fun t => by
  rw [bigSep_W2, bigSep_W2, defs2_row]
  exact triple_restated (sound2 V c t) rfl .rfl fun _ => .rfl

theorem hin2 (c : Dev nD) : Pipeline.ΦA spec2 c ⊢ (dat2 V c).Φ 0 := Idealize.SL.BI.Entails.refl _

theorem hout2 (c : Dev nD) : (dat2 V c).Φ (Fin.last cfg2.N) ⊢ Pipeline.ΦA spec2 c := Idealize.SL.BI.Entails.refl _

end Cert.KernelIdeal.Own

end
-- ==== Proof.KernelIdeal.Whole.lean ====
/- The whole program: what every buffer holds between its host stretches and its three calls, and that every run ends there. -/
module

public import proofs.«01_k».proof.Proof.KernelIdeal.Call0
public import proofs.«01_k».proof.Proof.KernelIdeal.Call1
public import proofs.«01_k».proof.Proof.KernelIdeal.Call2
public import Idealize.ShloMosaic.Lib.Pipeline.RegionArraysS
public import Idealize.ShloMosaic.Lib.Pipeline.FrameTail

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

/-! ## What the host stretches write -/

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17]
theorem hostOps0_writes : (hostOps0 : List (HloOp τ sig (Elt F))).Forall fun op => op.writes ⊆ (hostOps0_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v19, main_v20, main_cst, main_v21, main_v22, main_v23, main_v24, main_cst_0, main_v25, main_v26, main_v27, main_v28, main_cst_1, main_v29, main_v30, main_v31, main_v32, main_v33, main_v34, main_v35, main_v36, main_v37, main_v38, main_v39, main_v40, main_v41, main_v42, main_v43, main_v44, main_v45, main_v46, main_v47, main_v48, main_v49]
theorem hostOps1_writes : (hostOps1 : List (HloOp τ sig (Elt F))).Forall fun op => op.writes ⊆ (hostOps1_W.map (Proc.devRef (τ := τ) .tc)).toFinset :=
  StableHlo.forall_writes_sub_of_map rfl
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v51, main_v52, main_v53, main_v54, main_v55, main_v56, main_v57, main_v58, main_v59, main_v60, main_v61]
theorem hostOps2_writes : (hostOps2 : List (HloOp τ sig (Elt F))).Forall fun op => op.writes ⊆ (hostOps2_W.map (Proc.devRef (τ := τ) .tc)).toFinset :=
  StableHlo.forall_writes_sub_of_map rfl

/-! ## Between the items -/

variable (m : (ℓ : Loc nD τ sig) → Buf (Elt F) ℓ)

/-- A valuation of each device's buffers, read at TensorCore references. -/
abbrev refs (W : (c : Dev nD) → Valuation τ sig (Elt F)) (c : Dev nD) (b : Ref sig .tc) : Buf (Elt F) ((c : Thread nD τ).loc b) :=
  W c (Proc.devRef .tc b)

/-- Launch, after the first host stretch, after pass 1, after the second stretch, after pass 2, after the third, after the node call. -/
def W0 (c : Dev nD) : Valuation τ sig (Elt F) := fun b => m (c, b)
def W1 (c : Dev nD) : Valuation τ sig (Elt F) := StableHlo.after hostOps0 (W0 m c)
def W2 (c : Dev nD) : Valuation τ sig (Elt F) := Pipeline.afterRegion (dat0 (refs (W1 m)) c) (W1 m c)
def W3 (c : Dev nD) : Valuation τ sig (Elt F) := StableHlo.after hostOps1 (W2 m c)
def W4 (c : Dev nD) : Valuation τ sig (Elt F) := Pipeline.afterRegion (dat1 (refs (W3 m)) c) (W3 m c)
def W5 (c : Dev nD) : Valuation τ sig (Elt F) := StableHlo.after hostOps2 (W4 m c)
def W6 (c : Dev nD) : Valuation τ sig (Elt F) := Pipeline.afterRegion (dat2 (refs (W5 m)) c) (W5 m c)

/-- The three calls' proof data. -/
def pdats (p : Fin 3) (c : Dev nD) : Dat τ (Elt F) Unit ℕ (UR sig nD τ) ℕ (cfgs p) c :=
  match p with
  | ⟨0, _⟩ => dat0 (refs (W1 m)) c
  | ⟨1, _⟩ => dat1 (refs (W3 m)) c
  | ⟨2, _⟩ => dat2 (refs (W5 m)) c

/-- The prefetched tables' contents: no call has one. -/
abbrev adm : (p : Fin 3) → (pcfgs (F := F) p).Adm := fun p => (cfgs p).toPCfg_adm

/-- Every wait of a TensorCore has the one index, at level 0. -/
def lvIx (g : GSem nD τ sig) : Finset Unit := if g.1.2 = .tc then {()} else ∅

theorem levelCut (p : Fin 3) : Pipeline.LevelCut (pcfgs (F := F)) adm () lvIx (fun _ _ => (0 : ℕ)) p (fun _ => 0) (fun _ => 0) where
  hι := fun c w s => by
    show () ∈ (if (c.tc : Thread nD τ).2 = .tc then ({()} : Finset Unit) else ∅)
    rw [if_pos rfl]
    exact Finset.mem_singleton_self ()
  hιb := fun _ _ _ => le_rfl
  hD := fun _ _ _ h => absurd h (lt_irrefl _)

/-- What rides beside the buffers: what the core owes, and its generator register. -/
abbrev ride (c : Dev nD) : sProp 𝕄 :=
  iprop((∃ Wd, owes (c : Thread nD τ) (0 : CellTallies nD τ sig Unit) Wd) ∗ (∃ r, prngReg c r) ∗ emp)

def seg0 : HostSeg (Ix := Unit) (Name := ℕ) (U := UR sig nD τ) (Lvl := ℕ) (pcfgs (F := F)) defs₀ Variants.none lvIx (fun _ _ => 0) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) ride
def seg2 : HostSeg (Ix := Unit) (Name := ℕ) (U := UR sig nD τ) (Lvl := ℕ) (pcfgs (F := F)) defs₀ Variants.none lvIx (fun _ _ => 0) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) ride
def seg4 : HostSeg (Ix := Unit) (Name := ℕ) (U := UR sig nD τ) (Lvl := ℕ) (pcfgs (F := F)) defs₀ Variants.none lvIx (fun _ _ => 0) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) ride

theorem arrs_sub0 : Pipeline.arrRefs (τ := τ) (pcfgs (F := F) 0).spec ⊆ Pipeline.ucRefs τ sig :=
  Pipeline.arrRefs_sub_ucRefs _ (show ∀ w, (Pipeline.arrRef spec0 w).isScoped = false by decide)

def reg0 : RegionSeg (pcfgs (F := F)) adm (pdats m) () defs₀ Variants.none lvIx (fun _ _ => 0) 0 :=
  RegionSeg.ofHeldIn (pcfgs (F := F)) adm (pdats m) () defs₀ Variants.none lvIx (fun _ _ => 0) 0 (fun _ => 0) (Pipeline.ucRefs τ sig)
    (fun c => iprop(∃ r, prngReg c r)) (fun c => iprop(∃ r, prngReg c r)) launch0.toP rfl
    (fun c => (obligation0 (refs (W1 m)) c).loose) (fun _ _ => rfl) (fun _ => rfl)
    (fun c => (dat0 (refs (W1 m)) c).share_full fun _ => rfl)
    (fun c => hin0 (refs (W1 m)) c) (fun c => hout0 (refs (W1 m)) c) (fun _ => 0) (levelCut 0) (fun _ => iprop(emp)) (W1 m)
    (fun c w => A0_eq (refs (W1 m)) c w)

theorem arrs_sub1 : Pipeline.arrRefs (τ := τ) (pcfgs (F := F) 1).spec ⊆ Pipeline.ucRefs τ sig :=
  Pipeline.arrRefs_sub_ucRefs _ (show ∀ w, (Pipeline.arrRef spec1 w).isScoped = false by decide)

def reg1 : RegionSeg (pcfgs (F := F)) adm (pdats m) () defs₀ Variants.none lvIx (fun _ _ => 0) 1 :=
  RegionSeg.ofHeldIn (pcfgs (F := F)) adm (pdats m) () defs₀ Variants.none lvIx (fun _ _ => 0) 1 (fun _ => 0) (Pipeline.ucRefs τ sig)
    (fun c => iprop(∃ r, prngReg c r)) (fun c => iprop(∃ r, prngReg c r)) launch1.toP rfl
    (fun c => (obligation1 (refs (W3 m)) c).loose) (fun _ _ => rfl) (fun _ => rfl)
    (fun c => (dat1 (refs (W3 m)) c).share_full fun _ => rfl)
    (fun c => hin1 (refs (W3 m)) c) (fun c => hout1 (refs (W3 m)) c) (fun _ => 0) (levelCut 1) (fun _ => iprop(emp)) (W3 m)
    (fun c w => A1_eq (refs (W3 m)) c w)

theorem arrs_sub2 : Pipeline.arrRefs (τ := τ) (pcfgs (F := F) 2).spec ⊆ Pipeline.ucRefs τ sig :=
  Pipeline.arrRefs_sub_ucRefs _ (show ∀ w, (Pipeline.arrRef spec2 w).isScoped = false by decide)

def reg2 : RegionSeg (pcfgs (F := F)) adm (pdats m) () defs₀ Variants.none lvIx (fun _ _ => 0) 2 :=
  RegionSeg.ofHeldIn (pcfgs (F := F)) adm (pdats m) () defs₀ Variants.none lvIx (fun _ _ => 0) 2 (fun _ => 0) (Pipeline.ucRefs τ sig)
    (fun c => iprop(∃ r, prngReg c r)) (fun c => iprop(∃ r, prngReg c r)) launch2.toP rfl
    (fun c => (obligation2 (refs (W5 m)) c).loose) (fun _ _ => rfl) (fun _ => rfl)
    (fun c => (dat2 (refs (W5 m)) c).share_full fun _ => rfl)
    (fun c => hin2 (refs (W5 m)) c) (fun c => hout2 (refs (W5 m)) c) (fun _ => 0) (levelCut 2) (fun _ => iprop(emp)) (W5 m)
    (fun c w => A2_eq (refs (W5 m)) c w)

/-! ## The calls' entry and exit states -/

theorem pre0 (c : Dev nD) : iprop(StableHlo.held (c : Thread nD τ) (Pipeline.ucRefs τ sig) (W1 m c) ∗ ride c) ⊢ (reg0 m).pre c := by
  unfold reg0
  refine BI.Entails.trans ?_ (RegionSeg.ofHeldIn_pre arrs_sub0 c)
  exact BI.Entails.refl _

theorem left0 (c : Dev nD) : Pipeline.afterRegion (pdats m 0 c) (W1 m c) = W2 m c := rfl

theorem post0 (c : Dev nD) : (reg0 m).post c ⊢ iprop(StableHlo.held (c : Thread nD τ) (Pipeline.ucRefs τ sig) (W2 m c) ∗ ride c) := by
  rw [← left0]
  unfold reg0
  exact RegionSeg.ofHeldIn_post arrs_sub0 c

theorem pre1 (c : Dev nD) : iprop(StableHlo.held (c : Thread nD τ) (Pipeline.ucRefs τ sig) (W3 m c) ∗ ride c) ⊢ (reg1 m).pre c := by
  unfold reg1
  refine BI.Entails.trans ?_ (RegionSeg.ofHeldIn_pre arrs_sub1 c)
  exact BI.Entails.refl _

theorem left1 (c : Dev nD) : Pipeline.afterRegion (pdats m 1 c) (W3 m c) = W4 m c := rfl

theorem post1 (c : Dev nD) : (reg1 m).post c ⊢ iprop(StableHlo.held (c : Thread nD τ) (Pipeline.ucRefs τ sig) (W4 m c) ∗ ride c) := by
  rw [← left1]
  unfold reg1
  exact RegionSeg.ofHeldIn_post arrs_sub1 c

theorem pre2 (c : Dev nD) : iprop(StableHlo.held (c : Thread nD τ) (Pipeline.ucRefs τ sig) (W5 m c) ∗ ride c) ⊢ (reg2 m).pre c := by
  unfold reg2
  refine BI.Entails.trans ?_ (RegionSeg.ofHeldIn_pre arrs_sub2 c)
  exact BI.Entails.refl _

theorem left2 (c : Dev nD) : Pipeline.afterRegion (pdats m 2 c) (W5 m c) = W6 m c := rfl

theorem post2 (c : Dev nD) : (reg2 m).post c ⊢ iprop(StableHlo.held (c : Thread nD τ) (Pipeline.ucRefs τ sig) (W6 m c) ∗ ride c) := by
  rw [← left2]
  unfold reg2
  exact RegionSeg.ofHeldIn_post arrs_sub2 c

/-- At the end only what the core owes is kept of what rides beside the buffers. -/
theorem W6_ride (c : Dev nD) : (ride c : sProp 𝕄) ⊢ iprop(∃ Wd, owes (c : Thread nD τ) (0 : CellTallies nD τ sig Unit) Wd) := by
  iintro ⟨HO, -, -⟩
  iexact HO

abbrev segs (c : Dev nD) : List (Seg (pcfgs (F := F)) adm (pdats m) () defs₀ Variants.none lvIx (fun _ _ => 0)) :=
  [.host (seg0 m), .region (reg0 m), .host (seg2 m), .region (reg1 m), .host (seg4 m), .region (reg2 m)]

theorem regions_no_unscoped : ∀ sm : SemLoc sig, sm.isScoped .tc = true := by decide

/-! ## Every run ends with every buffer at `W6` -/

set_option maxHeartbeats 1000000 in
set_option backward.isDefEq.respectTransparency.types false in
theorem run_main (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = W6 m c (Proc.devRef .tc b)) ∧ r.2.sem = fun _ => 0) := by
  refine Pipeline.θ_run_regions_kit_dev_sems (pcfgs (F := F)) adm (pdats m) () cellOf_inj emb₁ defs₀ Variants.none lvIx (fun _ _ => 0) m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, Seg.pipes_host, Seg.pipes_region, Seg.pipes_nil]; decide)
    (fun _ => 0) (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (W0 m c) ∗ ride c))
    (Tₙ := fun c => StableHlo.held (c : Thread nD τ) (Pipeline.ucRefs τ sig) (W6 m c))
    (hch := fun c => ⟨BI.Entails.refl _, pre0 m c, post0 m c, pre1 m c, post1 m c, pre2 m c, (post2 m c).trans (BIClass.sep_mono (BI.Entails.refl _) (W6_ride c))⟩)
    (hinit := ?_)
    (QY := fun c s => ∀ b : Ref sig .tc, b.isScoped = false → s.mem ((c.tc : Thread nD τ).loc b) = W6 m c (Proc.devRef .tc b))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach lvIx (fun _ _ => 0) fun c => ?_
    rw [show (unscopedBufs c (fun b => m ((c : Thread nD τ).loc b)) : sProp 𝕄)
        = StableHlo.held (c : Thread nD τ) (Pipeline.ucRefs τ sig) (W0 m c)
        from (Pipeline.unscopedBufs_held (Ix := Unit) (Name := ℕ) (U := UR sig nD τ) (Lvl := ℕ) c (W0 m c))]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    iexact HSI

/-! ## The arguments are as launched -/

/-- A buffer no host stretch writes and no call stores keeps its launch contents. -/
theorem W6_keeps (c : Dev nD) (r : Ref sig .tc) (h0 : r ∉ hostOps0_W) (h1 : r ∉ hostOps1_W) (h2 : r ∉ hostOps2_W)
    (r0 : ∀ w, Pipeline.arrRef spec0 w = r → (cfg0.win w).isOut = false) (r1 : ∀ w, Pipeline.arrRef spec1 w = r → (cfg1.win w).isOut = false)
    (r2 : ∀ w, Pipeline.arrRef spec2 w = r → (cfg2.win w).isOut = false) :
    W6 m c (Proc.devRef .tc r) = m ((c : Thread nD τ).loc r) :=
  (Pipeline.afterRegion_keeps (dat2 (refs (W5 m)) c) (W5 m c) launch2.win.arr_inj (fun w => A2_eq _ c w) r r2).trans <|
  (StableHlo.after_of_writes_sub hostOps2 _ hostOps2_writes h2).trans <|
  (Pipeline.afterRegion_keeps (dat1 (refs (W3 m)) c) (W3 m c) launch1.win.arr_inj (fun w => A1_eq _ c w) r r1).trans <|
  (StableHlo.after_of_writes_sub hostOps1 _ hostOps1_writes h1).trans <|
  (Pipeline.afterRegion_keeps (dat0 (refs (W1 m)) c) (W1 m c) launch0.win.arr_inj (fun w => A0_eq _ c w) r r0).trans <|
  (StableHlo.after_of_writes_sub hostOps0 _ hostOps0_writes h0)

theorem W6_main_arg0 (c : Dev nD) : W6 m c (Proc.devRef .tc main_arg0) = m ((c : Thread nD τ).loc main_arg0) :=
  W6_keeps m c main_arg0 (by decide) (by decide) (by decide) (by decide) (by decide) (by decide)
theorem W6_main_arg1 (c : Dev nD) : W6 m c (Proc.devRef .tc main_arg1) = m ((c : Thread nD τ).loc main_arg1) :=
  W6_keeps m c main_arg1 (by decide) (by decide) (by decide) (by decide) (by decide) (by decide)
theorem W6_main_arg2 (c : Dev nD) : W6 m c (Proc.devRef .tc main_arg2) = m ((c : Thread nD τ).loc main_arg2) :=
  W6_keeps m c main_arg2 (by decide) (by decide) (by decide) (by decide) (by decide) (by decide)
theorem W6_main_arg3 (c : Dev nD) : W6 m c (Proc.devRef .tc main_arg3) = m ((c : Thread nD τ).loc main_arg3) :=
  W6_keeps m c main_arg3 (by decide) (by decide) (by decide) (by decide) (by decide) (by decide)
theorem W6_main_arg4 (c : Dev nD) : W6 m c (Proc.devRef .tc main_arg4) = m ((c : Thread nD τ).loc main_arg4) :=
  W6_keeps m c main_arg4 (by decide) (by decide) (by decide) (by decide) (by decide) (by decide)
theorem W6_main_arg5 (c : Dev nD) : W6 m c (Proc.devRef .tc main_arg5) = m ((c : Thread nD τ).loc main_arg5) :=
  W6_keeps m c main_arg5 (by decide) (by decide) (by decide) (by decide) (by decide) (by decide)
theorem W6_main_arg6 (c : Dev nD) : W6 m c (Proc.devRef .tc main_arg6) = m ((c : Thread nD τ).loc main_arg6) :=
  W6_keeps m c main_arg6 (by decide) (by decide) (by decide) (by decide) (by decide) (by decide)
theorem W6_main_arg7 (c : Dev nD) : W6 m c (Proc.devRef .tc main_arg7) = m ((c : Thread nD τ).loc main_arg7) :=
  W6_keeps m c main_arg7 (by decide) (by decide) (by decide) (by decide) (by decide) (by decide)
theorem W6_main_arg8 (c : Dev nD) : W6 m c (Proc.devRef .tc main_arg8) = m ((c : Thread nD τ).loc main_arg8) :=
  W6_keeps m c main_arg8 (by decide) (by decide) (by decide) (by decide) (by decide) (by decide)
theorem W6_main_arg9 (c : Dev nD) : W6 m c (Proc.devRef .tc main_arg9) = m ((c : Thread nD τ).loc main_arg9) :=
  W6_keeps m c main_arg9 (by decide) (by decide) (by decide) (by decide) (by decide) (by decide)
theorem W6_main_arg10 (c : Dev nD) : W6 m c (Proc.devRef .tc main_arg10) = m ((c : Thread nD τ).loc main_arg10) :=
  W6_keeps m c main_arg10 (by decide) (by decide) (by decide) (by decide) (by decide) (by decide)
theorem W6_main_arg11 (c : Dev nD) : W6 m c (Proc.devRef .tc main_arg11) = m ((c : Thread nD τ).loc main_arg11) :=
  W6_keeps m c main_arg11 (by decide) (by decide) (by decide) (by decide) (by decide) (by decide)
theorem W6_main_arg12 (c : Dev nD) : W6 m c (Proc.devRef .tc main_arg12) = m ((c : Thread nD τ).loc main_arg12) :=
  W6_keeps m c main_arg12 (by decide) (by decide) (by decide) (by decide) (by decide) (by decide)
theorem W6_main_arg13 (c : Dev nD) : W6 m c (Proc.devRef .tc main_arg13) = m ((c : Thread nD τ).loc main_arg13) :=
  W6_keeps m c main_arg13 (by decide) (by decide) (by decide) (by decide) (by decide) (by decide)
theorem W6_main_arg14 (c : Dev nD) : W6 m c (Proc.devRef .tc main_arg14) = m ((c : Thread nD τ).loc main_arg14) :=
  W6_keeps m c main_arg14 (by decide) (by decide) (by decide) (by decide) (by decide) (by decide)
theorem W6_main_arg15 (c : Dev nD) : W6 m c (Proc.devRef .tc main_arg15) = m ((c : Thread nD τ).loc main_arg15) :=
  W6_keeps m c main_arg15 (by decide) (by decide) (by decide) (by decide) (by decide) (by decide)
theorem W6_main_arg16 (c : Dev nD) : W6 m c (Proc.devRef .tc main_arg16) = m ((c : Thread nD τ).loc main_arg16) :=
  W6_keeps m c main_arg16 (by decide) (by decide) (by decide) (by decide) (by decide) (by decide)
theorem W6_main_arg17 (c : Dev nD) : W6 m c (Proc.devRef .tc main_arg17) = m ((c : Thread nD τ).loc main_arg17) :=
  W6_keeps m c main_arg17 (by decide) (by decide) (by decide) (by decide) (by decide) (by decide)
theorem W6_main_arg18 (c : Dev nD) : W6 m c (Proc.devRef .tc main_arg18) = m ((c : Thread nD τ).loc main_arg18) :=
  W6_keeps m c main_arg18 (by decide) (by decide) (by decide) (by decide) (by decide) (by decide)
theorem W6_main_arg19 (c : Dev nD) : W6 m c (Proc.devRef .tc main_arg19) = m ((c : Thread nD τ).loc main_arg19) :=
  W6_keeps m c main_arg19 (by decide) (by decide) (by decide) (by decide) (by decide) (by decide)
theorem W6_main_arg20 (c : Dev nD) : W6 m c (Proc.devRef .tc main_arg20) = m ((c : Thread nD τ).loc main_arg20) :=
  W6_keeps m c main_arg20 (by decide) (by decide) (by decide) (by decide) (by decide) (by decide)

end Cert.KernelIdeal.Own

end
-- ==== Proof.Ref.Ops.lean ====
/- The reference's operations, cut into consecutive stretches. -/
module

public import proofs.«01_k».proof.ReferenceIdeal
public import proofs.«01_k».proof.Proof.Gen.ReferenceIdeal
public import Idealize.ShloMosaic.Lib.StableHlo.Run

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo Idealize.SL.Sem

variable {F : FTy → Type} [FloatOps F]

abbrev s0 : List (HloOp τ sig (Elt F)) :=
  [ StableHlo.unary main_arg2 main_v0 (broadcastInDim S16x9120x1 ![0, 1] bcast_S16x9120_S16x9120x1_0_1 : (⟨S16x9120, .i32⟩ : BufTy).Contents (Elt F) → (⟨S16x9120x1, .i32⟩ : BufTy).Contents (Elt F)),
    StableHlo.nullary main_call0_c (constantI S_ 32 0#32),
    StableHlo.unary main_call0_c main_call0_v0 ((broadcastInDim S16x9120x1 ![] bcast_S_S16x9120x1) : (⟨S_, .i32⟩ : BufTy).Contents (Elt F) → (⟨S16x9120x1, .i32⟩ : BufTy).Contents (Elt F)),
    StableHlo.binary main_v0 main_call0_v0 main_call0_v1 ((cmpi .slt) : (⟨S16x9120x1, .i32⟩ : BufTy).Contents (Elt F) → (⟨S16x9120x1, .i32⟩ : BufTy).Contents (Elt F) → (⟨S16x9120x1, .i1⟩ : BufTy).Contents (Elt F)),
    StableHlo.nullary main_call0_c_0 (constantI S_ 32 96#32),
    StableHlo.unary main_call0_c_0 main_call0_v2 ((broadcastInDim S16x9120x1 ![] bcast_S_S16x9120x1) : (⟨S_, .i32⟩ : BufTy).Contents (Elt F) → (⟨S16x9120x1, .i32⟩ : BufTy).Contents (Elt F)),
    StableHlo.binary main_v0 main_call0_v2 main_call0_v3 (addi : (⟨S16x9120x1, .i32⟩ : BufTy).Contents (Elt F) → (⟨S16x9120x1, .i32⟩ : BufTy).Contents (Elt F) → (⟨S16x9120x1, .i32⟩ : BufTy).Contents (Elt F)),
    StableHlo.ternary main_call0_v1 main_call0_v3 main_v0 main_call0_v4 (select : (⟨S16x9120x1, .i1⟩ : BufTy).Contents (Elt F) → (⟨S16x9120x1, .i32⟩ : BufTy).Contents (Elt F) → (⟨S16x9120x1, .i32⟩ : BufTy).Contents (Elt F) → (⟨S16x9120x1, .i32⟩ : BufTy).Contents (Elt F)),
    StableHlo.nullary main_call0_c_1 (constantI S1 32 95#32),
    StableHlo.nullary main_call0_c_2 (constantI S_ 32 0#32),
    StableHlo.unary main_call0_c_2 main_call0_v5 ((broadcastInDim S16x9120x1 ![] bcast_S_S16x9120x1) : (⟨S_, .i32⟩ : BufTy).Contents (Elt F) → (⟨S16x9120x1, .i32⟩ : BufTy).Contents (Elt F)),
    StableHlo.binary main_call0_v4 main_call0_v5 main_call0_v6 ((cmpi .sge) : (⟨S16x9120x1, .i32⟩ : BufTy).Contents (Elt F) → (⟨S16x9120x1, .i32⟩ : BufTy).Contents (Elt F) → (⟨S16x9120x1, .i1⟩ : BufTy).Contents (Elt F)),
    StableHlo.unary main_call0_c_1 main_call0_v7 ((broadcastInDim S1x1x1 ![2] bcast_S1_S1x1x1_2) : (⟨S1, .i32⟩ : BufTy).Contents (Elt F) → (⟨S1x1x1, .i32⟩ : BufTy).Contents (Elt F)),
    StableHlo.unary main_call0_v7 main_call0_v8 ((broadcastInDim S16x9120x1 ![0, 1, 2] bcast_S1x1x1_S16x9120x1_0_1_2) : (⟨S1x1x1, .i32⟩ : BufTy).Contents (Elt F) → (⟨S16x9120x1, .i32⟩ : BufTy).Contents (Elt F)),
    StableHlo.binary main_call0_v4 main_call0_v8 main_call0_v9 ((cmpi .sle) : (⟨S16x9120x1, .i32⟩ : BufTy).Contents (Elt F) → (⟨S16x9120x1, .i32⟩ : BufTy).Contents (Elt F) → (⟨S16x9120x1, .i1⟩ : BufTy).Contents (Elt F)),
    StableHlo.binary main_call0_v6 main_call0_v9 main_call0_v10 (andi : (⟨S16x9120x1, .i1⟩ : BufTy).Contents (Elt F) → (⟨S16x9120x1, .i1⟩ : BufTy).Contents (Elt F) → (⟨S16x9120x1, .i1⟩ : BufTy).Contents (Elt F)),
    StableHlo.nullary main_call0_c_3 (constantI S_ 1 1#1),
    StableHlo.binary main_call0_v10 main_call0_c_3 main_call0_v11 ((fun x v => Host.reduce IntOp.andi x v reducesTo_S16x9120x1_S16x9120_d2 h_S_) : (⟨S16x9120x1, .i1⟩ : BufTy).Contents (Elt F) → (⟨S_, .i1⟩ : BufTy).Contents (Elt F) → (⟨S16x9120, .i1⟩ : BufTy).Contents (Elt F)),
    StableHlo.binary main_arg1 main_call0_v4 main_call0_v12 ((fun x i => Host.gather gather_S16x96x4_S16x9120x1_S16x9120x4_2_1_0_0_1_2_114 x i) : (⟨S16x96x4, .f32⟩ : BufTy).Contents (Elt F) → (⟨S16x9120x1, .i32⟩ : BufTy).Contents (Elt F) → (⟨S16x9120x4, .f32⟩ : BufTy).Contents (Elt F)),
    StableHlo.unary main_call0_v11 main_call0_v13 ((broadcastInDim S16x9120x4 ![0, 1] bcast_S16x9120_S16x9120x4_0_1) : (⟨S16x9120, .i1⟩ : BufTy).Contents (Elt F) → (⟨S16x9120x4, .i1⟩ : BufTy).Contents (Elt F)),
    StableHlo.nullary main_call0_cst (constant S_ .f32 0x7FC00000#32),
    StableHlo.unary main_call0_cst main_call0_v14 ((broadcastInDim S16x9120x4 ![] bcast_S_S16x9120x4) : (⟨S_, .f32⟩ : BufTy).Contents (Elt F) → (⟨S16x9120x4, .f32⟩ : BufTy).Contents (Elt F)),
    StableHlo.ternary main_call0_v13 main_call0_v12 main_call0_v14 main_v1 (select : (⟨S16x9120x4, .i1⟩ : BufTy).Contents (Elt F) → (⟨S16x9120x4, .f32⟩ : BufTy).Contents (Elt F) → (⟨S16x9120x4, .f32⟩ : BufTy).Contents (Elt F) → (⟨S16x9120x4, .f32⟩ : BufTy).Contents (Elt F)) ]

abbrev s1 : List (HloOp τ sig (Elt F)) :=
  [ StableHlo.unary main_arg3 main_v2 (broadcastInDim S16x9120x1 ![0, 1] bcast_S16x9120_S16x9120x1_0_1 : (⟨S16x9120, .i32⟩ : BufTy).Contents (Elt F) → (⟨S16x9120x1, .i32⟩ : BufTy).Contents (Elt F)),
    StableHlo.nullary main_call1_c (constantI S_ 32 0#32),
    StableHlo.unary main_call1_c main_call1_v0 ((broadcastInDim S16x9120x1 ![] bcast_S_S16x9120x1) : (⟨S_, .i32⟩ : BufTy).Contents (Elt F) → (⟨S16x9120x1, .i32⟩ : BufTy).Contents (Elt F)),
    StableHlo.binary main_v2 main_call1_v0 main_call1_v1 ((cmpi .slt) : (⟨S16x9120x1, .i32⟩ : BufTy).Contents (Elt F) → (⟨S16x9120x1, .i32⟩ : BufTy).Contents (Elt F) → (⟨S16x9120x1, .i1⟩ : BufTy).Contents (Elt F)),
    StableHlo.nullary main_call1_c_0 (constantI S_ 32 96#32),
    StableHlo.unary main_call1_c_0 main_call1_v2 ((broadcastInDim S16x9120x1 ![] bcast_S_S16x9120x1) : (⟨S_, .i32⟩ : BufTy).Contents (Elt F) → (⟨S16x9120x1, .i32⟩ : BufTy).Contents (Elt F)),
    StableHlo.binary main_v2 main_call1_v2 main_call1_v3 (addi : (⟨S16x9120x1, .i32⟩ : BufTy).Contents (Elt F) → (⟨S16x9120x1, .i32⟩ : BufTy).Contents (Elt F) → (⟨S16x9120x1, .i32⟩ : BufTy).Contents (Elt F)),
    StableHlo.ternary main_call1_v1 main_call1_v3 main_v2 main_call1_v4 (select : (⟨S16x9120x1, .i1⟩ : BufTy).Contents (Elt F) → (⟨S16x9120x1, .i32⟩ : BufTy).Contents (Elt F) → (⟨S16x9120x1, .i32⟩ : BufTy).Contents (Elt F) → (⟨S16x9120x1, .i32⟩ : BufTy).Contents (Elt F)),
    StableHlo.nullary main_call1_c_1 (constantI S1 32 95#32),
    StableHlo.nullary main_call1_c_2 (constantI S_ 32 0#32),
    StableHlo.unary main_call1_c_2 main_call1_v5 ((broadcastInDim S16x9120x1 ![] bcast_S_S16x9120x1) : (⟨S_, .i32⟩ : BufTy).Contents (Elt F) → (⟨S16x9120x1, .i32⟩ : BufTy).Contents (Elt F)),
    StableHlo.binary main_call1_v4 main_call1_v5 main_call1_v6 ((cmpi .sge) : (⟨S16x9120x1, .i32⟩ : BufTy).Contents (Elt F) → (⟨S16x9120x1, .i32⟩ : BufTy).Contents (Elt F) → (⟨S16x9120x1, .i1⟩ : BufTy).Contents (Elt F)),
    StableHlo.unary main_call1_c_1 main_call1_v7 ((broadcastInDim S1x1x1 ![2] bcast_S1_S1x1x1_2) : (⟨S1, .i32⟩ : BufTy).Contents (Elt F) → (⟨S1x1x1, .i32⟩ : BufTy).Contents (Elt F)),
    StableHlo.unary main_call1_v7 main_call1_v8 ((broadcastInDim S16x9120x1 ![0, 1, 2] bcast_S1x1x1_S16x9120x1_0_1_2) : (⟨S1x1x1, .i32⟩ : BufTy).Contents (Elt F) → (⟨S16x9120x1, .i32⟩ : BufTy).Contents (Elt F)),
    StableHlo.binary main_call1_v4 main_call1_v8 main_call1_v9 ((cmpi .sle) : (⟨S16x9120x1, .i32⟩ : BufTy).Contents (Elt F) → (⟨S16x9120x1, .i32⟩ : BufTy).Contents (Elt F) → (⟨S16x9120x1, .i1⟩ : BufTy).Contents (Elt F)),
    StableHlo.binary main_call1_v6 main_call1_v9 main_call1_v10 (andi : (⟨S16x9120x1, .i1⟩ : BufTy).Contents (Elt F) → (⟨S16x9120x1, .i1⟩ : BufTy).Contents (Elt F) → (⟨S16x9120x1, .i1⟩ : BufTy).Contents (Elt F)),
    StableHlo.nullary main_call1_c_3 (constantI S_ 1 1#1),
    StableHlo.binary main_call1_v10 main_call1_c_3 main_call1_v11 ((fun x v => Host.reduce IntOp.andi x v reducesTo_S16x9120x1_S16x9120_d2 h_S_) : (⟨S16x9120x1, .i1⟩ : BufTy).Contents (Elt F) → (⟨S_, .i1⟩ : BufTy).Contents (Elt F) → (⟨S16x9120, .i1⟩ : BufTy).Contents (Elt F)),
    StableHlo.binary main_arg1 main_call1_v4 main_call1_v12 ((fun x i => Host.gather gather_S16x96x4_S16x9120x1_S16x9120x4_2_1_0_0_1_2_114 x i) : (⟨S16x96x4, .f32⟩ : BufTy).Contents (Elt F) → (⟨S16x9120x1, .i32⟩ : BufTy).Contents (Elt F) → (⟨S16x9120x4, .f32⟩ : BufTy).Contents (Elt F)),
    StableHlo.unary main_call1_v11 main_call1_v13 ((broadcastInDim S16x9120x4 ![0, 1] bcast_S16x9120_S16x9120x4_0_1) : (⟨S16x9120, .i1⟩ : BufTy).Contents (Elt F) → (⟨S16x9120x4, .i1⟩ : BufTy).Contents (Elt F)),
    StableHlo.nullary main_call1_cst (constant S_ .f32 0x7FC00000#32),
    StableHlo.unary main_call1_cst main_call1_v14 ((broadcastInDim S16x9120x4 ![] bcast_S_S16x9120x4) : (⟨S_, .f32⟩ : BufTy).Contents (Elt F) → (⟨S16x9120x4, .f32⟩ : BufTy).Contents (Elt F)),
    StableHlo.ternary main_call1_v13 main_call1_v12 main_call1_v14 main_v3 (select : (⟨S16x9120x4, .i1⟩ : BufTy).Contents (Elt F) → (⟨S16x9120x4, .f32⟩ : BufTy).Contents (Elt F) → (⟨S16x9120x4, .f32⟩ : BufTy).Contents (Elt F) → (⟨S16x9120x4, .f32⟩ : BufTy).Contents (Elt F)) ]

abbrev s2 : List (HloOp τ sig (Elt F)) :=
  [ StableHlo.binary main_v1 main_v3 main_v4 (subf : (⟨S16x9120x4, .f32⟩ : BufTy).Contents (Elt F) → (⟨S16x9120x4, .f32⟩ : BufTy).Contents (Elt F) → (⟨S16x9120x4, .f32⟩ : BufTy).Contents (Elt F)),
    StableHlo.binary main_v4 main_v4 main_v5 (mulf : (⟨S16x9120x4, .f32⟩ : BufTy).Contents (Elt F) → (⟨S16x9120x4, .f32⟩ : BufTy).Contents (Elt F) → (⟨S16x9120x4, .f32⟩ : BufTy).Contents (Elt F)),
    StableHlo.unary main_v5 main_v6 ((extractStridedSlice S16x9120x1 ![0, 0, 0] · slices_S16x9120x4_S16x9120x1_0_0_0) : (⟨S16x9120x4, .f32⟩ : BufTy).Contents (Elt F) → (⟨S16x9120x1, .f32⟩ : BufTy).Contents (Elt F)),
    StableHlo.reshape main_v6 main_v7 (rfl : (.f32 : EltTy) = .f32) shapeCasts_S16x9120x1_S16x9120,
    StableHlo.nullary main_cst (constant S_ .f32 0x40000000#32),
    StableHlo.unary main_cst main_v8 (broadcastInDim S16x9120 ![] bcast_S_S16x9120 : (⟨S_, .f32⟩ : BufTy).Contents (Elt F) → (⟨S16x9120, .f32⟩ : BufTy).Contents (Elt F)),
    StableHlo.binary main_v8 main_v7 main_v9 (mulf : (⟨S16x9120, .f32⟩ : BufTy).Contents (Elt F) → (⟨S16x9120, .f32⟩ : BufTy).Contents (Elt F) → (⟨S16x9120, .f32⟩ : BufTy).Contents (Elt F)),
    StableHlo.nullary main_cst_0 (constant S_ .f32 0x00000000#32),
    StableHlo.binary main_v5 main_cst_0 main_v10 ((fun x v => Host.reduceAdd x v reducesTo_S16x9120x4_S16x9120_d2 h_S_) : (⟨S16x9120x4, .f32⟩ : BufTy).Contents (Elt F) → (⟨S_, .f32⟩ : BufTy).Contents (Elt F) → (⟨S16x9120, .f32⟩ : BufTy).Contents (Elt F)),
    StableHlo.binary main_v9 main_v10 main_v11 (subf : (⟨S16x9120, .f32⟩ : BufTy).Contents (Elt F) → (⟨S16x9120, .f32⟩ : BufTy).Contents (Elt F) → (⟨S16x9120, .f32⟩ : BufTy).Contents (Elt F)),
    StableHlo.unary main_v11 main_v12 (Host.sign : (⟨S16x9120, .f32⟩ : BufTy).Contents (Elt F) → (⟨S16x9120, .f32⟩ : BufTy).Contents (Elt F)),
    StableHlo.unary main_v11 main_v13 (Host.absf : (⟨S16x9120, .f32⟩ : BufTy).Contents (Elt F) → (⟨S16x9120, .f32⟩ : BufTy).Contents (Elt F)),
    StableHlo.nullary main_cst_1 (constant S_ .f32 0x3F800000#32),
    StableHlo.unary main_cst_1 main_v14 (broadcastInDim S16x9120 ![] bcast_S_S16x9120 : (⟨S_, .f32⟩ : BufTy).Contents (Elt F) → (⟨S16x9120, .f32⟩ : BufTy).Contents (Elt F)),
    StableHlo.binary main_v13 main_v14 main_v15 (addf : (⟨S16x9120, .f32⟩ : BufTy).Contents (Elt F) → (⟨S16x9120, .f32⟩ : BufTy).Contents (Elt F) → (⟨S16x9120, .f32⟩ : BufTy).Contents (Elt F)),
    StableHlo.unary main_v15 main_v16 (Host.log : (⟨S16x9120, .f32⟩ : BufTy).Contents (Elt F) → (⟨S16x9120, .f32⟩ : BufTy).Contents (Elt F)),
    StableHlo.binary main_v12 main_v16 main_v17 (mulf : (⟨S16x9120, .f32⟩ : BufTy).Contents (Elt F) → (⟨S16x9120, .f32⟩ : BufTy).Contents (Elt F) → (⟨S16x9120, .f32⟩ : BufTy).Contents (Elt F)),
    StableHlo.unary main_v17 main_v18 (broadcastInDim S16x9120x1 ![0, 1] bcast_S16x9120_S16x9120x1_0_1 : (⟨S16x9120, .f32⟩ : BufTy).Contents (Elt F) → (⟨S16x9120x1, .f32⟩ : BufTy).Contents (Elt F)) ]

abbrev s3 : List (HloOp τ sig (Elt F)) :=
  [ StableHlo.binary main_v1 main_v3 main_v19 (mulf : (⟨S16x9120x4, .f32⟩ : BufTy).Contents (Elt F) → (⟨S16x9120x4, .f32⟩ : BufTy).Contents (Elt F) → (⟨S16x9120x4, .f32⟩ : BufTy).Contents (Elt F)),
    StableHlo.unary main_v19 main_v20 ((extractStridedSlice S16x9120x1 ![0, 0, 0] · slices_S16x9120x4_S16x9120x1_0_0_0) : (⟨S16x9120x4, .f32⟩ : BufTy).Contents (Elt F) → (⟨S16x9120x1, .f32⟩ : BufTy).Contents (Elt F)),
    StableHlo.reshape main_v20 main_v21 (rfl : (.f32 : EltTy) = .f32) shapeCasts_S16x9120x1_S16x9120,
    StableHlo.nullary main_cst_2 (constant S_ .f32 0x40000000#32),
    StableHlo.unary main_cst_2 main_v22 (broadcastInDim S16x9120 ![] bcast_S_S16x9120 : (⟨S_, .f32⟩ : BufTy).Contents (Elt F) → (⟨S16x9120, .f32⟩ : BufTy).Contents (Elt F)),
    StableHlo.binary main_v22 main_v21 main_v23 (mulf : (⟨S16x9120, .f32⟩ : BufTy).Contents (Elt F) → (⟨S16x9120, .f32⟩ : BufTy).Contents (Elt F) → (⟨S16x9120, .f32⟩ : BufTy).Contents (Elt F)),
    StableHlo.nullary main_cst_3 (constant S_ .f32 0x00000000#32),
    StableHlo.binary main_v19 main_cst_3 main_v24 ((fun x v => Host.reduceAdd x v reducesTo_S16x9120x4_S16x9120_d2 h_S_) : (⟨S16x9120x4, .f32⟩ : BufTy).Contents (Elt F) → (⟨S_, .f32⟩ : BufTy).Contents (Elt F) → (⟨S16x9120, .f32⟩ : BufTy).Contents (Elt F)),
    StableHlo.binary main_v23 main_v24 main_v25 (subf : (⟨S16x9120, .f32⟩ : BufTy).Contents (Elt F) → (⟨S16x9120, .f32⟩ : BufTy).Contents (Elt F) → (⟨S16x9120, .f32⟩ : BufTy).Contents (Elt F)),
    StableHlo.unary main_v25 main_v26 (Host.sign : (⟨S16x9120, .f32⟩ : BufTy).Contents (Elt F) → (⟨S16x9120, .f32⟩ : BufTy).Contents (Elt F)),
    StableHlo.unary main_v25 main_v27 (Host.absf : (⟨S16x9120, .f32⟩ : BufTy).Contents (Elt F) → (⟨S16x9120, .f32⟩ : BufTy).Contents (Elt F)),
    StableHlo.nullary main_cst_4 (constant S_ .f32 0x3F800000#32),
    StableHlo.unary main_cst_4 main_v28 (broadcastInDim S16x9120 ![] bcast_S_S16x9120 : (⟨S_, .f32⟩ : BufTy).Contents (Elt F) → (⟨S16x9120, .f32⟩ : BufTy).Contents (Elt F)),
    StableHlo.binary main_v27 main_v28 main_v29 (addf : (⟨S16x9120, .f32⟩ : BufTy).Contents (Elt F) → (⟨S16x9120, .f32⟩ : BufTy).Contents (Elt F) → (⟨S16x9120, .f32⟩ : BufTy).Contents (Elt F)),
    StableHlo.unary main_v29 main_v30 (Host.log : (⟨S16x9120, .f32⟩ : BufTy).Contents (Elt F) → (⟨S16x9120, .f32⟩ : BufTy).Contents (Elt F)),
    StableHlo.binary main_v26 main_v30 main_v31 (mulf : (⟨S16x9120, .f32⟩ : BufTy).Contents (Elt F) → (⟨S16x9120, .f32⟩ : BufTy).Contents (Elt F) → (⟨S16x9120, .f32⟩ : BufTy).Contents (Elt F)),
    StableHlo.unary main_v31 main_v32 (broadcastInDim S16x9120x1 ![0, 1] bcast_S16x9120_S16x9120x1_0_1 : (⟨S16x9120, .f32⟩ : BufTy).Contents (Elt F) → (⟨S16x9120x1, .f32⟩ : BufTy).Contents (Elt F)) ]

abbrev s4 : List (HloOp τ sig (Elt F)) :=
  [ StableHlo.unary main_arg2 main_v33 (broadcastInDim S16x9120x1 ![0, 1] bcast_S16x9120_S16x9120x1_0_1 : (⟨S16x9120, .i32⟩ : BufTy).Contents (Elt F) → (⟨S16x9120x1, .i32⟩ : BufTy).Contents (Elt F)),
    StableHlo.nullary main_call2_c (constantI S_ 32 0#32),
    StableHlo.unary main_call2_c main_call2_v0 ((broadcastInDim S16x9120x1 ![] bcast_S_S16x9120x1) : (⟨S_, .i32⟩ : BufTy).Contents (Elt F) → (⟨S16x9120x1, .i32⟩ : BufTy).Contents (Elt F)),
    StableHlo.binary main_v33 main_call2_v0 main_call2_v1 ((cmpi .slt) : (⟨S16x9120x1, .i32⟩ : BufTy).Contents (Elt F) → (⟨S16x9120x1, .i32⟩ : BufTy).Contents (Elt F) → (⟨S16x9120x1, .i1⟩ : BufTy).Contents (Elt F)),
    StableHlo.nullary main_call2_c_0 (constantI S_ 32 96#32),
    StableHlo.unary main_call2_c_0 main_call2_v2 ((broadcastInDim S16x9120x1 ![] bcast_S_S16x9120x1) : (⟨S_, .i32⟩ : BufTy).Contents (Elt F) → (⟨S16x9120x1, .i32⟩ : BufTy).Contents (Elt F)),
    StableHlo.binary main_v33 main_call2_v2 main_call2_v3 (addi : (⟨S16x9120x1, .i32⟩ : BufTy).Contents (Elt F) → (⟨S16x9120x1, .i32⟩ : BufTy).Contents (Elt F) → (⟨S16x9120x1, .i32⟩ : BufTy).Contents (Elt F)),
    StableHlo.ternary main_call2_v1 main_call2_v3 main_v33 main_call2_v4 (select : (⟨S16x9120x1, .i1⟩ : BufTy).Contents (Elt F) → (⟨S16x9120x1, .i32⟩ : BufTy).Contents (Elt F) → (⟨S16x9120x1, .i32⟩ : BufTy).Contents (Elt F) → (⟨S16x9120x1, .i32⟩ : BufTy).Contents (Elt F)),
    StableHlo.nullary main_call2_c_1 (constantI S1 32 95#32),
    StableHlo.nullary main_call2_c_2 (constantI S_ 32 0#32),
    StableHlo.unary main_call2_c_2 main_call2_v5 ((broadcastInDim S16x9120x1 ![] bcast_S_S16x9120x1) : (⟨S_, .i32⟩ : BufTy).Contents (Elt F) → (⟨S16x9120x1, .i32⟩ : BufTy).Contents (Elt F)),
    StableHlo.binary main_call2_v4 main_call2_v5 main_call2_v6 ((cmpi .sge) : (⟨S16x9120x1, .i32⟩ : BufTy).Contents (Elt F) → (⟨S16x9120x1, .i32⟩ : BufTy).Contents (Elt F) → (⟨S16x9120x1, .i1⟩ : BufTy).Contents (Elt F)),
    StableHlo.unary main_call2_c_1 main_call2_v7 ((broadcastInDim S1x1x1 ![2] bcast_S1_S1x1x1_2) : (⟨S1, .i32⟩ : BufTy).Contents (Elt F) → (⟨S1x1x1, .i32⟩ : BufTy).Contents (Elt F)),
    StableHlo.unary main_call2_v7 main_call2_v8 ((broadcastInDim S16x9120x1 ![0, 1, 2] bcast_S1x1x1_S16x9120x1_0_1_2) : (⟨S1x1x1, .i32⟩ : BufTy).Contents (Elt F) → (⟨S16x9120x1, .i32⟩ : BufTy).Contents (Elt F)),
    StableHlo.binary main_call2_v4 main_call2_v8 main_call2_v9 ((cmpi .sle) : (⟨S16x9120x1, .i32⟩ : BufTy).Contents (Elt F) → (⟨S16x9120x1, .i32⟩ : BufTy).Contents (Elt F) → (⟨S16x9120x1, .i1⟩ : BufTy).Contents (Elt F)),
    StableHlo.binary main_call2_v6 main_call2_v9 main_call2_v10 (andi : (⟨S16x9120x1, .i1⟩ : BufTy).Contents (Elt F) → (⟨S16x9120x1, .i1⟩ : BufTy).Contents (Elt F) → (⟨S16x9120x1, .i1⟩ : BufTy).Contents (Elt F)),
    StableHlo.nullary main_call2_c_3 (constantI S_ 1 1#1),
    StableHlo.binary main_call2_v10 main_call2_c_3 main_call2_v11 ((fun x v => Host.reduce IntOp.andi x v reducesTo_S16x9120x1_S16x9120_d2 h_S_) : (⟨S16x9120x1, .i1⟩ : BufTy).Contents (Elt F) → (⟨S_, .i1⟩ : BufTy).Contents (Elt F) → (⟨S16x9120, .i1⟩ : BufTy).Contents (Elt F)),
    StableHlo.binary main_arg0 main_call2_v4 main_call2_v12 ((fun x i => Host.gather gather_S16x96x128_S16x9120x1_S16x9120x128_2_1_0_0_1_2_11128 x i) : (⟨S16x96x128, .f32⟩ : BufTy).Contents (Elt F) → (⟨S16x9120x1, .i32⟩ : BufTy).Contents (Elt F) → (⟨S16x9120x128, .f32⟩ : BufTy).Contents (Elt F)),
    StableHlo.unary main_call2_v11 main_call2_v13 ((broadcastInDim S16x9120x128 ![0, 1] bcast_S16x9120_S16x9120x128_0_1) : (⟨S16x9120, .i1⟩ : BufTy).Contents (Elt F) → (⟨S16x9120x128, .i1⟩ : BufTy).Contents (Elt F)),
    StableHlo.nullary main_call2_cst (constant S_ .f32 0x7FC00000#32),
    StableHlo.unary main_call2_cst main_call2_v14 ((broadcastInDim S16x9120x128 ![] bcast_S_S16x9120x128) : (⟨S_, .f32⟩ : BufTy).Contents (Elt F) → (⟨S16x9120x128, .f32⟩ : BufTy).Contents (Elt F)),
    StableHlo.ternary main_call2_v13 main_call2_v12 main_call2_v14 main_v34 (select : (⟨S16x9120x128, .i1⟩ : BufTy).Contents (Elt F) → (⟨S16x9120x128, .f32⟩ : BufTy).Contents (Elt F) → (⟨S16x9120x128, .f32⟩ : BufTy).Contents (Elt F) → (⟨S16x9120x128, .f32⟩ : BufTy).Contents (Elt F)) ]

abbrev s5 : List (HloOp τ sig (Elt F)) :=
  [ StableHlo.unary main_arg3 main_v35 (broadcastInDim S16x9120x1 ![0, 1] bcast_S16x9120_S16x9120x1_0_1 : (⟨S16x9120, .i32⟩ : BufTy).Contents (Elt F) → (⟨S16x9120x1, .i32⟩ : BufTy).Contents (Elt F)),
    StableHlo.nullary main_call3_c (constantI S_ 32 0#32),
    StableHlo.unary main_call3_c main_call3_v0 ((broadcastInDim S16x9120x1 ![] bcast_S_S16x9120x1) : (⟨S_, .i32⟩ : BufTy).Contents (Elt F) → (⟨S16x9120x1, .i32⟩ : BufTy).Contents (Elt F)),
    StableHlo.binary main_v35 main_call3_v0 main_call3_v1 ((cmpi .slt) : (⟨S16x9120x1, .i32⟩ : BufTy).Contents (Elt F) → (⟨S16x9120x1, .i32⟩ : BufTy).Contents (Elt F) → (⟨S16x9120x1, .i1⟩ : BufTy).Contents (Elt F)),
    StableHlo.nullary main_call3_c_0 (constantI S_ 32 96#32),
    StableHlo.unary main_call3_c_0 main_call3_v2 ((broadcastInDim S16x9120x1 ![] bcast_S_S16x9120x1) : (⟨S_, .i32⟩ : BufTy).Contents (Elt F) → (⟨S16x9120x1, .i32⟩ : BufTy).Contents (Elt F)),
    StableHlo.binary main_v35 main_call3_v2 main_call3_v3 (addi : (⟨S16x9120x1, .i32⟩ : BufTy).Contents (Elt F) → (⟨S16x9120x1, .i32⟩ : BufTy).Contents (Elt F) → (⟨S16x9120x1, .i32⟩ : BufTy).Contents (Elt F)),
    StableHlo.ternary main_call3_v1 main_call3_v3 main_v35 main_call3_v4 (select : (⟨S16x9120x1, .i1⟩ : BufTy).Contents (Elt F) → (⟨S16x9120x1, .i32⟩ : BufTy).Contents (Elt F) → (⟨S16x9120x1, .i32⟩ : BufTy).Contents (Elt F) → (⟨S16x9120x1, .i32⟩ : BufTy).Contents (Elt F)),
    StableHlo.nullary main_call3_c_1 (constantI S1 32 95#32),
    StableHlo.nullary main_call3_c_2 (constantI S_ 32 0#32),
    StableHlo.unary main_call3_c_2 main_call3_v5 ((broadcastInDim S16x9120x1 ![] bcast_S_S16x9120x1) : (⟨S_, .i32⟩ : BufTy).Contents (Elt F) → (⟨S16x9120x1, .i32⟩ : BufTy).Contents (Elt F)),
    StableHlo.binary main_call3_v4 main_call3_v5 main_call3_v6 ((cmpi .sge) : (⟨S16x9120x1, .i32⟩ : BufTy).Contents (Elt F) → (⟨S16x9120x1, .i32⟩ : BufTy).Contents (Elt F) → (⟨S16x9120x1, .i1⟩ : BufTy).Contents (Elt F)),
    StableHlo.unary main_call3_c_1 main_call3_v7 ((broadcastInDim S1x1x1 ![2] bcast_S1_S1x1x1_2) : (⟨S1, .i32⟩ : BufTy).Contents (Elt F) → (⟨S1x1x1, .i32⟩ : BufTy).Contents (Elt F)),
    StableHlo.unary main_call3_v7 main_call3_v8 ((broadcastInDim S16x9120x1 ![0, 1, 2] bcast_S1x1x1_S16x9120x1_0_1_2) : (⟨S1x1x1, .i32⟩ : BufTy).Contents (Elt F) → (⟨S16x9120x1, .i32⟩ : BufTy).Contents (Elt F)),
    StableHlo.binary main_call3_v4 main_call3_v8 main_call3_v9 ((cmpi .sle) : (⟨S16x9120x1, .i32⟩ : BufTy).Contents (Elt F) → (⟨S16x9120x1, .i32⟩ : BufTy).Contents (Elt F) → (⟨S16x9120x1, .i1⟩ : BufTy).Contents (Elt F)),
    StableHlo.binary main_call3_v6 main_call3_v9 main_call3_v10 (andi : (⟨S16x9120x1, .i1⟩ : BufTy).Contents (Elt F) → (⟨S16x9120x1, .i1⟩ : BufTy).Contents (Elt F) → (⟨S16x9120x1, .i1⟩ : BufTy).Contents (Elt F)),
    StableHlo.nullary main_call3_c_3 (constantI S_ 1 1#1),
    StableHlo.binary main_call3_v10 main_call3_c_3 main_call3_v11 ((fun x v => Host.reduce IntOp.andi x v reducesTo_S16x9120x1_S16x9120_d2 h_S_) : (⟨S16x9120x1, .i1⟩ : BufTy).Contents (Elt F) → (⟨S_, .i1⟩ : BufTy).Contents (Elt F) → (⟨S16x9120, .i1⟩ : BufTy).Contents (Elt F)),
    StableHlo.binary main_arg0 main_call3_v4 main_call3_v12 ((fun x i => Host.gather gather_S16x96x128_S16x9120x1_S16x9120x128_2_1_0_0_1_2_11128 x i) : (⟨S16x96x128, .f32⟩ : BufTy).Contents (Elt F) → (⟨S16x9120x1, .i32⟩ : BufTy).Contents (Elt F) → (⟨S16x9120x128, .f32⟩ : BufTy).Contents (Elt F)),
    StableHlo.unary main_call3_v11 main_call3_v13 ((broadcastInDim S16x9120x128 ![0, 1] bcast_S16x9120_S16x9120x128_0_1) : (⟨S16x9120, .i1⟩ : BufTy).Contents (Elt F) → (⟨S16x9120x128, .i1⟩ : BufTy).Contents (Elt F)),
    StableHlo.nullary main_call3_cst (constant S_ .f32 0x7FC00000#32),
    StableHlo.unary main_call3_cst main_call3_v14 ((broadcastInDim S16x9120x128 ![] bcast_S_S16x9120x128) : (⟨S_, .f32⟩ : BufTy).Contents (Elt F) → (⟨S16x9120x128, .f32⟩ : BufTy).Contents (Elt F)),
    StableHlo.ternary main_call3_v13 main_call3_v12 main_call3_v14 main_v36 (select : (⟨S16x9120x128, .i1⟩ : BufTy).Contents (Elt F) → (⟨S16x9120x128, .f32⟩ : BufTy).Contents (Elt F) → (⟨S16x9120x128, .f32⟩ : BufTy).Contents (Elt F) → (⟨S16x9120x128, .f32⟩ : BufTy).Contents (Elt F)) ]

abbrev s6 : List (HloOp τ sig (Elt F)) :=
  [ StableHlo.nary ![main_v34, main_v36, main_v18, main_v32] main_v37 (fun u => (concatenate S16x9120x258 2 [⟨S16x9120x128, (u 0 : (⟨S16x9120x128, .f32⟩ : BufTy).Contents (Elt F))⟩, ⟨S16x9120x128, (u 1 : (⟨S16x9120x128, .f32⟩ : BufTy).Contents (Elt F))⟩, ⟨S16x9120x1, (u 2 : (⟨S16x9120x1, .f32⟩ : BufTy).Contents (Elt F))⟩, ⟨S16x9120x1, (u 3 : (⟨S16x9120x1, .f32⟩ : BufTy).Contents (Elt F))⟩] concatenates_S16x9120x128_S16x9120x128_S16x9120x1_S16x9120x1_S16x9120x258_d2 : (⟨S16x9120x258, .f32⟩ : BufTy).Contents (Elt F))),
    StableHlo.reshape main_v37 main_v38 (rfl : (.f32 : EltTy) = .f32) shapeCasts_S16x9120x258_S145920x258,
    StableHlo.unary main_arg5 main_v39 ((transpose S258x128 [1, 0] · transposes_S128x258_S258x128_1_0) : (⟨S128x258, .f32⟩ : BufTy).Contents (Elt F) → (⟨S258x128, .f32⟩ : BufTy).Contents (Elt F)),
    StableHlo.binary main_v38 main_v39 main_v40 ((fun l r => Host.dotGeneral dot_S145920x258_S258x128_S145920x128_1_0_0_1_n_n none l r) : (⟨S145920x258, .f32⟩ : BufTy).Contents (Elt F) → (⟨S258x128, .f32⟩ : BufTy).Contents (Elt F) → (⟨S145920x128, .f32⟩ : BufTy).Contents (Elt F)) ]

abbrev s7 : List (HloOp τ sig (Elt F)) :=
  [ StableHlo.nullary main_cst_5 (constant S_ .f32 0x00000000#32),
    StableHlo.binary main_v40 main_cst_5 main_v41 ((fun x v => Host.reduceAdd x v reducesTo_S145920x128_S128_d0 h_S_) : (⟨S145920x128, .f32⟩ : BufTy).Contents (Elt F) → (⟨S_, .f32⟩ : BufTy).Contents (Elt F) → (⟨S128, .f32⟩ : BufTy).Contents (Elt F)),
    StableHlo.nullary main_cst_6 (constant S_ .f32 0x480E8000#32),
    StableHlo.unary main_cst_6 main_v42 (broadcastInDim S128 ![] bcast_S_S128 : (⟨S_, .f32⟩ : BufTy).Contents (Elt F) → (⟨S128, .f32⟩ : BufTy).Contents (Elt F)),
    StableHlo.binary main_v41 main_v42 main_v43 (Host.divf : (⟨S128, .f32⟩ : BufTy).Contents (Elt F) → (⟨S128, .f32⟩ : BufTy).Contents (Elt F) → (⟨S128, .f32⟩ : BufTy).Contents (Elt F)) ]

abbrev s8 : List (HloOp τ sig (Elt F)) :=
  [ StableHlo.nullary main_c (constantI S_ 32 0#32),
    StableHlo.nullary main_call4_cst (constant S_ .f32 0x00000000#32),
    StableHlo.binary main_v40 main_call4_cst main_call4_v0 ((fun x v => Host.reduceAdd x v reducesTo_S145920x128_S128_d0 h_S_) : (⟨S145920x128, .f32⟩ : BufTy).Contents (Elt F) → (⟨S_, .f32⟩ : BufTy).Contents (Elt F) → (⟨S128, .f32⟩ : BufTy).Contents (Elt F)),
    StableHlo.unary main_call4_v0 main_call4_v1 ((broadcastInDim S1x128 ![1] bcast_S128_S1x128_1) : (⟨S128, .f32⟩ : BufTy).Contents (Elt F) → (⟨S1x128, .f32⟩ : BufTy).Contents (Elt F)),
    StableHlo.nullary main_call4_cst_0 (constant S_ .f32 0x480E8000#32),
    StableHlo.unary main_call4_cst_0 main_call4_v2 ((broadcastInDim S1x128 ![] bcast_S_S1x128) : (⟨S_, .f32⟩ : BufTy).Contents (Elt F) → (⟨S1x128, .f32⟩ : BufTy).Contents (Elt F)),
    StableHlo.binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    StableHlo.unary main_call4_v3 main_call4_v4 ((broadcastInDim S145920x128 ![0, 1] bcast_S1x128_S145920x128_0_1) : (⟨S1x128, .f32⟩ : BufTy).Contents (Elt F) → (⟨S145920x128, .f32⟩ : BufTy).Contents (Elt F)),
    StableHlo.binary main_v40 main_call4_v4 main_call4_v5 (subf : (⟨S145920x128, .f32⟩ : BufTy).Contents (Elt F) → (⟨S145920x128, .f32⟩ : BufTy).Contents (Elt F) → (⟨S145920x128, .f32⟩ : BufTy).Contents (Elt F)),
    StableHlo.binary main_call4_v5 main_call4_v5 main_call4_v6 (mulf : (⟨S145920x128, .f32⟩ : BufTy).Contents (Elt F) → (⟨S145920x128, .f32⟩ : BufTy).Contents (Elt F) → (⟨S145920x128, .f32⟩ : BufTy).Contents (Elt F)),
    StableHlo.unary main_c main_call4_v7 ((sitofp .f32) : (⟨S_, .i32⟩ : BufTy).Contents (Elt F) → (⟨S_, .f32⟩ : BufTy).Contents (Elt F)),
    StableHlo.nullary main_call4_cst_1 (constant S_ .f32 0x480E8000#32),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 (constant S_ .f32 0x00000000#32),
    StableHlo.binary main_call4_v6 main_call4_cst_2 main_call4_v9 ((fun x v => Host.reduceAdd x v reducesTo_S145920x128_S128_d0 h_S_) : (⟨S145920x128, .f32⟩ : BufTy).Contents (Elt F) → (⟨S_, .f32⟩ : BufTy).Contents (Elt F) → (⟨S128, .f32⟩ : BufTy).Contents (Elt F)),
    StableHlo.unary main_call4_v8 main_call4_v10 ((broadcastInDim S128 ![] bcast_S_S128) : (⟨S_, .f32⟩ : BufTy).Contents (Elt F) → (⟨S128, .f32⟩ : BufTy).Contents (Elt F)),
    StableHlo.binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    StableHlo.nullary main_call4_cst_3 (constant S_ .f32 0x00000000#32),
    StableHlo.binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    StableHlo.nullary main_call4_cst_4 (constant S_ .f32 0x7FC00000#32),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 ((broadcastInDim S128 ![] bcast_S_S128) : (⟨S_, .f32⟩ : BufTy).Contents (Elt F) → (⟨S128, .f32⟩ : BufTy).Contents (Elt F)),
    StableHlo.ternary main_call4_v12 main_call4_v11 main_call4_call0_v1 main_v44 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

abbrev s9 : List (HloOp τ sig (Elt F)) :=
  [ StableHlo.unary main_v43 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S145920x128 ![0, 1] bcast_S1x128_S145920x128_0_1 : (⟨S1x128, .f32⟩ : BufTy).Contents (Elt F) → (⟨S145920x128, .f32⟩ : BufTy).Contents (Elt F)),
    StableHlo.binary main_v40 main_v46 main_v47 (subf : (⟨S145920x128, .f32⟩ : BufTy).Contents (Elt F) → (⟨S145920x128, .f32⟩ : BufTy).Contents (Elt F) → (⟨S145920x128, .f32⟩ : BufTy).Contents (Elt F)),
    StableHlo.unary main_arg6 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S145920x128 ![0, 1] bcast_S1x128_S145920x128_0_1 : (⟨S1x128, .f32⟩ : BufTy).Contents (Elt F) → (⟨S145920x128, .f32⟩ : BufTy).Contents (Elt F)),
    StableHlo.binary main_v49 main_v47 main_v50 (mulf : (⟨S145920x128, .f32⟩ : BufTy).Contents (Elt F) → (⟨S145920x128, .f32⟩ : BufTy).Contents (Elt F) → (⟨S145920x128, .f32⟩ : BufTy).Contents (Elt F)),
    StableHlo.nullary main_cst_7 (constant S_ .f32 0x3727C5AC#32),
    StableHlo.unary main_cst_7 main_v51 (broadcastInDim S128 ![] bcast_S_S128 : (⟨S_, .f32⟩ : BufTy).Contents (Elt F) → (⟨S128, .f32⟩ : BufTy).Contents (Elt F)),
    StableHlo.binary main_v44 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.sqrt : (⟨S128, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S145920x128 ![0, 1] bcast_S1x128_S145920x128_0_1 : (⟨S1x128, .f32⟩ : BufTy).Contents (Elt F) → (⟨S145920x128, .f32⟩ : BufTy).Contents (Elt F)),
    StableHlo.binary main_v50 main_v55 main_v56 (Host.divf : (⟨S145920x128, .f32⟩ : BufTy).Contents (Elt F) → (⟨S145920x128, .f32⟩ : BufTy).Contents (Elt F) → (⟨S145920x128, .f32⟩ : BufTy).Contents (Elt F)),
    StableHlo.unary main_arg7 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S145920x128 ![0, 1] bcast_S1x128_S145920x128_0_1 : (⟨S1x128, .f32⟩ : BufTy).Contents (Elt F) → (⟨S145920x128, .f32⟩ : BufTy).Contents (Elt F)),
    StableHlo.binary main_v56 main_v58 main_v59 (addf : (⟨S145920x128, .f32⟩ : BufTy).Contents (Elt F) → (⟨S145920x128, .f32⟩ : BufTy).Contents (Elt F) → (⟨S145920x128, .f32⟩ : BufTy).Contents (Elt F)),
    StableHlo.nullary main_cst_8 (constant S_ .f32 0x00000000#32),
    StableHlo.unary main_cst_8 main_v60 (broadcastInDim S145920x128 ![] bcast_S_S145920x128 : (⟨S_, .f32⟩ : BufTy).Contents (Elt F) → (⟨S145920x128, .f32⟩ : BufTy).Contents (Elt F)),
    StableHlo.binary main_v59 main_v60 main_v61 (maximumf : (⟨S145920x128, .f32⟩ : BufTy).Contents (Elt F) → (⟨S145920x128, .f32⟩ : BufTy).Contents (Elt F) → (⟨S145920x128, .f32⟩ : BufTy).Contents (Elt F)) ]

abbrev s10 : List (HloOp τ sig (Elt F)) :=
  [ StableHlo.unary main_arg8 main_v62 ((transpose S128x128 [1, 0] · transposes_S128x128_S128x128_1_0) : (⟨S128x128, .f32⟩ : BufTy).Contents (Elt F) → (⟨S128x128, .f32⟩ : BufTy).Contents (Elt F)),
    StableHlo.binary main_v61 main_v62 main_v63 ((fun l r => Host.dotGeneral dot_S145920x128_S128x128_S145920x128_1_0_0_1_n_n none l r) : (⟨S145920x128, .f32⟩ : BufTy).Contents (Elt F) → (⟨S128x128, .f32⟩ : BufTy).Contents (Elt F) → (⟨S145920x128, .f32⟩ : BufTy).Contents (Elt F)),
    StableHlo.unary main_arg9 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S145920x128 ![0, 1] bcast_S1x128_S145920x128_0_1 : (⟨S1x128, .f32⟩ : BufTy).Contents (Elt F) → (⟨S145920x128, .f32⟩ : BufTy).Contents (Elt F)),
    StableHlo.binary main_v63 main_v65 main_v66 (addf : (⟨S145920x128, .f32⟩ : BufTy).Contents (Elt F) → (⟨S145920x128, .f32⟩ : BufTy).Contents (Elt F) → (⟨S145920x128, .f32⟩ : BufTy).Contents (Elt F)),
    StableHlo.nullary main_cst_9 (constant S_ .f32 0x00000000#32),
    StableHlo.unary main_cst_9 main_v67 (broadcastInDim S145920x128 ![] bcast_S_S145920x128 : (⟨S_, .f32⟩ : BufTy).Contents (Elt F) → (⟨S145920x128, .f32⟩ : BufTy).Contents (Elt F)),
    StableHlo.binary main_v66 main_v67 main_v68 (maximumf : (⟨S145920x128, .f32⟩ : BufTy).Contents (Elt F) → (⟨S145920x128, .f32⟩ : BufTy).Contents (Elt F) → (⟨S145920x128, .f32⟩ : BufTy).Contents (Elt F)),
    StableHlo.reshape main_v68 main_v69 (rfl : (.f32 : EltTy) = .f32) shapeCasts_S145920x128_S16x9120x128 ]

abbrev s11 : List (HloOp τ sig (Elt F)) :=
  [ StableHlo.unary main_arg19 main_v70 ((transpose S128x1 [1, 0] · transposes_S1x128_S128x1_1_0) : (⟨S1x128, .f32⟩ : BufTy).Contents (Elt F) → (⟨S128x1, .f32⟩ : BufTy).Contents (Elt F)),
    StableHlo.binary main_v69 main_v70 main_v71 ((fun l r => Host.dotGeneral dot_S16x9120x128_S128x1_S16x9120x1_2_0_01_1_n_n none l r) : (⟨S16x9120x128, .f32⟩ : BufTy).Contents (Elt F) → (⟨S128x1, .f32⟩ : BufTy).Contents (Elt F) → (⟨S16x9120x1, .f32⟩ : BufTy).Contents (Elt F)),
    StableHlo.unary main_arg20 main_v72 (broadcastInDim S1x1x1 ![2] bcast_S1_S1x1x1_2 : (⟨S1, .f32⟩ : BufTy).Contents (Elt F) → (⟨S1x1x1, .f32⟩ : BufTy).Contents (Elt F)),
    StableHlo.unary main_v72 main_v73 (broadcastInDim S16x9120x1 ![0, 1, 2] bcast_S1x1x1_S16x9120x1_0_1_2 : (⟨S1x1x1, .f32⟩ : BufTy).Contents (Elt F) → (⟨S16x9120x1, .f32⟩ : BufTy).Contents (Elt F)),
    StableHlo.binary main_v71 main_v73 main_v74 (addf : (⟨S16x9120x1, .f32⟩ : BufTy).Contents (Elt F) → (⟨S16x9120x1, .f32⟩ : BufTy).Contents (Elt F) → (⟨S16x9120x1, .f32⟩ : BufTy).Contents (Elt F)),
    StableHlo.unary main_v74 main_v75 (Host.negf : (⟨S16x9120x1, .f32⟩ : BufTy).Contents (Elt F) → (⟨S16x9120x1, .f32⟩ : BufTy).Contents (Elt F)),
    StableHlo.unary main_v75 main_v76 (Host.exp : (⟨S16x9120x1, .f32⟩ : BufTy).Contents (Elt F) → (⟨S16x9120x1, .f32⟩ : BufTy).Contents (Elt F)),
    StableHlo.nullary main_cst_10 (constant S_ .f32 0x3F800000#32),
    StableHlo.unary main_cst_10 main_v77 (broadcastInDim S16x9120x1 ![] bcast_S_S16x9120x1 : (⟨S_, .f32⟩ : BufTy).Contents (Elt F) → (⟨S16x9120x1, .f32⟩ : BufTy).Contents (Elt F)),
    StableHlo.binary main_v77 main_v76 main_v78 (addf : (⟨S16x9120x1, .f32⟩ : BufTy).Contents (Elt F) → (⟨S16x9120x1, .f32⟩ : BufTy).Contents (Elt F) → (⟨S16x9120x1, .f32⟩ : BufTy).Contents (Elt F)),
    StableHlo.nullary main_cst_11 (constant S_ .f32 0x3F800000#32),
    StableHlo.unary main_cst_11 main_v79 (broadcastInDim S16x9120x1 ![] bcast_S_S16x9120x1 : (⟨S_, .f32⟩ : BufTy).Contents (Elt F) → (⟨S16x9120x1, .f32⟩ : BufTy).Contents (Elt F)),
    StableHlo.binary main_v79 main_v78 main_v80 (Host.divf : (⟨S16x9120x1, .f32⟩ : BufTy).Contents (Elt F) → (⟨S16x9120x1, .f32⟩ : BufTy).Contents (Elt F) → (⟨S16x9120x1, .f32⟩ : BufTy).Contents (Elt F)),
    StableHlo.unary main_v80 main_v81 (broadcastInDim S16x9120x128 ![0, 1, 2] bcast_S16x9120x1_S16x9120x128_0_1_2 : (⟨S16x9120x1, .f32⟩ : BufTy).Contents (Elt F) → (⟨S16x9120x128, .f32⟩ : BufTy).Contents (Elt F)),
    StableHlo.binary main_v69 main_v81 main_v82 (mulf : (⟨S16x9120x128, .f32⟩ : BufTy).Contents (Elt F) → (⟨S16x9120x128, .f32⟩ : BufTy).Contents (Elt F) → (⟨S16x9120x128, .f32⟩ : BufTy).Contents (Elt F)) ]

abbrev s12 : List (HloOp τ sig (Elt F)) :=
  [ StableHlo.nullary main_v83 (iotaInDim S16 32 0),
    StableHlo.unary main_v83 main_v84 (broadcastInDim S16x1 ![0] bcast_S16_S16x1_0 : (⟨S16, .i32⟩ : BufTy).Contents (Elt F) → (⟨S16x1, .i32⟩ : BufTy).Contents (Elt F)),
    StableHlo.nullary main_c_12 (constantI S_ 32 96#32),
    StableHlo.unary main_c_12 main_v85 (broadcastInDim S16x1 ![] bcast_S_S16x1 : (⟨S_, .i32⟩ : BufTy).Contents (Elt F) → (⟨S16x1, .i32⟩ : BufTy).Contents (Elt F)),
    StableHlo.binary main_v85 main_v84 main_v86 (muli : (⟨S16x1, .i32⟩ : BufTy).Contents (Elt F) → (⟨S16x1, .i32⟩ : BufTy).Contents (Elt F) → (⟨S16x1, .i32⟩ : BufTy).Contents (Elt F)),
    StableHlo.unary main_v86 main_v87 (broadcastInDim S16x9120 ![0, 1] bcast_S16x1_S16x9120_0_1 : (⟨S16x1, .i32⟩ : BufTy).Contents (Elt F) → (⟨S16x9120, .i32⟩ : BufTy).Contents (Elt F)),
    StableHlo.binary main_arg2 main_v87 main_v88 (addi : (⟨S16x9120, .i32⟩ : BufTy).Contents (Elt F) → (⟨S16x9120, .i32⟩ : BufTy).Contents (Elt F) → (⟨S16x9120, .i32⟩ : BufTy).Contents (Elt F)),
    StableHlo.reshape main_v88 main_v89 (rfl : (.i32 : EltTy) = .i32) shapeCasts_S16x9120_S145920 ]

abbrev s13 : List (HloOp τ sig (Elt F)) :=
  [ StableHlo.unary main_arg16 main_v90 ((transpose S128x128 [1, 0] · transposes_S128x128_S128x128_1_0) : (⟨S128x128, .f32⟩ : BufTy).Contents (Elt F) → (⟨S128x128, .f32⟩ : BufTy).Contents (Elt F)),
    StableHlo.binary main_v82 main_v90 main_v91 ((fun l r => Host.dotGeneral dot_S16x9120x128_S128x128_S16x9120x128_2_0_01_1_n_n none l r) : (⟨S16x9120x128, .f32⟩ : BufTy).Contents (Elt F) → (⟨S128x128, .f32⟩ : BufTy).Contents (Elt F) → (⟨S16x9120x128, .f32⟩ : BufTy).Contents (Elt F)),
    StableHlo.unary main_arg17 main_v92 (broadcastInDim S1x1x128 ![2] bcast_S128_S1x1x128_2 : (⟨S128, .f32⟩ : BufTy).Contents (Elt F) → (⟨S1x1x128, .f32⟩ : BufTy).Contents (Elt F)),
    StableHlo.unary main_v92 main_v93 (broadcastInDim S16x9120x128 ![0, 1, 2] bcast_S1x1x128_S16x9120x128_0_1_2 : (⟨S1x1x128, .f32⟩ : BufTy).Contents (Elt F) → (⟨S16x9120x128, .f32⟩ : BufTy).Contents (Elt F)),
    StableHlo.binary main_v91 main_v93 main_v94 (addf : (⟨S16x9120x128, .f32⟩ : BufTy).Contents (Elt F) → (⟨S16x9120x128, .f32⟩ : BufTy).Contents (Elt F) → (⟨S16x9120x128, .f32⟩ : BufTy).Contents (Elt F)),
    StableHlo.nullary main_cst_13 (constant S_ .f32 0x00000000#32),
    StableHlo.unary main_cst_13 main_v95 (broadcastInDim S16x9120x128 ![] bcast_S_S16x9120x128 : (⟨S_, .f32⟩ : BufTy).Contents (Elt F) → (⟨S16x9120x128, .f32⟩ : BufTy).Contents (Elt F)),
    StableHlo.binary main_v94 main_v95 main_v96 (maximumf : (⟨S16x9120x128, .f32⟩ : BufTy).Contents (Elt F) → (⟨S16x9120x128, .f32⟩ : BufTy).Contents (Elt F) → (⟨S16x9120x128, .f32⟩ : BufTy).Contents (Elt F)),
    StableHlo.unary main_arg18 main_v97 ((transpose S128x1 [1, 0] · transposes_S1x128_S128x1_1_0) : (⟨S1x128, .f32⟩ : BufTy).Contents (Elt F) → (⟨S128x1, .f32⟩ : BufTy).Contents (Elt F)),
    StableHlo.binary main_v96 main_v97 main_v98 ((fun l r => Host.dotGeneral dot_S16x9120x128_S128x1_S16x9120x1_2_0_01_1_n_n none l r) : (⟨S16x9120x128, .f32⟩ : BufTy).Contents (Elt F) → (⟨S128x1, .f32⟩ : BufTy).Contents (Elt F) → (⟨S16x9120x1, .f32⟩ : BufTy).Contents (Elt F)),
    StableHlo.unary main_v98 main_v99 (broadcastInDim S16x9120x4 ![0, 1, 2] bcast_S16x9120x1_S16x9120x4_0_1_2 : (⟨S16x9120x1, .f32⟩ : BufTy).Contents (Elt F) → (⟨S16x9120x4, .f32⟩ : BufTy).Contents (Elt F)),
    StableHlo.binary main_v4 main_v99 main_v100 (mulf : (⟨S16x9120x4, .f32⟩ : BufTy).Contents (Elt F) → (⟨S16x9120x4, .f32⟩ : BufTy).Contents (Elt F) → (⟨S16x9120x4, .f32⟩ : BufTy).Contents (Elt F)) ]

abbrev s14 : List (HloOp τ sig (Elt F)) :=
  [ StableHlo.nullary main_cst_14 (constant S_ .f32 0xC2C80000#32),
    StableHlo.nullary main_cst_15 (constant S_ .f32 0x42C80000#32),
    StableHlo.unary main_cst_14 main_call5_v0 (id : (⟨S_, .f32⟩ : BufTy).Contents (Elt F) → (⟨S_, .f32⟩ : BufTy).Contents (Elt F)),
    StableHlo.unary main_call5_v0 main_call5_v1 ((broadcastInDim S16x9120x4 ![] bcast_S_S16x9120x4) : (⟨S_, .f32⟩ : BufTy).Contents (Elt F) → (⟨S16x9120x4, .f32⟩ : BufTy).Contents (Elt F)),
    StableHlo.binary main_call5_v1 main_v100 main_call5_v2 (maximumf : (⟨S16x9120x4, .f32⟩ : BufTy).Contents (Elt F) → (⟨S16x9120x4, .f32⟩ : BufTy).Contents (Elt F) → (⟨S16x9120x4, .f32⟩ : BufTy).Contents (Elt F)),
    StableHlo.unary main_cst_15 main_call5_v3 (id : (⟨S_, .f32⟩ : BufTy).Contents (Elt F) → (⟨S_, .f32⟩ : BufTy).Contents (Elt F)),
    StableHlo.unary main_call5_v3 main_call5_v4 ((broadcastInDim S16x9120x4 ![] bcast_S_S16x9120x4) : (⟨S_, .f32⟩ : BufTy).Contents (Elt F) → (⟨S16x9120x4, .f32⟩ : BufTy).Contents (Elt F)),
    StableHlo.binary main_call5_v4 main_call5_v2 main_v101 (minimumf : (⟨S16x9120x4, .f32⟩ : BufTy).Contents (Elt F) → (⟨S16x9120x4, .f32⟩ : BufTy).Contents (Elt F) → (⟨S16x9120x4, .f32⟩ : BufTy).Contents (Elt F)) ]

abbrev s15 : List (HloOp τ sig (Elt F)) :=
  [ StableHlo.nullary main_cst_16 (constant S_ .f32 0x3F800000#32),
    StableHlo.unary main_cst_16 main_v102 (broadcastInDim S16x9120x4 ![] bcast_S_S16x9120x4 : (⟨S_, .f32⟩ : BufTy).Contents (Elt F) → (⟨S16x9120x4, .f32⟩ : BufTy).Contents (Elt F)),
    StableHlo.reshape main_v102 main_v103 (rfl : (.f32 : EltTy) = .f32) shapeCasts_S16x9120x4_S145920x4,
    StableHlo.nullary main_cst_17 (constant S_ .f32 0x00000000#32),
    StableHlo.unary main_cst_17 main_v104 (broadcastInDim S1536x4 ![] bcast_S_S1536x4 : (⟨S_, .f32⟩ : BufTy).Contents (Elt F) → (⟨S1536x4, .f32⟩ : BufTy).Contents (Elt F)),
    StableHlo.unary main_v89 main_v105 (broadcastInDim S145920x1 ![0] bcast_S145920_S145920x1_0 : (⟨S145920, .i32⟩ : BufTy).Contents (Elt F) → (⟨S145920x1, .i32⟩ : BufTy).Contents (Elt F)),
    StableHlo.ternary main_v104 main_v105 main_v103 main_v106 ((fun x i u => Host.scatterAdd scatter_S1536x4_S145920x1_S145920x4_1_0_0_1 x i u) : (⟨S1536x4, .f32⟩ : BufTy).Contents (Elt F) → (⟨S145920x1, .i32⟩ : BufTy).Contents (Elt F) → (⟨S145920x4, .f32⟩ : BufTy).Contents (Elt F) → (⟨S1536x4, .f32⟩ : BufTy).Contents (Elt F)),
    StableHlo.reshape main_v106 main_v107 (rfl : (.f32 : EltTy) = .f32) shapeCasts_S1536x4_S16x96x4 ]

abbrev s16 : List (HloOp τ sig (Elt F)) :=
  [ StableHlo.reshape main_v101 main_v108 (rfl : (.f32 : EltTy) = .f32) shapeCasts_S16x9120x4_S145920x4,
    StableHlo.nullary main_cst_18 (constant S_ .f32 0x00000000#32),
    StableHlo.unary main_cst_18 main_v109 (broadcastInDim S1536x4 ![] bcast_S_S1536x4 : (⟨S_, .f32⟩ : BufTy).Contents (Elt F) → (⟨S1536x4, .f32⟩ : BufTy).Contents (Elt F)),
    StableHlo.unary main_v89 main_v110 (broadcastInDim S145920x1 ![0] bcast_S145920_S145920x1_0 : (⟨S145920, .i32⟩ : BufTy).Contents (Elt F) → (⟨S145920x1, .i32⟩ : BufTy).Contents (Elt F)),
    StableHlo.ternary main_v109 main_v110 main_v108 main_v111 ((fun x i u => Host.scatterAdd scatter_S1536x4_S145920x1_S145920x4_1_0_0_1 x i u) : (⟨S1536x4, .f32⟩ : BufTy).Contents (Elt F) → (⟨S145920x1, .i32⟩ : BufTy).Contents (Elt F) → (⟨S145920x4, .f32⟩ : BufTy).Contents (Elt F) → (⟨S1536x4, .f32⟩ : BufTy).Contents (Elt F)),
    StableHlo.reshape main_v111 main_v112 (rfl : (.f32 : EltTy) = .f32) shapeCasts_S1536x4_S16x96x4 ]

abbrev s17 : List (HloOp τ sig (Elt F)) :=
  [ StableHlo.nullary main_cst_19 (constant S_ .f32 0x3F800000#32),
    StableHlo.unary main_cst_19 main_v113 (broadcastInDim S16x96x4 ![] bcast_S_S16x96x4 : (⟨S_, .f32⟩ : BufTy).Contents (Elt F) → (⟨S16x96x4, .f32⟩ : BufTy).Contents (Elt F)),
    StableHlo.binary main_v107 main_v113 main_v114 (maximumf : (⟨S16x96x4, .f32⟩ : BufTy).Contents (Elt F) → (⟨S16x96x4, .f32⟩ : BufTy).Contents (Elt F) → (⟨S16x96x4, .f32⟩ : BufTy).Contents (Elt F)),
    StableHlo.binary main_v112 main_v114 main_v115 (Host.divf : (⟨S16x96x4, .f32⟩ : BufTy).Contents (Elt F) → (⟨S16x96x4, .f32⟩ : BufTy).Contents (Elt F) → (⟨S16x96x4, .f32⟩ : BufTy).Contents (Elt F)),
    StableHlo.nullary main_cst_20 (constant S_ .f32 0x3F800000#32),
    StableHlo.unary main_cst_20 main_v116 (broadcastInDim S16x96x4 ![] bcast_S_S16x96x4 : (⟨S_, .f32⟩ : BufTy).Contents (Elt F) → (⟨S16x96x4, .f32⟩ : BufTy).Contents (Elt F)),
    StableHlo.binary main_v115 main_v116 main_v117 (mulf : (⟨S16x96x4, .f32⟩ : BufTy).Contents (Elt F) → (⟨S16x96x4, .f32⟩ : BufTy).Contents (Elt F) → (⟨S16x96x4, .f32⟩ : BufTy).Contents (Elt F)),
    StableHlo.binary main_arg1 main_v117 main_v118 (addf : (⟨S16x96x4, .f32⟩ : BufTy).Contents (Elt F) → (⟨S16x96x4, .f32⟩ : BufTy).Contents (Elt F) → (⟨S16x96x4, .f32⟩ : BufTy).Contents (Elt F)) ]

abbrev s18 : List (HloOp τ sig (Elt F)) :=
  [ StableHlo.reshape main_v82 main_v119 (rfl : (.f32 : EltTy) = .f32) shapeCasts_S16x9120x128_S145920x128,
    StableHlo.nullary main_cst_21 (constant S_ .f32 0x00000000#32),
    StableHlo.unary main_cst_21 main_v120 (broadcastInDim S1536x128 ![] bcast_S_S1536x128 : (⟨S_, .f32⟩ : BufTy).Contents (Elt F) → (⟨S1536x128, .f32⟩ : BufTy).Contents (Elt F)),
    StableHlo.unary main_v89 main_v121 (broadcastInDim S145920x1 ![0] bcast_S145920_S145920x1_0 : (⟨S145920, .i32⟩ : BufTy).Contents (Elt F) → (⟨S145920x1, .i32⟩ : BufTy).Contents (Elt F)),
    StableHlo.ternary main_v120 main_v121 main_v119 main_v122 ((fun x i u => Host.scatterAdd scatter_S1536x128_S145920x1_S145920x128_1_0_0_1 x i u) : (⟨S1536x128, .f32⟩ : BufTy).Contents (Elt F) → (⟨S145920x1, .i32⟩ : BufTy).Contents (Elt F) → (⟨S145920x128, .f32⟩ : BufTy).Contents (Elt F) → (⟨S1536x128, .f32⟩ : BufTy).Contents (Elt F)),
    StableHlo.reshape main_v122 main_v123 (rfl : (.f32 : EltTy) = .f32) shapeCasts_S1536x128_S16x96x128 ]

abbrev s19 : List (HloOp τ sig (Elt F)) :=
  [ StableHlo.nary ![main_arg0, main_v123, main_arg4] main_v124 (fun u => (concatenate S16x96x272 2 [⟨S16x96x128, (u 0 : (⟨S16x96x128, .f32⟩ : BufTy).Contents (Elt F))⟩, ⟨S16x96x128, (u 1 : (⟨S16x96x128, .f32⟩ : BufTy).Contents (Elt F))⟩, ⟨S16x96x16, (u 2 : (⟨S16x96x16, .f32⟩ : BufTy).Contents (Elt F))⟩] concatenates_S16x96x128_S16x96x128_S16x96x16_S16x96x272_d2 : (⟨S16x96x272, .f32⟩ : BufTy).Contents (Elt F))),
    StableHlo.reshape main_v124 main_v125 (rfl : (.f32 : EltTy) = .f32) shapeCasts_S16x96x272_S1536x272,
    StableHlo.unary main_arg10 main_v126 ((transpose S272x128 [1, 0] · transposes_S128x272_S272x128_1_0) : (⟨S128x272, .f32⟩ : BufTy).Contents (Elt F) → (⟨S272x128, .f32⟩ : BufTy).Contents (Elt F)),
    StableHlo.binary main_v125 main_v126 main_v127 ((fun l r => Host.dotGeneral dot_S1536x272_S272x128_S1536x128_1_0_0_1_n_n none l r) : (⟨S1536x272, .f32⟩ : BufTy).Contents (Elt F) → (⟨S272x128, .f32⟩ : BufTy).Contents (Elt F) → (⟨S1536x128, .f32⟩ : BufTy).Contents (Elt F)),
    StableHlo.unary main_arg11 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S1536x128 ![0, 1] bcast_S1x128_S1536x128_0_1 : (⟨S1x128, .f32⟩ : BufTy).Contents (Elt F) → (⟨S1536x128, .f32⟩ : BufTy).Contents (Elt F)),
    StableHlo.binary main_v127 main_v129 main_v130 (addf : (⟨S1536x128, .f32⟩ : BufTy).Contents (Elt F) → (⟨S1536x128, .f32⟩ : BufTy).Contents (Elt F) → (⟨S1536x128, .f32⟩ : BufTy).Contents (Elt F)) ]

abbrev s20 : List (HloOp τ sig (Elt F)) :=
  [ StableHlo.nullary main_cst_22 (constant S_ .f32 0x00000000#32),
    StableHlo.binary main_v130 main_cst_22 main_v131 ((fun x v => Host.reduceAdd x v reducesTo_S1536x128_S128_d0 h_S_) : (⟨S1536x128, .f32⟩ : BufTy).Contents (Elt F) → (⟨S_, .f32⟩ : BufTy).Contents (Elt F) → (⟨S128, .f32⟩ : BufTy).Contents (Elt F)),
    StableHlo.nullary main_cst_23 (constant S_ .f32 0x44C00000#32),
    StableHlo.unary main_cst_23 main_v132 (broadcastInDim S128 ![] bcast_S_S128 : (⟨S_, .f32⟩ : BufTy).Contents (Elt F) → (⟨S128, .f32⟩ : BufTy).Contents (Elt F)),
    StableHlo.binary main_v131 main_v132 main_v133 (Host.divf : (⟨S128, .f32⟩ : BufTy).Contents (Elt F) → (⟨S128, .f32⟩ : BufTy).Contents (Elt F) → (⟨S128, .f32⟩ : BufTy).Contents (Elt F)) ]

abbrev s21 : List (HloOp τ sig (Elt F)) :=
  [ StableHlo.nullary main_c_24 (constantI S_ 32 0#32),
    StableHlo.nullary main_call6_cst (constant S_ .f32 0x00000000#32),
    StableHlo.binary main_v130 main_call6_cst main_call6_v0 ((fun x v => Host.reduceAdd x v reducesTo_S1536x128_S128_d0 h_S_) : (⟨S1536x128, .f32⟩ : BufTy).Contents (Elt F) → (⟨S_, .f32⟩ : BufTy).Contents (Elt F) → (⟨S128, .f32⟩ : BufTy).Contents (Elt F)),
    StableHlo.unary main_call6_v0 main_call6_v1 ((broadcastInDim S1x128 ![1] bcast_S128_S1x128_1) : (⟨S128, .f32⟩ : BufTy).Contents (Elt F) → (⟨S1x128, .f32⟩ : BufTy).Contents (Elt F)),
    StableHlo.nullary main_call6_cst_0 (constant S_ .f32 0x44C00000#32),
    StableHlo.unary main_call6_cst_0 main_call6_v2 ((broadcastInDim S1x128 ![] bcast_S_S1x128) : (⟨S_, .f32⟩ : BufTy).Contents (Elt F) → (⟨S1x128, .f32⟩ : BufTy).Contents (Elt F)),
    StableHlo.binary main_call6_v1 main_call6_v2 main_call6_v3 (Host.divf : (⟨S1x128, .f32⟩ : BufTy).Contents (Elt F) → (⟨S1x128, .f32⟩ : BufTy).Contents (Elt F) → (⟨S1x128, .f32⟩ : BufTy).Contents (Elt F)),
    StableHlo.unary main_call6_v3 main_call6_v4 ((broadcastInDim S1536x128 ![0, 1] bcast_S1x128_S1536x128_0_1) : (⟨S1x128, .f32⟩ : BufTy).Contents (Elt F) → (⟨S1536x128, .f32⟩ : BufTy).Contents (Elt F)),
    StableHlo.binary main_v130 main_call6_v4 main_call6_v5 (subf : (⟨S1536x128, .f32⟩ : BufTy).Contents (Elt F) → (⟨S1536x128, .f32⟩ : BufTy).Contents (Elt F) → (⟨S1536x128, .f32⟩ : BufTy).Contents (Elt F)),
    StableHlo.binary main_call6_v5 main_call6_v5 main_call6_v6 (mulf : (⟨S1536x128, .f32⟩ : BufTy).Contents (Elt F) → (⟨S1536x128, .f32⟩ : BufTy).Contents (Elt F) → (⟨S1536x128, .f32⟩ : BufTy).Contents (Elt F)),
    StableHlo.unary main_c_24 main_call6_v7 ((sitofp .f32) : (⟨S_, .i32⟩ : BufTy).Contents (Elt F) → (⟨S_, .f32⟩ : BufTy).Contents (Elt F)),
    StableHlo.nullary main_call6_cst_1 (constant S_ .f32 0x44C00000#32),
    StableHlo.binary main_call6_cst_1 main_call6_v7 main_call6_v8 (subf : (⟨S_, .f32⟩ : BufTy).Contents (Elt F) → (⟨S_, .f32⟩ : BufTy).Contents (Elt F) → (⟨S_, .f32⟩ : BufTy).Contents (Elt F)),
    StableHlo.nullary main_call6_cst_2 (constant S_ .f32 0x00000000#32),
    StableHlo.binary main_call6_v6 main_call6_cst_2 main_call6_v9 ((fun x v => Host.reduceAdd x v reducesTo_S1536x128_S128_d0 h_S_) : (⟨S1536x128, .f32⟩ : BufTy).Contents (Elt F) → (⟨S_, .f32⟩ : BufTy).Contents (Elt F) → (⟨S128, .f32⟩ : BufTy).Contents (Elt F)),
    StableHlo.unary main_call6_v8 main_call6_v10 ((broadcastInDim S128 ![] bcast_S_S128) : (⟨S_, .f32⟩ : BufTy).Contents (Elt F) → (⟨S128, .f32⟩ : BufTy).Contents (Elt F)),
    StableHlo.binary main_call6_v9 main_call6_v10 main_call6_v11 (Host.divf : (⟨S128, .f32⟩ : BufTy).Contents (Elt F) → (⟨S128, .f32⟩ : BufTy).Contents (Elt F) → (⟨S128, .f32⟩ : BufTy).Contents (Elt F)),
    StableHlo.nullary main_call6_cst_3 (constant S_ .f32 0x00000000#32),
    StableHlo.binary main_call6_v8 main_call6_cst_3 main_call6_v12 ((cmpf .ogt) : (⟨S_, .f32⟩ : BufTy).Contents (Elt F) → (⟨S_, .f32⟩ : BufTy).Contents (Elt F) → (⟨S_, .i1⟩ : BufTy).Contents (Elt F)),
    StableHlo.nullary main_call6_cst_4 (constant S_ .f32 0x7FC00000#32),
    StableHlo.unary main_call6_cst_4 main_call6_call0_v0 (id : (⟨S_, .f32⟩ : BufTy).Contents (Elt F) → (⟨S_, .f32⟩ : BufTy).Contents (Elt F)),
    StableHlo.unary main_call6_call0_v0 main_call6_call0_v1 ((broadcastInDim S128 ![] bcast_S_S128) : (⟨S_, .f32⟩ : BufTy).Contents (Elt F) → (⟨S128, .f32⟩ : BufTy).Contents (Elt F)),
    StableHlo.ternary main_call6_v12 main_call6_v11 main_call6_call0_v1 main_v134 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

abbrev s22 : List (HloOp τ sig (Elt F)) :=
  [ StableHlo.unary main_v133 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S1536x128 ![0, 1] bcast_S1x128_S1536x128_0_1 : (⟨S1x128, .f32⟩ : BufTy).Contents (Elt F) → (⟨S1536x128, .f32⟩ : BufTy).Contents (Elt F)),
    StableHlo.binary main_v130 main_v136 main_v137 (subf : (⟨S1536x128, .f32⟩ : BufTy).Contents (Elt F) → (⟨S1536x128, .f32⟩ : BufTy).Contents (Elt F) → (⟨S1536x128, .f32⟩ : BufTy).Contents (Elt F)),
    StableHlo.unary main_arg12 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S1536x128 ![0, 1] bcast_S1x128_S1536x128_0_1 : (⟨S1x128, .f32⟩ : BufTy).Contents (Elt F) → (⟨S1536x128, .f32⟩ : BufTy).Contents (Elt F)),
    StableHlo.binary main_v139 main_v137 main_v140 (mulf : (⟨S1536x128, .f32⟩ : BufTy).Contents (Elt F) → (⟨S1536x128, .f32⟩ : BufTy).Contents (Elt F) → (⟨S1536x128, .f32⟩ : BufTy).Contents (Elt F)),
    StableHlo.nullary main_cst_25 (constant S_ .f32 0x3727C5AC#32),
    StableHlo.unary main_cst_25 main_v141 (broadcastInDim S128 ![] bcast_S_S128 : (⟨S_, .f32⟩ : BufTy).Contents (Elt F) → (⟨S128, .f32⟩ : BufTy).Contents (Elt F)),
    StableHlo.binary main_v134 main_v141 main_v142 (addf : (⟨S128, .f32⟩ : BufTy).Contents (Elt F) → (⟨S128, .f32⟩ : BufTy).Contents (Elt F) → (⟨S128, .f32⟩ : BufTy).Contents (Elt F)),
    StableHlo.unary main_v142 main_v143 (Host.sqrt : (⟨S128, .f32⟩ : BufTy).Contents (Elt F) → (⟨S128, .f32⟩ : BufTy).Contents (Elt F)),
    StableHlo.unary main_v143 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S1536x128 ![0, 1] bcast_S1x128_S1536x128_0_1 : (⟨S1x128, .f32⟩ : BufTy).Contents (Elt F) → (⟨S1536x128, .f32⟩ : BufTy).Contents (Elt F)),
    StableHlo.binary main_v140 main_v145 main_v146 (Host.divf : (⟨S1536x128, .f32⟩ : BufTy).Contents (Elt F) → (⟨S1536x128, .f32⟩ : BufTy).Contents (Elt F) → (⟨S1536x128, .f32⟩ : BufTy).Contents (Elt F)),
    StableHlo.unary main_arg13 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S1536x128 ![0, 1] bcast_S1x128_S1536x128_0_1 : (⟨S1x128, .f32⟩ : BufTy).Contents (Elt F) → (⟨S1536x128, .f32⟩ : BufTy).Contents (Elt F)),
    StableHlo.binary main_v146 main_v148 main_v149 (addf : (⟨S1536x128, .f32⟩ : BufTy).Contents (Elt F) → (⟨S1536x128, .f32⟩ : BufTy).Contents (Elt F) → (⟨S1536x128, .f32⟩ : BufTy).Contents (Elt F)),
    StableHlo.nullary main_cst_26 (constant S_ .f32 0x00000000#32),
    StableHlo.unary main_cst_26 main_v150 (broadcastInDim S1536x128 ![] bcast_S_S1536x128 : (⟨S_, .f32⟩ : BufTy).Contents (Elt F) → (⟨S1536x128, .f32⟩ : BufTy).Contents (Elt F)),
    StableHlo.binary main_v149 main_v150 main_v151 (maximumf : (⟨S1536x128, .f32⟩ : BufTy).Contents (Elt F) → (⟨S1536x128, .f32⟩ : BufTy).Contents (Elt F) → (⟨S1536x128, .f32⟩ : BufTy).Contents (Elt F)) ]

abbrev s23 : List (HloOp τ sig (Elt F)) :=
  [ StableHlo.unary main_arg14 main_v152 ((transpose S128x128 [1, 0] · transposes_S128x128_S128x128_1_0) : (⟨S128x128, .f32⟩ : BufTy).Contents (Elt F) → (⟨S128x128, .f32⟩ : BufTy).Contents (Elt F)),
    StableHlo.binary main_v151 main_v152 main_v153 ((fun l r => Host.dotGeneral dot_S1536x128_S128x128_S1536x128_1_0_0_1_n_n none l r) : (⟨S1536x128, .f32⟩ : BufTy).Contents (Elt F) → (⟨S128x128, .f32⟩ : BufTy).Contents (Elt F) → (⟨S1536x128, .f32⟩ : BufTy).Contents (Elt F)),
    StableHlo.unary main_arg15 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S1536x128 ![0, 1] bcast_S1x128_S1536x128_0_1 : (⟨S1x128, .f32⟩ : BufTy).Contents (Elt F) → (⟨S1536x128, .f32⟩ : BufTy).Contents (Elt F)),
    StableHlo.binary main_v153 main_v155 main_v156 (addf : (⟨S1536x128, .f32⟩ : BufTy).Contents (Elt F) → (⟨S1536x128, .f32⟩ : BufTy).Contents (Elt F) → (⟨S1536x128, .f32⟩ : BufTy).Contents (Elt F)),
    StableHlo.reshape main_v156 main_v157 (rfl : (.f32 : EltTy) = .f32) shapeCasts_S1536x128_S16x96x128,
    StableHlo.binary main_arg0 main_v157 main_v158 (addf : (⟨S16x96x128, .f32⟩ : BufTy).Contents (Elt F) → (⟨S16x96x128, .f32⟩ : BufTy).Contents (Elt F) → (⟨S16x96x128, .f32⟩ : BufTy).Contents (Elt F)) ]

/-- All of them, in order. -/
abbrev ops : List (HloOp τ sig (Elt F)) :=
  s0 ++ (s1 ++ (s2 ++ (s3 ++ (s4 ++ (s5 ++ (s6 ++ (s7 ++ (s8 ++ (s9 ++ (s10 ++ (s11 ++ (s12 ++ (s13 ++ (s14 ++ (s15 ++ (s16 ++ (s17 ++ (s18 ++ (s19 ++ (s20 ++ (s21 ++ (s22 ++ (s23)))))))))))))))))))))))

set_option maxRecDepth 262144 in
set_option maxHeartbeats 4000000 in
theorem main_eq (c : Dev nD) : main (F := F) c = seq ops := rfl

end Cert.ReferenceIdeal.Own

end
-- ==== Proof.Ref.Run.lean ====
/-
  The run of the reference: a straight line of array operations, so every run ends with every array at the fold of the
  operations over the launch contents; and which arrays each stretch of the line leaves alone.
-/
module

public import proofs.«01_k».proof.Proof.Ref.Ops

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo Idealize.SL.Sem

variable {F : FTy → Type} [FloatOps F]

theorem s0_sub : (s0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem s0_fresh : (s0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The arrays stretch 0 writes, in order. -/
abbrev s0_W : List (Ref sig .tc) := [main_v0, main_call0_c, main_call0_v0, main_call0_v1, main_call0_c_0, main_call0_v2, main_call0_v3, main_call0_v4, main_call0_c_1, main_call0_c_2, main_call0_v5, main_call0_v6, main_call0_v7, main_call0_v8, main_call0_v9, main_call0_v10, main_call0_c_3, main_call0_v11, main_call0_v12, main_call0_v13, main_call0_cst, main_call0_v14, main_v1]
theorem s0_keeps {r : Ref sig .tc} (V : Valuation τ sig (Elt F)) (h : r ∉ s0_W) :
    after s0 V (Proc.devRef .tc r) = V (Proc.devRef .tc r) :=
  after_of_writes_sub s0 V (forall_writes_sub_of_map rfl) h

theorem s1_sub : (s1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem s1_fresh : (s1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The arrays stretch 1 writes, in order. -/
abbrev s1_W : List (Ref sig .tc) := [main_v2, main_call1_c, main_call1_v0, main_call1_v1, main_call1_c_0, main_call1_v2, main_call1_v3, main_call1_v4, main_call1_c_1, main_call1_c_2, main_call1_v5, main_call1_v6, main_call1_v7, main_call1_v8, main_call1_v9, main_call1_v10, main_call1_c_3, main_call1_v11, main_call1_v12, main_call1_v13, main_call1_cst, main_call1_v14, main_v3]
theorem s1_keeps {r : Ref sig .tc} (V : Valuation τ sig (Elt F)) (h : r ∉ s1_W) :
    after s1 V (Proc.devRef .tc r) = V (Proc.devRef .tc r) :=
  after_of_writes_sub s1 V (forall_writes_sub_of_map rfl) h

theorem s2_sub : (s2 : List (HloOp τ sig (Elt F))).Forall fun op => op.bufs ⊆ tcRefs τ sig :=
  ⟨binary_bufs_sub .., binary_bufs_sub .., unary_bufs_sub .., reshape_bufs_sub .., nullary_bufs_sub .., unary_bufs_sub .., binary_bufs_sub .., nullary_bufs_sub .., binary_bufs_sub .., binary_bufs_sub .., unary_bufs_sub .., unary_bufs_sub .., nullary_bufs_sub .., unary_bufs_sub .., binary_bufs_sub .., unary_bufs_sub .., binary_bufs_sub .., unary_bufs_sub ..⟩
theorem s2_fresh : (s2 : List (HloOp τ sig (Elt F))).Forall fun op => op.fresh = ∅ :=
  ⟨rfl, rfl, rfl, rfl, rfl, rfl, rfl, rfl, rfl, rfl, rfl, rfl, rfl, rfl, rfl, rfl, rfl, rfl⟩
/-- The arrays stretch 2 writes, in order. -/
abbrev s2_W : List (Ref sig .tc) := [main_v4, main_v5, main_v6, main_v7, main_cst, main_v8, main_v9, main_cst_0, main_v10, main_v11, main_v12, main_v13, main_cst_1, main_v14, main_v15, main_v16, main_v17, main_v18]
theorem s2_keeps {r : Ref sig .tc} (V : Valuation τ sig (Elt F)) (h : r ∉ s2_W) :
    after s2 V (Proc.devRef .tc r) = V (Proc.devRef .tc r) :=
  after_of_writes_sub s2 V (forall_writes_sub_of_map rfl) h

theorem s3_sub : (s3 : List (HloOp τ sig (Elt F))).Forall fun op => op.bufs ⊆ tcRefs τ sig :=
  ⟨binary_bufs_sub .., unary_bufs_sub .., reshape_bufs_sub .., nullary_bufs_sub .., unary_bufs_sub .., binary_bufs_sub .., nullary_bufs_sub .., binary_bufs_sub .., binary_bufs_sub .., unary_bufs_sub .., unary_bufs_sub .., nullary_bufs_sub .., unary_bufs_sub .., binary_bufs_sub .., unary_bufs_sub .., binary_bufs_sub .., unary_bufs_sub ..⟩
theorem s3_fresh : (s3 : List (HloOp τ sig (Elt F))).Forall fun op => op.fresh = ∅ :=
  ⟨rfl, rfl, rfl, rfl, rfl, rfl, rfl, rfl, rfl, rfl, rfl, rfl, rfl, rfl, rfl, rfl, rfl⟩
/-- The arrays stretch 3 writes, in order. -/
abbrev s3_W : List (Ref sig .tc) := [main_v19, main_v20, main_v21, main_cst_2, main_v22, main_v23, main_cst_3, main_v24, main_v25, main_v26, main_v27, main_cst_4, main_v28, main_v29, main_v30, main_v31, main_v32]
theorem s3_keeps {r : Ref sig .tc} (V : Valuation τ sig (Elt F)) (h : r ∉ s3_W) :
    after s3 V (Proc.devRef .tc r) = V (Proc.devRef .tc r) :=
  after_of_writes_sub s3 V (forall_writes_sub_of_map rfl) h

theorem s4_sub : (s4 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem s4_fresh : (s4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The arrays stretch 4 writes, in order. -/
abbrev s4_W : List (Ref sig .tc) := [main_v33, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v34]
theorem s4_keeps {r : Ref sig .tc} (V : Valuation τ sig (Elt F)) (h : r ∉ s4_W) :
    after s4 V (Proc.devRef .tc r) = V (Proc.devRef .tc r) :=
  after_of_writes_sub s4 V (forall_writes_sub_of_map rfl) h

theorem s5_sub : (s5 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem s5_fresh : (s5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The arrays stretch 5 writes, in order. -/
abbrev s5_W : List (Ref sig .tc) := [main_v35, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v36]
theorem s5_keeps {r : Ref sig .tc} (V : Valuation τ sig (Elt F)) (h : r ∉ s5_W) :
    after s5 V (Proc.devRef .tc r) = V (Proc.devRef .tc r) :=
  after_of_writes_sub s5 V (forall_writes_sub_of_map rfl) h

theorem s6_sub : (s6 : List (HloOp τ sig (Elt F))).Forall fun op => op.bufs ⊆ tcRefs τ sig :=
  ⟨nary_bufs_sub .., reshape_bufs_sub .., unary_bufs_sub .., binary_bufs_sub ..⟩
theorem s6_fresh : (s6 : List (HloOp τ sig (Elt F))).Forall fun op => op.fresh = ∅ :=
  ⟨rfl, rfl, rfl, rfl⟩
/-- The arrays stretch 6 writes, in order. -/
abbrev s6_W : List (Ref sig .tc) := [main_v37, main_v38, main_v39, main_v40]
theorem s6_keeps {r : Ref sig .tc} (V : Valuation τ sig (Elt F)) (h : r ∉ s6_W) :
    after s6 V (Proc.devRef .tc r) = V (Proc.devRef .tc r) :=
  after_of_writes_sub s6 V (forall_writes_sub_of_map rfl) h

theorem s7_sub : (s7 : List (HloOp τ sig (Elt F))).Forall fun op => op.bufs ⊆ tcRefs τ sig :=
  ⟨nullary_bufs_sub .., binary_bufs_sub .., nullary_bufs_sub .., unary_bufs_sub .., binary_bufs_sub ..⟩
theorem s7_fresh : (s7 : List (HloOp τ sig (Elt F))).Forall fun op => op.fresh = ∅ :=
  ⟨rfl, rfl, rfl, rfl, rfl⟩
/-- The arrays stretch 7 writes, in order. -/
abbrev s7_W : List (Ref sig .tc) := [main_cst_5, main_v41, main_cst_6, main_v42, main_v43]
theorem s7_keeps {r : Ref sig .tc} (V : Valuation τ sig (Elt F)) (h : r ∉ s7_W) :
    after s7 V (Proc.devRef .tc r) = V (Proc.devRef .tc r) :=
  after_of_writes_sub s7 V (forall_writes_sub_of_map rfl) h

theorem s8_sub : (s8 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s8_fresh : (s8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The arrays stretch 8 writes, in order. -/
abbrev s8_W : List (Ref sig .tc) := [main_c, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v44]
theorem s8_keeps {r : Ref sig .tc} (V : Valuation τ sig (Elt F)) (h : r ∉ s8_W) :
    after s8 V (Proc.devRef .tc r) = V (Proc.devRef .tc r) :=
  after_of_writes_sub s8 V (forall_writes_sub_of_map rfl) h

theorem s9_sub : (s9 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
theorem s9_fresh : (s9 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The arrays stretch 9 writes, in order. -/
abbrev s9_W : List (Ref sig .tc) := [main_v45, main_v46, main_v47, main_v48, main_v49, main_v50, main_cst_7, main_v51, main_v52, main_v53, main_v54, main_v55, main_v56, main_v57, main_v58, main_v59, main_cst_8, main_v60, main_v61]
theorem s9_keeps {r : Ref sig .tc} (V : Valuation τ sig (Elt F)) (h : r ∉ s9_W) :
    after s9 V (Proc.devRef .tc r) = V (Proc.devRef .tc r) :=
  after_of_writes_sub s9 V (forall_writes_sub_of_map rfl) h

theorem s10_sub : (s10 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., reshape_bufs_sub ..⟩
theorem s10_fresh : (s10 : List (HloOp τ sig (Elt F))).Forall fun op => op.fresh = ∅ :=
  ⟨rfl, rfl, rfl, rfl, rfl, rfl, rfl, rfl, rfl⟩
/-- The arrays stretch 10 writes, in order. -/
abbrev s10_W : List (Ref sig .tc) := [main_v62, main_v63, main_v64, main_v65, main_v66, main_cst_9, main_v67, main_v68, main_v69]
theorem s10_keeps {r : Ref sig .tc} (V : Valuation τ sig (Elt F)) (h : r ∉ s10_W) :
    after s10 V (Proc.devRef .tc r) = V (Proc.devRef .tc r) :=
  after_of_writes_sub s10 V (forall_writes_sub_of_map rfl) h

theorem s11_sub : (s11 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem s11_fresh : (s11 : List (HloOp τ sig (Elt F))).Forall fun op => op.fresh = ∅ :=
  ⟨rfl, rfl, rfl, rfl, rfl, rfl, rfl, rfl, rfl, rfl, rfl, rfl, rfl, rfl, rfl⟩
/-- The arrays stretch 11 writes, in order. -/
abbrev s11_W : List (Ref sig .tc) := [main_v70, main_v71, main_v72, main_v73, main_v74, main_v75, main_v76, main_cst_10, main_v77, main_v78, main_cst_11, main_v79, main_v80, main_v81, main_v82]
theorem s11_keeps {r : Ref sig .tc} (V : Valuation τ sig (Elt F)) (h : r ∉ s11_W) :
    after s11 V (Proc.devRef .tc r) = V (Proc.devRef .tc r) :=
  after_of_writes_sub s11 V (forall_writes_sub_of_map rfl) h

theorem s12_sub : (s12 : List (HloOp τ sig (Elt F))).Forall fun op => op.bufs ⊆ tcRefs τ sig :=
  ⟨nullary_bufs_sub .., unary_bufs_sub .., nullary_bufs_sub .., unary_bufs_sub .., binary_bufs_sub .., unary_bufs_sub .., binary_bufs_sub .., reshape_bufs_sub ..⟩
theorem s12_fresh : (s12 : List (HloOp τ sig (Elt F))).Forall fun op => op.fresh = ∅ :=
  ⟨rfl, rfl, rfl, rfl, rfl, rfl, rfl, rfl⟩
/-- The arrays stretch 12 writes, in order. -/
abbrev s12_W : List (Ref sig .tc) := [main_v83, main_v84, main_c_12, main_v85, main_v86, main_v87, main_v88, main_v89]
theorem s12_keeps {r : Ref sig .tc} (V : Valuation τ sig (Elt F)) (h : r ∉ s12_W) :
    after s12 V (Proc.devRef .tc r) = V (Proc.devRef .tc r) :=
  after_of_writes_sub s12 V (forall_writes_sub_of_map rfl) h

theorem s13_sub : (s13 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub ..⟩
theorem s13_fresh : (s13 : List (HloOp τ sig (Elt F))).Forall fun op => op.fresh = ∅ :=
  ⟨rfl, rfl, rfl, rfl, rfl, rfl, rfl, rfl, rfl, rfl, rfl, rfl⟩
/-- The arrays stretch 13 writes, in order. -/
abbrev s13_W : List (Ref sig .tc) := [main_v90, main_v91, main_v92, main_v93, main_v94, main_cst_13, main_v95, main_v96, main_v97, main_v98, main_v99, main_v100]
theorem s13_keeps {r : Ref sig .tc} (V : Valuation τ sig (Elt F)) (h : r ∉ s13_W) :
    after s13 V (Proc.devRef .tc r) = V (Proc.devRef .tc r) :=
  after_of_writes_sub s13 V (forall_writes_sub_of_map rfl) h

theorem s14_sub : (s14 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub ..⟩
theorem s14_fresh : (s14 : List (HloOp τ sig (Elt F))).Forall fun op => op.fresh = ∅ :=
  ⟨rfl, rfl, rfl, rfl, rfl, rfl, rfl, rfl⟩
/-- The arrays stretch 14 writes, in order. -/
abbrev s14_W : List (Ref sig .tc) := [main_cst_14, main_cst_15, main_call5_v0, main_call5_v1, main_call5_v2, main_call5_v3, main_call5_v4, main_v101]
theorem s14_keeps {r : Ref sig .tc} (V : Valuation τ sig (Elt F)) (h : r ∉ s14_W) :
    after s14 V (Proc.devRef .tc r) = V (Proc.devRef .tc r) :=
  after_of_writes_sub s14 V (forall_writes_sub_of_map rfl) h

theorem s15_sub : (s15 : List (HloOp τ sig (Elt F))).Forall fun op => op.bufs ⊆ tcRefs τ sig :=
  ⟨nullary_bufs_sub .., unary_bufs_sub .., reshape_bufs_sub .., nullary_bufs_sub .., unary_bufs_sub .., unary_bufs_sub .., ternary_bufs_sub .., reshape_bufs_sub ..⟩
theorem s15_fresh : (s15 : List (HloOp τ sig (Elt F))).Forall fun op => op.fresh = ∅ :=
  ⟨rfl, rfl, rfl, rfl, rfl, rfl, rfl, rfl⟩
/-- The arrays stretch 15 writes, in order. -/
abbrev s15_W : List (Ref sig .tc) := [main_cst_16, main_v102, main_v103, main_cst_17, main_v104, main_v105, main_v106, main_v107]
theorem s15_keeps {r : Ref sig .tc} (V : Valuation τ sig (Elt F)) (h : r ∉ s15_W) :
    after s15 V (Proc.devRef .tc r) = V (Proc.devRef .tc r) :=
  after_of_writes_sub s15 V (forall_writes_sub_of_map rfl) h

theorem s16_sub : (s16 : List (HloOp τ sig (Elt F))).Forall fun op => op.bufs ⊆ tcRefs τ sig :=
  ⟨reshape_bufs_sub .., nullary_bufs_sub .., unary_bufs_sub .., unary_bufs_sub .., ternary_bufs_sub .., reshape_bufs_sub ..⟩
theorem s16_fresh : (s16 : List (HloOp τ sig (Elt F))).Forall fun op => op.fresh = ∅ :=
  ⟨rfl, rfl, rfl, rfl, rfl, rfl⟩
/-- The arrays stretch 16 writes, in order. -/
abbrev s16_W : List (Ref sig .tc) := [main_v108, main_cst_18, main_v109, main_v110, main_v111, main_v112]
theorem s16_keeps {r : Ref sig .tc} (V : Valuation τ sig (Elt F)) (h : r ∉ s16_W) :
    after s16 V (Proc.devRef .tc r) = V (Proc.devRef .tc r) :=
  after_of_writes_sub s16 V (forall_writes_sub_of_map rfl) h

theorem s17_sub : (s17 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub ..⟩
theorem s17_fresh : (s17 : List (HloOp τ sig (Elt F))).Forall fun op => op.fresh = ∅ :=
  ⟨rfl, rfl, rfl, rfl, rfl, rfl, rfl, rfl⟩
/-- The arrays stretch 17 writes, in order. -/
abbrev s17_W : List (Ref sig .tc) := [main_cst_19, main_v113, main_v114, main_v115, main_cst_20, main_v116, main_v117, main_v118]
theorem s17_keeps {r : Ref sig .tc} (V : Valuation τ sig (Elt F)) (h : r ∉ s17_W) :
    after s17 V (Proc.devRef .tc r) = V (Proc.devRef .tc r) :=
  after_of_writes_sub s17 V (forall_writes_sub_of_map rfl) h

theorem s18_sub : (s18 : List (HloOp τ sig (Elt F))).Forall fun op => op.bufs ⊆ tcRefs τ sig :=
  ⟨reshape_bufs_sub .., nullary_bufs_sub .., unary_bufs_sub .., unary_bufs_sub .., ternary_bufs_sub .., reshape_bufs_sub ..⟩
theorem s18_fresh : (s18 : List (HloOp τ sig (Elt F))).Forall fun op => op.fresh = ∅ :=
  ⟨rfl, rfl, rfl, rfl, rfl, rfl⟩
/-- The arrays stretch 18 writes, in order. -/
abbrev s18_W : List (Ref sig .tc) := [main_v119, main_cst_21, main_v120, main_v121, main_v122, main_v123]
theorem s18_keeps {r : Ref sig .tc} (V : Valuation τ sig (Elt F)) (h : r ∉ s18_W) :
    after s18 V (Proc.devRef .tc r) = V (Proc.devRef .tc r) :=
  after_of_writes_sub s18 V (forall_writes_sub_of_map rfl) h

theorem s19_sub : (s19 : List (HloOp τ sig (Elt F))).Forall fun op => op.bufs ⊆ tcRefs τ sig :=
  ⟨nary_bufs_sub .., reshape_bufs_sub .., unary_bufs_sub .., binary_bufs_sub .., unary_bufs_sub .., unary_bufs_sub .., binary_bufs_sub ..⟩
theorem s19_fresh : (s19 : List (HloOp τ sig (Elt F))).Forall fun op => op.fresh = ∅ :=
  ⟨rfl, rfl, rfl, rfl, rfl, rfl, rfl⟩
/-- The arrays stretch 19 writes, in order. -/
abbrev s19_W : List (Ref sig .tc) := [main_v124, main_v125, main_v126, main_v127, main_v128, main_v129, main_v130]
theorem s19_keeps {r : Ref sig .tc} (V : Valuation τ sig (Elt F)) (h : r ∉ s19_W) :
    after s19 V (Proc.devRef .tc r) = V (Proc.devRef .tc r) :=
  after_of_writes_sub s19 V (forall_writes_sub_of_map rfl) h

theorem s20_sub : (s20 : List (HloOp τ sig (Elt F))).Forall fun op => op.bufs ⊆ tcRefs τ sig :=
  ⟨nullary_bufs_sub .., binary_bufs_sub .., nullary_bufs_sub .., unary_bufs_sub .., binary_bufs_sub ..⟩
theorem s20_fresh : (s20 : List (HloOp τ sig (Elt F))).Forall fun op => op.fresh = ∅ :=
  ⟨rfl, rfl, rfl, rfl, rfl⟩
/-- The arrays stretch 20 writes, in order. -/
abbrev s20_W : List (Ref sig .tc) := [main_cst_22, main_v131, main_cst_23, main_v132, main_v133]
theorem s20_keeps {r : Ref sig .tc} (V : Valuation τ sig (Elt F)) (h : r ∉ s20_W) :
    after s20 V (Proc.devRef .tc r) = V (Proc.devRef .tc r) :=
  after_of_writes_sub s20 V (forall_writes_sub_of_map rfl) h

theorem s21_sub : (s21 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s21_fresh : (s21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The arrays stretch 21 writes, in order. -/
abbrev s21_W : List (Ref sig .tc) := [main_c_24, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v134]
theorem s21_keeps {r : Ref sig .tc} (V : Valuation τ sig (Elt F)) (h : r ∉ s21_W) :
    after s21 V (Proc.devRef .tc r) = V (Proc.devRef .tc r) :=
  after_of_writes_sub s21 V (forall_writes_sub_of_map rfl) h

theorem s22_sub : (s22 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
theorem s22_fresh : (s22 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The arrays stretch 22 writes, in order. -/
abbrev s22_W : List (Ref sig .tc) := [main_v135, main_v136, main_v137, main_v138, main_v139, main_v140, main_cst_25, main_v141, main_v142, main_v143, main_v144, main_v145, main_v146, main_v147, main_v148, main_v149, main_cst_26, main_v150, main_v151]
theorem s22_keeps {r : Ref sig .tc} (V : Valuation τ sig (Elt F)) (h : r ∉ s22_W) :
    after s22 V (Proc.devRef .tc r) = V (Proc.devRef .tc r) :=
  after_of_writes_sub s22 V (forall_writes_sub_of_map rfl) h

theorem s23_sub : (s23 : List (HloOp τ sig (Elt F))).Forall fun op => op.bufs ⊆ tcRefs τ sig :=
  ⟨unary_bufs_sub .., binary_bufs_sub .., unary_bufs_sub .., unary_bufs_sub .., binary_bufs_sub .., reshape_bufs_sub .., binary_bufs_sub ..⟩
theorem s23_fresh : (s23 : List (HloOp τ sig (Elt F))).Forall fun op => op.fresh = ∅ :=
  ⟨rfl, rfl, rfl, rfl, rfl, rfl, rfl⟩
/-- The arrays stretch 23 writes, in order. -/
abbrev s23_W : List (Ref sig .tc) := [main_v152, main_v153, main_v154, main_v155, main_v156, main_v157, main_v158]
theorem s23_keeps {r : Ref sig .tc} (V : Valuation τ sig (Elt F)) (h : r ∉ s23_W) :
    after s23 V (Proc.devRef .tc r) = V (Proc.devRef .tc r) :=
  after_of_writes_sub s23 V (forall_writes_sub_of_map rfl) h

/-! ## The arrays after each stretch -/

theorem forall_append {p : HloOp τ sig (Elt F) → Prop} {a b : List (HloOp τ sig (Elt F))} (ha : a.Forall p) (hb : b.Forall p) : (a ++ b).Forall p :=
  List.forall_iff_forall_mem.mpr fun x hx => (List.mem_append.mp hx).elim (List.forall_iff_forall_mem.mp ha x) (List.forall_iff_forall_mem.mp hb x)

theorem after_append (l₁ l₂ : List (HloOp τ sig (Elt F))) (V : Valuation τ sig (Elt F)) :
    after (l₁ ++ l₂) V = after l₂ (after l₁ V) := by
  induction l₁ generalizing V with
  | nil => rfl
  | cons op l ih => exact ih _

variable (V : Valuation τ sig (Elt F))

def X0 : Valuation τ sig (Elt F) := V
def X1 : Valuation τ sig (Elt F) := after s0 (X0 V)
def X2 : Valuation τ sig (Elt F) := after s1 (X1 V)
def X3 : Valuation τ sig (Elt F) := after s2 (X2 V)
def X4 : Valuation τ sig (Elt F) := after s3 (X3 V)
def X5 : Valuation τ sig (Elt F) := after s4 (X4 V)
def X6 : Valuation τ sig (Elt F) := after s5 (X5 V)
def X7 : Valuation τ sig (Elt F) := after s6 (X6 V)
def X8 : Valuation τ sig (Elt F) := after s7 (X7 V)
def X9 : Valuation τ sig (Elt F) := after s8 (X8 V)
def X10 : Valuation τ sig (Elt F) := after s9 (X9 V)
def X11 : Valuation τ sig (Elt F) := after s10 (X10 V)
def X12 : Valuation τ sig (Elt F) := after s11 (X11 V)
def X13 : Valuation τ sig (Elt F) := after s12 (X12 V)
def X14 : Valuation τ sig (Elt F) := after s13 (X13 V)
def X15 : Valuation τ sig (Elt F) := after s14 (X14 V)
def X16 : Valuation τ sig (Elt F) := after s15 (X15 V)
def X17 : Valuation τ sig (Elt F) := after s16 (X16 V)
def X18 : Valuation τ sig (Elt F) := after s17 (X17 V)
def X19 : Valuation τ sig (Elt F) := after s18 (X18 V)
def X20 : Valuation τ sig (Elt F) := after s19 (X19 V)
def X21 : Valuation τ sig (Elt F) := after s20 (X20 V)
def X22 : Valuation τ sig (Elt F) := after s21 (X21 V)
def X23 : Valuation τ sig (Elt F) := after s22 (X22 V)
def X24 : Valuation τ sig (Elt F) := after s23 (X23 V)

theorem after_ops : after ops V = X24 V := by
  simp only [ops, after_append]
  rfl

theorem ops_sub : (ops : List (HloOp τ sig (Elt F))).Forall fun op => op.bufs ⊆ tcRefs τ sig :=
  forall_append s0_sub (forall_append s1_sub (forall_append s2_sub (forall_append s3_sub (forall_append s4_sub (forall_append s5_sub (forall_append s6_sub (forall_append s7_sub (forall_append s8_sub (forall_append s9_sub (forall_append s10_sub (forall_append s11_sub (forall_append s12_sub (forall_append s13_sub (forall_append s14_sub (forall_append s15_sub (forall_append s16_sub (forall_append s17_sub (forall_append s18_sub (forall_append s19_sub (forall_append s20_sub (forall_append s21_sub (forall_append s22_sub (s23_sub)))))))))))))))))))))))

theorem ops_fresh : (ops : List (HloOp τ sig (Elt F))).Forall fun op => op.fresh = ∅ :=
  forall_append s0_fresh (forall_append s1_fresh (forall_append s2_fresh (forall_append s3_fresh (forall_append s4_fresh (forall_append s5_fresh (forall_append s6_fresh (forall_append s7_fresh (forall_append s8_fresh (forall_append s9_fresh (forall_append s10_fresh (forall_append s11_fresh (forall_append s12_fresh (forall_append s13_fresh (forall_append s14_fresh (forall_append s15_fresh (forall_append s16_fresh (forall_append s17_fresh (forall_append s18_fresh (forall_append s19_fresh (forall_append s20_fresh (forall_append s21_fresh (forall_append s22_fresh (s23_fresh)))))))))))))))))))))))

/-- An array no stretch writes ends as launched. -/
theorem keeps {r : Ref sig .tc} (h0 : r ∉ s0_W) (h1 : r ∉ s1_W) (h2 : r ∉ s2_W) (h3 : r ∉ s3_W) (h4 : r ∉ s4_W) (h5 : r ∉ s5_W) (h6 : r ∉ s6_W) (h7 : r ∉ s7_W) (h8 : r ∉ s8_W) (h9 : r ∉ s9_W) (h10 : r ∉ s10_W) (h11 : r ∉ s11_W) (h12 : r ∉ s12_W) (h13 : r ∉ s13_W) (h14 : r ∉ s14_W) (h15 : r ∉ s15_W) (h16 : r ∉ s16_W) (h17 : r ∉ s17_W) (h18 : r ∉ s18_W) (h19 : r ∉ s19_W) (h20 : r ∉ s20_W) (h21 : r ∉ s21_W) (h22 : r ∉ s22_W) (h23 : r ∉ s23_W) :
    X24 V (Proc.devRef .tc r) = V (Proc.devRef .tc r) :=
  (s23_keeps _ h23).trans <| (s22_keeps _ h22).trans <| (s21_keeps _ h21).trans <| (s20_keeps _ h20).trans <| (s19_keeps _ h19).trans <| (s18_keeps _ h18).trans <| (s17_keeps _ h17).trans <| (s16_keeps _ h16).trans <| (s15_keeps _ h15).trans <| (s14_keeps _ h14).trans <| (s13_keeps _ h13).trans <| (s12_keeps _ h12).trans <| (s11_keeps _ h11).trans <| (s10_keeps _ h10).trans <| (s9_keeps _ h9).trans <| (s8_keeps _ h8).trans <| (s7_keeps _ h7).trans <| (s6_keeps _ h6).trans <| (s5_keeps _ h5).trans <| (s4_keeps _ h4).trans <| (s3_keeps _ h3).trans <| (s2_keeps _ h2).trans <| (s1_keeps _ h1).trans <| (s0_keeps _ h0).trans rfl

theorem keeps_arg0 : X24 V (Proc.devRef .tc main_arg0) = V (Proc.devRef .tc main_arg0) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg1 : X24 V (Proc.devRef .tc main_arg1) = V (Proc.devRef .tc main_arg1) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg2 : X24 V (Proc.devRef .tc main_arg2) = V (Proc.devRef .tc main_arg2) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg3 : X24 V (Proc.devRef .tc main_arg3) = V (Proc.devRef .tc main_arg3) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg4 : X24 V (Proc.devRef .tc main_arg4) = V (Proc.devRef .tc main_arg4) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg5 : X24 V (Proc.devRef .tc main_arg5) = V (Proc.devRef .tc main_arg5) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg6 : X24 V (Proc.devRef .tc main_arg6) = V (Proc.devRef .tc main_arg6) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg7 : X24 V (Proc.devRef .tc main_arg7) = V (Proc.devRef .tc main_arg7) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg8 : X24 V (Proc.devRef .tc main_arg8) = V (Proc.devRef .tc main_arg8) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg9 : X24 V (Proc.devRef .tc main_arg9) = V (Proc.devRef .tc main_arg9) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg10 : X24 V (Proc.devRef .tc main_arg10) = V (Proc.devRef .tc main_arg10) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg11 : X24 V (Proc.devRef .tc main_arg11) = V (Proc.devRef .tc main_arg11) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg12 : X24 V (Proc.devRef .tc main_arg12) = V (Proc.devRef .tc main_arg12) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg13 : X24 V (Proc.devRef .tc main_arg13) = V (Proc.devRef .tc main_arg13) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg14 : X24 V (Proc.devRef .tc main_arg14) = V (Proc.devRef .tc main_arg14) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg15 : X24 V (Proc.devRef .tc main_arg15) = V (Proc.devRef .tc main_arg15) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg16 : X24 V (Proc.devRef .tc main_arg16) = V (Proc.devRef .tc main_arg16) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg17 : X24 V (Proc.devRef .tc main_arg17) = V (Proc.devRef .tc main_arg17) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg18 : X24 V (Proc.devRef .tc main_arg18) = V (Proc.devRef .tc main_arg18) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg19 : X24 V (Proc.devRef .tc main_arg19) = V (Proc.devRef .tc main_arg19) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)
theorem keeps_arg20 : X24 V (Proc.devRef .tc main_arg20) = V (Proc.devRef .tc main_arg20) :=
  keeps V (by decide) (by decide) (by decide) (by decide) (by decide) (by decide) (by decide) (by decide) (by decide) (by decide) (by decide) (by decide) (by decide) (by decide) (by decide) (by decide) (by decide) (by decide) (by decide) (by decide) (by decide) (by decide) (by decide) (by decide)

theorem scopedRefs_eq : (Finset.univ.filter fun b : Ref sig .tc => b.isScoped) = ∅ := by decide
theorem scopedSems_eq : (Finset.univ.filter fun sm : SemLoc sig => sm.isScoped .tc) = ∅ := by decide

/-- Every run of the reference ends with every array at the fold of its stretches. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = X24 (launchContents m c) (Proc.devRef .tc b) :=
  (θ_run defs _ _).mono (fun _ h c b => (h c b).trans (congrFun (after_ops _) _))
    (run_seq scopedRefs_eq scopedSems_eq defs main (fun _ => ops) main_eq (fun _ => ops_sub) m ρ
      (fun _ => List.forall_iff_forall_mem.mp ops_fresh))

end Cert.ReferenceIdeal.Own

end
-- ==== Proof.Consts.lean ====
/- The f32 constants of both programs, read as reals. -/
module

public import Idealize.ShloMosaic.Lib.Pointwise
public import Idealize.ShloMosaic.Lib.StableHlo
public import Idealize.ShloMosaic.PureOps.IdealRules

@[expose] public section

noncomputable section

namespace Cert.Spec

open Idealize.ShloMosaic

/-- The batch norm's epsilon as both programs carry it. -/
def eps : ℝ := 10995116 / 2 ^ 40

theorem eps_pos : 0 < eps := by unfold eps; norm_num

theorem bits_neg_one : Ideal.ofBits .f32 0xBF800000#32 = -1 := IdealRules.sign_bit.ideal_negOnePat .f32
theorem bits_two : Ideal.ofBits .f32 0x40000000#32 = ((2 : ℝ) : EReal) := by
  simp [Ideal.ofBits, Ideal.ieee, -EReal.coe_mul]; try norm_num
theorem bits_rows : Ideal.ofBits .f32 0x480E8000#32 = ((145920 : ℝ) : EReal) := by
  simp [Ideal.ofBits, Ideal.ieee, -EReal.coe_mul]; try norm_num
theorem bits_nodes : Ideal.ofBits .f32 0x44C00000#32 = ((1536 : ℝ) : EReal) := by
  simp [Ideal.ofBits, Ideal.ieee, -EReal.coe_mul]; try norm_num
theorem bits_eps : Ideal.ofBits .f32 0x3727C5AC#32 = ((eps : ℝ) : EReal) := by
  simp [Ideal.ofBits, Ideal.ieee, eps, -EReal.coe_mul]; try norm_num
theorem bits_inf : Ideal.ofBits .f32 0x7F800000#32 = ⊤ := by
  simp [Ideal.ofBits, Ideal.ieee, -EReal.coe_mul]

end Cert.Spec
-- ==== Proof.KernelIdeal.Stretch.lean ====
/- What the host's three stretches leave in the arrays the calls read, entry by entry. -/
module

public import proofs.«01_k».proof.Proof.KernelIdeal.Whole
public import proofs.«01_k».proof.Proof.Consts

@[expose] public section

set_option maxRecDepth 16384

noncomputable section

namespace Cert.KernelIdeal.Own
open Idealize.ShloMosaic.TcCoe
open Cert.KernelIdeal Cert.KernelIdeal.Gen
open Idealize.ShloMosaic Idealize.ShloMosaic.StableHlo

variable (V : Valuation τ sig (Elt Ideal))

theorem h0_v1 (x k : Fin 128) : after hostOps0 V (Proc.devRef .tc main_v1) (ix2 x k : S128x128.Idx) = V (Proc.devRef .tc main_arg5) (ix2 k ⟨x.val, by omega⟩ : S128x258.Idx) := by
  after_results
  pointwise
  try exact congrArg _ (congrArg (ix2 b) (Fin.ext (congrArg (· + e.val) (Nat.mul_comm _ _))))

theorem h0_v3 (x k : Fin 128) : after hostOps0 V (Proc.devRef .tc main_v3) (ix2 x k : S128x128.Idx) = V (Proc.devRef .tc main_arg5) (ix2 k ⟨128 + x.val, by omega⟩ : S128x258.Idx) := by
  after_results
  pointwise
  try exact congrArg _ (congrArg (ix2 b) (Fin.ext (congrArg (· + e.val) (Nat.mul_comm _ _))))

theorem h0_v8 (x k : Fin 128) : after hostOps0 V (Proc.devRef .tc main_v8) (ix2 x k : S128x128.Idx) = V (Proc.devRef .tc main_arg5) (ix2 k ⟨256, by omega⟩ : S128x258.Idx) := by
  after_results
  pointwise
  try exact congrArg _ (congrArg (ix2 b) (Fin.ext (congrArg (· + e.val) (Nat.mul_comm _ _))))

theorem h0_v13 (x k : Fin 128) : after hostOps0 V (Proc.devRef .tc main_v13) (ix2 x k : S128x128.Idx) = V (Proc.devRef .tc main_arg5) (ix2 k ⟨257, by omega⟩ : S128x258.Idx) := by
  after_results
  pointwise
  try exact congrArg _ (congrArg (ix2 b) (Fin.ext (congrArg (· + e.val) (Nat.mul_comm _ _))))

theorem h0_v14 (b : Fin 16) (x : Fin 4) (n : Fin 96) : after hostOps0 V (Proc.devRef .tc main_v14) (ix3 b x n : S16x4x96.Idx) = V (Proc.devRef .tc main_arg1) (ix3 b n x : S16x96x4.Idx) := by
  after_results
  pointwise
  try exact congrArg _ (congrArg (ix2 b) (Fin.ext (congrArg (· + e.val) (Nat.mul_comm _ _))))

theorem h0_v15 (b : Fin 16) (q : Fin 3) (e : Fin 3040) : after hostOps0 V (Proc.devRef .tc main_v15) (ix4 b q e 0 : S16x3x3040x1.Idx) = V (Proc.devRef .tc main_arg2) (ix2 b ⟨3040 * q.val + e.val, by omega⟩ : S16x9120.Idx) := by
  after_results
  pointwise
  try exact congrArg _ (congrArg (ix2 b) (Fin.ext (congrArg (· + e.val) (Nat.mul_comm _ _))))

theorem h0_v16 (b : Fin 16) (q : Fin 3) (e : Fin 3040) : after hostOps0 V (Proc.devRef .tc main_v16) (ix4 b q e 0 : S16x3x3040x1.Idx) = V (Proc.devRef .tc main_arg3) (ix2 b ⟨3040 * q.val + e.val, by omega⟩ : S16x9120.Idx) := by
  after_results
  pointwise
  try exact congrArg _ (congrArg (ix2 b) (Fin.ext (congrArg (· + e.val) (Nat.mul_comm _ _))))

theorem h0_v17 (b : Fin 16) (q : Fin 3) (e : Fin 3040) : after hostOps0 V (Proc.devRef .tc main_v17) (ix4 b q 0 e : S16x3x1x3040.Idx) = V (Proc.devRef .tc main_arg2) (ix2 b ⟨3040 * q.val + e.val, by omega⟩ : S16x9120.Idx) := by
  after_results
  pointwise
  try exact congrArg _ (congrArg (ix2 b) (Fin.ext (congrArg (· + e.val) (Nat.mul_comm _ _))))

theorem h1_v38 (x k : Fin 128) : after hostOps1 V (Proc.devRef .tc main_v38) (ix2 x k : S128x128.Idx) = V (Proc.devRef .tc main_arg8) (ix2 k x : S128x128.Idx) := by
  after_results
  pointwise
  try exact congrArg _ (congrArg (ix2 b) (Fin.ext (congrArg (· + e.val) (Nat.mul_comm _ _))))

theorem h1_v39 (k : Fin 128) : after hostOps1 V (Proc.devRef .tc main_v39) (ix2 0 k : S1x128.Idx) = V (Proc.devRef .tc main_arg9) (ix1 k : S128.Idx) := by
  after_results
  pointwise
  try exact congrArg _ (congrArg (ix2 b) (Fin.ext (congrArg (· + e.val) (Nat.mul_comm _ _))))

theorem h1_v42 (x k : Fin 128) : after hostOps1 V (Proc.devRef .tc main_v42) (ix2 x k : S128x128.Idx) = V (Proc.devRef .tc main_arg19) (ix2 0 x : S1x128.Idx) := by
  after_results
  pointwise
  try exact congrArg _ (congrArg (ix2 b) (Fin.ext (congrArg (· + e.val) (Nat.mul_comm _ _))))

theorem h1_v43  : after hostOps1 V (Proc.devRef .tc main_v43) (ix2 0 0 : S1x1.Idx) = V (Proc.devRef .tc main_arg20) (ix1 0 : S1.Idx) := by
  after_results
  pointwise
  try exact congrArg _ (congrArg (ix2 b) (Fin.ext (congrArg (· + e.val) (Nat.mul_comm _ _))))

theorem h1_v45 (x k : Fin 128) : after hostOps1 V (Proc.devRef .tc main_v45) (ix2 x k : S128x128.Idx) = V (Proc.devRef .tc main_arg16) (ix2 k x : S128x128.Idx) := by
  after_results
  pointwise
  try exact congrArg _ (congrArg (ix2 b) (Fin.ext (congrArg (· + e.val) (Nat.mul_comm _ _))))

theorem h1_v46 (k : Fin 128) : after hostOps1 V (Proc.devRef .tc main_v46) (ix2 0 k : S1x128.Idx) = V (Proc.devRef .tc main_arg17) (ix1 k : S128.Idx) := by
  after_results
  pointwise
  try exact congrArg _ (congrArg (ix2 b) (Fin.ext (congrArg (· + e.val) (Nat.mul_comm _ _))))

theorem h1_v49 (x : Fin 128) (k : Fin 8) : after hostOps1 V (Proc.devRef .tc main_v49) (ix2 x k : S128x8.Idx) = V (Proc.devRef .tc main_arg18) (ix2 0 x : S1x128.Idx) := by
  after_results
  pointwise
  try exact congrArg _ (congrArg (ix2 b) (Fin.ext (congrArg (· + e.val) (Nat.mul_comm _ _))))

theorem h2_v52 (x k : Fin 128) : after hostOps2 V (Proc.devRef .tc main_v52) (ix2 x k : S128x128.Idx) = V (Proc.devRef .tc main_arg10) (ix2 k ⟨x.val, by omega⟩ : S128x272.Idx) := by
  after_results
  pointwise
  try exact congrArg _ (congrArg (ix2 b) (Fin.ext (congrArg (· + e.val) (Nat.mul_comm _ _))))

theorem h2_v54 (x k : Fin 128) : after hostOps2 V (Proc.devRef .tc main_v54) (ix2 x k : S128x128.Idx) = V (Proc.devRef .tc main_arg10) (ix2 k ⟨128 + x.val, by omega⟩ : S128x272.Idx) := by
  after_results
  pointwise
  try exact congrArg _ (congrArg (ix2 b) (Fin.ext (congrArg (· + e.val) (Nat.mul_comm _ _))))

theorem h2_v56 (x : Fin 16) (k : Fin 128) : after hostOps2 V (Proc.devRef .tc main_v56) (ix2 x k : S16x128.Idx) = V (Proc.devRef .tc main_arg10) (ix2 k ⟨256 + x.val, by omega⟩ : S128x272.Idx) := by
  after_results
  pointwise
  try exact congrArg _ (congrArg (ix2 b) (Fin.ext (congrArg (· + e.val) (Nat.mul_comm _ _))))

theorem h2_v57 (k : Fin 128) : after hostOps2 V (Proc.devRef .tc main_v57) (ix2 0 k : S1x128.Idx) = V (Proc.devRef .tc main_arg11) (ix1 k : S128.Idx) := by
  after_results
  pointwise
  try exact congrArg _ (congrArg (ix2 b) (Fin.ext (congrArg (· + e.val) (Nat.mul_comm _ _))))

theorem h2_v58 (k : Fin 128) : after hostOps2 V (Proc.devRef .tc main_v58) (ix2 0 k : S1x128.Idx) = V (Proc.devRef .tc main_arg12) (ix1 k : S128.Idx) := by
  after_results
  pointwise
  try exact congrArg _ (congrArg (ix2 b) (Fin.ext (congrArg (· + e.val) (Nat.mul_comm _ _))))

theorem h2_v59 (k : Fin 128) : after hostOps2 V (Proc.devRef .tc main_v59) (ix2 0 k : S1x128.Idx) = V (Proc.devRef .tc main_arg13) (ix1 k : S128.Idx) := by
  after_results
  pointwise
  try exact congrArg _ (congrArg (ix2 b) (Fin.ext (congrArg (· + e.val) (Nat.mul_comm _ _))))

theorem h2_v60 (x k : Fin 128) : after hostOps2 V (Proc.devRef .tc main_v60) (ix2 x k : S128x128.Idx) = V (Proc.devRef .tc main_arg14) (ix2 k x : S128x128.Idx) := by
  after_results
  pointwise
  try exact congrArg _ (congrArg (ix2 b) (Fin.ext (congrArg (· + e.val) (Nat.mul_comm _ _))))

theorem h2_v61 (k : Fin 128) : after hostOps2 V (Proc.devRef .tc main_v61) (ix2 0 k : S1x128.Idx) = V (Proc.devRef .tc main_arg15) (ix1 k : S128.Idx) := by
  after_results
  pointwise
  try exact congrArg _ (congrArg (ix2 b) (Fin.ext (congrArg (· + e.val) (Nat.mul_comm _ _))))

/-- A sum's entry over the number of rows. -/
def smu (k : Fin 128) : EReal := Ideal.div (V (Proc.devRef .tc main_v18) (ix2 0 k : S8x128.Idx)) ((145920 : ℝ) : EReal)
def ssq (k : Fin 128) : EReal := Ideal.div (V (Proc.devRef .tc main_v18) (ix2 1 k : S8x128.Idx)) ((145920 : ℝ) : EReal)
def arg6 (k : Fin 128) : EReal := V (Proc.devRef .tc main_arg6) (ix1 k : S128.Idx)
def arg7 (k : Fin 128) : EReal := V (Proc.devRef .tc main_arg7) (ix1 k : S128.Idx)
def scl (k : Fin 128) : EReal := arg6 V k * Ideal.rsqrt (ssq V k - smu V k * smu V k + ((Cert.Spec.eps : ℝ) : EReal))

theorem h1_v35 (k : Fin 128) : after hostOps1 V (Proc.devRef .tc main_v35) (ix2 0 k : S1x128.Idx) = scl V k := by
  after_results
  pointwise
  unfold scl ssq smu arg6
  try unfold arg7
  simp only [← Cert.Spec.bits_rows, ← Cert.Spec.bits_eps]

theorem h1_v36 (k : Fin 128) : after hostOps1 V (Proc.devRef .tc main_v36) (ix2 0 k : S1x128.Idx) = (arg7 V k - smu V k * scl V k : EReal) := by
  after_results
  pointwise
  unfold scl ssq smu arg6
  try unfold arg7
  simp only [← Cert.Spec.bits_rows, ← Cert.Spec.bits_eps]

end Cert.KernelIdeal.Own
-- ==== Proof.Spec.lean ====
/- Small facts on extended reals, used on both sides: one-hot sums, the sign-log map, and sums of reals. -/
module

public import proofs.«01_k».proof.Proof.Consts
public import Idealize.ShloMosaic.Lib.Pointwise
public import Idealize.ShloMosaic.Lib.StableHlo

@[expose] public section

noncomputable section

namespace Cert.Spec

open Idealize.ShloMosaic

/-- One where the word is the number `n`, zero elsewhere. -/
def hot (w : BitVec 32) (n : ℕ) : EReal := if w = BitVec.ofNat 32 n then 1 else 0

theorem hot_ofNat {a b : ℕ} (ha : a < 2 ^ 32) (hb : b < 2 ^ 32) : hot (BitVec.ofNat 32 a) b = if a = b then 1 else 0 := by
  unfold hot
  refine if_congr ⟨fun h => ?_, fun h => by rw [h]⟩ rfl rfl
  have := congrArg BitVec.toNat h
  rw [BitVec.toNat_ofNat, BitVec.toNat_ofNat, Nat.mod_eq_of_lt ha, Nat.mod_eq_of_lt hb] at this
  exact this

/-- A compare of words, widened and converted, is the one-hot number. -/
theorem sitofp_eq (a : BitVec 32) (n : ℕ) :
    (FloatOps.sitofp (F := Ideal) .f32 (BitVec.setWidth 32 (IntOp.cmpi .eq a (BitVec.ofNat 32 n))) : EReal) = hot a n := by
  unfold hot
  by_cases h : a = BitVec.ofNat 32 n
  · rw [if_pos h, h]
    simp [IntOp.cmpi, FloatOps.sitofp]
  · rw [if_neg h]
    have hb : (a == BitVec.ofNat 32 n) = false := by simpa using h
    simp [IntOp.cmpi, FloatOps.sitofp, hb]

/-- A one-hot row against a column reads the column at the hot place. -/
theorem hot_mul_sum {N : ℕ} (hN : N ≤ 2 ^ 32) (i : Fin N) (f : Fin N → EReal) : ∑ n, hot (BitVec.ofNat 32 i.val) n.val * f n = f i := by
  rw [Finset.sum_eq_single i]
  · rw [hot_ofNat (by omega) (by omega), if_pos rfl, one_mul]
  · intro n _ hn
    rw [hot_ofNat (by omega) (by omega), if_neg (fun h => hn (Fin.ext h.symm)), zero_mul]
  · intro h; exact absurd (Finset.mem_univ i) h

theorem mul_hot_sum {N : ℕ} (hN : N ≤ 2 ^ 32) (i : Fin N) (f : Fin N → EReal) : ∑ n, f n * hot (BitVec.ofNat 32 i.val) n.val = f i := by
  rw [← hot_mul_sum hN i f]
  exact Finset.sum_congr rfl fun n _ => mul_comm _ _

/-- The sign-log map. -/
def psi (s : EReal) : EReal := Ideal.sign s * Ideal.log (max s (-s) + 1)

/-- The kernel's own spelling of the sign. -/
theorem sign_ite (s : EReal) :
    (if 0 < max s (-s) then if s < 0 then (-1 : EReal) else 1 else s) = Ideal.sign s := by
  have h := Ideal.jnp_sign_eq_sign_f32 s
  rw [← h]
  pointwise []
  rw [bits_neg_one]
  rfl

/-- The sign row of the Minkowski metric. -/
def met (x : Fin 4) : EReal := if x = 0 then 1 else -1

theorem met_select (x : Fin 4) :
    Scalar.select (IntOp.cmpi .eq (BitVec.ofNat 32 x.val) 0#32) (1 : EReal) (Ideal.ofBits .f32 3212836864#32) = met x := by
  rw [show Ideal.ofBits .f32 3212836864#32 = -1 from bits_neg_one]
  fin_cases x <;> simp [met, Scalar.select, IntOp.cmpi]

end Cert.Spec
-- ==== Proof.KernelIdeal.Pay1.lean ====
/- What the second call's payloads are at an index. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Own

open Cert.KernelIdeal Cert.KernelIdeal.Gen Cert.Spec
open Idealize.ShloMosaic

/-! ## One-hot rows -/

theorem pay20_at (v : Vec Ideal S1x1x3040x1 .i32) (e : Fin 3040) (k : Fin 128) :
    k1_pay20 (F := Ideal) v (ix2 e k) = hot (v (ix4 0 0 e 0)) k.val := by
  pointwise [k1_pay20]
  exact sitofp_eq _ _

theorem pay21_at (v : Vec Ideal S1x1x3040x1 .i32) (e : Fin 3040) (k : Fin 128) :
    k1_pay21 (F := Ideal) v (ix2 e k) = hot (v (ix4 0 0 e 0)) k.val := by
  pointwise [k1_pay21]
  exact sitofp_eq _ _

theorem pay29_at (v : Vec Ideal S1x1x1x3040 .i32) (n : Fin 96) (e : Fin 3040) :
    k1_pay29 (F := Ideal) v (ix2 n e) = hot (v (ix4 0 0 0 e)) n.val := by
  pointwise [k1_pay29]
  exact sitofp_eq _ _

/-! ## The table rows -/

theorem pay8_at (v : Vec Ideal S1x96x128 .f32) (w : Vec Ideal S128x128 .f32) (e : Fin 96) (k : Fin 128) :
    k1_pay8 (F := Ideal) v w (ix2 e k) = ∑ x : Fin 128, v (ix3 0 e x) * w (ix2 x k) := by
  pointwise [k1_pay8, k1_pay7]

theorem pay9_at (v : Vec Ideal S1x96x128 .f32) (w : Vec Ideal S128x128 .f32) (e : Fin 96) (k : Fin 128) :
    k1_pay9 (F := Ideal) v w (ix2 e k) = ∑ x : Fin 128, v (ix3 0 e x) * w (ix2 x k) := by
  pointwise [k1_pay9, k1_pay7]

theorem pay13_at (v : Vec Ideal S1x96x4 .f32) (w : Vec Ideal S1x4x96 .f32) (e : Fin 96) (k : Fin 96) :
    k1_pay13 (F := Ideal) v w (ix2 e k) = ∑ x : Fin 4, v (ix3 0 e x) * met x * w (ix3 0 x k) := by
  pointwise [k1_pay13, k1_pay12, k1_pay11, k1_pay10]
  exact Finset.sum_congr rfl fun x _ => by rw [← met_select x]

theorem pay14_at (w : Vec Ideal S1x4x96 .f32) (e : Fin 1) (k : Fin 96) :
    k1_pay14 (F := Ideal) w (ix2 e k) = ∑ x : Fin 4, w (ix3 0 x k) * w (ix3 0 x k) * met x := by
  pointwise [k1_pay14, k1_pay11]
  exact Finset.sum_congr rfl fun x _ => by rw [← met_select x]

theorem pay15_at (v : Vec Ideal S1x96x4 .f32) (e : Fin 96) (k : Fin 96) :
    k1_pay15 (F := Ideal) v (ix2 e k) = ∑ x : Fin 4, v (ix3 0 e x) * met x * v (ix3 0 e x) := by
  pointwise [k1_pay15, k1_pay12, k1_pay10]
  exact Finset.sum_congr rfl fun x _ => by rw [← met_select x]

theorem pay18_at (v : FVec Ideal S96x128 .f32) (e : Fin 128) (k : Fin 128) :
    k1_pay18 (F := Ideal) (k1_pay17 v) (ix2 e k) = if h : e.val < 96 then v (ix2 ⟨e.val, h⟩ k) else 0 := by
  pointwise [k1_pay18, k1_pay17]

theorem pay19_at (v : Vec Ideal S1x96x4 .f32) (e : Fin 128) (k : Fin 8) :
    k1_pay19 (F := Ideal) (k1_pay10 v) (ix2 e k)
      = if h : e.val < 96 then if h' : k.val < 4 then v (ix3 0 ⟨e.val, h⟩ ⟨k.val, h'⟩) else 0 else 0 := by
  pointwise [k1_pay19, k1_pay10]

section
variable (v125 : FVec Ideal S96x128 .f32) (v147 : FVec Ideal S96x96 .f32) (v155 : FVec Ideal S1x96 .f32) (v156 : FVec Ideal S96x96 .f32)

theorem pay16_hp (i : Fin 96) (k : Fin 128) :
    k1_pay16 (F := Ideal) v125 v147 v155 v156 (ix2 ⟨i.val, by omega⟩ ⟨k.val, by omega⟩) = v125 (ix2 i k) := by
  pointwise [k1_pay16]

theorem pay16_nsq (i : Fin 96) (k : Fin 96) :
    k1_pay16 (F := Ideal) v125 v147 v155 v156 (ix2 ⟨i.val, by omega⟩ ⟨128 + k.val, by omega⟩)
      = psi (v156 (ix2 i k) + v155 (ix2 0 k) - ((2 : ℝ) : EReal) * v147 (ix2 i k)) := by
  pointwise [k1_pay16]
  rw [show Ideal.ofBits .f32 3212836864#32 = -1 from bits_neg_one, show Ideal.ofBits .f32 1073741824#32 = ((2 : ℝ) : EReal) from bits_two]
  unfold psi
  rw [← sign_ite]
  rfl

theorem pay16_dd (i : Fin 96) (k : Fin 96) :
    k1_pay16 (F := Ideal) v125 v147 v155 v156 (ix2 ⟨i.val, by omega⟩ ⟨256 + k.val, by omega⟩) = psi (v147 (ix2 i k)) := by
  pointwise [k1_pay16]
  rw [dif_neg (by omega), dif_neg (by omega), dif_neg (by omega), dif_pos (by omega)]
  simp only [show 256 + k.val - 128 - 96 - 32 = k.val by omega, Fin.eta]
  rw [show Ideal.ofBits .f32 3212836864#32 = -1 from bits_neg_one]
  unfold psi
  rw [← sign_ite]
  rfl
end

/-! ## Rows of an edge block -/

theorem pay23_at (v3 v5 : Vec Ideal S1x1x3040x1 .i32) (T : Vec Ideal S128x384 .bf16) (e : Fin 3040) (k : Fin 128) :
    k1_pay23 (F := Ideal) v3 v5 T (ix2 e k)
      = (∑ x : Fin 128, hot (v3 (ix4 0 0 e 0)) x.val * T (ix2 x ⟨256 + k.val, by omega⟩)) * hot (v5 (ix4 0 0 e 0)) k.val := by
  pointwise [k1_pay23, k1_pay22, pay20_at, pay21_at]

theorem pay24_at (v3 v5 : Vec Ideal S1x1x3040x1 .i32) (T : Vec Ideal S128x384 .bf16) (T' w : Vec Ideal S128x128 .bf16) (e : Fin 3040) (k : Fin 128) :
    k1_pay24 (F := Ideal) v3 v5 T T' w (ix2 e k)
      = ∑ x : Fin 128, hot (v3 (ix4 0 0 e 0)) x.val * T (ix2 x ⟨k.val, by omega⟩) + ∑ x : Fin 128, hot (v5 (ix4 0 0 e 0)) x.val * T' (ix2 x k)
        + ∑ x : Fin 128, (∑ y : Fin 128, hot (v3 (ix4 0 0 e 0)) y.val * T (ix2 y ⟨128 + x.val, by omega⟩)) * hot (v5 (ix4 0 0 e 0)) x.val * w (ix2 x k) := by
  pointwise [k1_pay24, k1_pay22, pay20_at, pay21_at]

/-- The message row from the first layer's row, its affine normalisation and the two dense layers. -/
def mpre (z s b : Fin 128 → EReal) (w2 : Fin 128 → Fin 128 → EReal) (b2 : Fin 128 → EReal) (k : Fin 128) : EReal :=
  max (∑ x, max (z x * s x + b x) 0 * w2 x k + b2 k) 0
def mrow (z s b : Fin 128 → EReal) (w2 : Fin 128 → Fin 128 → EReal) (b2 : Fin 128 → EReal) (wm : Fin 128 → EReal) (bm : EReal) (k : Fin 128) : EReal :=
  mpre z s b w2 b2 k * Ideal.logistic (∑ x, mpre z s b w2 b2 x * wm x + bm)

section
variable (v29 : FVec Ideal S3040x128 .bf16) (v35 : FVec Ideal S3040x128 .f32) (v36 : Vec Ideal S128x128 .bf16) (v40 : Vec Ideal S1x128 .f32) (v44 : Vec Ideal S1x128 .f32) (v51 : Vec Ideal S128x128 .bf16) (v54 : Vec Ideal S1x128 .f32) (v61 : Vec Ideal S128x128 .bf16) (v64 : Vec Ideal S1x1 .f32)

theorem pay25_at (e : Fin 3040) (k : Fin 128) :
    k1_pay25 (F := Ideal) v29 v35 v36 v40 v44 v51 v54 v61 v64 (ix2 e k)
      = mrow (fun x => v35 (ix2 e x) + ∑ y : Fin 128, v29 (ix2 e y) * v36 (ix2 y x)) (fun x => v40 (ix2 0 x)) (fun x => v44 (ix2 0 x))
          (fun x y => v51 (ix2 x y)) (fun x => v54 (ix2 0 x)) (fun x => v61 (ix2 x k)) (v64 (ix2 0 0)) k := by
  pointwise [k1_pay25]
  rfl

theorem pay26_at (e : Fin 3040) (k : Fin 128) :
    k1_pay26 (F := Ideal) v29 v35 v36 v40 v44 v51 v54 v61 v64 (ix3 0 e k)
      = k1_pay25 (F := Ideal) v29 v35 v36 v40 v44 v51 v54 v61 v64 (ix2 e k) := by
  pointwise [k1_pay26]

theorem pay27_at (e : Fin 3040) (k : Fin 128) :
    k1_pay27 (F := Ideal) v29 v35 v36 v40 v44 v51 v54 v61 v64 (ix2 e k)
      = k1_pay25 (F := Ideal) v29 v35 v36 v40 v44 v51 v54 v61 v64 (ix2 e k) := by
  pointwise [k1_pay27]
end

theorem pay30_at (v : FVec Ideal S3040x128 .f32) (e : Fin 3040) (k : Fin 128) : k1_pay30 (F := Ideal) v (ix2 e k) = v (ix2 e k) := by
  pointwise [k1_pay30]

/-- The clipped step of an edge along a column, with the count column. -/
def tprow (d : EReal) (m : Fin 128 → EReal) (wx1 : Fin 128 → Fin 128 → EReal) (bx1 : Fin 128 → EReal) (wx2 : Fin 128 → EReal) : EReal :=
  min (Ideal.ofBits .f32 0x42C80000#32) (max (Ideal.ofBits .f32 0xC2C80000#32) (d * ∑ x, max (∑ y, m y * wx1 y x + bx1 x) 0 * wx2 x))

theorem pay28_at (v3 v5 : Vec Ideal S1x1x3040x1 .i32) (v73 : FVec Ideal S3040x128 .bf16) (v74 : Vec Ideal S128x128 .bf16) (v77 : Vec Ideal S1x128 .f32) (v84 : Vec Ideal S128x8 .bf16) (v88 : Vec Ideal S128x8 .bf16) (e : Fin 3040) (k : Fin 8) :
    k1_pay28 (F := Ideal) (k1_pay20 v3) (k1_pay21 v5) v73 v74 v77 v84 v88 (ix2 e k)
      = tprow (∑ x : Fin 128, (hot (v3 (ix4 0 0 e 0)) x.val - hot (v5 (ix4 0 0 e 0)) x.val) * v88 (ix2 x k))
          (fun y => v73 (ix2 e y)) (fun y x => v74 (ix2 y x)) (fun x => v77 (ix2 0 x)) (fun x => v84 (ix2 x k))
        + (if k.val = 4 then 1 else 0) := by
  pointwise [k1_pay28, pay20_at, pay21_at]
  congr 1
  fin_cases k <;> simp [Scalar.select, IntOp.cmpi]

theorem pay3_at (v111 : FVec Ideal S96x3040 .bf16) (v112 : FVec Ideal S3040x128 .bf16) (n : Fin 96) (k : Fin 128) :
    k1_pay3 (F := Ideal) v111 v112 (constant S96x128 .f32 0#32) (ix3 0 n k) = ∑ e : Fin 3040, v111 (ix2 n e) * v112 (ix2 e k) := by
  pointwise [k1_pay3, k1_pay1]

theorem pay5_at (v111 : FVec Ideal S96x3040 .bf16) (v112 : FVec Ideal S3040x128 .bf16) (p : Vec Ideal S1x96x128 .f32) (n : Fin 96) (k : Fin 128) :
    k1_pay5 (F := Ideal) v111 v112 (constant S96x128 .f32 0#32) p (ix3 0 n k) = p (ix3 0 n k) + ∑ e : Fin 3040, v111 (ix2 n e) * v112 (ix2 e k) := by
  pointwise [k1_pay5, k1_pay1]

theorem pay4_at (v103 : FVec Ideal S3040x8 .bf16) (v111 : FVec Ideal S96x3040 .bf16) (n : Fin 96) (k : Fin 8) :
    k1_pay4 (F := Ideal) v103 v111 (ix3 0 n k) = ∑ e : Fin 3040, v111 (ix2 n e) * v103 (ix2 e k) := by
  pointwise [k1_pay4, k1_pay2]

theorem pay6_at (v103 : FVec Ideal S3040x8 .bf16) (v111 : FVec Ideal S96x3040 .bf16) (p : Vec Ideal S1x96x8 .f32) (n : Fin 96) (k : Fin 8) :
    k1_pay6 (F := Ideal) v103 v111 p (ix3 0 n k) = p (ix3 0 n k) + ∑ e : Fin 3040, v111 (ix2 n e) * v103 (ix2 e k) := by
  pointwise [k1_pay6, k1_pay2]

end Cert.KernelIdeal.Own
-- ==== Proof.KernelIdeal.Read0.lean ====
/- What the first call leaves at a point, in the named payloads of the body. -/
module

public import proofs.«01_k».proof.Proof.KernelIdeal.State0
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Own

open Cert.KernelIdeal Cert.KernelIdeal.Gen
open Idealize.ShloMosaic
open Idealize.ShloMosaic.TcCoe

variable (V : (c : Dev nD) → (b : Ref sig .tc) → Buf (Elt Ideal) ((c : Thread nD τ).loc b))

/-- The tables a first block builds. -/
def tabi0 (c : Dev nD) (t : Fin cfg0.N) : Vec Ideal S128x384 .bf16 :=
  k0_pay14 (k0_pay6 (iblk0 V c 2 t) (iblk0 V c 5 t)) (k0_pay11 (iblk0 V c 3 t) (iblk0 V c 4 t)) (k0_pay12 (iblk0 V c 4 t)) (k0_pay13 (iblk0 V c 3 t))
def tabj0 (c : Dev nD) (t : Fin cfg0.N) : Vec Ideal S128x128 .bf16 := k0_pay16 (k0_pay15 (k0_pay7 (iblk0 V c 2 t) (iblk0 V c 6 t)))

/-- A block's first-layer rows, over tables. -/
def z0 (c : Dev nD) (t : Fin cfg0.N) (T : Vec Ideal S128x384 .bf16) (T' : Vec Ideal S128x128 .bf16) : FVec Ideal S3040x128 .f32 :=
  k0_pay1 (k0_pay20 (iblk0 V c 0 t) (iblk0 V c 1 t) T) (k0_pay21 (iblk0 V c 0 t) (iblk0 V c 1 t) T T' (iblk0 V c 7 t)) (iblk0 V c 8 t)

theorem st0_A_ti (c : Dev nD) (t : Fin cfg0.N) (hz : t.val = 0) : (st0_A V c t hz).2.1 = tabi0 V c t := by
  unfold st0_A; dsimp only
  refine (View.read_writes_eq_canon _ _ _ (scover0_A_0 V c t hz)).trans ?_
  unfold run0_A
  frame_out
  rfl

theorem st0_A_tj (c : Dev nD) (t : Fin cfg0.N) (hz : t.val = 0) : (st0_A V c t hz).2.2 = tabj0 V c t := by
  unfold st0_A; dsimp only
  refine (View.read_writes_eq_canon _ _ _ (scover0_A_1 V c t hz)).trans ?_
  unfold run0_A
  frame_out
  rfl

theorem st0_C_ti (c : Dev nD) (t : Fin cfg0.N) (h0 : t.val % 3 = 0) (hz : t.val ≠ 0) (p : St0 Ideal) : (st0_C V c t h0 hz p).2.1 = tabi0 V c t := by
  unfold st0_C; dsimp only
  refine (View.read_writes_eq_canon _ _ _ (scover0_C_0 V c t h0 hz p)).trans ?_
  unfold run0_C
  frame_out
  rfl

theorem st0_C_tj (c : Dev nD) (t : Fin cfg0.N) (h0 : t.val % 3 = 0) (hz : t.val ≠ 0) (p : St0 Ideal) : (st0_C V c t h0 hz p).2.2 = tabj0 V c t := by
  unfold st0_C; dsimp only
  refine (View.read_writes_eq_canon _ _ _ (scover0_C_1 V c t h0 hz p)).trans ?_
  unfold run0_C
  frame_out
  rfl

theorem st0_C_0 (c : Dev nD) (t : Fin cfg0.N) (h0 : t.val % 3 = 0) (hz : t.val ≠ 0) (p : St0 Ideal) (k : Fin 128) :
    (st0_C V c t h0 hz p).1 (ix2 0 k) = p.1 (ix2 0 k) + ∑ e : Fin 3040, z0 V c t (tabi0 V c t) (tabj0 V c t) (ix2 e k) := by
  unfold st0_C; dsimp only
  unfold run0_C
  frame_out
  refine (View.read_writes_cons_unit_of_not_mem _ _ _ _ _ _ rfl 0 (.inl (by show (0:ℕ) < 1; omega))).trans ?_
  refine (View.read_writes_cons_unit_of_mem _ _ _ _ _ _ (ix2 0 k) rfl (fun a => by fin_cases a <;> simp)).trans ?_
  pointwise [k0_pay3]
  rfl

theorem st0_C_1 (c : Dev nD) (t : Fin cfg0.N) (h0 : t.val % 3 = 0) (hz : t.val ≠ 0) (p : St0 Ideal) (k : Fin 128) :
    (st0_C V c t h0 hz p).1 (ix2 1 k) = p.1 (ix2 1 k) + ∑ e : Fin 3040, z0 V c t (tabi0 V c t) (tabj0 V c t) (ix2 e k) * z0 V c t (tabi0 V c t) (tabj0 V c t) (ix2 e k) := by
  unfold st0_C; dsimp only
  unfold run0_C
  frame_out
  refine (View.read_writes_cons_unit_of_mem _ _ _ _ _ _ (ix2 0 k) rfl (fun a => by fin_cases a <;> simp)).trans ?_
  pointwise [k0_pay4]
  rfl

theorem st0_B_0 (c : Dev nD) (t : Fin cfg0.N) (h0 : ¬t.val % 3 = 0) (p : St0 Ideal) (k : Fin 128) :
    (st0_B V c t h0 p).1 (ix2 0 k) = p.1 (ix2 0 k) + ∑ e : Fin 3040, z0 V c t p.2.1 p.2.2 (ix2 e k) := by
  unfold st0_B; dsimp only
  unfold run0_B
  frame_out
  simp only [read_unread_whole]
  refine (View.read_writes_cons_unit_of_not_mem _ _ _ _ _ _ rfl 0 (.inl (by show (0:ℕ) < 1; omega))).trans ?_
  refine (View.read_writes_cons_unit_of_mem _ _ _ _ _ _ (ix2 0 k) rfl (fun a => by fin_cases a <;> simp)).trans ?_
  pointwise [k0_pay3]
  rfl

theorem st0_B_1 (c : Dev nD) (t : Fin cfg0.N) (h0 : ¬t.val % 3 = 0) (p : St0 Ideal) (k : Fin 128) :
    (st0_B V c t h0 p).1 (ix2 1 k) = p.1 (ix2 1 k) + ∑ e : Fin 3040, z0 V c t p.2.1 p.2.2 (ix2 e k) * z0 V c t p.2.1 p.2.2 (ix2 e k) := by
  unfold st0_B; dsimp only
  unfold run0_B
  frame_out
  simp only [read_unread_whole]
  refine (View.read_writes_cons_unit_of_mem _ _ _ _ _ _ (ix2 0 k) rfl (fun a => by fin_cases a <;> simp)).trans ?_
  pointwise [k0_pay4]
  rfl

theorem st0_A_0 (c : Dev nD) (t : Fin cfg0.N) (hz : t.val = 0) (k : Fin 128) :
    (st0_A V c t hz).1 (ix2 0 k) = ∑ e : Fin 3040, z0 V c t (tabi0 V c t) (tabj0 V c t) (ix2 e k) := by
  unfold st0_A; dsimp only
  unfold run0_A
  frame_out
  simp (disch := decide) only [View.readCov_skip, View.readCov_cons_toLoadRect, View.readCov_fill]
  rw [← View.read_writes_junk_eq_canon VO0_9]
  refine (View.read_writes_cons_unit_of_not_mem _ _ _ _ _ _ rfl 0 (.inl (by show (0:ℕ) < 1; omega))).trans ?_
  refine (View.read_writes_cons_unit_of_mem _ _ _ _ _ _ (ix2 0 k) rfl (fun a => by fin_cases a <;> simp)).trans ?_
  pointwise [k0_pay3, k0_pay2]
  rfl

theorem st0_A_1 (c : Dev nD) (t : Fin cfg0.N) (hz : t.val = 0) (k : Fin 128) :
    (st0_A V c t hz).1 (ix2 1 k) = ∑ e : Fin 3040, z0 V c t (tabi0 V c t) (tabj0 V c t) (ix2 e k) * z0 V c t (tabi0 V c t) (tabj0 V c t) (ix2 e k) := by
  unfold st0_A; dsimp only
  unfold run0_A
  frame_out
  simp (disch := decide) only [View.readCov_skip, View.readCov_cons_toLoadRect, View.readCov_fill]
  rw [← View.read_writes_junk_eq_canon VO0_9]
  refine (View.read_writes_cons_unit_of_mem _ _ _ _ _ _ (ix2 0 k) rfl (fun a => by fin_cases a <;> simp)).trans ?_
  pointwise [k0_pay4, k0_pay2]
  rfl

end Cert.KernelIdeal.Own
-- ==== Proof.KernelIdeal.Blk0.lean ====
/- What the blocks of call 0 hold, off the arrays the call finds. -/
module

public import proofs.«01_k».proof.Proof.KernelIdeal.Read0

@[expose] public section

set_option maxRecDepth 16384

noncomputable section

namespace Cert.KernelIdeal.Own

open Cert.KernelIdeal Cert.KernelIdeal.Gen
open Idealize.ShloMosaic
open Idealize.ShloMosaic.TcCoe

variable (V : (c : Dev nD) → (b : Ref sig .tc) → Buf (Elt Ideal) ((c : Thread nD τ).loc b))
variable (c : Dev nD) (t : Fin cfg0.N)

theorem coords0 (b : Fin 16) (q : Fin 3) (h : t.val = 3 * b.val + q.val) :
    (grid0.coords t 0).val = b.val ∧ (grid0.coords t 1).val = q.val := by
  have ht : t.val < 48 := Nat.lt_of_lt_of_eq t.isLt N_0
  have e0 : (grid0.coords t 0).val = t.val / 3 % 16 := Pipeline.Grid.coords_val t 0 (by decide) rfl
  have e1 : (grid0.coords t 1).val = t.val / 1 % 3 := Pipeline.Grid.coords_val t 1 (by decide) rfl
  omega

theorem iblk0_0 (b : Fin 16) (q : Fin 3) (h : t.val = 3 * b.val + q.val) (e : Fin 3040) :
    iblk0 V c 0 t (ix4 0 0 e 0) = V c main_v15 (ix4 b q e 0) := by
  have ix : win0_0.index t = ![(BitVec.ofNat 32 (grid0.coords t 0).val).toNat, (BitVec.ofNat 32 (grid0.coords t 1).val).toNat, 0, 0] := rfl
  have hb := (coords0 t b q h).1
  have hq := (coords0 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk0]
  refine congrArg (V c main_v15) (funext fun a => Fin.ext ?_)
  fin_cases a <;> (blk_simp; simp [ix])

theorem iblk0_1 (b : Fin 16) (q : Fin 3) (h : t.val = 3 * b.val + q.val) (e : Fin 3040) :
    iblk0 V c 1 t (ix4 0 0 e 0) = V c main_v16 (ix4 b q e 0) := by
  have ix : win0_1.index t = ![(BitVec.ofNat 32 (grid0.coords t 0).val).toNat, (BitVec.ofNat 32 (grid0.coords t 1).val).toNat, 0, 0] := rfl
  have hb := (coords0 t b q h).1
  have hq := (coords0 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk0]
  refine congrArg (V c main_v16) (funext fun a => Fin.ext ?_)
  fin_cases a <;> (blk_simp; simp [ix])

theorem iblk0_2 (b : Fin 16) (q : Fin 3) (h : t.val = 3 * b.val + q.val) (i : Fin 96) (k : Fin 128) :
    iblk0 V c 2 t (ix3 0 i k) = V c main_arg0 (ix3 b i k) := by
  have ix : win0_2.index t = ![(BitVec.ofNat 32 (grid0.coords t 0).val).toNat, 0, 0] := rfl
  have hb := (coords0 t b q h).1
  have hq := (coords0 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk0]
  refine congrArg (V c main_arg0) (funext fun a => Fin.ext ?_)
  fin_cases a <;> (blk_simp; simp [ix])

theorem iblk0_3 (b : Fin 16) (q : Fin 3) (h : t.val = 3 * b.val + q.val) (i : Fin 96) (k : Fin 4) :
    iblk0 V c 3 t (ix3 0 i k) = V c main_arg1 (ix3 b i k) := by
  have ix : win0_3.index t = ![(BitVec.ofNat 32 (grid0.coords t 0).val).toNat, 0, 0] := rfl
  have hb := (coords0 t b q h).1
  have hq := (coords0 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk0]
  refine congrArg (V c main_arg1) (funext fun a => Fin.ext ?_)
  fin_cases a <;> (blk_simp; simp [ix])

theorem iblk0_4 (b : Fin 16) (q : Fin 3) (h : t.val = 3 * b.val + q.val) (i : Fin 4) (k : Fin 96) :
    iblk0 V c 4 t (ix3 0 i k) = V c main_v14 (ix3 b i k) := by
  have ix : win0_4.index t = ![(BitVec.ofNat 32 (grid0.coords t 0).val).toNat, 0, 0] := rfl
  have hb := (coords0 t b q h).1
  have hq := (coords0 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk0]
  refine congrArg (V c main_v14) (funext fun a => Fin.ext ?_)
  fin_cases a <;> (blk_simp; simp [ix])

theorem iblk0_5 : iblk0 V c 5 t = V c main_v1 := by
  funext y
  have ix : win0_5.index t = ![0, 0] := rfl
  blk_simp [iblk0]
  refine congrArg (V c main_v1) (funext fun a => Fin.ext ?_)
  fin_cases a <;> (blk_simp; simp [ix])

theorem iblk0_6 : iblk0 V c 6 t = V c main_v3 := by
  funext y
  have ix : win0_6.index t = ![0, 0] := rfl
  blk_simp [iblk0]
  refine congrArg (V c main_v3) (funext fun a => Fin.ext ?_)
  fin_cases a <;> (blk_simp; simp [ix])

theorem iblk0_7 : iblk0 V c 7 t = V c main_v8 := by
  funext y
  have ix : win0_7.index t = ![0, 0] := rfl
  blk_simp [iblk0]
  refine congrArg (V c main_v8) (funext fun a => Fin.ext ?_)
  fin_cases a <;> (blk_simp; simp [ix])

theorem iblk0_8 : iblk0 V c 8 t = V c main_v13 := by
  funext y
  have ix : win0_8.index t = ![0, 0] := rfl
  blk_simp [iblk0]
  refine congrArg (V c main_v13) (funext fun a => Fin.ext ?_)
  fin_cases a <;> (blk_simp; simp [ix])

end Cert.KernelIdeal.Own
-- ==== Proof.KernelIdeal.Read1.lean ====
/- What the second call leaves at a point, in the named payloads of the body. -/
module

public import proofs.«01_k».proof.Proof.KernelIdeal.State1
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Own

open Cert.KernelIdeal Cert.KernelIdeal.Gen
open Idealize.ShloMosaic
open Idealize.ShloMosaic.TcCoe

variable (V : (c : Dev nD) → (b : Ref sig .tc) → Buf (Elt Ideal) ((c : Thread nD τ).loc b))

/-- The tables a first block builds. -/
def tabi1 (c : Dev nD) (t : Fin cfg1.N) : Vec Ideal S128x384 .bf16 :=
  k1_pay16 (k1_pay8 (iblk1 V c 3 t) (iblk1 V c 6 t)) (k1_pay13 (iblk1 V c 4 t) (iblk1 V c 5 t)) (k1_pay14 (iblk1 V c 5 t)) (k1_pay15 (iblk1 V c 4 t))
def tabj1 (c : Dev nD) (t : Fin cfg1.N) : Vec Ideal S128x128 .bf16 := k1_pay18 (k1_pay17 (k1_pay9 (iblk1 V c 3 t) (iblk1 V c 7 t)))
def xpad1 (c : Dev nD) (t : Fin cfg1.N) : Vec Ideal S128x8 .bf16 := k1_pay19 (k1_pay10 (iblk1 V c 4 t))

/-- A block's message rows, over tables. -/
def msg1 (c : Dev nD) (t : Fin cfg1.N) (T : Vec Ideal S128x384 .bf16) (T' : Vec Ideal S128x128 .bf16) : FVec Ideal S3040x128 .f32 :=
  k1_pay25 (k1_pay23 (iblk1 V c 0 t) (iblk1 V c 1 t) T) (k1_pay24 (iblk1 V c 0 t) (iblk1 V c 1 t) T T' (iblk1 V c 8 t)) (iblk1 V c 9 t) (iblk1 V c 10 t)
    (iblk1 V c 11 t) (iblk1 V c 12 t) (iblk1 V c 13 t) (iblk1 V c 14 t) (iblk1 V c 15 t)
def mout1 (c : Dev nD) (t : Fin cfg1.N) (T : Vec Ideal S128x384 .bf16) (T' : Vec Ideal S128x128 .bf16) : FVec Ideal S1x3040x128 .f32 :=
  k1_pay26 (k1_pay23 (iblk1 V c 0 t) (iblk1 V c 1 t) T) (k1_pay24 (iblk1 V c 0 t) (iblk1 V c 1 t) T T' (iblk1 V c 8 t)) (iblk1 V c 9 t) (iblk1 V c 10 t)
    (iblk1 V c 11 t) (iblk1 V c 12 t) (iblk1 V c 13 t) (iblk1 V c 14 t) (iblk1 V c 15 t)
def mbf1 (c : Dev nD) (t : Fin cfg1.N) (T : Vec Ideal S128x384 .bf16) (T' : Vec Ideal S128x128 .bf16) : FVec Ideal S3040x128 .bf16 :=
  k1_pay27 (k1_pay23 (iblk1 V c 0 t) (iblk1 V c 1 t) T) (k1_pay24 (iblk1 V c 0 t) (iblk1 V c 1 t) T T' (iblk1 V c 8 t)) (iblk1 V c 9 t) (iblk1 V c 10 t)
    (iblk1 V c 11 t) (iblk1 V c 12 t) (iblk1 V c 13 t) (iblk1 V c 14 t) (iblk1 V c 15 t)
/-- A block's steps with the count column, over tables. -/
def tp1 (c : Dev nD) (t : Fin cfg1.N) (T : Vec Ideal S128x384 .bf16) (T' : Vec Ideal S128x128 .bf16) (X : Vec Ideal S128x8 .bf16) : FVec Ideal S3040x8 .bf16 :=
  k1_pay28 (k1_pay20 (iblk1 V c 0 t)) (k1_pay21 (iblk1 V c 1 t)) (mbf1 V c t T T') (iblk1 V c 16 t) (iblk1 V c 17 t) (iblk1 V c 18 t) X

theorem st1_A_m (c : Dev nD) (t : Fin cfg1.N) (h0 : t.val % 3 = 0) : (st1_A V c t h0).1 = mout1 V c t (tabi1 V c t) (tabj1 V c t) := by
  unfold st1_A; dsimp only
  refine (View.read_writes_eq_canon _ _ _ (cover1_A_19 V c t h0)).trans ?_
  unfold run1_A
  frame_out
  rfl

theorem st1_A_am (c : Dev nD) (t : Fin cfg1.N) (h0 : t.val % 3 = 0) : (st1_A V c t h0).2.1 = k1_pay3 (k1_pay29 (iblk1 V c 2 t)) (k1_pay30 (msg1 V c t (tabi1 V c t) (tabj1 V c t))) (constant S96x128 .f32 0#32) := by
  unfold st1_A; dsimp only
  refine (View.read_writes_eq_canon _ _ _ (cover1_A_20 V c t h0)).trans ?_
  unfold run1_A
  frame_out
  rfl

theorem st1_A_ax (c : Dev nD) (t : Fin cfg1.N) (h0 : t.val % 3 = 0) : (st1_A V c t h0).2.2.1 = k1_pay4 (tp1 V c t (tabi1 V c t) (tabj1 V c t) (xpad1 V c t)) (k1_pay29 (iblk1 V c 2 t)) := by
  unfold st1_A; dsimp only
  refine (View.read_writes_eq_canon _ _ _ (cover1_A_21 V c t h0)).trans ?_
  unfold run1_A
  frame_out
  rfl

theorem st1_A_ti (c : Dev nD) (t : Fin cfg1.N) (h0 : t.val % 3 = 0) : (st1_A V c t h0).2.2.2.1 = tabi1 V c t := by
  unfold st1_A; dsimp only
  refine (View.read_writes_eq_canon _ _ _ (scover1_A_0 V c t h0)).trans ?_
  unfold run1_A
  frame_out
  rfl

theorem st1_A_tj (c : Dev nD) (t : Fin cfg1.N) (h0 : t.val % 3 = 0) : (st1_A V c t h0).2.2.2.2.1 = tabj1 V c t := by
  unfold st1_A; dsimp only
  refine (View.read_writes_eq_canon _ _ _ (scover1_A_1 V c t h0)).trans ?_
  unfold run1_A
  frame_out
  rfl

theorem st1_A_xp (c : Dev nD) (t : Fin cfg1.N) (h0 : t.val % 3 = 0) : (st1_A V c t h0).2.2.2.2.2 = xpad1 V c t := by
  unfold st1_A; dsimp only
  refine (View.read_writes_eq_canon _ _ _ (scover1_A_2 V c t h0)).trans ?_
  unfold run1_A
  frame_out
  rfl

set_option maxHeartbeats 400000 in
theorem st1_B_m (c : Dev nD) (t : Fin cfg1.N) (h0 : ¬t.val % 3 = 0) (p : St1 Ideal) : (st1_B V c t h0 p).1 = mout1 V c t p.2.2.2.1 p.2.2.2.2.1 := by
  unfold st1_B; dsimp only
  refine (View.read_writes_eq_canon _ _ _ (cover1_B_19 V c t h0 p)).trans ?_
  unfold run1_B
  frame_out
  simp only [read_unread_whole]
  rfl

set_option maxHeartbeats 400000 in
theorem st1_B_am (c : Dev nD) (t : Fin cfg1.N) (h0 : ¬t.val % 3 = 0) (p : St1 Ideal) : (st1_B V c t h0 p).2.1 = k1_pay5 (k1_pay29 (iblk1 V c 2 t)) (k1_pay30 (msg1 V c t p.2.2.2.1 p.2.2.2.2.1)) (constant S96x128 .f32 0#32) p.2.1 := by
  unfold st1_B; dsimp only
  refine (View.read_writes_eq_canon _ _ _ (cover1_B_20 V c t h0 p)).trans ?_
  unfold run1_B
  frame_out
  simp only [read_unread_whole]
  rfl

set_option maxHeartbeats 400000 in
theorem st1_B_ax (c : Dev nD) (t : Fin cfg1.N) (h0 : ¬t.val % 3 = 0) (p : St1 Ideal) : (st1_B V c t h0 p).2.2.1 = k1_pay6 (tp1 V c t p.2.2.2.1 p.2.2.2.2.1 p.2.2.2.2.2) (k1_pay29 (iblk1 V c 2 t)) p.2.2.1 := by
  unfold st1_B; dsimp only
  refine (View.read_writes_eq_canon _ _ _ (cover1_B_21 V c t h0 p)).trans ?_
  unfold run1_B
  frame_out
  simp only [read_unread_whole]
  rfl

end Cert.KernelIdeal.Own
-- ==== Proof.KernelIdeal.Blk1.lean ====
/- What the blocks of call 1 hold, off the arrays the call finds. -/
module

public import proofs.«01_k».proof.Proof.KernelIdeal.Read1

@[expose] public section

set_option maxRecDepth 16384

noncomputable section

namespace Cert.KernelIdeal.Own

open Cert.KernelIdeal Cert.KernelIdeal.Gen
open Idealize.ShloMosaic
open Idealize.ShloMosaic.TcCoe

variable (V : (c : Dev nD) → (b : Ref sig .tc) → Buf (Elt Ideal) ((c : Thread nD τ).loc b))
variable (c : Dev nD) (t : Fin cfg1.N)

theorem coords1 (b : Fin 16) (q : Fin 3) (h : t.val = 3 * b.val + q.val) :
    (grid1.coords t 0).val = b.val ∧ (grid1.coords t 1).val = q.val := by
  have ht : t.val < 48 := Nat.lt_of_lt_of_eq t.isLt N_1
  have e0 : (grid1.coords t 0).val = t.val / 3 % 16 := Pipeline.Grid.coords_val t 0 (by decide) rfl
  have e1 : (grid1.coords t 1).val = t.val / 1 % 3 := Pipeline.Grid.coords_val t 1 (by decide) rfl
  omega

theorem iblk1_0 (b : Fin 16) (q : Fin 3) (h : t.val = 3 * b.val + q.val) (e : Fin 3040) :
    iblk1 V c 0 t (ix4 0 0 e 0) = V c main_v15 (ix4 b q e 0) := by
  have ix : win1_0.index t = ![(BitVec.ofNat 32 (grid1.coords t 0).val).toNat, (BitVec.ofNat 32 (grid1.coords t 1).val).toNat, 0, 0] := rfl
  have hb := (coords1 t b q h).1
  have hq := (coords1 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk1]
  refine congrArg (V c main_v15) (funext fun a => Fin.ext ?_)
  fin_cases a <;> (blk_simp; simp [ix])

theorem iblk1_1 (b : Fin 16) (q : Fin 3) (h : t.val = 3 * b.val + q.val) (e : Fin 3040) :
    iblk1 V c 1 t (ix4 0 0 e 0) = V c main_v16 (ix4 b q e 0) := by
  have ix : win1_1.index t = ![(BitVec.ofNat 32 (grid1.coords t 0).val).toNat, (BitVec.ofNat 32 (grid1.coords t 1).val).toNat, 0, 0] := rfl
  have hb := (coords1 t b q h).1
  have hq := (coords1 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk1]
  refine congrArg (V c main_v16) (funext fun a => Fin.ext ?_)
  fin_cases a <;> (blk_simp; simp [ix])

theorem iblk1_2 (b : Fin 16) (q : Fin 3) (h : t.val = 3 * b.val + q.val) (e : Fin 3040) :
    iblk1 V c 2 t (ix4 0 0 0 e) = V c main_v17 (ix4 b q 0 e) := by
  have ix : win1_2.index t = ![(BitVec.ofNat 32 (grid1.coords t 0).val).toNat, (BitVec.ofNat 32 (grid1.coords t 1).val).toNat, 0, 0] := rfl
  have hb := (coords1 t b q h).1
  have hq := (coords1 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk1]
  refine congrArg (V c main_v17) (funext fun a => Fin.ext ?_)
  fin_cases a <;> (blk_simp; simp [ix])

theorem iblk1_3 (b : Fin 16) (q : Fin 3) (h : t.val = 3 * b.val + q.val) (i : Fin 96) (k : Fin 128) :
    iblk1 V c 3 t (ix3 0 i k) = V c main_arg0 (ix3 b i k) := by
  have ix : win1_3.index t = ![(BitVec.ofNat 32 (grid1.coords t 0).val).toNat, 0, 0] := rfl
  have hb := (coords1 t b q h).1
  have hq := (coords1 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk1]
  refine congrArg (V c main_arg0) (funext fun a => Fin.ext ?_)
  fin_cases a <;> (blk_simp; simp [ix])

theorem iblk1_4 (b : Fin 16) (q : Fin 3) (h : t.val = 3 * b.val + q.val) (i : Fin 96) (k : Fin 4) :
    iblk1 V c 4 t (ix3 0 i k) = V c main_arg1 (ix3 b i k) := by
  have ix : win1_4.index t = ![(BitVec.ofNat 32 (grid1.coords t 0).val).toNat, 0, 0] := rfl
  have hb := (coords1 t b q h).1
  have hq := (coords1 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk1]
  refine congrArg (V c main_arg1) (funext fun a => Fin.ext ?_)
  fin_cases a <;> (blk_simp; simp [ix])

theorem iblk1_5 (b : Fin 16) (q : Fin 3) (h : t.val = 3 * b.val + q.val) (i : Fin 4) (k : Fin 96) :
    iblk1 V c 5 t (ix3 0 i k) = V c main_v14 (ix3 b i k) := by
  have ix : win1_5.index t = ![(BitVec.ofNat 32 (grid1.coords t 0).val).toNat, 0, 0] := rfl
  have hb := (coords1 t b q h).1
  have hq := (coords1 t b q h).2
  have hb' : (BitVec.ofNat 32 b.val).toNat = b.val := by rw [BitVec.toNat_ofNat]; omega
  have hq' : (BitVec.ofNat 32 q.val).toNat = q.val := by rw [BitVec.toNat_ofNat]; omega
  simp only [hb, hq, hb', hq'] at ix
  blk_simp [iblk1]
  refine congrArg (V c main_v14) (funext fun a => Fin.ext ?_)
  fin_cases a <;> (blk_simp; simp [ix])

theorem iblk1_6 : iblk1 V c 6 t = V c main_v1 := by
  funext y
  have ix : win1_6.index t = ![0, 0] := rfl
  blk_simp [iblk1]
  refine congrArg (V c main_v1) (funext fun a => Fin.ext ?_)
  fin_cases a <;> (blk_simp; simp [ix])

theorem iblk1_7 : iblk1 V c 7 t = V c main_v3 := by
  funext y
  have ix : win1_7.index t = ![0, 0] := rfl
  blk_simp [iblk1]
  refine congrArg (V c main_v3) (funext fun a => Fin.ext ?_)
  fin_cases a <;> (blk_simp; simp [ix])

theorem iblk1_8 : iblk1 V c 8 t = V c main_v8 := by
  funext y
  have ix : win1_8.index t = ![0, 0] := rfl
  blk_simp [iblk1]
  refine congrArg (V c main_v8) (funext fun a => Fin.ext ?_)
  fin_cases a <;> (blk_simp; simp [ix])

theorem iblk1_9 : iblk1 V c 9 t = V c main_v13 := by
  funext y
  have ix : win1_9.index t = ![0, 0] := rfl
  blk_simp [iblk1]
  refine congrArg (V c main_v13) (funext fun a => Fin.ext ?_)
  fin_cases a <;> (blk_simp; simp [ix])

theorem iblk1_10 : iblk1 V c 10 t = V c main_v35 := by
  funext y
  have ix : win1_10.index t = ![0, 0] := rfl
  blk_simp [iblk1]
  refine congrArg (V c main_v35) (funext fun a => Fin.ext ?_)
  fin_cases a <;> (blk_simp; simp [ix])

theorem iblk1_11 : iblk1 V c 11 t = V c main_v36 := by
  funext y
  have ix : win1_11.index t = ![0, 0] := rfl
  blk_simp [iblk1]
  refine congrArg (V c main_v36) (funext fun a => Fin.ext ?_)
  fin_cases a <;> (blk_simp; simp [ix])

theorem iblk1_12 : iblk1 V c 12 t = V c main_v38 := by
  funext y
  have ix : win1_12.index t = ![0, 0] := rfl
  blk_simp [iblk1]
  refine congrArg (V c main_v38) (funext fun a => Fin.ext ?_)
  fin_cases a <;> (blk_simp; simp [ix])

theorem iblk1_13 : iblk1 V c 13 t = V c main_v39 := by
  funext y
  have ix : win1_13.index t = ![0, 0] := rfl
  blk_simp [iblk1]
  refine congrArg (V c main_v39) (funext fun a => Fin.ext ?_)
  fin_cases a <;> (blk_simp; simp [ix])

theorem iblk1_14 : iblk1 V c 14 t = V c main_v42 := by
  funext y
  have ix : win1_14.index t = ![0, 0] := rfl
  blk_simp [iblk1]
  refine congrArg (V c main_v42) (funext fun a => Fin.ext ?_)
  fin_cases a <;> (blk_simp; simp [ix])

theorem iblk1_15 : iblk1 V c 15 t = V c main_v43 := by
  funext y
  have ix : win1_15.index t = ![0, 0] := rfl
  blk_simp [iblk1]
  refine congrArg (V c main_v43) (funext fun a => Fin.ext ?_)
  fin_cases a <;> (blk_simp; simp [ix])

theorem iblk1_16 : iblk1 V c 16 t = V c main_v45 := by
  funext y
  have ix : win1_16.index t = ![0, 0] := rfl
  blk_simp [iblk1]
  refine congrArg (V c main_v45) (funext fun a => Fin.ext ?_)
  fin_cases a <;> (blk_simp; simp [ix])

theorem iblk1_17 : iblk1 V c 17 t = V c main_v46 := by
  funext y
  have ix : win1_17.index t = ![0, 0] := rfl
  blk_simp [iblk1]
  refine congrArg (V c main_v46) (funext fun a => Fin.ext ?_)
  fin_cases a <;> (blk_simp; simp [ix])

theorem iblk1_18 : iblk1 V c 18 t = V c main_v49 := by
  funext y
  have ix : win1_18.index t = ![0, 0] := rfl
  blk_simp [iblk1]
  refine congrArg (V c main_v49) (funext fun a => Fin.ext ?_)
  fin_cases a <;> (blk_simp; simp [ix])

end Cert.KernelIdeal.Own
-- ==== Proof.Model.lean ====
/-
  The mathematics of the layer, over plain functions of indices: what the three results are, as the reference
  states them (first-layer rows, batch norm, gated messages, clipped steps, segment sums, node update).
-/
module

public import proofs.«01_k».proof.Proof.Spec
public import proofs.«01_k».proof.Proof.Consts

@[expose] public section

noncomputable section

namespace Cert.Spec

open Idealize.ShloMosaic

/-- The layer's arguments: node features, coordinates, edge ends, node attributes, and the weights. -/
structure Inp where
  h : Fin 16 → Fin 96 → Fin 128 → EReal
  x : Fin 16 → Fin 96 → Fin 4 → EReal
  ei : Fin 16 → Fin 9120 → Fin 96
  ej : Fin 16 → Fin 9120 → Fin 96
  na : Fin 16 → Fin 96 → Fin 16 → EReal
  W1 : Fin 128 → Fin 258 → EReal
  g1 : Fin 128 → EReal
  b1 : Fin 128 → EReal
  W2 : Fin 128 → Fin 128 → EReal
  b2 : Fin 128 → EReal
  Wh1 : Fin 128 → Fin 272 → EReal
  bh1 : Fin 128 → EReal
  gh : Fin 128 → EReal
  bh : Fin 128 → EReal
  Wh2 : Fin 128 → Fin 128 → EReal
  bh2 : Fin 128 → EReal
  Wx1 : Fin 128 → Fin 128 → EReal
  bx1 : Fin 128 → EReal
  Wx2 : Fin 128 → EReal
  Wm : Fin 128 → EReal
  bm : EReal

variable (I : Inp)

/-- Twice the first product less the sum of the four: the Minkowski product. -/
def mink (u v : Fin 4 → EReal) : EReal := ((2 : ℝ) : EReal) * (u 0 * v 0) - ∑ c, u c * v c

def hp (b : Fin 16) (i : Fin 96) (k : Fin 128) : EReal := ∑ x : Fin 128, I.h b i x * I.W1 k ⟨x.val, by omega⟩
def hq (b : Fin 16) (j : Fin 96) (k : Fin 128) : EReal := ∑ x : Fin 128, I.h b j x * I.W1 k ⟨128 + x.val, by omega⟩
def diff (b : Fin 16) (i j : Fin 96) (c : Fin 4) : EReal := I.x b i c - I.x b j c
def nrm (b : Fin 16) (i j : Fin 96) : EReal := psi (mink (diff I b i j) (diff I b i j))
def dts (b : Fin 16) (i j : Fin 96) : EReal := psi (mink (I.x b i) (I.x b j))

/-- The first layer's row of an edge. -/
def Z (b : Fin 16) (e : Fin 9120) (k : Fin 128) : EReal :=
  hp I b (I.ei b e) k + hq I b (I.ej b e) k + nrm I b (I.ei b e) (I.ej b e) * I.W1 k ⟨256, by omega⟩
    + dts I b (I.ei b e) (I.ej b e) * I.W1 k ⟨257, by omega⟩

def rows : EReal := ((145920 : ℝ) : EReal)
def nodes : EReal := ((1536 : ℝ) : EReal)

def mean (k : Fin 128) : EReal := Ideal.div (∑ b, ∑ e, Z I b e k) rows
def var (k : Fin 128) : EReal := Ideal.div (∑ b, ∑ e, (Z I b e k - mean I k) * (Z I b e k - mean I k)) rows

/-- The normalised row, kept positive. -/
def zn (b : Fin 16) (e : Fin 9120) (k : Fin 128) : EReal :=
  max (Ideal.div (I.g1 k * (Z I b e k - mean I k)) (Ideal.sqrt (var I k + (eps : EReal))) + I.b1 k) 0

def mp (b : Fin 16) (e : Fin 9120) (k : Fin 128) : EReal := max (∑ x, zn I b e x * I.W2 k x + I.b2 k) 0
/-- The message of an edge. -/
def msg (b : Fin 16) (e : Fin 9120) (k : Fin 128) : EReal :=
  mp I b e k * Ideal.logistic (∑ x, mp I b e x * I.Wm x + I.bm)

def px (b : Fin 16) (e : Fin 9120) : EReal := ∑ x, max (∑ y, msg I b e y * I.Wx1 x y + I.bx1 x) 0 * I.Wx2 x
/-- The clipped step of an edge. -/
def step (b : Fin 16) (e : Fin 9120) (c : Fin 4) : EReal :=
  min (Ideal.ofBits .f32 0x42C80000#32) (max (Ideal.ofBits .f32 0xC2C80000#32) (diff I b (I.ei b e) (I.ej b e) c * px I b e))

/-- The sum of an edge quantity over the edges that start at a node. -/
def seg (f : Fin 9120 → EReal) (b : Fin 16) (n : Fin 96) : EReal := ∑ e, if I.ei b e = n then f e else 0

def aggm (b : Fin 16) (n : Fin 96) (k : Fin 128) : EReal := seg I (fun e => msg I b e k) b n
def xout (b : Fin 16) (n : Fin 96) (c : Fin 4) : EReal :=
  I.x b n c + Ideal.div (seg I (fun e => step I b e c) b n) (max (seg I (fun _ => 1) b n) 1)

def zh (b : Fin 16) (n : Fin 96) (k : Fin 128) : EReal :=
  (∑ x : Fin 128, I.h b n x * I.Wh1 k ⟨x.val, by omega⟩) + (∑ x : Fin 128, aggm I b n x * I.Wh1 k ⟨128 + x.val, by omega⟩)
    + (∑ x : Fin 16, I.na b n x * I.Wh1 k ⟨256 + x.val, by omega⟩) + I.bh1 k
def mean2 (k : Fin 128) : EReal := Ideal.div (∑ b, ∑ n, zh I b n k) nodes
def var2 (k : Fin 128) : EReal := Ideal.div (∑ b, ∑ n, (zh I b n k - mean2 I k) * (zh I b n k - mean2 I k)) nodes
def zhn (b : Fin 16) (n : Fin 96) (k : Fin 128) : EReal :=
  max (Ideal.div (I.gh k * (zh I b n k - mean2 I k)) (Ideal.sqrt (var2 I k + (eps : EReal))) + I.bh k) 0
def hout (b : Fin 16) (n : Fin 96) (k : Fin 128) : EReal := I.h b n k + (∑ x, zhn I b n x * I.Wh2 k x + I.bh2 k)

end Cert.Spec
-- ==== Proof.KernelIdeal.Rows.lean ====
/- What a block's first-layer row is over any tables, and what the tables hold. -/
module

public import proofs.«01_k».proof.Proof.KernelIdeal.Pay1
public import proofs.«01_k».proof.Proof.KernelIdeal.Blk0
public import proofs.«01_k».proof.Proof.KernelIdeal.Blk1
public import proofs.«01_k».proof.Proof.KernelIdeal.Read0
public import proofs.«01_k».proof.Proof.KernelIdeal.Read1
public import proofs.«01_k».proof.Proof.Model

@[expose] public section

set_option maxRecDepth 16384

noncomputable section

namespace Cert.Spec

/-- The squared norm of a difference as three contractions, and the product as one. -/
def minkN (u v : Fin 4 → EReal) : EReal := ∑ c, u c * met c * u c + ∑ c, v c * v c * met c - ((2 : ℝ) : EReal) * ∑ c, u c * met c * v c
def minkK (u v : Fin 4 → EReal) : EReal := ∑ c, u c * met c * v c

/-- The first layer's row in the contracted forms. -/
def ZK (I : Inp) (b : Fin 16) (e : Fin 9120) (k : Fin 128) : EReal :=
  hp I b (I.ei b e) k + hq I b (I.ej b e) k + psi (minkN (I.x b (I.ei b e)) (I.x b (I.ej b e))) * I.W1 k ⟨256, by omega⟩
    + psi (minkK (I.x b (I.ei b e)) (I.x b (I.ej b e))) * I.W1 k ⟨257, by omega⟩

/-- The edge at a place of a block. -/
def edge (q : Fin 3) (e : Fin 3040) : Fin 9120 := ⟨3040 * q.val + e.val, by omega⟩

theorem sum_edge (f : Fin 9120 → EReal) : ∑ e, f e = ∑ q : Fin 3, ∑ e : Fin 3040, f (edge q e) := by
  rw [← Fintype.sum_prod_type']
  refine (Fintype.sum_equiv (finProdFinEquiv (m := 3) (n := 3040)) _ _ fun p => ?_).symm
  refine congrArg f (Fin.ext ?_)
  simp [edge, finProdFinEquiv]; omega

end Cert.Spec

namespace Cert.KernelIdeal.Own
open Idealize.ShloMosaic.TcCoe

open Cert.KernelIdeal Cert.KernelIdeal.Gen Cert.Spec
open Idealize.ShloMosaic

/-- A block's row: each one-hot product reads its table at the edge's ends. -/
theorem zrow (v3 v5 : Vec Ideal S1x1x3040x1 .i32) (T : Vec Ideal S128x384 .bf16) (T' w w' : Vec Ideal S128x128 .bf16) (e : Fin 3040) (i j : Fin 96)
    (h3 : v3 (ix4 0 0 e 0) = BitVec.ofNat 32 i.val) (h5 : v5 (ix4 0 0 e 0) = BitVec.ofNat 32 j.val) (k : Fin 128) :
    k1_pay24 (F := Ideal) v3 v5 T T' w (ix2 e k) + ∑ y : Fin 128, k1_pay23 (F := Ideal) v3 v5 T (ix2 e y) * w' (ix2 y k)
      = T (ix2 ⟨i.val, by omega⟩ ⟨k.val, by omega⟩) + T' (ix2 ⟨j.val, by omega⟩ k) + T (ix2 ⟨i.val, by omega⟩ ⟨128 + j.val, by omega⟩) * w (ix2 ⟨j.val, by omega⟩ k)
        + T (ix2 ⟨i.val, by omega⟩ ⟨256 + j.val, by omega⟩) * w' (ix2 ⟨j.val, by omega⟩ k) := by
  have hN : (128 : ℕ) ≤ 2 ^ 32 := by norm_num
  rw [pay24_at]
  simp only [pay23_at, h3, h5]
  have key : ∀ f : Fin 128 → EReal, ∑ x : Fin 128, hot (BitVec.ofNat 32 i.val) x.val * f x = f ⟨i.val, by omega⟩ :=
    fun f => hot_mul_sum hN ⟨i.val, by omega⟩ f
  have key' : ∀ f : Fin 128 → EReal, ∑ x : Fin 128, hot (BitVec.ofNat 32 j.val) x.val * f x = f ⟨j.val, by omega⟩ :=
    fun f => hot_mul_sum hN ⟨j.val, by omega⟩ f
  rw [key (fun x => T (ix2 x ⟨k.val, by omega⟩)), key' (fun x => T' (ix2 x k))]
  congr 1
  · congr 1
    refine Eq.trans (Finset.sum_congr rfl fun x _ => ?_) (key' (fun x => T (ix2 ⟨i.val, by omega⟩ ⟨128 + x.val, by omega⟩) * w (ix2 x k)))
    rw [key (fun y => T (ix2 y ⟨128 + x.val, by omega⟩)), mul_assoc, mul_left_comm]
  · refine Eq.trans (Finset.sum_congr rfl fun x _ => ?_) (key' (fun x => T (ix2 ⟨i.val, by omega⟩ ⟨256 + x.val, by omega⟩) * w' (ix2 x k)))
    rw [key (fun y => T (ix2 y ⟨256 + x.val, by omega⟩)), mul_assoc, mul_left_comm]

/-- The arrays a call reads are the layer's arguments, laid out for it. -/
structure Env (V : (c : Dev nD) → (b : Ref sig .tc) → Buf (Elt Ideal) ((c : Thread nD τ).loc b)) (c : Dev nD) (I : Inp) : Prop where
  v15 : ∀ b q e, V c main_v15 (ix4 b q e 0) = BitVec.ofNat 32 (I.ei b (edge q e)).val
  v16 : ∀ b q e, V c main_v16 (ix4 b q e 0) = BitVec.ofNat 32 (I.ej b (edge q e)).val
  v17 : ∀ b q e, V c main_v17 (ix4 b q 0 e) = BitVec.ofNat 32 (I.ei b (edge q e)).val
  a0 : ∀ b n x, V c main_arg0 (ix3 b n x) = I.h b n x
  a1 : ∀ b n x, V c main_arg1 (ix3 b n x) = I.x b n x
  v14 : ∀ b x n, V c main_v14 (ix3 b x n) = I.x b n x
  v1 : ∀ (x k : Fin 128), V c main_v1 (ix2 x k) = I.W1 k ⟨x.val, by omega⟩
  v3 : ∀ (x k : Fin 128), V c main_v3 (ix2 x k) = I.W1 k ⟨128 + x.val, by omega⟩
  v8 : ∀ (x k : Fin 128), V c main_v8 (ix2 x k) = I.W1 k ⟨256, by omega⟩
  v13 : ∀ (x k : Fin 128), V c main_v13 (ix2 x k) = I.W1 k ⟨257, by omega⟩

section
variable (V : (c : Dev nD) → (b : Ref sig .tc) → Buf (Elt Ideal) ((c : Thread nD τ).loc b)) (c : Dev nD) (I : Inp) (E : Env V c I)
include E

theorem tabi1_hp (t : Fin cfg1.N) (b : Fin 16) (q : Fin 3) (h : t.val = 3 * b.val + q.val) (i : Fin 96) (k : Fin 128) :
    tabi1 V c t (ix2 ⟨i.val, by omega⟩ ⟨k.val, by omega⟩) = hp I b i k := by
  unfold tabi1; rw [pay16_hp, pay8_at]
  exact Finset.sum_congr rfl fun x _ => by rw [iblk1_3 V c t b q h, iblk1_6, E.a0, E.v1]
theorem tabj1_hq (t : Fin cfg1.N) (b : Fin 16) (q : Fin 3) (h : t.val = 3 * b.val + q.val) (i : Fin 96) (k : Fin 128) :
    tabj1 V c t (ix2 ⟨i.val, by omega⟩ k) = hq I b i k := by
  unfold tabj1; rw [pay18_at, dif_pos i.isLt, pay9_at]
  exact Finset.sum_congr rfl fun x _ => by rw [iblk1_3 V c t b q h, iblk1_7, E.a0, E.v3]
theorem tabi1_dd (t : Fin cfg1.N) (b : Fin 16) (q : Fin 3) (h : t.val = 3 * b.val + q.val) (i j : Fin 96) :
    tabi1 V c t (ix2 ⟨i.val, by omega⟩ ⟨256 + j.val, by omega⟩) = psi (minkK (I.x b i) (I.x b j)) := by
  unfold tabi1; rw [pay16_dd, pay13_at]
  refine congrArg psi (Finset.sum_congr rfl fun x _ => ?_)
  rw [iblk1_4 V c t b q h, iblk1_5 V c t b q h, E.a1, E.v14]
theorem tabi1_nsq (t : Fin cfg1.N) (b : Fin 16) (q : Fin 3) (h : t.val = 3 * b.val + q.val) (i j : Fin 96) :
    tabi1 V c t (ix2 ⟨i.val, by omega⟩ ⟨128 + j.val, by omega⟩) = psi (minkN (I.x b i) (I.x b j)) := by
  unfold tabi1; rw [pay16_nsq, pay13_at, pay14_at, pay15_at]
  unfold minkN
  simp only [iblk1_4 V c t b q h, iblk1_5 V c t b q h, E.a1, E.v14]
theorem xpad1_at (t : Fin cfg1.N) (b : Fin 16) (q : Fin 3) (h : t.val = 3 * b.val + q.val) (i : Fin 96) (k : Fin 8) :
    xpad1 V c t (ix2 ⟨i.val, by omega⟩ k) = if h' : k.val < 4 then I.x b i ⟨k.val, h'⟩ else 0 := by
  unfold xpad1; rw [pay19_at, dif_pos i.isLt]
  simp only [iblk1_4 V c t b q h, E.a1, Fin.eta]

/-- A block's rows in the second call, over the tables of its own group of blocks. -/
theorem row1 (t t' : Fin cfg1.N) (b : Fin 16) (q q' : Fin 3) (h : t.val = 3 * b.val + q.val) (h' : t'.val = 3 * b.val + q'.val) (e : Fin 3040) (k : Fin 128) :
    k1_pay24 (F := Ideal) (iblk1 V c 0 t) (iblk1 V c 1 t) (tabi1 V c t') (tabj1 V c t') (iblk1 V c 8 t) (ix2 e k)
      + ∑ y : Fin 128, k1_pay23 (F := Ideal) (iblk1 V c 0 t) (iblk1 V c 1 t) (tabi1 V c t') (ix2 e y) * iblk1 V c 9 t (ix2 y k)
      = ZK I b (edge q e) k := by
  refine (zrow _ _ _ _ _ _ e (I.ei b (edge q e)) (I.ej b (edge q e)) ((iblk1_0 V c t b q h e).trans (E.v15 _ _ _)) ((iblk1_1 V c t b q h e).trans (E.v16 _ _ _)) k).trans ?_
  rw [tabi1_hp V c I E t' b q' h', tabj1_hq V c I E t' b q' h', tabi1_nsq V c I E t' b q' h', tabi1_dd V c I E t' b q' h', iblk1_8, iblk1_9, E.v8, E.v13]
  rfl

theorem tabi0_hp (t : Fin cfg0.N) (b : Fin 16) (q : Fin 3) (h : t.val = 3 * b.val + q.val) (i : Fin 96) (k : Fin 128) :
    tabi0 V c t (ix2 ⟨i.val, by omega⟩ ⟨k.val, by omega⟩) = hp I b i k := by
  refine (pay16_hp _ _ _ _ i k).trans ((pay8_at (iblk0 V c 2 t) (iblk0 V c 5 t) i k).trans ?_)
  exact Finset.sum_congr rfl fun x _ => by rw [iblk0_2 V c t b q h, iblk0_5, E.a0, E.v1]
theorem tabj0_hq (t : Fin cfg0.N) (b : Fin 16) (q : Fin 3) (h : t.val = 3 * b.val + q.val) (i : Fin 96) (k : Fin 128) :
    tabj0 V c t (ix2 ⟨i.val, by omega⟩ k) = hq I b i k := by
  refine (pay18_at _ _ k).trans ?_
  rw [dif_pos i.isLt]
  refine (pay9_at (iblk0 V c 2 t) (iblk0 V c 6 t) i k).trans ?_
  exact Finset.sum_congr rfl fun x _ => by rw [iblk0_2 V c t b q h, iblk0_6, E.a0, E.v3]
theorem tabi0_dd (t : Fin cfg0.N) (b : Fin 16) (q : Fin 3) (h : t.val = 3 * b.val + q.val) (i j : Fin 96) :
    tabi0 V c t (ix2 ⟨i.val, by omega⟩ ⟨256 + j.val, by omega⟩) = psi (minkK (I.x b i) (I.x b j)) := by
  refine (pay16_dd _ _ _ _ i j).trans (congrArg psi ((pay13_at (iblk0 V c 3 t) (iblk0 V c 4 t) i j).trans (Finset.sum_congr rfl fun x _ => ?_)))
  rw [iblk0_3 V c t b q h, iblk0_4 V c t b q h, E.a1, E.v14]
theorem tabi0_nsq (t : Fin cfg0.N) (b : Fin 16) (q : Fin 3) (h : t.val = 3 * b.val + q.val) (i j : Fin 96) :
    tabi0 V c t (ix2 ⟨i.val, by omega⟩ ⟨128 + j.val, by omega⟩) = psi (minkN (I.x b i) (I.x b j)) := by
  refine (pay16_nsq _ (k1_pay13 (iblk0 V c 3 t) (iblk0 V c 4 t)) (k1_pay14 (iblk0 V c 4 t)) (k1_pay15 (iblk0 V c 3 t)) i j).trans ?_
  rw [pay13_at, pay14_at, pay15_at]
  unfold minkN
  simp only [iblk0_3 V c t b q h, iblk0_4 V c t b q h, E.a1, E.v14]

/-- A block's rows in the first call. -/
theorem row0 (t t' : Fin cfg0.N) (b : Fin 16) (q q' : Fin 3) (h : t.val = 3 * b.val + q.val) (h' : t'.val = 3 * b.val + q'.val) (e : Fin 3040) (k : Fin 128) :
    z0 V c t (tabi0 V c t') (tabj0 V c t') (ix2 e k) = ZK I b (edge q e) k := by
  have h1 : z0 V c t (tabi0 V c t') (tabj0 V c t') (ix2 e k)
      = k1_pay24 (F := Ideal) (iblk0 V c 0 t) (iblk0 V c 1 t) (tabi0 V c t') (tabj0 V c t') (iblk0 V c 7 t) (ix2 e k)
      + ∑ y : Fin 128, k1_pay23 (F := Ideal) (iblk0 V c 0 t) (iblk0 V c 1 t) (tabi0 V c t') (ix2 e y) * iblk0 V c 8 t (ix2 y k) := by
    unfold z0
    pointwise [k0_pay1]
    rfl
  refine h1.trans ((zrow _ _ _ _ _ _ e (I.ei b (edge q e)) (I.ej b (edge q e)) ((iblk0_0 V c t b q h e).trans (E.v15 _ _ _)) ((iblk0_1 V c t b q h e).trans (E.v16 _ _ _)) k).trans ?_)
  rw [tabi0_hp V c I E t' b q' h', tabj0_hq V c I E t' b q' h', tabi0_nsq V c I E t' b q' h', tabi0_dd V c I E t' b q' h', iblk0_7, iblk0_8, E.v8, E.v13]
  rfl
end

end Cert.KernelIdeal.Own
-- ==== Proof.KernelIdeal.Out0.lean ====
/- What the first call's array of column sums holds after it. -/
module

public import proofs.«01_k».proof.Proof.KernelIdeal.Rows
public import Idealize.ShloMosaic.Lib.Pipeline.ValueKit

@[expose] public section

set_option maxRecDepth 16384

noncomputable section

namespace Cert.KernelIdeal.Own
open Idealize.ShloMosaic.TcCoe
open Cert.KernelIdeal Cert.KernelIdeal.Gen Cert.Spec
open Idealize.ShloMosaic

variable (V : (c : Dev nD) → (b : Ref sig .tc) → Buf (Elt Ideal) ((c : Thread nD τ).loc b)) (c : Dev nD)

/-- The first point of a group of blocks. -/
def base0 (b : Fin 16) : Fin cfg0.N := ⟨3 * b.val, by have : cfg0.N = 48 := N_0; omega⟩

theorem st0_B_sc (t : Fin cfg0.N) (h0 : ¬t.val % 3 = 0) (p : St0 Ideal) : (st0_B V c t h0 p).2 = p.2 := by
  unfold st0_B; rfl

/-- Through a group of blocks the tables are those that its first block built. -/
theorem tabs0 (n : ℕ) (t : Fin cfg0.N) (b : Fin 16) (q : Fin 3) (hq : q.val = n) (h : t.val = 3 * b.val + q.val) :
    (outs0 V c t.val t.isLt).2.1 = tabi0 V c (base0 b) ∧ (outs0 V c t.val t.isLt).2.2 = tabj0 V c (base0 b) := by
  induction n generalizing t q with
  | zero =>
    have h0 : t.val % 3 = 0 := by omega
    have hb : t = base0 b := Fin.ext (by show t.val = 3 * b.val; omega)
    by_cases hz : t.val = 0
    · rw [outs0_A V c t hz, st0_A_ti, st0_A_tj, hb]
      exact ⟨rfl, rfl⟩
    · rw [outs0_C V c t h0 hz, st0_C_ti, st0_C_tj, hb]
      exact ⟨rfl, rfl⟩
  | succ n ih =>
    have h0 : ¬t.val % 3 = 0 := by omega
    rw [outs0_B V c t h0, st0_B_sc]
    exact ih ⟨t.val - 1, by omega⟩ ⟨q.val - 1, by omega⟩ (by show q.val - 1 = n; omega) (by show t.val - 1 = 3 * b.val + (q.val - 1); omega)

variable (I : Inp) (E : Env V c I)
include E

/-- A block's share of a column sum. -/
def share (f : EReal → EReal) (k : Fin 128) (s : ℕ) : EReal :=
  ∑ e : Fin 3040, f (ZK I ⟨s / 3 % 16, Nat.mod_lt _ (by decide)⟩ (edge ⟨s % 3, Nat.mod_lt _ (by decide)⟩ e) k)

theorem out0_acc (n : ℕ) (t : Fin cfg0.N) (ht : t.val = n) (k : Fin 128) :
    (outs0 V c t.val t.isLt).1 (ix2 0 k) = ∑ s ∈ Finset.range (n + 1), share I (fun z => z) k s
    ∧ (outs0 V c t.val t.isLt).1 (ix2 1 k) = ∑ s ∈ Finset.range (n + 1), share I (fun z => z * z) k s := by
  have hN : t.val < 48 := Nat.lt_of_lt_of_eq t.isLt N_0
  have hdm : t.val = 3 * (t.val / 3 % 16) + t.val % 3 := by omega
  have hr : ∀ e k, z0 V c t (tabi0 V c (base0 ⟨t.val / 3 % 16, by omega⟩)) (tabj0 V c (base0 ⟨t.val / 3 % 16, by omega⟩)) (ix2 e k)
      = ZK I ⟨t.val / 3 % 16, Nat.mod_lt _ (by decide)⟩ (edge ⟨t.val % 3, Nat.mod_lt _ (by decide)⟩ e) k := fun e k =>
    row0 V c I E t (base0 ⟨t.val / 3 % 16, by omega⟩) ⟨t.val / 3 % 16, by omega⟩ ⟨t.val % 3, by omega⟩ 0 hdm rfl e k
  have hb : t.val % 3 = 0 → base0 ⟨t.val / 3 % 16, by omega⟩ = t := fun h0 => Fin.ext (by show 3 * (t.val / 3 % 16) = t.val; omega)
  subst ht
  rw [Finset.sum_range_succ, Finset.sum_range_succ]
  by_cases hz : t.val = 0
  · rw [hb (by omega)] at hr
    rw [outs0_A V c t hz, st0_A_0, st0_A_1]
    simp only [hr, hz]
    exact ⟨(zero_add _).symm, (zero_add _).symm⟩
  · have ih := out0_acc (t.val - 1) ⟨t.val - 1, by omega⟩ rfl k
    dsimp only at ih
    rw [show t.val - 1 + 1 = t.val by omega] at ih
    by_cases h0 : t.val % 3 = 0
    · rw [hb h0] at hr
      rw [outs0_C V c t h0 hz, st0_C_0, st0_C_1, ih.1, ih.2]
      simp only [hr]
      exact ⟨rfl, rfl⟩
    · obtain ⟨t1, t2⟩ := tabs0 V c (t.val % 3 - 1) ⟨t.val - 1, by omega⟩ ⟨t.val / 3 % 16, by omega⟩ ⟨t.val % 3 - 1, by omega⟩ rfl
        (by show t.val - 1 = 3 * (t.val / 3 % 16) + (t.val % 3 - 1); omega)
      dsimp only at t1 t2
      rw [outs0_B V c t h0, st0_B_0, st0_B_1, ih.1, ih.2, t1, t2]
      simp only [hr]
      exact ⟨rfl, rfl⟩
termination_by n

omit E in
theorem share_all (f : EReal → EReal) (k : Fin 128) : ∑ s ∈ Finset.range 48, share I f k s = ∑ b, ∑ e, f (ZK I b e k) := by
  rw [Finset.sum_range]
  have : ∀ b, ∑ e, f (ZK I b e k) = ∑ q : Fin 3, ∑ e : Fin 3040, f (ZK I b (edge q e) k) := fun b => sum_edge fun e => f (ZK I b e k)
  simp only [this]
  rw [← Fintype.sum_prod_type']
  refine (Fintype.sum_equiv (finProdFinEquiv (m := 16) (n := 3)) _ _ fun p => ?_).symm
  obtain ⟨b, q⟩ := p
  unfold share
  refine Finset.sum_congr rfl fun e _ => ?_
  have h1 : (⟨(finProdFinEquiv (b, q)).val / 3 % 16, Nat.mod_lt _ (by decide)⟩ : Fin 16) = b := Fin.ext (by simp [finProdFinEquiv]; try omega)
  have h2 : (⟨(finProdFinEquiv (b, q)).val % 3, Nat.mod_lt _ (by decide)⟩ : Fin 3) = q := Fin.ext (by simp [finProdFinEquiv]; try omega)
  rw [h1, h2]

omit E in
theorem n47 : 47 < cfg0.N := by have : cfg0.N = 48 := N_0; omega

omit E in
theorem arr9_eq : (dat0 V c).arrAt 9 cfg0.N = (outs0 V c 47 n47).1 := by
  refine (dat0 V c).arrAt_eq_of_covers 9 _ (by decide +kernel) fun t hf y => ?_
  have ht : t.val < 48 := Nat.lt_of_lt_of_eq t.isLt N_0
  have hf2 := (flush0_9 t).mp hf
  have h47 : t.val = 47 := by omega
  have ix : win0_9.index t = ![0, 0] := rfl
  blk_simp
  rw [after0_9]
  have he : ∀ (n : ℕ) (hn : n < cfg0.N) (h : n = 47), outs0 V c n hn = outs0 V c 47 n47 := by
    rintro n hn rfl; rfl
  rw [he t.val t.isLt h47]
  suffices hemb : (show S8x128.Idx from (win0_9.blk t).view.emb y) = y from (congrArg (outs0 V c 47 n47).1 hemb).symm
  refine funext fun a => Fin.ext ?_
  fin_cases a <;> (blk_simp; simp [ix])

/-- The column sums and the column sums of squares. -/
theorem arr9 (k : Fin 128) :
    (dat0 V c).arrAt 9 cfg0.N (ix2 0 k : S8x128.Idx) = ∑ b, ∑ e, ZK I b e k
    ∧ (dat0 V c).arrAt 9 cfg0.N (ix2 1 k : S8x128.Idx) = ∑ b, ∑ e, ZK I b e k * ZK I b e k := by
  rw [arr9_eq]
  obtain ⟨h1, h2⟩ := out0_acc V c I E 47 ⟨47, n47⟩ rfl k
  rw [share_all] at h1 h2
  exact ⟨h1, h2⟩

end Cert.KernelIdeal.Own
-- ==== Proof.KernelIdeal.Pay2.lean ====
/- What the node call's payloads are at an index. -/
module

public import proofs.«01_k».proof.Proof.Gen.KernelIdeal.Skeleton
public import proofs.«01_k».proof.Proof.Model
public import Idealize.ShloMosaic.Lib.Pointwise

@[expose] public section

set_option maxRecDepth 16384

noncomputable section

namespace Cert.KernelIdeal.Own

open Cert.KernelIdeal Cert.KernelIdeal.Gen Cert.Spec
open Idealize.ShloMosaic

/-- A node's row over what the call reads. -/
def nrow (v0 v2 : Vec Ideal S16x96x128 .f32) (v5 : Vec Ideal S16x96x16 .f32) (v7 v10 : Vec Ideal S128x128 .f32) (v14 : Vec Ideal S16x128 .f32) (v18 : Vec Ideal S1x128 .f32)
    (b : Fin 16) (n : Fin 96) (k : Fin 128) : EReal :=
  ∑ x : Fin 128, v0 (ix3 b n x) * v7 (ix2 x k) + ∑ x : Fin 128, v2 (ix3 b n x) * v10 (ix2 x k) + ∑ x : Fin 16, v5 (ix3 b n x) * v14 (ix2 x k) + v18 (ix2 0 k)

def nodeB (r : Fin 1536) : Fin 16 := ⟨r.val / 96, by omega⟩
def nodeN (r : Fin 1536) : Fin 96 := ⟨r.val % 96, by omega⟩

theorem pay2_2_at (v0 v2 : Vec Ideal S16x96x128 .f32) (v5 : Vec Ideal S16x96x16 .f32) (v7 v10 : Vec Ideal S128x128 .f32) (v14 : Vec Ideal S16x128 .f32) (v18 : Vec Ideal S1x128 .f32)
    (r : Fin 1536) (k : Fin 128) :
    k2_pay2 (F := Ideal) v0 v2 v5 v7 v10 v14 v18 (ix2 r k)
      = nrow v0 v2 v5 v7 v10 v14 v18 (nodeB r) (nodeN r) k - Ideal.div (∑ r', nrow v0 v2 v5 v7 v10 v14 v18 (nodeB r') (nodeN r') k) nodes := by
  pointwise [k2_pay2]
  rw [show Ideal.ofBits .f32 1153433600#32 = nodes from bits_nodes]
  rfl

theorem pay2_3_at (v0 v2 : Vec Ideal S16x96x128 .f32) (v5 : Vec Ideal S16x96x16 .f32) (v7 v10 : Vec Ideal S128x128 .f32) (v14 : Vec Ideal S16x128 .f32) (v18 : Vec Ideal S1x128 .f32)
    (k : Fin 128) :
    k2_pay3 (F := Ideal) v0 v2 v5 v7 v10 v14 v18 (ix2 0 k)
      = Ideal.div (∑ r, k2_pay2 (F := Ideal) v0 v2 v5 v7 v10 v14 v18 (ix2 r k) * k2_pay2 (F := Ideal) v0 v2 v5 v7 v10 v14 v18 (ix2 r k)) nodes := by
  pointwise [k2_pay3]
  rw [show Ideal.ofBits .f32 1153433600#32 = nodes from bits_nodes]

theorem pay2_4_at (v27 : FVec Ideal S1536x128 .f32) (v32 : FVec Ideal S1x128 .f32) (v33 v42 : Vec Ideal S1x128 .f32) (v48 : Vec Ideal S128x128 .f32) (v51 : Vec Ideal S1x128 .f32) (v55 : Vec Ideal S16x96x128 .f32)
    (b : Fin 16) (n : Fin 96) (k : Fin 128) :
    k2_pay4 (F := Ideal) v27 v32 v33 v42 v48 v51 v55 (ix3 b n k)
      = v55 (ix3 b n k) + (∑ x : Fin 128, max (v33 (ix2 0 x) * v27 (ix2 ⟨b.val * 96 + n.val, by omega⟩ x) * Ideal.rsqrt (v32 (ix2 0 x) + (eps : EReal)) + v42 (ix2 0 x)) 0 * v48 (ix2 x k) + v51 (ix2 0 k)) := by
  pointwise [k2_pay4]
  rw [show Ideal.ofBits .f32 925353388#32 = (eps : EReal) from bits_eps]

theorem pay2_1_at (v59 : Vec Ideal S16x96x1 .f32) (v62 v61 : Vec Ideal S16x96x4 .f32) (b : Fin 16) (n : Fin 96) (d : Fin 4) :
    k2_pay1 (F := Ideal) v61 (k2_pay5 v59 v62) (ix3 b n d) = v61 (ix3 b n d) + Ideal.div (v62 (ix3 b n d)) (max (v59 (ix3 b n 0)) 1) := by
  pointwise [k2_pay1, k2_pay5]

end Cert.KernelIdeal.Own
-- ==== Proof.KernelIdeal.Out1.lean ====
/- What the second call's three arrays hold after it. -/
module

public import proofs.«01_k».proof.Proof.KernelIdeal.Rows
public import Idealize.ShloMosaic.Lib.Pipeline.ValueKit

@[expose] public section

set_option maxRecDepth 16384

noncomputable section

namespace Cert.Spec
open Idealize.ShloMosaic

/-- A one-hot difference reads the difference of two entries. -/
theorem hot_sub_sum (i j : Fin 128) (f : Fin 128 → EReal) (hf : ∃ r : ℝ, f i = r) :
    ∑ x : Fin 128, (hot (BitVec.ofNat 32 i.val) x.val - hot (BitVec.ofNat 32 j.val) x.val) * f x = f i - f j := by
  have hh : ∀ (a x : Fin 128), hot (BitVec.ofNat 32 a.val) x.val = if a = x then 1 else 0 := fun a x => by
    rw [hot_ofNat (by omega) (by omega)]; simp [Fin.ext_iff]
  simp only [hh]
  by_cases hij : i = j
  · subst hij
    obtain ⟨r, hr⟩ := hf
    rw [hr]
    have h0 : ∀ p : Prop, ∀ [Decidable p], ((if p then (1 : EReal) else 0) - (if p then (1 : EReal) else 0)) = 0 := by
      intro p _; split
      · exact EReal.sub_self (by decide) (by decide)
      · simp
    rw [Finset.sum_eq_zero fun x _ => by rw [h0, zero_mul], ← EReal.coe_sub, sub_self]; rfl
  · rw [Finset.sum_eq_add i j hij (fun x _ hx => by rw [if_neg (Ne.symm hx.1), if_neg (Ne.symm hx.2)]; simp) (by simp) (by simp)]
    rw [if_pos rfl, if_neg (fun h => hij h.symm), if_neg hij, if_pos rfl]
    simp [sub_eq_add_neg]

theorem clip_zero : min (Ideal.ofBits .f32 0x42C80000#32) (max (Ideal.ofBits .f32 0xC2C80000#32) (0 : EReal)) = 0 := by
  have h1 : Ideal.ofBits .f32 0x42C80000#32 = ((100 : ℝ) : EReal) := by
    simp [Ideal.ofBits, Ideal.ieee, -EReal.coe_mul]; try norm_num
  have h2 : Ideal.ofBits .f32 0xC2C80000#32 = ((-100 : ℝ) : EReal) := by
    simp [Ideal.ofBits, Ideal.ieee, -EReal.coe_mul]; try norm_num
  rw [h1, h2, max_eq_right (by exact_mod_cast (by norm_num : (-100 : ℝ) ≤ 0)), min_eq_right (by exact_mod_cast (by norm_num : (0 : ℝ) ≤ 100))]

/-- The step's row with the count's column. -/
def tpK (I : Inp) (b : Fin 16) (e : Fin 9120) (k : Fin 8) : EReal :=
  (if h : k.val < 4 then step I b e ⟨k.val, h⟩ else 0) + (if k.val = 4 then 1 else 0)

end Cert.Spec

namespace Cert.KernelIdeal.Own
open Idealize.ShloMosaic.TcCoe
open Cert.KernelIdeal Cert.KernelIdeal.Gen Cert.Spec
open Idealize.ShloMosaic

/-- What the second call reads besides: the weights, and rows whose affine map normalises the first layer. -/
structure Env1 (V : (c : Dev nD) → (b : Ref sig .tc) → Buf (Elt Ideal) ((c : Thread nD τ).loc b)) (c : Dev nD) (I : Inp) : Prop extends Env V c I where
  bn : ∀ b e k, max (ZK I b e k * V c main_v35 (ix2 0 k) + V c main_v36 (ix2 0 k) : EReal) 0 = zn I b e k
  v38 : ∀ x k : Fin 128, V c main_v38 (ix2 x k) = I.W2 k x
  v39 : ∀ k : Fin 128, V c main_v39 (ix2 0 k) = I.b2 k
  v42 : ∀ x k : Fin 128, V c main_v42 (ix2 x k) = I.Wm x
  v43 : V c main_v43 (ix2 0 0) = I.bm
  v45 : ∀ x k : Fin 128, V c main_v45 (ix2 x k) = I.Wx1 k x
  v46 : ∀ k : Fin 128, V c main_v46 (ix2 0 k) = I.bx1 k
  v49 : ∀ (x : Fin 128) (k : Fin 8), V c main_v49 (ix2 x k) = I.Wx2 x
  xfin : ∀ b n d, ∃ r : ℝ, I.x b n d = r

variable (V : (c : Dev nD) → (b : Ref sig .tc) → Buf (Elt Ideal) ((c : Thread nD τ).loc b)) (c : Dev nD)

/-- The first point of a group of blocks. -/
def base1 (b : Fin 16) : Fin cfg1.N := ⟨3 * b.val, by have : cfg1.N = 48 := N_1; omega⟩

theorem st1_B_sc (t : Fin cfg1.N) (h0 : ¬t.val % 3 = 0) (p : St1 Ideal) : (st1_B V c t h0 p).2.2.2 = p.2.2.2 := by
  unfold st1_B; rfl

/-- Through a group of blocks the tables are those that its first block built. -/
theorem tabs1 (n : ℕ) (t : Fin cfg1.N) (b : Fin 16) (q : Fin 3) (hq : q.val = n) (h : t.val = 3 * b.val + q.val) :
    (outs1 V c t.val t.isLt).2.2.2.1 = tabi1 V c (base1 b) ∧ (outs1 V c t.val t.isLt).2.2.2.2.1 = tabj1 V c (base1 b) ∧ (outs1 V c t.val t.isLt).2.2.2.2.2 = xpad1 V c (base1 b) := by
  induction n generalizing t q with
  | zero =>
    have h0 : t.val % 3 = 0 := by omega
    have hb : t = base1 b := Fin.ext (by show t.val = 3 * b.val; omega)
    rw [outs1_A V c t h0, st1_A_ti, st1_A_tj, st1_A_xp, hb]
    exact ⟨rfl, rfl, rfl⟩
  | succ n ih =>
    have h0 : ¬t.val % 3 = 0 := by omega
    rw [outs1_B V c t h0, st1_B_sc]
    exact ih ⟨t.val - 1, by omega⟩ ⟨q.val - 1, by omega⟩ (by show q.val - 1 = n; omega) (by show t.val - 1 = 3 * b.val + (q.val - 1); omega)

variable (I : Inp) (E : Env1 V c I)
include E

theorem msg1_at (t : Fin cfg1.N) (b : Fin 16) (q : Fin 3) (h : t.val = 3 * b.val + q.val) (e : Fin 3040) (k : Fin 128) :
    msg1 V c t (tabi1 V c (base1 b)) (tabj1 V c (base1 b)) (ix2 e k) = msg I b (edge q e) k := by
  unfold msg1; rw [pay25_at]
  simp only [row1 V c I E.toEnv t (base1 b) b q 0 h rfl]
  unfold mrow mpre
  simp only [iblk1_10, iblk1_11, iblk1_12, iblk1_13, iblk1_14, iblk1_15, E.bn, E.v38, E.v39, E.v42, E.v43]
  rfl

theorem tp1_at (t : Fin cfg1.N) (b : Fin 16) (q : Fin 3) (h : t.val = 3 * b.val + q.val) (e : Fin 3040) (k : Fin 8) :
    tp1 V c t (tabi1 V c (base1 b)) (tabj1 V c (base1 b)) (xpad1 V c (base1 b)) (ix2 e k) = tpK I b (edge q e) k := by
  unfold tp1; rw [pay28_at]
  have hm : ∀ y, mbf1 V c t (tabi1 V c (base1 b)) (tabj1 V c (base1 b)) (ix2 e y) = msg I b (edge q e) y := fun y =>
    (pay27_at _ _ _ _ _ _ _ _ _ e y).trans (msg1_at V c I E t b q h e y)
  simp only [hm, iblk1_0 V c t b q h, iblk1_1 V c t b q h, E.v15, E.v16, iblk1_16, iblk1_17, iblk1_18, E.v45, E.v46, E.v49]
  have hx : ∀ i : Fin 96, xpad1 V c (base1 b) (ix2 ⟨i.val, by omega⟩ k) = if h' : k.val < 4 then I.x b i ⟨k.val, h'⟩ else 0 :=
    fun i => xpad1_at V c I E.toEnv (base1 b) b 0 rfl i k
  have hs := hot_sub_sum ⟨(I.ei b (edge q e)).val, by omega⟩ ⟨(I.ej b (edge q e)).val, by omega⟩ (fun x => xpad1 V c (base1 b) (ix2 x k))
    (by
      show ∃ r : ℝ, xpad1 V c (base1 b) (ix2 ⟨(I.ei b (edge q e)).val, _⟩ k) = r
      rw [hx]; split
      · exact E.xfin _ _ _
      · exact ⟨0, rfl⟩)
  dsimp only at hs
  rw [hs, hx, hx]
  unfold tpK tprow
  congr 1
  by_cases h4 : k.val < 4
  · simp only [dif_pos h4]; rfl
  · simp only [dif_neg h4]
    rw [show (0 : EReal) - 0 = 0 by simp, zero_mul, clip_zero]

theorem out1_m (t : Fin cfg1.N) (b : Fin 16) (q : Fin 3) (h : t.val = 3 * b.val + q.val) (e : Fin 3040) (k : Fin 128) :
    (outs1 V c t.val t.isLt).1 (ix3 0 e k) = msg I b (edge q e) k := by
  by_cases h0 : t.val % 3 = 0
  · have hb : t = base1 b := Fin.ext (by show t.val = 3 * b.val; omega)
    rw [outs1_A V c t h0, st1_A_m]
    refine (pay26_at _ _ _ _ _ _ _ _ _ e k).trans ?_
    rw [show tabi1 V c t = tabi1 V c (base1 b) by rw [hb], show tabj1 V c t = tabj1 V c (base1 b) by rw [hb]]
    exact msg1_at V c I E t b q h e k
  · obtain ⟨h1, h2, -⟩ := tabs1 V c (q.val - 1) ⟨t.val - 1, by omega⟩ b ⟨q.val - 1, by omega⟩ rfl (by show t.val - 1 = 3 * b.val + (q.val - 1); omega)
    dsimp only at h1 h2
    rw [outs1_B V c t h0, st1_B_m, h1, h2]
    exact (pay26_at _ _ _ _ _ _ _ _ _ e k).trans (msg1_at V c I E t b q h e k)

/-- The part of a segment sum that a block adds. -/
def part (f : Fin 9120 → EReal) (b : Fin 16) (q : Fin 3) (n : Fin 96) : EReal := ∑ e : Fin 3040, if I.ei b (edge q e) = n then f (edge q e) else 0

omit E in
theorem hot_ei (b : Fin 16) (e : Fin 9120) (n : Fin 96) (v : EReal) : hot (BitVec.ofNat 32 (I.ei b e).val) n.val * v = if I.ei b e = n then v else 0 := by
  rw [hot_ofNat (by omega) (by omega)]
  simp only [Fin.ext_iff]
  split <;> simp

theorem am_part (t : Fin cfg1.N) (b : Fin 16) (q : Fin 3) (h : t.val = 3 * b.val + q.val) (n : Fin 96) (k : Fin 128) :
    ∑ e : Fin 3040, k1_pay29 (F := Ideal) (iblk1 V c 2 t) (ix2 n e) * k1_pay30 (F := Ideal) (msg1 V c t (tabi1 V c (base1 b)) (tabj1 V c (base1 b))) (ix2 e k)
      = part I (fun e => msg I b e k) b q n := by
  refine Finset.sum_congr rfl fun e _ => ?_
  rw [pay29_at, pay30_at, msg1_at V c I E t b q h, iblk1_2 V c t b q h, E.v17, hot_ei]

theorem ax_part (t : Fin cfg1.N) (b : Fin 16) (q : Fin 3) (h : t.val = 3 * b.val + q.val) (n : Fin 96) (k : Fin 8) :
    ∑ e : Fin 3040, k1_pay29 (F := Ideal) (iblk1 V c 2 t) (ix2 n e) * tp1 V c t (tabi1 V c (base1 b)) (tabj1 V c (base1 b)) (xpad1 V c (base1 b)) (ix2 e k)
      = part I (fun e => tpK I b e k) b q n := by
  refine Finset.sum_congr rfl fun e _ => ?_
  rw [pay29_at, tp1_at V c I E t b q h, iblk1_2 V c t b q h, E.v17, hot_ei]

/-- After a block the accumulated sums hold what the group's blocks so far added. -/
theorem out1_acc (n : ℕ) (t : Fin cfg1.N) (b : Fin 16) (q : Fin 3) (hq : q.val = n) (h : t.val = 3 * b.val + q.val) (i : Fin 96) :
    (∀ k, (outs1 V c t.val t.isLt).2.1 (ix3 0 i k) = ∑ q' : Fin 3, if q' ≤ q then part I (fun e => msg I b e k) b q' i else 0)
    ∧ ∀ k, (outs1 V c t.val t.isLt).2.2.1 (ix3 0 i k) = ∑ q' : Fin 3, if q' ≤ q then part I (fun e => tpK I b e k) b q' i else 0 := by
  induction n generalizing t q with
  | zero =>
    have h0 : t.val % 3 = 0 := by omega
    have hq0 : q = 0 := Fin.ext hq
    subst hq0
    have hb : t = base1 b := Fin.ext (by show t.val = 3 * b.val; exact h)
    rw [outs1_A V c t h0, st1_A_am, st1_A_ax]
    subst hb
    refine ⟨fun k => ?_, fun k => ?_⟩
    · rw [pay3_at, am_part V c I E (base1 b) b 0 rfl]; simp [Fin.sum_univ_three]
    · rw [pay4_at, ax_part V c I E (base1 b) b 0 rfl]; simp [Fin.sum_univ_three]
  | succ n ih =>
    have h0 : ¬t.val % 3 = 0 := by omega
    obtain ⟨t1, t2, t3⟩ := tabs1 V c (q.val - 1) ⟨t.val - 1, by omega⟩ b ⟨q.val - 1, by omega⟩ rfl (by show t.val - 1 = 3 * b.val + (q.val - 1); omega)
    obtain ⟨i1, i2⟩ := ih ⟨t.val - 1, by omega⟩ ⟨q.val - 1, by omega⟩ (by show q.val - 1 = n; omega) (by show t.val - 1 = 3 * b.val + (q.val - 1); omega)
    dsimp only at t1 t2 t3 i1 i2
    rw [outs1_B V c t h0, st1_B_am, st1_B_ax, t1, t2, t3]
    have hstep : ∀ f : Fin 3 → EReal, (∑ q' : Fin 3, if q' ≤ (⟨q.val - 1, by omega⟩ : Fin 3) then f q' else 0) + f q = ∑ q' : Fin 3, if q' ≤ q then f q' else 0 := by
      intro f
      have : q = 1 ∨ q = 2 := by
        rcases q with ⟨qv, hqv⟩
        simp only [Fin.ext_iff]
        show qv = 1 ∨ qv = 2
        simp only at hq
        omega
      rcases this with rfl | rfl
      · simp [Fin.sum_univ_three]
      · rw [Fin.sum_univ_three, Fin.sum_univ_three, if_pos (by show (0 : Fin 3) ≤ 1; decide), if_pos (by show (1 : Fin 3) ≤ 1; decide), if_neg (by show ¬(2 : Fin 3) ≤ 1; decide),
          if_pos (by decide), if_pos (by decide), if_pos (by decide), add_zero]
    refine ⟨fun k => ?_, fun k => ?_⟩
    · rw [pay5_at, am_part V c I E t b q h, i1, hstep (fun q' => part I (fun e => msg I b e k) b q' i)]
    · rw [pay6_at, ax_part V c I E t b q h, i2, hstep (fun q' => part I (fun e => tpK I b e k) b q' i)]

omit E in
theorem part_all (f : Fin 9120 → EReal) (b : Fin 16) (n : Fin 96) : (∑ q' : Fin 3, if q' ≤ (2 : Fin 3) then part I f b q' n else 0) = seg I f b n := by
  unfold seg; rw [sum_edge]
  exact Finset.sum_congr rfl fun q _ => by rw [if_pos (by have := q.isLt; omega)]; rfl

/-- The messages' array. -/
theorem arr19 : (dat1 V c).arrAt 19 cfg1.N = fun i => msg I (i 0) (i 1) (i 2) := by
  refine (dat1 V c).arrAt_eq_of_covers 19 _ (by decide +kernel) fun t hf y => ?_
  have ht : t.val < 48 := Nat.lt_of_lt_of_eq t.isLt N_1
  blk_simp
  rw [after1_19]
  have hdm : t.val = 3 * (t.val / 3) + t.val % 3 := by omega
  obtain ⟨hb, hq⟩ := coords1 t ⟨t.val / 3, by omega⟩ ⟨t.val % 3, by omega⟩ hdm
  have ix : win1_19.index t = ![(BitVec.ofNat 32 (grid1.coords t 0).val).toNat, (BitVec.ofNat 32 (grid1.coords t 1).val).toNat, 0] := rfl
  have hb' : (BitVec.ofNat 32 (t.val / 3)).toNat = t.val / 3 := by rw [BitVec.toNat_ofNat]; omega
  have hq' : (BitVec.ofNat 32 (t.val % 3)).toNat = t.val % 3 := by rw [BitVec.toNat_ofNat]; omega
  simp only [hb, hq, hb', hq'] at ix
  obtain ⟨e, k, rfl⟩ : ∃ (e : Fin 3040) (k : Fin 128), y = ix3 0 e k := ⟨y 1, y 2, (ix3_eta y).symm.trans (congrArg (fun z => ix3 z (y 1) (y 2)) (Subsingleton.elim _ _))⟩
  refine (out1_m V c I E t ⟨t.val / 3, by omega⟩ ⟨t.val % 3, by omega⟩ hdm e k).trans ?_
  congr 1 <;> (refine Fin.ext ?_; blk_simp; simp [ix, edge]; try omega)

/-- The aggregated messages' array. -/
theorem arr20 : (dat1 V c).arrAt 20 cfg1.N = fun i => aggm I (i 0) (i 1) (i 2) := by
  refine (dat1 V c).arrAt_eq_of_covers 20 _ (by decide +kernel) fun t hf y => ?_
  have ht : t.val < 48 := Nat.lt_of_lt_of_eq t.isLt N_1
  have hf2 := (flush1_20 t).mp hf
  blk_simp
  rw [after1_20]
  have hdm : t.val = 3 * (t.val / 3) + 2 := by omega
  obtain ⟨hb, hq⟩ := coords1 t ⟨t.val / 3, by omega⟩ 2 hdm
  have ix : win1_20.index t = ![(BitVec.ofNat 32 (grid1.coords t 0).val).toNat, 0, 0] := rfl
  have hb' : (BitVec.ofNat 32 (t.val / 3)).toNat = t.val / 3 := by rw [BitVec.toNat_ofNat]; omega
  simp only [hb, hb'] at ix
  obtain ⟨e, k, rfl⟩ : ∃ (e : Fin 96) (k : Fin 128), y = ix3 0 e k := ⟨y 1, y 2, (ix3_eta y).symm.trans (congrArg (fun z => ix3 z (y 1) (y 2)) (Subsingleton.elim _ _))⟩
  refine ((out1_acc V c I E 2 t ⟨t.val / 3, by omega⟩ 2 rfl hdm e).1 k).trans ?_
  rw [part_all]
  show aggm I ⟨t.val / 3, _⟩ e k = _
  congr 1 <;> (refine Fin.ext ?_; blk_simp; simp [ix])

/-- The aggregated steps' array, with the count's column. -/
theorem arr21 : (dat1 V c).arrAt 21 cfg1.N = fun i => seg I (fun e => tpK I (i 0) e (i 2)) (i 0) (i 1) := by
  refine (dat1 V c).arrAt_eq_of_covers 21 _ (by decide +kernel) fun t hf y => ?_
  have ht : t.val < 48 := Nat.lt_of_lt_of_eq t.isLt N_1
  have hf2 := (flush1_21 t).mp hf
  blk_simp
  rw [after1_21]
  have hdm : t.val = 3 * (t.val / 3) + 2 := by omega
  obtain ⟨hb, hq⟩ := coords1 t ⟨t.val / 3, by omega⟩ 2 hdm
  have ix : win1_21.index t = ![(BitVec.ofNat 32 (grid1.coords t 0).val).toNat, 0, 0] := rfl
  have hb' : (BitVec.ofNat 32 (t.val / 3)).toNat = t.val / 3 := by rw [BitVec.toNat_ofNat]; omega
  simp only [hb, hb'] at ix
  obtain ⟨e, k, rfl⟩ : ∃ (e : Fin 96) (k : Fin 8), y = ix3 0 e k := ⟨y 1, y 2, (ix3_eta y).symm.trans (congrArg (fun z => ix3 z (y 1) (y 2)) (Subsingleton.elim _ _))⟩
  refine ((out1_acc V c I E 2 t ⟨t.val / 3, by omega⟩ 2 rfl hdm e).2 k).trans ?_
  rw [part_all]
  have key : ∀ (b b' : Fin 16) (n n' : Fin 96) (k k' : Fin 8), b = b' → n = n' → k = k' → seg I (fun e => tpK I b e k) b n = seg I (fun e => tpK I b' e k') b' n' := by
    rintro b _ n _ k _ rfl rfl rfl; rfl
  refine key _ _ _ _ _ _ ?_ ?_ ?_ <;> (refine Fin.ext ?_; blk_simp; simp [ix])

end Cert.KernelIdeal.Own
-- ==== Proof.Math.lean ====
/- Facts on the extended reals that the equation rests on. -/
module

public import proofs.«01_k».proof.Proof.Model

@[expose] public section

noncomputable section

namespace Cert.Spec
open Idealize.ShloMosaic

/-- Dividing by a root is multiplying by the inverse root, above zero. -/
theorem div_sqrt (a s : EReal) (hs : 0 < s) : Ideal.div a (Ideal.sqrt s) = a * Ideal.rsqrt s := by
  induction s with
  | bot => exact absurd hs (by simp)
  | top =>
    have h1 : Ideal.sqrt ⊤ = ⊤ := rfl
    have h2 : Ideal.rsqrt ⊤ = 0 := rfl
    rw [h1, h2, Ideal.div, if_neg (by simp), EReal.inv_top]
  | coe r =>
    have hr : 0 < r := by exact_mod_cast hs
    have h1 : Ideal.sqrt (r : EReal) = (Real.sqrt r : EReal) := if_neg (not_lt.mpr hr.le)
    have h2 : Ideal.rsqrt (r : EReal) = (((Real.sqrt r)⁻¹ : ℝ) : EReal) := (if_neg (not_lt.mpr hr.le)).trans (if_neg hr.ne')
    have h3 : (Real.sqrt r : EReal) ≠ 0 := by
      have := (Real.sqrt_pos.mpr hr).ne'
      exact_mod_cast this
    rw [h1, h2, Ideal.div, if_neg h3, EReal.coe_inv]

theorem sq_nonneg (z : EReal) : 0 ≤ z * z := by
  rcases le_total 0 z with h | h
  · exact mul_nonneg h h
  · exact EReal.mul_nonneg_iff.mpr (Or.inr ⟨h, h⟩)

theorem div_nonneg {s : EReal} (hs : 0 ≤ s) {r : ℝ} (hr : 0 < r) : 0 ≤ Ideal.div s (r : EReal) := by
  have h3 : (r : EReal) ≠ 0 := by exact_mod_cast hr.ne'
  rw [Ideal.div, if_neg h3, ← EReal.coe_inv]
  exact mul_nonneg hs (by exact_mod_cast (inv_pos.mpr hr).le)

theorem add_eps_pos {s : EReal} (hs : 0 ≤ s) : 0 < s + (eps : EReal) := by
  have : (0 : EReal) < (eps : EReal) := by exact_mod_cast eps_pos
  exact lt_of_lt_of_le this (le_add_of_nonneg_left hs)

variable (I : Inp)

theorem var2_nonneg (k : Fin 128) : 0 ≤ var2 I k := by
  unfold var2 nodes
  exact div_nonneg (Finset.sum_nonneg fun b _ => Finset.sum_nonneg fun n _ => sq_nonneg _) (by norm_num)
theorem var_nonneg (k : Fin 128) : 0 ≤ var I k := by
  unfold var rows
  exact div_nonneg (Finset.sum_nonneg fun b _ => Finset.sum_nonneg fun n _ => sq_nonneg _) (by norm_num)

theorem sum_node (f : Fin 16 → Fin 96 → EReal) : ∑ r : Fin 1536, f ⟨r.val / 96, by omega⟩ ⟨r.val % 96, by omega⟩ = ∑ b, ∑ n, f b n := by
  rw [← Fintype.sum_prod_type']
  refine (Fintype.sum_equiv (finProdFinEquiv (m := 16) (n := 96)) _ _ fun p => ?_).symm
  obtain ⟨b, n⟩ := p
  have h1 : (⟨(finProdFinEquiv (b, n)).val / 96, by have := (finProdFinEquiv (b, n)).isLt; omega⟩ : Fin 16) = b := Fin.ext (by simp [finProdFinEquiv]; try omega)
  have h2 : (⟨(finProdFinEquiv (b, n)).val % 96, by omega⟩ : Fin 96) = n := Fin.ext (by simp [finProdFinEquiv]; try omega)
  exact (congrArg₂ f h1 h2).symm

theorem sum_row (f : Fin 16 → Fin 9120 → EReal) : ∑ r : Fin 145920, f ⟨r.val / 9120, by omega⟩ ⟨r.val % 9120, by omega⟩ = ∑ b, ∑ e, f b e := by
  rw [← Fintype.sum_prod_type']
  refine (Fintype.sum_equiv (finProdFinEquiv (m := 16) (n := 9120)) _ _ fun p => ?_).symm
  obtain ⟨b, n⟩ := p
  have h1 : (⟨(finProdFinEquiv (b, n)).val / 9120, by have := (finProdFinEquiv (b, n)).isLt; omega⟩ : Fin 16) = b := Fin.ext (by simp [finProdFinEquiv]; try omega)
  have h2 : (⟨(finProdFinEquiv (b, n)).val % 9120, by omega⟩ : Fin 9120) = n := Fin.ext (by simp [finProdFinEquiv]; try omega)
  exact (congrArg₂ f h1 h2).symm

end Cert.Spec
-- ==== Proof.KernelIdeal.Out2.lean ====
/- What the node call's two arrays hold after it. -/
module

public import proofs.«01_k».proof.Proof.KernelIdeal.Pay2
public import proofs.«01_k».proof.Proof.KernelIdeal.Out1
public import proofs.«01_k».proof.Proof.KernelIdeal.State2
public import proofs.«01_k».proof.Proof.Math
public import Idealize.ShloMosaic.Lib.Pipeline.ValueKit
public import Idealize.ShloMosaic.Lib.Pipeline.ReadBack

@[expose] public section

set_option maxRecDepth 16384

noncomputable section

namespace Cert.KernelIdeal.Own
open Idealize.ShloMosaic.TcCoe
open Cert.KernelIdeal Cert.KernelIdeal.Gen Cert.Spec
open Idealize.ShloMosaic

variable (V : (c : Dev nD) → (b : Ref sig .tc) → Buf (Elt Ideal) ((c : Thread nD τ).loc b)) (c : Dev nD)

theorem iblk2_0 (t : Fin cfg2.N) : iblk2 V c 0 t = V c main_arg0 := by
  have ix : win2_0.index t = fun _ => 0 := by rfl
  funext y
  blk_simp [iblk2]
  refine congrArg (V c main_arg0) (funext fun a => Fin.ext ?_)
  fin_cases a <;> (blk_simp; simp [ix])

theorem iblk2_1 (t : Fin cfg2.N) : iblk2 V c 1 t = V c main_v50_1 := by
  have ix : win2_1.index t = fun _ => 0 := by rfl
  funext y
  blk_simp [iblk2]
  refine congrArg (V c main_v50_1) (funext fun a => Fin.ext ?_)
  fin_cases a <;> (blk_simp; simp [ix])

theorem iblk2_2 (t : Fin cfg2.N) : iblk2 V c 2 t = V c main_arg4 := by
  have ix : win2_2.index t = fun _ => 0 := by rfl
  funext y
  blk_simp [iblk2]
  refine congrArg (V c main_arg4) (funext fun a => Fin.ext ?_)
  fin_cases a <;> (blk_simp; simp [ix])

theorem iblk2_3 (t : Fin cfg2.N) : iblk2 V c 3 t = V c main_arg1 := by
  have ix : win2_3.index t = fun _ => 0 := by rfl
  funext y
  blk_simp [iblk2]
  refine congrArg (V c main_arg1) (funext fun a => Fin.ext ?_)
  fin_cases a <;> (blk_simp; simp [ix])

theorem iblk2_4 (t : Fin cfg2.N) : iblk2 V c 4 t = V c main_v50_2 := by
  have ix : win2_4.index t = fun _ => 0 := by rfl
  funext y
  blk_simp [iblk2]
  refine congrArg (V c main_v50_2) (funext fun a => Fin.ext ?_)
  fin_cases a <;> (blk_simp; simp [ix])

theorem iblk2_5 (t : Fin cfg2.N) : iblk2 V c 5 t = V c main_v52 := by
  have ix : win2_5.index t = fun _ => 0 := by rfl
  funext y
  blk_simp [iblk2]
  refine congrArg (V c main_v52) (funext fun a => Fin.ext ?_)
  fin_cases a <;> (blk_simp; simp [ix])

theorem iblk2_6 (t : Fin cfg2.N) : iblk2 V c 6 t = V c main_v54 := by
  have ix : win2_6.index t = fun _ => 0 := by rfl
  funext y
  blk_simp [iblk2]
  refine congrArg (V c main_v54) (funext fun a => Fin.ext ?_)
  fin_cases a <;> (blk_simp; simp [ix])

theorem iblk2_7 (t : Fin cfg2.N) : iblk2 V c 7 t = V c main_v56 := by
  have ix : win2_7.index t = fun _ => 0 := by rfl
  funext y
  blk_simp [iblk2]
  refine congrArg (V c main_v56) (funext fun a => Fin.ext ?_)
  fin_cases a <;> (blk_simp; simp [ix])

theorem iblk2_8 (t : Fin cfg2.N) : iblk2 V c 8 t = V c main_v57 := by
  have ix : win2_8.index t = fun _ => 0 := by rfl
  funext y
  blk_simp [iblk2]
  refine congrArg (V c main_v57) (funext fun a => Fin.ext ?_)
  fin_cases a <;> (blk_simp; simp [ix])

theorem iblk2_9 (t : Fin cfg2.N) : iblk2 V c 9 t = V c main_v58 := by
  have ix : win2_9.index t = fun _ => 0 := by rfl
  funext y
  blk_simp [iblk2]
  refine congrArg (V c main_v58) (funext fun a => Fin.ext ?_)
  fin_cases a <;> (blk_simp; simp [ix])

theorem iblk2_10 (t : Fin cfg2.N) : iblk2 V c 10 t = V c main_v59 := by
  have ix : win2_10.index t = fun _ => 0 := by rfl
  funext y
  blk_simp [iblk2]
  refine congrArg (V c main_v59) (funext fun a => Fin.ext ?_)
  fin_cases a <;> (blk_simp; simp [ix])

theorem iblk2_11 (t : Fin cfg2.N) : iblk2 V c 11 t = V c main_v60 := by
  have ix : win2_11.index t = fun _ => 0 := by rfl
  funext y
  blk_simp [iblk2]
  refine congrArg (V c main_v60) (funext fun a => Fin.ext ?_)
  fin_cases a <;> (blk_simp; simp [ix])

theorem iblk2_12 (t : Fin cfg2.N) : iblk2 V c 12 t = V c main_v61 := by
  have ix : win2_12.index t = fun _ => 0 := by rfl
  funext y
  blk_simp [iblk2]
  refine congrArg (V c main_v61) (funext fun a => Fin.ext ?_)
  fin_cases a <;> (blk_simp; simp [ix])

theorem rd2_0 (t : Fin cfg2.N) : View.readAt (Elt Ideal) (ms2_0 t).view (Rect.unit (s := S16x96x128) ![0, 0, 0] S16x96x128.size inb_S16x96x128_S16x96x128_0_0_0).toLoadRect ((hs2_0 t).unread (iblk2 V c 0 t)) = iblk2 V c 0 t := by
  simp (disch := decide) only [View.readAt_eq_ld, View.ld_unit_lit', Memref.IsWhole.read_unread]
  exact read_unread_whole _ _ _

theorem rd2_1 (t : Fin cfg2.N) : View.readAt (Elt Ideal) (ms2_1 t).view (Rect.unit (s := S16x96x128) ![0, 0, 0] S16x96x128.size inb_S16x96x128_S16x96x128_0_0_0).toLoadRect ((hs2_1 t).unread (iblk2 V c 1 t)) = iblk2 V c 1 t := by
  simp (disch := decide) only [View.readAt_eq_ld, View.ld_unit_lit', Memref.IsWhole.read_unread]
  exact read_unread_whole _ _ _

theorem rd2_2 (t : Fin cfg2.N) : View.readAt (Elt Ideal) (ms2_2 t).view (Rect.unit (s := S16x96x16) ![0, 0, 0] S16x96x16.size inb_S16x96x16_S16x96x16_0_0_0).toLoadRect ((hs2_2 t).unread (iblk2 V c 2 t)) = iblk2 V c 2 t := by
  simp (disch := decide) only [View.readAt_eq_ld, View.ld_unit_lit', Memref.IsWhole.read_unread]
  exact read_unread_whole _ _ _

theorem rd2_5 (t : Fin cfg2.N) : View.readAt (Elt Ideal) (ms2_5 t).view (Rect.unit (s := S128x128) ![0, 0] S128x128.size inb_S128x128_S128x128_0_0).toLoadRect ((hs2_5 t).unread (iblk2 V c 5 t)) = iblk2 V c 5 t := by
  simp (disch := decide) only [View.readAt_eq_ld, View.ld_unit_lit', Memref.IsWhole.read_unread]
  exact read_unread_whole _ _ _

theorem rd2_6 (t : Fin cfg2.N) : View.readAt (Elt Ideal) (ms2_6 t).view (Rect.unit (s := S128x128) ![0, 0] S128x128.size inb_S128x128_S128x128_0_0).toLoadRect ((hs2_6 t).unread (iblk2 V c 6 t)) = iblk2 V c 6 t := by
  simp (disch := decide) only [View.readAt_eq_ld, View.ld_unit_lit', Memref.IsWhole.read_unread]
  exact read_unread_whole _ _ _

theorem rd2_7 (t : Fin cfg2.N) : View.readAt (Elt Ideal) (ms2_7 t).view (Rect.unit (s := S16x128) ![0, 0] S16x128.size inb_S16x128_S16x128_0_0).toLoadRect ((hs2_7 t).unread (iblk2 V c 7 t)) = iblk2 V c 7 t := by
  simp (disch := decide) only [View.readAt_eq_ld, View.ld_unit_lit', Memref.IsWhole.read_unread]
  exact read_unread_whole _ _ _

theorem rd2_8 (t : Fin cfg2.N) : View.readAt (Elt Ideal) (ms2_8 t).view (Rect.unit (s := S1x128) ![0, 0] S1x128.size inb_S1x128_S1x128_0_0).toLoadRect ((hs2_8 t).unread (iblk2 V c 8 t)) = iblk2 V c 8 t := by
  simp (disch := decide) only [View.readAt_eq_ld, View.ld_unit_lit', Memref.IsWhole.read_unread]
  exact read_unread_whole _ _ _

theorem rd2_9 (t : Fin cfg2.N) : View.readAt (Elt Ideal) (ms2_9 t).view (Rect.unit (s := S1x128) ![0, 0] S1x128.size inb_S1x128_S1x128_0_0).toLoadRect ((hs2_9 t).unread (iblk2 V c 9 t)) = iblk2 V c 9 t := by
  simp (disch := decide) only [View.readAt_eq_ld, View.ld_unit_lit', Memref.IsWhole.read_unread]
  exact read_unread_whole _ _ _

theorem rd2_10 (t : Fin cfg2.N) : View.readAt (Elt Ideal) (ms2_10 t).view (Rect.unit (s := S1x128) ![0, 0] S1x128.size inb_S1x128_S1x128_0_0).toLoadRect ((hs2_10 t).unread (iblk2 V c 10 t)) = iblk2 V c 10 t := by
  simp (disch := decide) only [View.readAt_eq_ld, View.ld_unit_lit', Memref.IsWhole.read_unread]
  exact read_unread_whole _ _ _

theorem rd2_11 (t : Fin cfg2.N) : View.readAt (Elt Ideal) (ms2_11 t).view (Rect.unit (s := S128x128) ![0, 0] S128x128.size inb_S128x128_S128x128_0_0).toLoadRect ((hs2_11 t).unread (iblk2 V c 11 t)) = iblk2 V c 11 t := by
  simp (disch := decide) only [View.readAt_eq_ld, View.ld_unit_lit', Memref.IsWhole.read_unread]
  exact read_unread_whole _ _ _

theorem rd2_12 (t : Fin cfg2.N) : View.readAt (Elt Ideal) (ms2_12 t).view (Rect.unit (s := S1x128) ![0, 0] S1x128.size inb_S1x128_S1x128_0_0).toLoadRect ((hs2_12 t).unread (iblk2 V c 12 t)) = iblk2 V c 12 t := by
  simp (disch := decide) only [View.readAt_eq_ld, View.ld_unit_lit', Memref.IsWhole.read_unread]
  exact read_unread_whole _ _ _

theorem pay4_congr {v27 v27' : FVec Ideal S1536x128 .f32} {v32 v32' : FVec Ideal S1x128 .f32} {v33 v33' v42 v42' : Vec Ideal S1x128 .f32} {v48 v48' : Vec Ideal S128x128 .f32}
    {v51 v51' : Vec Ideal S1x128 .f32} {v55 v55' : Vec Ideal S16x96x128 .f32} (h1 : v27 = v27') (h2 : v32 = v32') (h3 : v33 = v33') (h4 : v42 = v42') (h5 : v48 = v48') (h6 : v51 = v51') (h7 : v55 = v55') :
    k2_pay4 (F := Ideal) v27 v32 v33 v42 v48 v51 v55 = k2_pay4 (F := Ideal) v27' v32' v33' v42' v48' v51' v55' := by
  subst h1 h2 h3 h4 h5 h6 h7; rfl

theorem st2_h (t : Fin cfg2.N) : (st2_A V c t).1 = k2_pay4 (k2_pay2 (iblk2 V c 0 t) (iblk2 V c 1 t) (iblk2 V c 2 t) (iblk2 V c 5 t) (iblk2 V c 6 t) (iblk2 V c 7 t) (iblk2 V c 8 t))
    (k2_pay3 (iblk2 V c 0 t) (iblk2 V c 1 t) (iblk2 V c 2 t) (iblk2 V c 5 t) (iblk2 V c 6 t) (iblk2 V c 7 t) (iblk2 V c 8 t)) (iblk2 V c 9 t) (iblk2 V c 10 t) (iblk2 V c 11 t) (iblk2 V c 12 t) (iblk2 V c 0 t) := by
  unfold st2_A; dsimp only
  refine (View.read_writes_eq_canon _ _ _ (cover2_A_13 V c t)).trans ?_
  unfold run2_A
  frame_open
  rw [View.canon_cons_unit_lit' (h := by decide)]
  exact pay4_congr (by rw [rd2_0, rd2_1, rd2_2, rd2_5, rd2_6, rd2_7, rd2_8]) (by rw [rd2_0, rd2_1, rd2_2, rd2_5, rd2_6, rd2_7, rd2_8])
    (rd2_9 V c t) (rd2_10 V c t) (rd2_11 V c t) (rd2_12 V c t) (rd2_0 V c t)

/-- The sum of two extended reals. -/
def addE (a b : EReal) : EReal := a + b

theorem st2_x (t : Fin cfg2.N) (b : Fin 16) (n : Fin 96) (d : Fin 4) :
    (st2_A V c t).2 (ix3 b n d) = (addE (V c main_arg1 (ix3 b n d)) (Ideal.div (V c main_v50_2 (ix3 b n (⟨d.val, by omega⟩ : Fin 8))) (max (V c main_v50_2 (ix3 b n (4 : Fin 8)) : EReal) 1))) := by
  unfold st2_A; dsimp only
  rw [View.read_writes_eq_canon _ _ _ (cover2_A_14 V c t)]
  unfold run2_A
  frame_out
  refine (pay2_1_at _ _ _ b n d).trans ?_
  have h3 : View.read (Elt Ideal) (View.whole cc2_stg3_0) ((hs2_3 t).unread (iblk2 V c 3 t)) = iblk2 V c 3 t := read_unread_whole _ _ _
  have h4 : View.read (Elt Ideal) (View.whole cc2_stg4_0) ((hs2_4 t).unread (iblk2 V c 4 t)) = iblk2 V c 4 t := read_unread_whole _ _ _
  rw [h3, h4, iblk2_3, iblk2_4]
  refine congrArg₂ (fun p q : EReal => addE (V c main_arg1 (ix3 b n d)) (Ideal.div p (max q 1))) ?_ ?_
  · refine congrArg (V c main_v50_2) (funext fun a => Fin.ext ?_)
    fin_cases a <;> simp
  · refine congrArg (V c main_v50_2) (funext fun a => Fin.ext ?_)
    fin_cases a <;> simp

/-- The arrays the node call reads. -/
structure Env2 (V : (c : Dev nD) → (b : Ref sig .tc) → Buf (Elt Ideal) ((c : Thread nD τ).loc b)) (c : Dev nD) (I : Inp) : Prop where
  a0 : ∀ b n x, V c main_arg0 (ix3 b n x) = I.h b n x
  a1 : ∀ b n x, V c main_arg1 (ix3 b n x) = I.x b n x
  a4 : ∀ b n x, V c main_arg4 (ix3 b n x) = I.na b n x
  v50_1 : ∀ b n x, V c main_v50_1 (ix3 b n x) = aggm I b n x
  v50_2 : ∀ b n x, V c main_v50_2 (ix3 b n x) = seg I (fun e => tpK I b e x) b n
  v52 : ∀ x k : Fin 128, V c main_v52 (ix2 x k) = I.Wh1 k ⟨x.val, by omega⟩
  v54 : ∀ x k : Fin 128, V c main_v54 (ix2 x k) = I.Wh1 k ⟨128 + x.val, by omega⟩
  v56 : ∀ (x : Fin 16) (k : Fin 128), V c main_v56 (ix2 x k) = I.Wh1 k ⟨256 + x.val, by omega⟩
  v57 : ∀ k : Fin 128, V c main_v57 (ix2 0 k) = I.bh1 k
  v58 : ∀ k : Fin 128, V c main_v58 (ix2 0 k) = I.gh k
  v59 : ∀ k : Fin 128, V c main_v59 (ix2 0 k) = I.bh k
  v60 : ∀ x k : Fin 128, V c main_v60 (ix2 x k) = I.Wh2 k x
  v61 : ∀ k : Fin 128, V c main_v61 (ix2 0 k) = I.bh2 k

variable (I : Inp) (E : Env2 V c I)
include E

theorem nrow2 (b : Fin 16) (n : Fin 96) (k : Fin 128) :
    nrow (V c main_arg0) (V c main_v50_1) (V c main_arg4) (V c main_v52) (V c main_v54) (V c main_v56) (V c main_v57) b n k = zh I b n k := by
  unfold nrow zh
  simp only [E.a0, E.v50_1, E.a4, E.v52, E.v54, E.v56, E.v57]

theorem h_at (t : Fin cfg2.N) (b : Fin 16) (n : Fin 96) (k : Fin 128) : (st2_A V c t).1 (ix3 b n k) = hout I b n k := by
  have hz : ∀ r k, k2_pay2 (F := Ideal) (V c main_arg0) (V c main_v50_1) (V c main_arg4) (V c main_v52) (V c main_v54) (V c main_v56) (V c main_v57) (ix2 r k)
      = zh I (nodeB r) (nodeN r) k - mean2 I k := fun r k => by
    rw [pay2_2_at]; simp only [nrow2 V c I E]
    rw [mean2, ← sum_node fun b n => zh I b n k]; rfl
  have hv : ∀ k, k2_pay3 (F := Ideal) (V c main_arg0) (V c main_v50_1) (V c main_arg4) (V c main_v52) (V c main_v54) (V c main_v56) (V c main_v57) (ix2 0 k) = var2 I k := fun k => by
    rw [pay2_3_at]; simp only [hz]
    rw [var2, ← sum_node fun b n => (zh I b n k - mean2 I k) * (zh I b n k - mean2 I k)]; rfl
  rw [st2_h, iblk2_0, iblk2_1, iblk2_2, iblk2_5, iblk2_6, iblk2_7, iblk2_8, iblk2_9, iblk2_10, iblk2_11, iblk2_12, pay2_4_at]
  simp only [hz, hv, E.a0, E.v58, E.v59, E.v60, E.v61]
  have hb : nodeB ⟨b.val * 96 + n.val, by omega⟩ = b := Fin.ext (by show (b.val * 96 + n.val) / 96 = b.val; omega)
  have hn : nodeN ⟨b.val * 96 + n.val, by omega⟩ = n := Fin.ext (by show (b.val * 96 + n.val) % 96 = n.val; omega)
  rw [hb, hn]
  unfold hout zhn
  simp only [div_sqrt _ _ (add_eps_pos (var2_nonneg I _))]

omit E in
theorem cnt_eq (b : Fin 16) (n : Fin 96) : seg I (fun e => tpK I b e 4) b n = seg I (fun _ => 1) b n := by
  refine congrArg (fun f => seg I f b n) (funext fun e => ?_)
  unfold tpK; rw [dif_neg (by decide)]; simp
omit E in
theorem stp_eq (b : Fin 16) (n : Fin 96) (d : Fin 4) : seg I (fun e => tpK I b e ⟨d.val, by omega⟩) b n = seg I (fun e => step I b e d) b n := by
  refine congrArg (fun f => seg I f b n) (funext fun e => ?_)
  unfold tpK; rw [dif_pos d.isLt, if_neg (by have := d.isLt; show ¬d.val = 4; omega), add_zero]

theorem x_at (t : Fin cfg2.N) (b : Fin 16) (n : Fin 96) (d : Fin 4) : (st2_A V c t).2 (ix3 b n d) = xout I b n d := by
  rw [st2_x, E.a1, E.v50_2, E.v50_2, cnt_eq, stp_eq]; rfl

theorem arr13 : (dat2 V c).arrAt 13 cfg2.N = fun i => hout I (i 0) (i 1) (i 2) := by
  refine (dat2 V c).arrAt_eq_of_covers 13 _ (by decide +kernel) fun t hf y => ?_
  have ix : win2_13.index t = fun _ => 0 := by rfl
  blk_simp
  rw [after2_13, outs2_A]
  obtain ⟨b, n, k, rfl⟩ : ∃ (b : Fin 16) (n : Fin 96) (k : Fin 128), y = ix3 b n k := ⟨y 0, y 1, y 2, (ix3_eta y).symm⟩
  refine (h_at V c I E t b n k).trans ?_
  congr 1 <;> (refine Fin.ext ?_; blk_simp; simp [ix])

theorem arr14 : (dat2 V c).arrAt 14 cfg2.N = fun i => xout I (i 0) (i 1) (i 2) := by
  refine (dat2 V c).arrAt_eq_of_covers 14 _ (by decide +kernel) fun t hf y => ?_
  have ix : win2_14.index t = fun _ => 0 := by rfl
  blk_simp
  rw [after2_14, outs2_A]
  obtain ⟨b, n, k, rfl⟩ : ∃ (b : Fin 16) (n : Fin 96) (k : Fin 4), y = ix3 b n k := ⟨y 0, y 1, y 2, (ix3_eta y).symm⟩
  refine (x_at V c I E t b n k).trans ?_
  congr 1 <;> (refine Fin.ext ?_; blk_simp; simp [ix])

end Cert.KernelIdeal.Own
-- ==== Proof.Norm.lean ====
/-
  The batch norm in two forms: over real rows the mean of the squares less the square of the mean is the mean of the
  squared differences, and the affine form is the normalised one.
-/
module

public import proofs.«01_k».proof.Proof.Math
public import proofs.«01_k».proof.Proof.KernelIdeal.Rows

@[expose] public section

set_option maxRecDepth 16384

noncomputable section

namespace Cert.Spec
open Idealize.ShloMosaic

/-- The arguments the first layer reads are real numbers. -/
structure Tame (I : Inp) : Prop where
  h : ∀ b n x, ∃ r : ℝ, I.h b n x = r
  x : ∀ b n d, ∃ r : ℝ, I.x b n d = r
  W1 : ∀ k y, ∃ r : ℝ, I.W1 k y = r
  g1 : ∀ k, ∃ r : ℝ, I.g1 k = r

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩
theorem real_sub {a b : EReal} (ha : ∃ r : ℝ, a = r) (hb : ∃ r : ℝ, b = r) : ∃ r : ℝ, a - b = r := by
  obtain ⟨x, rfl⟩ := ha; obtain ⟨y, rfl⟩ := hb; exact ⟨x - y, (EReal.coe_sub x y).symm⟩
theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s
theorem real_sum {ι : Type} (s : Finset ι) {f : ι → EReal} (h : ∀ i, ∃ r : ℝ, f i = r) : ∃ r : ℝ, ∑ i ∈ s, f i = r := by
  choose g hg using h
  exact ⟨∑ i ∈ s, g i, by rw [coe_sum]; exact Finset.sum_congr rfl fun i _ => hg i⟩
theorem real_psi {a : EReal} (ha : ∃ r : ℝ, a = r) : ∃ r : ℝ, psi a = r := by
  obtain ⟨x, rfl⟩ := ha
  have hm : max (x : EReal) (-(x : EReal)) = ((max x (-x) : ℝ) : EReal) := by
    rw [← EReal.coe_neg]; exact (EReal.coe_strictMono.monotone.map_max).symm
  have hp : 0 < max x (-x) + 1 := by
    have := le_max_left x (-x); have := le_max_right x (-x); linarith
  have hl : ∃ r : ℝ, Ideal.log (max (x : EReal) (-(x : EReal)) + 1) = r := by
    rw [hm, show (1 : EReal) = ((1 : ℝ) : EReal) from rfl, ← EReal.coe_add]
    exact ⟨_, if_neg (not_le.mpr hp)⟩
  have hs : ∃ r : ℝ, Ideal.sign (x : EReal) = r := by
    exact ⟨_, rfl⟩
  exact real_mul hs hl

theorem met_vals : met 0 = 1 ∧ met 1 = -1 ∧ met 2 = -1 ∧ met 3 = -1 := by
  refine ⟨?_, ?_, ?_, ?_⟩ <;> simp [met]

theorem minkK_eq (u v : Fin 4 → EReal) (hu : ∀ c, ∃ r : ℝ, u c = r) (hv : ∀ c, ∃ r : ℝ, v c = r) : minkK u v = mink u v := by
  choose p hp using hu
  choose q hq using hv
  obtain ⟨m0, m1, m2, m3⟩ := met_vals
  unfold minkK mink
  simp only [Fin.sum_univ_four, m0, m1, m2, m3, hp, hq]
  rw [show (1 : EReal) = ((1 : ℝ) : EReal) from rfl, ← EReal.coe_neg]
  simp only [← EReal.coe_mul, ← EReal.coe_add, ← EReal.coe_sub]
  congr 1; ring

theorem minkN_eq (u v : Fin 4 → EReal) (hu : ∀ c, ∃ r : ℝ, u c = r) (hv : ∀ c, ∃ r : ℝ, v c = r) :
    minkN u v = mink (fun c => u c - v c) (fun c => u c - v c) := by
  choose p hp using hu
  choose q hq using hv
  obtain ⟨m0, m1, m2, m3⟩ := met_vals
  unfold minkN mink
  simp only [Fin.sum_univ_four, m0, m1, m2, m3, hp, hq]
  rw [show (1 : EReal) = ((1 : ℝ) : EReal) from rfl, ← EReal.coe_neg]
  simp only [← EReal.coe_mul, ← EReal.coe_add, ← EReal.coe_sub]
  congr 1; ring

variable (I : Inp) (T : Tame I)
include T

theorem real_mink {u v : Fin 4 → EReal} (hu : ∀ c, ∃ r : ℝ, u c = r) (hv : ∀ c, ∃ r : ℝ, v c = r) : ∃ r : ℝ, mink u v = r :=
  real_sub (real_mul ⟨2, rfl⟩ (real_mul (hu 0) (hv 0))) (real_sum _ fun c => real_mul (hu c) (hv c))

theorem ZK_eq (b : Fin 16) (e : Fin 9120) (k : Fin 128) : ZK I b e k = Z I b e k := by
  unfold ZK Z nrm dts
  rw [minkN_eq _ _ (T.x b _) (T.x b _), minkK_eq _ _ (T.x b _) (T.x b _)]
  rfl

theorem Z_real (b : Fin 16) (e : Fin 9120) (k : Fin 128) : ∃ r : ℝ, Z I b e k = r := by
  have hx := T.x b
  have hd : ∀ c, ∃ r : ℝ, diff I b (I.ei b e) (I.ej b e) c = r := fun c => real_sub (hx _ c) (hx _ c)
  exact real_add (real_add (real_add (real_sum _ fun x => real_mul (T.h ..) (T.W1 ..)) (real_sum _ fun x => real_mul (T.h ..) (T.W1 ..)))
    (real_mul (real_psi (real_mink I T hd hd)) (T.W1 ..))) (real_mul (real_psi (real_mink I T (hx _) (hx _))) (T.W1 ..))

theorem div_real (a r : ℝ) (h : r ≠ 0) : Ideal.div (a : EReal) (r : EReal) = ((a * r⁻¹ : ℝ) : EReal) := by
  have h3 : (r : EReal) ≠ 0 := by exact_mod_cast h
  rw [Ideal.div, if_neg h3, ← EReal.coe_inv, EReal.coe_mul]

/-- The scale and shift form of the norm. -/
theorem bn_eq (b : Fin 16) (e : Fin 9120) (k : Fin 128) (mu sq : EReal)
    (hmu : mu = Ideal.div (∑ b, ∑ e, ZK I b e k) rows) (hsq : sq = Ideal.div (∑ b, ∑ e, ZK I b e k * ZK I b e k) rows) :
    max (ZK I b e k * (I.g1 k * Ideal.rsqrt (sq - mu * mu + (eps : EReal))) + (I.b1 k - mu * (I.g1 k * Ideal.rsqrt (sq - mu * mu + (eps : EReal))))) 0
      = zn I b e k := by
  have hpos := add_eps_pos (var_nonneg I k)
  unfold zn
  rw [div_sqrt _ _ hpos]
  simp only [ZK_eq I T] at hmu hsq ⊢
  have hm : mu = mean I k := hmu
  choose z hz using fun b e => Z_real I T b e k
  obtain ⟨g, hg⟩ := T.g1 k
  have hsum : ∑ b, ∑ e, Z I b e k = ((∑ b, ∑ e, z b e : ℝ) : EReal) := by
    simp only [coe_sum, hz]
  have hsum2 : ∑ b, ∑ e, Z I b e k * Z I b e k = ((∑ b, ∑ e, z b e * z b e : ℝ) : EReal) := by
    simp only [coe_sum, hz, EReal.coe_mul]
  have hN : (145920 : ℝ) ≠ 0 := by norm_num
  have hmean : mean I k = (((∑ b, ∑ e, z b e) * (145920 : ℝ)⁻¹ : ℝ) : EReal) := by
    unfold mean rows; rw [hsum, div_real I T _ _ hN]
  generalize hM : (∑ b, ∑ e, z b e) * (145920 : ℝ)⁻¹ = M at hmean
  have hsv : var I k = (((∑ b, ∑ e, (z b e - M) * (z b e - M)) * (145920 : ℝ)⁻¹ : ℝ) : EReal) := by
    unfold var rows
    rw [← div_real I T _ _ hN, hmean]
    simp only [coe_sum, hz, EReal.coe_mul, EReal.coe_sub]
  have hS : (∑ b : Fin 16, ∑ e : Fin 9120, z b e) = M * 145920 := by rw [← hM]; field_simp
  have hexp : ∑ b : Fin 16, ∑ e : Fin 9120, (z b e - M) * (z b e - M) = (∑ b, ∑ e, z b e * z b e) - M * M * 145920 := by
    have : ∀ b e, (z b e - M) * (z b e - M) = z b e * z b e - 2 * M * z b e + M * M := fun b e => by ring
    simp only [this, Finset.sum_add_distrib, Finset.sum_sub_distrib, ← Finset.mul_sum, hS, Finset.sum_const, Finset.card_univ, Fintype.card_fin, nsmul_eq_mul]
    push_cast; ring
  have hv : sq - mu * mu = var I k := by
    rw [hm, hsq, hsum2, hmean, hsv, hexp]
    unfold rows
    rw [div_real I T _ _ hN, ← EReal.coe_mul, ← EReal.coe_sub]
    congr 1; field_simp
  rw [hv, hm, hmean, hz, hg]
  obtain ⟨s, hs⟩ : ∃ s : ℝ, Ideal.rsqrt (var I k + (eps : EReal)) = s := by
    rw [hsv, ← EReal.coe_add] at hpos ⊢
    have hr : 0 < (∑ b, ∑ e, (z b e - M) * (z b e - M)) * (145920 : ℝ)⁻¹ + eps := by exact_mod_cast hpos
    exact ⟨_, (if_neg (not_lt.mpr hr.le)).trans (if_neg hr.ne')⟩
  rw [hs]
  have hc : ∀ p q β : EReal, p + (β - q) = p - q + β := fun p q β => by
    rw [sub_eq_add_neg, sub_eq_add_neg, add_comm β, add_assoc]
  rw [hc]
  simp only [← EReal.coe_mul, ← EReal.coe_sub]
  congr 3; ring

end Cert.Spec
-- ==== Proof.KernelIdeal.All.lean ====
/- The kernel's results: what each host stretch hands each call, and what the calls leave. -/
module

public import proofs.«01_k».proof.Proof.KernelIdeal.Stretch
public import proofs.«01_k».proof.Proof.KernelIdeal.Out0
public import proofs.«01_k».proof.Proof.KernelIdeal.Out2
public import proofs.«01_k».proof.Proof.Norm

@[expose] public section

set_option maxRecDepth 16384

noncomputable section

namespace Cert.KernelIdeal.Own
open Idealize.ShloMosaic.TcCoe
open Cert.KernelIdeal Cert.KernelIdeal.Gen Cert.Spec
open Idealize.ShloMosaic

/-- The kernel's arguments hold the layer's. -/
structure Args (V : Valuation τ sig (Elt Ideal)) (I : Inp) : Prop where
  a0 : ∀ b n x, V (Proc.devRef .tc main_arg0) (ix3 b n x : S16x96x128.Idx) = I.h b n x
  a1 : ∀ b n c, V (Proc.devRef .tc main_arg1) (ix3 b n c : S16x96x4.Idx) = I.x b n c
  a2 : ∀ b e, V (Proc.devRef .tc main_arg2) (ix2 b e : S16x9120.Idx) = BitVec.ofNat 32 (I.ei b e).val
  a3 : ∀ b e, V (Proc.devRef .tc main_arg3) (ix2 b e : S16x9120.Idx) = BitVec.ofNat 32 (I.ej b e).val
  a4 : ∀ b n x, V (Proc.devRef .tc main_arg4) (ix3 b n x : S16x96x16.Idx) = I.na b n x
  a5 : ∀ k y, V (Proc.devRef .tc main_arg5) (ix2 k y : S128x258.Idx) = I.W1 k y
  a6 : ∀ k, V (Proc.devRef .tc main_arg6) (ix1 k : S128.Idx) = I.g1 k
  a7 : ∀ k, V (Proc.devRef .tc main_arg7) (ix1 k : S128.Idx) = I.b1 k
  a8 : ∀ k x, V (Proc.devRef .tc main_arg8) (ix2 k x : S128x128.Idx) = I.W2 k x
  a9 : ∀ k, V (Proc.devRef .tc main_arg9) (ix1 k : S128.Idx) = I.b2 k
  a10 : ∀ k y, V (Proc.devRef .tc main_arg10) (ix2 k y : S128x272.Idx) = I.Wh1 k y
  a11 : ∀ k, V (Proc.devRef .tc main_arg11) (ix1 k : S128.Idx) = I.bh1 k
  a12 : ∀ k, V (Proc.devRef .tc main_arg12) (ix1 k : S128.Idx) = I.gh k
  a13 : ∀ k, V (Proc.devRef .tc main_arg13) (ix1 k : S128.Idx) = I.bh k
  a14 : ∀ k x, V (Proc.devRef .tc main_arg14) (ix2 k x : S128x128.Idx) = I.Wh2 k x
  a15 : ∀ k, V (Proc.devRef .tc main_arg15) (ix1 k : S128.Idx) = I.bh2 k
  a16 : ∀ k x, V (Proc.devRef .tc main_arg16) (ix2 k x : S128x128.Idx) = I.Wx1 k x
  a17 : ∀ k, V (Proc.devRef .tc main_arg17) (ix1 k : S128.Idx) = I.bx1 k
  a18 : ∀ x, V (Proc.devRef .tc main_arg18) (ix2 0 x : S1x128.Idx) = I.Wx2 x
  a19 : ∀ x, V (Proc.devRef .tc main_arg19) (ix2 0 x : S1x128.Idx) = I.Wm x
  a20 : V (Proc.devRef .tc main_arg20) (ix1 0 : S1.Idx) = I.bm

variable (m : (ℓ : Loc nD τ sig) → Buf (Elt Ideal) ℓ) (c : Dev nD)

theorem W1_keeps (r : Ref sig .tc) (h0 : r ∉ hostOps0_W) : W1 m c (Proc.devRef .tc r) = W0 m c (Proc.devRef .tc r) :=
  StableHlo.after_of_writes_sub hostOps0 _ hostOps0_writes h0
theorem W2_keeps (r : Ref sig .tc) (r0 : ∀ w, Pipeline.arrRef spec0 w = r → (cfg0.win w).isOut = false) :
    W2 m c (Proc.devRef .tc r) = W1 m c (Proc.devRef .tc r) :=
  Pipeline.afterRegion_keeps (dat0 (refs (W1 m)) c) (W1 m c) launch0.win.arr_inj (fun w => A0_eq _ c w) r r0
theorem W3_keeps (r : Ref sig .tc) (h1 : r ∉ hostOps1_W) : W3 m c (Proc.devRef .tc r) = W2 m c (Proc.devRef .tc r) :=
  StableHlo.after_of_writes_sub hostOps1 _ hostOps1_writes h1
theorem W4_keeps (r : Ref sig .tc) (r1 : ∀ w, Pipeline.arrRef spec1 w = r → (cfg1.win w).isOut = false) :
    W4 m c (Proc.devRef .tc r) = W3 m c (Proc.devRef .tc r) :=
  Pipeline.afterRegion_keeps (dat1 (refs (W3 m)) c) (W3 m c) launch1.win.arr_inj (fun w => A1_eq _ c w) r r1
theorem W5_keeps (r : Ref sig .tc) (h2 : r ∉ hostOps2_W) : W5 m c (Proc.devRef .tc r) = W4 m c (Proc.devRef .tc r) :=
  StableHlo.after_of_writes_sub hostOps2 _ hostOps2_writes h2
theorem W6_keep (r : Ref sig .tc) (r2 : ∀ w, Pipeline.arrRef spec2 w = r → (cfg2.win w).isOut = false) :
    W6 m c (Proc.devRef .tc r) = W5 m c (Proc.devRef .tc r) :=
  Pipeline.afterRegion_keeps (dat2 (refs (W5 m)) c) (W5 m c) launch2.win.arr_inj (fun w => A2_eq _ c w) r r2

/-- From the second call's entry back to the first's. -/
theorem W31 (r : Ref sig .tc) (h1 : r ∉ hostOps1_W) (r0 : ∀ w, Pipeline.arrRef spec0 w = r → (cfg0.win w).isOut = false) :
    W3 m c (Proc.devRef .tc r) = W1 m c (Proc.devRef .tc r) :=
  (W3_keeps m c r h1).trans (W2_keeps m c r r0)
theorem W20 (r : Ref sig .tc) (h0 : r ∉ hostOps0_W) (r0 : ∀ w, Pipeline.arrRef spec0 w = r → (cfg0.win w).isOut = false) :
    W2 m c (Proc.devRef .tc r) = W0 m c (Proc.devRef .tc r) :=
  (W2_keeps m c r r0).trans (W1_keeps m c r h0)
theorem W40 (r : Ref sig .tc) (h0 : r ∉ hostOps0_W) (h1 : r ∉ hostOps1_W) (r0 : ∀ w, Pipeline.arrRef spec0 w = r → (cfg0.win w).isOut = false)
    (r1 : ∀ w, Pipeline.arrRef spec1 w = r → (cfg1.win w).isOut = false) : W4 m c (Proc.devRef .tc r) = W0 m c (Proc.devRef .tc r) :=
  (W4_keeps m c r r1).trans ((W31 m c r h1 r0).trans (W1_keeps m c r h0))

variable (I : Inp) (A : Args (W0 m c) I) (T : Tame I)
include A

theorem env0 : Env (refs (W1 m)) c I where
  v15 := fun b q e => (h0_v15 (W0 m c) b q e).trans (A.a2 b _)
  v16 := fun b q e => (h0_v16 (W0 m c) b q e).trans (A.a3 b _)
  v17 := fun b q e => (h0_v17 (W0 m c) b q e).trans (A.a2 b _)
  a0 := fun b n x => (congrFun (W1_keeps m c main_arg0 (by decide)) _).trans (A.a0 b n x)
  a1 := fun b n x => (congrFun (W1_keeps m c main_arg1 (by decide)) _).trans (A.a1 b n x)
  v14 := fun b x n => (h0_v14 (W0 m c) b x n).trans (A.a1 b n x)
  v1 := fun x k => (h0_v1 (W0 m c) x k).trans (A.a5 k _)
  v3 := fun x k => (h0_v3 (W0 m c) x k).trans (A.a5 k _)
  v8 := fun x k => (h0_v8 (W0 m c) x k).trans (A.a5 k _)
  v13 := fun x k => (h0_v13 (W0 m c) x k).trans (A.a5 k _)

theorem sums (k : Fin 128) : W2 m c (Proc.devRef .tc main_v18) (ix2 0 k : S8x128.Idx) = ∑ b, ∑ e, ZK I b e k
    ∧ W2 m c (Proc.devRef .tc main_v18) (ix2 1 k : S8x128.Idx) = ∑ b, ∑ e, ZK I b e k * ZK I b e k := by
  have h : W2 m c (Proc.devRef .tc main_v18) = (dat0 (refs (W1 m)) c).arrAt 9 cfg0.N :=
    Pipeline.afterRegion_arr (dat0 (refs (W1 m)) c) (W1 m c) launch0.win.arr_inj 9
  have h9 := arr9 (refs (W1 m)) c I (env0 m c I A) k
  exact ⟨(congrFun h _).trans h9.1, (congrFun h _).trans h9.2⟩

include T

theorem env1 : Env1 (refs (W3 m)) c I where
  v15 := fun b q e => (congrFun (W31 m c main_v15 (by decide) (by decide)) _).trans ((env0 m c I A).v15 b q e)
  v16 := fun b q e => (congrFun (W31 m c main_v16 (by decide) (by decide)) _).trans ((env0 m c I A).v16 b q e)
  v17 := fun b q e => (congrFun (W31 m c main_v17 (by decide) (by decide)) _).trans ((env0 m c I A).v17 b q e)
  a0 := fun b q e => (congrFun (W31 m c main_arg0 (by decide) (by decide)) _).trans ((env0 m c I A).a0 b q e)
  a1 := fun b q e => (congrFun (W31 m c main_arg1 (by decide) (by decide)) _).trans ((env0 m c I A).a1 b q e)
  v14 := fun b q e => (congrFun (W31 m c main_v14 (by decide) (by decide)) _).trans ((env0 m c I A).v14 b q e)
  v1 := fun b q => (congrFun (W31 m c main_v1 (by decide) (by decide)) _).trans ((env0 m c I A).v1 b q)
  v3 := fun b q => (congrFun (W31 m c main_v3 (by decide) (by decide)) _).trans ((env0 m c I A).v3 b q)
  v8 := fun b q => (congrFun (W31 m c main_v8 (by decide) (by decide)) _).trans ((env0 m c I A).v8 b q)
  v13 := fun b q => (congrFun (W31 m c main_v13 (by decide) (by decide)) _).trans ((env0 m c I A).v13 b q)
  bn := fun b e k => by
    have h6 : arg6 (W2 m c) k = I.g1 k := (congrFun (W20 m c main_arg6 (by decide) (by decide)) _).trans (A.a6 k)
    have h7 : arg7 (W2 m c) k = I.b1 k := (congrFun (W20 m c main_arg7 (by decide) (by decide)) _).trans (A.a7 k)
    have hs := sums m c I A k
    have hmu : smu (W2 m c) k = Ideal.div (∑ b, ∑ e, ZK I b e k) rows := congrArg (Ideal.div · rows) hs.1
    have hsq : ssq (W2 m c) k = Ideal.div (∑ b, ∑ e, ZK I b e k * ZK I b e k) rows := congrArg (Ideal.div · rows) hs.2
    have h35 := h1_v35 (W2 m c) k
    have h36 := h1_v36 (W2 m c) k
    rw [h7] at h36
    unfold scl at h35 h36
    rw [h6] at h35 h36
    exact (congrArg₂ (fun p q : EReal => max (ZK I b e k * p + q) 0) h35 h36).trans (bn_eq I T b e k _ _ hmu hsq)
  v38 := fun x k => (h1_v38 (W2 m c) x k).trans ((congrFun (W20 m c main_arg8 (by decide) (by decide)) _).trans (A.a8 k x))
  v39 := fun k => (h1_v39 (W2 m c) k).trans ((congrFun (W20 m c main_arg9 (by decide) (by decide)) _).trans (A.a9 k))
  v42 := fun x k => (h1_v42 (W2 m c) x k).trans ((congrFun (W20 m c main_arg19 (by decide) (by decide)) _).trans (A.a19 x))
  v43 := (h1_v43 (W2 m c)).trans ((congrFun (W20 m c main_arg20 (by decide) (by decide)) _).trans A.a20)
  v45 := fun x k => (h1_v45 (W2 m c) x k).trans ((congrFun (W20 m c main_arg16 (by decide) (by decide)) _).trans (A.a16 k x))
  v46 := fun k => (h1_v46 (W2 m c) k).trans ((congrFun (W20 m c main_arg17 (by decide) (by decide)) _).trans (A.a17 k))
  v49 := fun x k => (h1_v49 (W2 m c) x k).trans ((congrFun (W20 m c main_arg18 (by decide) (by decide)) _).trans (A.a18 x))
  xfin := T.x

theorem W4_m : W4 m c (Proc.devRef .tc main_v50_0) = fun i : S16x9120x128.Idx => msg I (i 0) (i 1) (i 2) :=
  (Pipeline.afterRegion_arr (dat1 (refs (W3 m)) c) (W3 m c) launch1.win.arr_inj 19).trans (arr19 (refs (W3 m)) c I (env1 m c I A T))
theorem W4_aggm : W4 m c (Proc.devRef .tc main_v50_1) = fun i : S16x96x128.Idx => aggm I (i 0) (i 1) (i 2) :=
  (Pipeline.afterRegion_arr (dat1 (refs (W3 m)) c) (W3 m c) launch1.win.arr_inj 20).trans (arr20 (refs (W3 m)) c I (env1 m c I A T))
theorem W4_aggx : W4 m c (Proc.devRef .tc main_v50_2) = fun i : S16x96x8.Idx => seg I (fun e => tpK I (i 0) e (i 2)) (i 0) (i 1) :=
  (Pipeline.afterRegion_arr (dat1 (refs (W3 m)) c) (W3 m c) launch1.win.arr_inj 21).trans (arr21 (refs (W3 m)) c I (env1 m c I A T))

theorem env2 : Env2 (refs (W5 m)) c I where
  a0 := fun b n x => (congrFun ((W5_keeps m c main_arg0 (by decide)).trans (W40 m c main_arg0 (by decide) (by decide) (by decide) (by decide))) _).trans (A.a0 b n x)
  a1 := fun b n x => (congrFun ((W5_keeps m c main_arg1 (by decide)).trans (W40 m c main_arg1 (by decide) (by decide) (by decide) (by decide))) _).trans (A.a1 b n x)
  a4 := fun b n x => (congrFun ((W5_keeps m c main_arg4 (by decide)).trans (W40 m c main_arg4 (by decide) (by decide) (by decide) (by decide))) _).trans (A.a4 b n x)
  v50_1 := fun b n x => congrFun ((W5_keeps m c main_v50_1 (by decide)).trans (W4_aggm m c I A T)) (ix3 b n x)
  v50_2 := fun b n x => congrFun ((W5_keeps m c main_v50_2 (by decide)).trans (W4_aggx m c I A T)) (ix3 b n x)
  v52 := fun x k => (h2_v52 (W4 m c) x k).trans ((congrFun (W40 m c main_arg10 (by decide) (by decide) (by decide) (by decide)) _).trans (A.a10 k _))
  v54 := fun x k => (h2_v54 (W4 m c) x k).trans ((congrFun (W40 m c main_arg10 (by decide) (by decide) (by decide) (by decide)) _).trans (A.a10 k _))
  v56 := fun x k => (h2_v56 (W4 m c) x k).trans ((congrFun (W40 m c main_arg10 (by decide) (by decide) (by decide) (by decide)) _).trans (A.a10 k _))
  v57 := fun k => (h2_v57 (W4 m c) k).trans ((congrFun (W40 m c main_arg11 (by decide) (by decide) (by decide) (by decide)) _).trans (A.a11 k))
  v58 := fun k => (h2_v58 (W4 m c) k).trans ((congrFun (W40 m c main_arg12 (by decide) (by decide) (by decide) (by decide)) _).trans (A.a12 k))
  v59 := fun k => (h2_v59 (W4 m c) k).trans ((congrFun (W40 m c main_arg13 (by decide) (by decide) (by decide) (by decide)) _).trans (A.a13 k))
  v60 := fun x k => (h2_v60 (W4 m c) x k).trans ((congrFun (W40 m c main_arg14 (by decide) (by decide) (by decide) (by decide)) _).trans (A.a14 k x))
  v61 := fun k => (h2_v61 (W4 m c) k).trans ((congrFun (W40 m c main_arg15 (by decide) (by decide) (by decide) (by decide)) _).trans (A.a15 k))

/-! ## The three results -/

theorem out_h : W6 m c (Proc.devRef .tc main_v62_0) = fun i : S16x96x128.Idx => hout I (i 0) (i 1) (i 2) :=
  (Pipeline.afterRegion_arr (dat2 (refs (W5 m)) c) (W5 m c) launch2.win.arr_inj 13).trans (arr13 (refs (W5 m)) c I (env2 m c I A T))
theorem out_x : W6 m c (Proc.devRef .tc main_v62_1) = fun i : S16x96x4.Idx => xout I (i 0) (i 1) (i 2) :=
  (Pipeline.afterRegion_arr (dat2 (refs (W5 m)) c) (W5 m c) launch2.win.arr_inj 14).trans (arr14 (refs (W5 m)) c I (env2 m c I A T))
theorem out_m : W6 m c (Proc.devRef .tc main_v50_0) = fun i : S16x9120x128.Idx => msg I (i 0) (i 1) (i 2) :=
  (W6_keep m c main_v50_0 (by decide)).trans ((W5_keeps m c main_v50_0 (by decide)).trans (W4_m m c I A T))

end Cert.KernelIdeal.Own
-- ==== Proof.Ref.Index.lean ====
/- What the reference's takes read and where its segment sums land. -/
module

public import proofs.«01_k».proof.ReferenceIdeal
public import proofs.«01_k».proof.Proof.Math
public import Idealize.ShloMosaic.Lib.Routing.OpsOne
public import Idealize.ShloMosaic.Lib.Routing.Ops

@[expose] public section

set_option maxRecDepth 16384

noncomputable section

namespace Cert.ReferenceIdeal.Own

open Cert.ReferenceIdeal Cert.Spec
open Idealize.ShloMosaic

/-- A take along the node axis, group by group: entry `(b, e, c)` is the table's at the node the index names. -/
theorem take_at {D : ℕ} (d : GatherDims ⟨3, ![16, 96, D]⟩ ⟨3, ![16, 9120, 1]⟩ ⟨3, ![16, 9120, D]⟩) (h1 : d.offsetDims = [2]) (h2 : d.collapsedSliceDims = [1])
    (h3 : d.operandBatchingDims = [0]) (h4 : d.startIndicesBatchingDims = [0]) (h5 : d.startIndexMap = [1]) (h6 : d.indexVectorDim = 2) (h7 : d.sliceSizes 1 = 1)
    {α : Type} (x : Shape.Idx ⟨3, ![16, 96, D]⟩ → α) (idx : IVec ⟨3, ![16, 9120, 1]⟩ 32) (b : Fin 16) (e : Fin 9120) (c : Fin D) (n : Fin 96)
    (hn : idx (ix3 b e 0) = BitVec.ofNat 32 n.val) : Host.gather d x idx (ix3 b e c) = x (ix3 b n c) := by
  obtain ⟨o, cs, ob, sb, sm, iv, sl, wf⟩ := d
  dsimp only at h1 h2 h3 h4 h5 h6 h7
  subst h1 h2 h3 h4 h5 h6
  unfold Host.gather
  refine congrArg x (funext fun a => Fin.ext ?_)
  match a with
  | ⟨0, _⟩ => exact (Nat.add_zero _).trans (Nat.zero_add _)
  | ⟨1, _⟩ =>
    show min (idx (GatherDims.siIdx _ (ix3 b e c) ⟨0, _⟩)).toInt.toNat (96 - sl 1) = n.val
    have : GatherDims.siIdx ⟨[2], [1], [0], [0], [1], 2, sl, wf⟩ (ix3 b e c) ⟨0, Nat.zero_lt_one⟩ = ix3 b e 0 := by
      funext a'
      match a' with
      | ⟨0, _⟩ => rfl
      | ⟨1, _⟩ => rfl
      | ⟨2, _⟩ => rfl
    have hl := n.isLt
    rw [this, hn, h7, StableHlo.Predicate.toInt_ofNat_small _ (by omega)]
    omega
  | ⟨2, _⟩ => exact Nat.zero_add _

/-- A sum of rows into a table, by one row number each: entry `(r, c)` is the sum of the column's entries whose row number is `r`. -/
theorem rows_add {R N D : ℕ} (d : ScatterDims ⟨2, ![R, D]⟩ ⟨2, ![N, 1]⟩ ⟨2, ![N, D]⟩) (h1 : d.updateWindowDims = [1]) (h2 : d.insertedWindowDims = [0])
    (h3 : d.scatterDimsToOperandDims = [0]) (h4 : d.indexVectorDim = 1) (x : Shape.Idx ⟨2, ![R, D]⟩ → EReal) (idx : IVec ⟨2, ![N, 1]⟩ 32)
    (upd : Shape.Idx ⟨2, ![N, D]⟩ → EReal) (g : Fin N → ℕ) (hg : ∀ i, idx (ix2 i 0) = BitVec.ofNat 32 (g i)) (hb : ∀ i, g i < 2 ^ 31) (r : Fin R) (c : Fin D) :
    Ideal.hostScatterAdd d x idx upd (ix2 r c) = x (ix2 r c) + ∑ i : Fin N, if g i = r.val then upd (ix2 i c) else 0 := by
  have hl : ∀ (i : Fin N) (y : Fin D), d.resultIdx? (ix2 i y) idx = some (ix2 r c) ↔ g i = r.val ∧ y = c := fun i y => by
    obtain ⟨o, cs, sm, iv, wf⟩ := d
    dsimp only at h1 h2 h3 h4
    subst h1 h2 h3 h4
    have hv : ix2 r c = ValueIdx.ix2 r c := by
      funext a
      match a with
      | ⟨0, _⟩ => rfl
      | ⟨1, _⟩ => rfl
    rw [hv, Routing.resultIdx?_ix2]
    have e0 : ScatterDims.start ⟨[1], [0], [0], 1, wf⟩ (ix2 i y) idx 0 = (g i : Int) := by
      show (idx (ScatterDims.siIdx _ (ix2 i y) ⟨0, _⟩)).toInt = _
      have : ScatterDims.siIdx ⟨[1], [0], [0], 1, wf⟩ (ix2 i y) ⟨0, Nat.zero_lt_one⟩ = ix2 i 0 := by
        funext a'
        match a' with
        | ⟨0, _⟩ => rfl
        | ⟨1, _⟩ => rfl
      rw [this, hg, StableHlo.Predicate.toInt_ofNat_small _ (hb i)]
    have e1 : ScatterDims.window ⟨[1], [0], [0], 1, wf⟩ (ix2 i y) 0 = 0 := rfl
    have e2 : ScatterDims.start ⟨[1], [0], [0], 1, wf⟩ (ix2 i y) idx 1 = 0 := rfl
    have e3 : ScatterDims.window ⟨[1], [0], [0], 1, wf⟩ (ix2 i y) 1 = y.val := rfl
    rw [e0, e1, e2, e3, Fin.ext_iff]
    omega
  unfold Ideal.hostScatterAdd
  refine congrArg (x (ix2 r c) + ·) ?_
  rw [Finset.sum_filter]
  rw [sum_idx2]
  simp only [hl]
  refine Finset.sum_congr rfl fun i _ => ?_
  by_cases h : g i = r.val
  · simp [h]
  · simp [h]

variable (I : Inp)

theorem rdiv (b : Fin 16) (e : Fin 9120) (h : (b.val * 9120 + e.val) / 9120 < 16) : (⟨(b.val * 9120 + e.val) / 9120, h⟩ : Fin 16) = b :=
  Fin.ext (by show (b.val * 9120 + e.val) / 9120 = b.val; omega)
theorem rmod (b : Fin 16) (e : Fin 9120) (h : (b.val * 9120 + e.val) % 9120 < 9120) : (⟨(b.val * 9120 + e.val) % 9120, h⟩ : Fin 9120) = e :=
  Fin.ext (by show (b.val * 9120 + e.val) % 9120 = e.val; omega)
theorem ndiv (b : Fin 16) (n : Fin 96) (h : (b.val * 96 + n.val) / 96 < 16) : (⟨(b.val * 96 + n.val) / 96, h⟩ : Fin 16) = b :=
  Fin.ext (by show (b.val * 96 + n.val) / 96 = b.val; omega)
theorem nmod (b : Fin 16) (n : Fin 96) (h : (b.val * 96 + n.val) % 96 < 96) : (⟨(b.val * 96 + n.val) % 96, h⟩ : Fin 96) = n :=
  Fin.ext (by show (b.val * 96 + n.val) % 96 = n.val; omega)

/-- The flat node number of an edge's start. -/
def flat (r : Fin 145920) : ℕ := 96 * (r.val / 9120) + (I.ei ⟨r.val / 9120, by omega⟩ ⟨r.val % 9120, by omega⟩).val

theorem flat_lt (r : Fin 145920) : flat I r < 2 ^ 31 := by
  unfold flat
  have := (I.ei ⟨r.val / 9120, by omega⟩ ⟨r.val % 9120, by omega⟩).isLt
  omega

/-- Over flat node numbers, a node's sum is over the edges of its own graph that start at it. -/
theorem seg_flat (f : Fin 16 → Fin 9120 → EReal) (b : Fin 16) (n : Fin 96) :
    (∑ r : Fin 145920, if flat I r = b.val * 96 + n.val then f ⟨r.val / 9120, by omega⟩ ⟨r.val % 9120, by omega⟩ else 0) = seg I (f b) b n := by
  refine (sum_row (fun b' e => if 96 * b'.val + (I.ei b' e).val = b.val * 96 + n.val then f b' e else 0)).trans ?_
  unfold seg
  rw [Finset.sum_eq_single b]
  · refine Finset.sum_congr rfl fun e _ => if_congr ?_ rfl rfl
    rw [Fin.ext_iff]; omega
  · intro b' _ hb
    refine Finset.sum_eq_zero fun e _ => if_neg fun h => hb (Fin.ext ?_)
    have := (I.ei b' e).isLt; omega
  · intro h; exact absurd (Finset.mem_univ b) h

/-! The words a take compares: a node's number is in range. -/

theorem wrap (n : Fin 96) : Scalar.select (IntOp.cmpi .slt (BitVec.ofNat 32 n.val) 0#32) (IntOp.addi (BitVec.ofNat 32 n.val) 96#32) (BitVec.ofNat 32 n.val) = BitVec.ofNat 32 n.val := by
  revert n; decide
theorem inside (n : Fin 96) : IntOp.andi (IntOp.cmpi .sge (BitVec.ofNat 32 n.val) 0#32) (IntOp.cmpi .sle (BitVec.ofNat 32 n.val) 95#32) = 1#1 := by
  revert n; decide

theorem sum258 (f : Fin 258 → EReal) : ∑ x, f x = ∑ x : Fin 128, f ⟨x.val, by omega⟩ + ∑ x : Fin 128, f ⟨128 + x.val, by omega⟩ + f ⟨256, by omega⟩ + f ⟨257, by omega⟩ := by
  refine (Fin.sum_univ_add (a := 128) (b := 130) f).trans ?_
  rw [Fin.sum_univ_add (a := 128) (b := 2), Fin.sum_univ_two, ← add_assoc, ← add_assoc]
  rfl
theorem sum272 (f : Fin 272 → EReal) : ∑ x, f x = ∑ x : Fin 128, f ⟨x.val, by omega⟩ + ∑ x : Fin 128, f ⟨128 + x.val, by omega⟩ + ∑ x : Fin 16, f ⟨256 + x.val, by omega⟩ := by
  refine (Fin.sum_univ_add (a := 128) (b := 144) f).trans ?_
  rw [Fin.sum_univ_add (a := 128) (b := 16), ← add_assoc]
  rfl

end Cert.ReferenceIdeal.Own
-- ==== Proof.Ref.Val.lean ====
/- What each stretch of the reference leaves, entry by entry. -/
module

public import proofs.«01_k».proof.Proof.Ref.Run
public import proofs.«01_k».proof.Proof.Ref.Index

@[expose] public section

set_option maxRecDepth 16384

noncomputable section

namespace Cert.ReferenceIdeal.Own

open Cert.ReferenceIdeal Cert.ReferenceIdeal.Gen Cert.Spec
open Idealize.ShloMosaic Idealize.ShloMosaic.TcCoe Idealize.ShloMosaic.StableHlo

variable (V : Valuation τ sig (Elt Ideal)) (I : Inp)

theorem two_lit : Ideal.ofBits .f32 1073741824#32 = ((2 : ℝ) : EReal) := bits_two
theorem rows_lit : Ideal.ofBits .f32 1208909824#32 = rows := bits_rows
theorem nodes_lit : Ideal.ofBits .f32 1153433600#32 = nodes := bits_nodes
theorem eps_lit : Ideal.ofBits .f32 925353388#32 = ((eps : ℝ) : EReal) := bits_eps
theorem zero_word : (FloatOps.sitofp .f32 (0#32 : BitVec 32) : Ideal .f32) = (0 : EReal) := by
  show (((0#32 : BitVec 32).toInt : ℝ) : EReal) = 0
  simp

theorem v1_at (a1 : ∀ b n c, V (Proc.devRef .tc main_arg1) (ix3 b n c : S16x96x4.Idx) = I.x b n c) (a2 : ∀ b e, V (Proc.devRef .tc main_arg2) (ix2 b e : S16x9120.Idx) = BitVec.ofNat 32 (I.ei b e).val)
    (b : Fin 16) (e : Fin 9120) (c : Fin 4) : after s0 V (Proc.devRef .tc main_v1) (ix3 b e c : S16x9120x4.Idx) = I.x b (I.ei b e) c := by
  after_results
  pointwise
  rw [a2 b e]
  have hg := take_at gather_S16x96x4_S16x9120x1_S16x9120x4_2_1_0_0_1_2_114 rfl rfl rfl rfl rfl rfl rfl (V (Proc.devRef .tc main_arg1)) (select
          (cmpi CmpIPredicate.slt
            (broadcastInDim S16x9120x1 ![0, 1] bcast_S16x9120_S16x9120x1_0_1 (V (Proc.devRef .tc main_arg2)))
            (broadcastInDim S16x9120x1 ![] bcast_S_S16x9120x1 (constantI S_ 32 0#32)))
          (addi (broadcastInDim S16x9120x1 ![0, 1] bcast_S16x9120_S16x9120x1_0_1 (V (Proc.devRef .tc main_arg2)))
            (broadcastInDim S16x9120x1 ![] bcast_S_S16x9120x1 (constantI S_ 32 96#32)))
          (broadcastInDim S16x9120x1 ![0, 1] bcast_S16x9120_S16x9120x1_0_1 (V (Proc.devRef .tc main_arg2)))) b e c (I.ei b e)
    (by pointwise; rw [a2 b e]; exact wrap _)
  simp only [wrap, inside]
  refine Eq.trans (b := Host.gather _ _ _ _) rfl ?_
  exact hg.trans (a1 b _ c)

theorem v3_at (a1 : ∀ b n c, V (Proc.devRef .tc main_arg1) (ix3 b n c : S16x96x4.Idx) = I.x b n c) (a3 : ∀ b e, V (Proc.devRef .tc main_arg3) (ix2 b e : S16x9120.Idx) = BitVec.ofNat 32 (I.ej b e).val)
    (b : Fin 16) (e : Fin 9120) (c : Fin 4) : after s1 V (Proc.devRef .tc main_v3) (ix3 b e c : S16x9120x4.Idx) = I.x b (I.ej b e) c := by
  after_results
  pointwise
  rw [a3 b e]
  have hg := take_at gather_S16x96x4_S16x9120x1_S16x9120x4_2_1_0_0_1_2_114 rfl rfl rfl rfl rfl rfl rfl (V (Proc.devRef .tc main_arg1)) (select
          (cmpi CmpIPredicate.slt
            (broadcastInDim S16x9120x1 ![0, 1] bcast_S16x9120_S16x9120x1_0_1 (V (Proc.devRef .tc main_arg3)))
            (broadcastInDim S16x9120x1 ![] bcast_S_S16x9120x1 (constantI S_ 32 0#32)))
          (addi (broadcastInDim S16x9120x1 ![0, 1] bcast_S16x9120_S16x9120x1_0_1 (V (Proc.devRef .tc main_arg3)))
            (broadcastInDim S16x9120x1 ![] bcast_S_S16x9120x1 (constantI S_ 32 96#32)))
          (broadcastInDim S16x9120x1 ![0, 1] bcast_S16x9120_S16x9120x1_0_1 (V (Proc.devRef .tc main_arg3)))) b e c (I.ej b e)
    (by pointwise; rw [a3 b e]; exact wrap _)
  simp only [wrap, inside]
  refine Eq.trans (b := Host.gather _ _ _ _) rfl ?_
  exact hg.trans (a1 b _ c)

theorem v4_at (v1 : ∀ (b : Fin 16) (e : Fin 9120) (c : Fin 4), V (Proc.devRef .tc main_v1) (ix3 b e c : S16x9120x4.Idx) = I.x b (I.ei b e) c) (v3 : ∀ (b : Fin 16) (e : Fin 9120) (c : Fin 4), V (Proc.devRef .tc main_v3) (ix3 b e c : S16x9120x4.Idx) = I.x b (I.ej b e) c)
    (b : Fin 16) (e : Fin 9120) (c : Fin 4) : after s2 V (Proc.devRef .tc main_v4) (ix3 b e c : S16x9120x4.Idx) = diff I b (I.ei b e) (I.ej b e) c := by
  after_results
  pointwise
  rw [v1, v3]
  rfl

theorem v18_at (v1 : ∀ (b : Fin 16) (e : Fin 9120) (c : Fin 4), V (Proc.devRef .tc main_v1) (ix3 b e c : S16x9120x4.Idx) = I.x b (I.ei b e) c) (v3 : ∀ (b : Fin 16) (e : Fin 9120) (c : Fin 4), V (Proc.devRef .tc main_v3) (ix3 b e c : S16x9120x4.Idx) = I.x b (I.ej b e) c)
    (b : Fin 16) (e : Fin 9120) : after s2 V (Proc.devRef .tc main_v18) (ix3 b e 0 : S16x9120x1.Idx) = nrm I b (I.ei b e) (I.ej b e) := by
  after_results
  pointwise
  simp only [v1, v3, two_lit]
  rfl

theorem v32_at (v1 : ∀ (b : Fin 16) (e : Fin 9120) (c : Fin 4), V (Proc.devRef .tc main_v1) (ix3 b e c : S16x9120x4.Idx) = I.x b (I.ei b e) c) (v3 : ∀ (b : Fin 16) (e : Fin 9120) (c : Fin 4), V (Proc.devRef .tc main_v3) (ix3 b e c : S16x9120x4.Idx) = I.x b (I.ej b e) c)
    (b : Fin 16) (e : Fin 9120) : after s3 V (Proc.devRef .tc main_v32) (ix3 b e 0 : S16x9120x1.Idx) = dts I b (I.ei b e) (I.ej b e) := by
  after_results
  pointwise
  simp only [v1, v3, two_lit]
  rfl

theorem v34_at (a0 : ∀ b n x, V (Proc.devRef .tc main_arg0) (ix3 b n x : S16x96x128.Idx) = I.h b n x) (a2 : ∀ b e, V (Proc.devRef .tc main_arg2) (ix2 b e : S16x9120.Idx) = BitVec.ofNat 32 (I.ei b e).val)
    (b : Fin 16) (e : Fin 9120) (c : Fin 128) : after s4 V (Proc.devRef .tc main_v34) (ix3 b e c : S16x9120x128.Idx) = I.h b (I.ei b e) c := by
  after_results
  pointwise
  rw [a2 b e]
  have hg := take_at gather_S16x96x128_S16x9120x1_S16x9120x128_2_1_0_0_1_2_11128 rfl rfl rfl rfl rfl rfl rfl (V (Proc.devRef .tc main_arg0)) (select
          (cmpi CmpIPredicate.slt
            (broadcastInDim S16x9120x1 ![0, 1] bcast_S16x9120_S16x9120x1_0_1 (V (Proc.devRef .tc main_arg2)))
            (broadcastInDim S16x9120x1 ![] bcast_S_S16x9120x1 (constantI S_ 32 0#32)))
          (addi (broadcastInDim S16x9120x1 ![0, 1] bcast_S16x9120_S16x9120x1_0_1 (V (Proc.devRef .tc main_arg2)))
            (broadcastInDim S16x9120x1 ![] bcast_S_S16x9120x1 (constantI S_ 32 96#32)))
          (broadcastInDim S16x9120x1 ![0, 1] bcast_S16x9120_S16x9120x1_0_1 (V (Proc.devRef .tc main_arg2)))) b e c (I.ei b e)
    (by pointwise; rw [a2 b e]; exact wrap _)
  simp only [wrap, inside]
  refine Eq.trans (b := Host.gather _ _ _ _) rfl ?_
  exact hg.trans (a0 b _ c)

theorem v36_at (a0 : ∀ b n x, V (Proc.devRef .tc main_arg0) (ix3 b n x : S16x96x128.Idx) = I.h b n x) (a3 : ∀ b e, V (Proc.devRef .tc main_arg3) (ix2 b e : S16x9120.Idx) = BitVec.ofNat 32 (I.ej b e).val)
    (b : Fin 16) (e : Fin 9120) (c : Fin 128) : after s5 V (Proc.devRef .tc main_v36) (ix3 b e c : S16x9120x128.Idx) = I.h b (I.ej b e) c := by
  after_results
  pointwise
  rw [a3 b e]
  have hg := take_at gather_S16x96x128_S16x9120x1_S16x9120x128_2_1_0_0_1_2_11128 rfl rfl rfl rfl rfl rfl rfl (V (Proc.devRef .tc main_arg0)) (select
          (cmpi CmpIPredicate.slt
            (broadcastInDim S16x9120x1 ![0, 1] bcast_S16x9120_S16x9120x1_0_1 (V (Proc.devRef .tc main_arg3)))
            (broadcastInDim S16x9120x1 ![] bcast_S_S16x9120x1 (constantI S_ 32 0#32)))
          (addi (broadcastInDim S16x9120x1 ![0, 1] bcast_S16x9120_S16x9120x1_0_1 (V (Proc.devRef .tc main_arg3)))
            (broadcastInDim S16x9120x1 ![] bcast_S_S16x9120x1 (constantI S_ 32 96#32)))
          (broadcastInDim S16x9120x1 ![0, 1] bcast_S16x9120_S16x9120x1_0_1 (V (Proc.devRef .tc main_arg3)))) b e c (I.ej b e)
    (by pointwise; rw [a3 b e]; exact wrap _)
  simp only [wrap, inside]
  refine Eq.trans (b := Host.gather _ _ _ _) rfl ?_
  exact hg.trans (a0 b _ c)

theorem v40_at (v34 : ∀ (b : Fin 16) (e : Fin 9120) (c : Fin 128), V (Proc.devRef .tc main_v34) (ix3 b e c : S16x9120x128.Idx) = I.h b (I.ei b e) c) (v36 : ∀ (b : Fin 16) (e : Fin 9120) (c : Fin 128), V (Proc.devRef .tc main_v36) (ix3 b e c : S16x9120x128.Idx) = I.h b (I.ej b e) c) (v18 : ∀ (b : Fin 16) (e : Fin 9120), V (Proc.devRef .tc main_v18) (ix3 b e 0 : S16x9120x1.Idx) = nrm I b (I.ei b e) (I.ej b e)) (v32 : ∀ (b : Fin 16) (e : Fin 9120), V (Proc.devRef .tc main_v32) (ix3 b e 0 : S16x9120x1.Idx) = dts I b (I.ei b e) (I.ej b e)) (a5 : ∀ k y, V (Proc.devRef .tc main_arg5) (ix2 k y : S128x258.Idx) = I.W1 k y)
    (r : Fin 145920) (k : Fin 128) : after s6 V (Proc.devRef .tc main_v40) (ix2 r k : S145920x128.Idx) = Z I ⟨r.val / 9120, by omega⟩ ⟨r.val % 9120, by omega⟩ k := by
  after_results
  pointwise
  rw [sum258]
  unfold Z hp hq
  refine congrArg₂ (· + ·) (congrArg₂ (· + ·) (congrArg₂ (· + ·) (Finset.sum_congr rfl fun x _ => ?_) (Finset.sum_congr rfl fun x _ => ?_)) ?_) ?_
  · rw [dif_pos x.isLt, v34, a5]
  · rw [dif_neg (by simp), dif_pos (by simp), v36, a5]
    simp only [Nat.add_sub_cancel_left]
  · rw [dif_neg (by simp), dif_neg (by simp), dif_pos (by simp), a5]
    exact congrArg (· * _) (v18 _ _)
  · rw [dif_neg (by simp), dif_neg (by simp), dif_neg (by simp), a5]
    exact congrArg (· * _) (v32 _ _)

theorem v43_at (v40 : ∀ (r : Fin 145920) (k : Fin 128), V (Proc.devRef .tc main_v40) (ix2 r k : S145920x128.Idx) = Z I ⟨r.val / 9120, by omega⟩ ⟨r.val % 9120, by omega⟩ k)
    (k : Fin 128) : after s7 V (Proc.devRef .tc main_v43) (ix1 k : S128.Idx) = mean I k := by
  after_results
  pointwise
  simp only [v40, rows_lit]
  exact congrArg (Ideal.div · rows) (sum_row fun b e => Z I b e k)

theorem v44_at (v40 : ∀ (r : Fin 145920) (k : Fin 128), V (Proc.devRef .tc main_v40) (ix2 r k : S145920x128.Idx) = Z I ⟨r.val / 9120, by omega⟩ ⟨r.val % 9120, by omega⟩ k)
    (k : Fin 128) : after s8 V (Proc.devRef .tc main_v44) (ix1 k : S128.Idx) = var I k := by
  after_results
  pointwise
  simp only [v40, rows_lit, zero_word, sub_zero]
  rw [if_pos (by unfold rows; exact_mod_cast (by norm_num : (0 : ℝ) < 145920)), sum_row (fun b e => Z I b e k)]
  exact congrArg (Ideal.div · rows) (sum_row fun b e => (Z I b e k - mean I k) * (Z I b e k - mean I k))

theorem v61_at (v40 : ∀ (r : Fin 145920) (k : Fin 128), V (Proc.devRef .tc main_v40) (ix2 r k : S145920x128.Idx) = Z I ⟨r.val / 9120, by omega⟩ ⟨r.val % 9120, by omega⟩ k) (v43 : ∀ (k : Fin 128), V (Proc.devRef .tc main_v43) (ix1 k : S128.Idx) = mean I k) (v44 : ∀ (k : Fin 128), V (Proc.devRef .tc main_v44) (ix1 k : S128.Idx) = var I k) (a6 : ∀ k, V (Proc.devRef .tc main_arg6) (ix1 k : S128.Idx) = I.g1 k) (a7 : ∀ k, V (Proc.devRef .tc main_arg7) (ix1 k : S128.Idx) = I.b1 k)
    (r : Fin 145920) (k : Fin 128) : after s9 V (Proc.devRef .tc main_v61) (ix2 r k : S145920x128.Idx) = zn I ⟨r.val / 9120, by omega⟩ ⟨r.val % 9120, by omega⟩ k := by
  after_results
  pointwise
  simp only [v40, v43, v44, a6, a7, eps_lit]
  rfl

theorem v69_at (v61 : ∀ (r : Fin 145920) (k : Fin 128), V (Proc.devRef .tc main_v61) (ix2 r k : S145920x128.Idx) = zn I ⟨r.val / 9120, by omega⟩ ⟨r.val % 9120, by omega⟩ k) (a8 : ∀ k x, V (Proc.devRef .tc main_arg8) (ix2 k x : S128x128.Idx) = I.W2 k x) (a9 : ∀ k, V (Proc.devRef .tc main_arg9) (ix1 k : S128.Idx) = I.b2 k)
    (b : Fin 16) (e : Fin 9120) (k : Fin 128) : after s10 V (Proc.devRef .tc main_v69) (ix3 b e k : S16x9120x128.Idx) = mp I b e k := by
  after_results
  pointwise
  simp only [v61, a8, a9, rdiv, rmod]
  rfl

theorem v82_at (v69 : ∀ (b : Fin 16) (e : Fin 9120) (k : Fin 128), V (Proc.devRef .tc main_v69) (ix3 b e k : S16x9120x128.Idx) = mp I b e k) (a19 : ∀ x, V (Proc.devRef .tc main_arg19) (ix2 0 x : S1x128.Idx) = I.Wm x) (a20 : V (Proc.devRef .tc main_arg20) (ix1 0 : S1.Idx) = I.bm)
    (b : Fin 16) (e : Fin 9120) (k : Fin 128) : after s11 V (Proc.devRef .tc main_v82) (ix3 b e k : S16x9120x128.Idx) = msg I b e k := by
  after_results
  pointwise
  simp only [v69, a19, a20]
  rfl

theorem v89_at (a2 : ∀ b e, V (Proc.devRef .tc main_arg2) (ix2 b e : S16x9120.Idx) = BitVec.ofNat 32 (I.ei b e).val)
    (r : Fin 145920) : after s12 V (Proc.devRef .tc main_v89) (ix1 r : S145920.Idx) = BitVec.ofNat 32 (flat I r) := by
  after_results
  pointwise
  rw [a2]
  unfold flat
  show BitVec.ofNat 32 _ + 96#32 * BitVec.ofNat 32 _ = _
  rw [BitVec.ofNat_add, BitVec.ofNat_mul, BitVec.add_comm]

theorem v100_at (v4 : ∀ (b : Fin 16) (e : Fin 9120) (c : Fin 4), V (Proc.devRef .tc main_v4) (ix3 b e c : S16x9120x4.Idx) = diff I b (I.ei b e) (I.ej b e) c) (v82 : ∀ (b : Fin 16) (e : Fin 9120) (k : Fin 128), V (Proc.devRef .tc main_v82) (ix3 b e k : S16x9120x128.Idx) = msg I b e k) (a16 : ∀ k x, V (Proc.devRef .tc main_arg16) (ix2 k x : S128x128.Idx) = I.Wx1 k x) (a17 : ∀ k, V (Proc.devRef .tc main_arg17) (ix1 k : S128.Idx) = I.bx1 k) (a18 : ∀ x, V (Proc.devRef .tc main_arg18) (ix2 0 x : S1x128.Idx) = I.Wx2 x)
    (b : Fin 16) (e : Fin 9120) (c : Fin 4) : after s13 V (Proc.devRef .tc main_v100) (ix3 b e c : S16x9120x4.Idx) = diff I b (I.ei b e) (I.ej b e) c * px I b e := by
  after_results
  pointwise
  simp only [v4, v82, a16, a17, a18, rdiv, rmod]
  rfl

theorem v101_at (v100 : ∀ (b : Fin 16) (e : Fin 9120) (c : Fin 4), V (Proc.devRef .tc main_v100) (ix3 b e c : S16x9120x4.Idx) = diff I b (I.ei b e) (I.ej b e) c * px I b e)
    (b : Fin 16) (e : Fin 9120) (c : Fin 4) : after s14 V (Proc.devRef .tc main_v101) (ix3 b e c : S16x9120x4.Idx) = step I b e c := by
  after_results
  pointwise
  rw [v100]
  rfl

theorem v107_at (v89 : ∀ (r : Fin 145920), V (Proc.devRef .tc main_v89) (ix1 r : S145920.Idx) = BitVec.ofNat 32 (flat I r))
    (b : Fin 16) (n : Fin 96) (c : Fin 4) : after s15 V (Proc.devRef .tc main_v107) (ix3 b n c : S16x96x4.Idx) = seg I (fun _ => 1) b n := by
  after_results
  pointwise
  have hs := rows_add scatter_S1536x4_S145920x1_S145920x4_1_0_0_1 rfl rfl rfl rfl
  refine (hs _ _ _ (flat I) (fun i => ?_) (flat_lt I) _ _).trans ?_
  · pointwise
    exact v89 i
  pointwise
  exact seg_flat I (fun _ _ => 1) b n

theorem v112_at (v89 : ∀ (r : Fin 145920), V (Proc.devRef .tc main_v89) (ix1 r : S145920.Idx) = BitVec.ofNat 32 (flat I r)) (v101 : ∀ (b : Fin 16) (e : Fin 9120) (c : Fin 4), V (Proc.devRef .tc main_v101) (ix3 b e c : S16x9120x4.Idx) = step I b e c)
    (b : Fin 16) (n : Fin 96) (c : Fin 4) : after s16 V (Proc.devRef .tc main_v112) (ix3 b n c : S16x96x4.Idx) = seg I (fun e => step I b e c) b n := by
  after_results
  pointwise
  have hs := rows_add scatter_S1536x4_S145920x1_S145920x4_1_0_0_1 rfl rfl rfl rfl
  refine (hs _ _ _ (flat I) (fun i => ?_) (flat_lt I) _ _).trans ?_
  · pointwise
    exact v89 i
  pointwise
  refine (Finset.sum_congr rfl fun x _ => ?_).trans (seg_flat I (fun b e => step I b e c) b n)
  rw [v101]

theorem v118_at (a1 : ∀ b n c, V (Proc.devRef .tc main_arg1) (ix3 b n c : S16x96x4.Idx) = I.x b n c) (v107 : ∀ (b : Fin 16) (n : Fin 96) (c : Fin 4), V (Proc.devRef .tc main_v107) (ix3 b n c : S16x96x4.Idx) = seg I (fun _ => 1) b n) (v112 : ∀ (b : Fin 16) (n : Fin 96) (c : Fin 4), V (Proc.devRef .tc main_v112) (ix3 b n c : S16x96x4.Idx) = seg I (fun e => step I b e c) b n)
    (b : Fin 16) (n : Fin 96) (c : Fin 4) : after s17 V (Proc.devRef .tc main_v118) (ix3 b n c : S16x96x4.Idx) = xout I b n c := by
  after_results
  pointwise
  simp only [a1, v107, v112]
  rfl

theorem v123_at (v89 : ∀ (r : Fin 145920), V (Proc.devRef .tc main_v89) (ix1 r : S145920.Idx) = BitVec.ofNat 32 (flat I r)) (v82 : ∀ (b : Fin 16) (e : Fin 9120) (k : Fin 128), V (Proc.devRef .tc main_v82) (ix3 b e k : S16x9120x128.Idx) = msg I b e k)
    (b : Fin 16) (n : Fin 96) (k : Fin 128) : after s18 V (Proc.devRef .tc main_v123) (ix3 b n k : S16x96x128.Idx) = aggm I b n k := by
  after_results
  pointwise
  have hs := rows_add scatter_S1536x128_S145920x1_S145920x128_1_0_0_1 rfl rfl rfl rfl
  refine (hs _ _ _ (flat I) (fun i => ?_) (flat_lt I) _ _).trans ?_
  · pointwise
    exact v89 i
  pointwise
  refine (Finset.sum_congr rfl fun x _ => ?_).trans (seg_flat I (fun b e => msg I b e k) b n)
  rw [v82]

theorem v130_at (a0 : ∀ b n x, V (Proc.devRef .tc main_arg0) (ix3 b n x : S16x96x128.Idx) = I.h b n x) (v123 : ∀ (b : Fin 16) (n : Fin 96) (k : Fin 128), V (Proc.devRef .tc main_v123) (ix3 b n k : S16x96x128.Idx) = aggm I b n k) (a4 : ∀ b n x, V (Proc.devRef .tc main_arg4) (ix3 b n x : S16x96x16.Idx) = I.na b n x) (a10 : ∀ k y, V (Proc.devRef .tc main_arg10) (ix2 k y : S128x272.Idx) = I.Wh1 k y) (a11 : ∀ k, V (Proc.devRef .tc main_arg11) (ix1 k : S128.Idx) = I.bh1 k)
    (r : Fin 1536) (k : Fin 128) : after s19 V (Proc.devRef .tc main_v130) (ix2 r k : S1536x128.Idx) = zh I ⟨r.val / 96, by omega⟩ ⟨r.val % 96, by omega⟩ k := by
  after_results
  pointwise
  rw [sum272]
  unfold zh
  refine congrArg₂ (· + ·) (congrArg₂ (· + ·) (congrArg₂ (· + ·) (Finset.sum_congr rfl fun x _ => ?_) (Finset.sum_congr rfl fun x _ => ?_)) (Finset.sum_congr rfl fun x _ => ?_)) (a11 k)
  · rw [dif_pos x.isLt, a0, a10]
  · rw [dif_neg (by simp), dif_pos (by simp), v123, a10]
    simp only [Nat.add_sub_cancel_left]
  · rw [dif_neg (by simp; omega), dif_neg (by simp; omega), a4, a10]
    refine congrArg (· * _) (congrArg _ (Fin.ext ?_))
    simp; omega

theorem v133_at (v130 : ∀ (r : Fin 1536) (k : Fin 128), V (Proc.devRef .tc main_v130) (ix2 r k : S1536x128.Idx) = zh I ⟨r.val / 96, by omega⟩ ⟨r.val % 96, by omega⟩ k)
    (k : Fin 128) : after s20 V (Proc.devRef .tc main_v133) (ix1 k : S128.Idx) = mean2 I k := by
  after_results
  pointwise
  simp only [v130, nodes_lit]
  exact congrArg (Ideal.div · nodes) (sum_node fun b n => zh I b n k)

theorem v134_at (v130 : ∀ (r : Fin 1536) (k : Fin 128), V (Proc.devRef .tc main_v130) (ix2 r k : S1536x128.Idx) = zh I ⟨r.val / 96, by omega⟩ ⟨r.val % 96, by omega⟩ k)
    (k : Fin 128) : after s21 V (Proc.devRef .tc main_v134) (ix1 k : S128.Idx) = var2 I k := by
  after_results
  pointwise
  simp only [v130, nodes_lit, zero_word, sub_zero]
  rw [if_pos (by unfold nodes; exact_mod_cast (by norm_num : (0 : ℝ) < 1536)), sum_node (fun b n => zh I b n k)]
  exact congrArg (Ideal.div · nodes) (sum_node fun b n => (zh I b n k - mean2 I k) * (zh I b n k - mean2 I k))

theorem v151_at (v130 : ∀ (r : Fin 1536) (k : Fin 128), V (Proc.devRef .tc main_v130) (ix2 r k : S1536x128.Idx) = zh I ⟨r.val / 96, by omega⟩ ⟨r.val % 96, by omega⟩ k) (v133 : ∀ (k : Fin 128), V (Proc.devRef .tc main_v133) (ix1 k : S128.Idx) = mean2 I k) (v134 : ∀ (k : Fin 128), V (Proc.devRef .tc main_v134) (ix1 k : S128.Idx) = var2 I k) (a12 : ∀ k, V (Proc.devRef .tc main_arg12) (ix1 k : S128.Idx) = I.gh k) (a13 : ∀ k, V (Proc.devRef .tc main_arg13) (ix1 k : S128.Idx) = I.bh k)
    (r : Fin 1536) (k : Fin 128) : after s22 V (Proc.devRef .tc main_v151) (ix2 r k : S1536x128.Idx) = zhn I ⟨r.val / 96, by omega⟩ ⟨r.val % 96, by omega⟩ k := by
  after_results
  pointwise
  simp only [v130, v133, v134, a12, a13, eps_lit]
  rfl

theorem v158_at (a0 : ∀ b n x, V (Proc.devRef .tc main_arg0) (ix3 b n x : S16x96x128.Idx) = I.h b n x) (v151 : ∀ (r : Fin 1536) (k : Fin 128), V (Proc.devRef .tc main_v151) (ix2 r k : S1536x128.Idx) = zhn I ⟨r.val / 96, by omega⟩ ⟨r.val % 96, by omega⟩ k) (a14 : ∀ k x, V (Proc.devRef .tc main_arg14) (ix2 k x : S128x128.Idx) = I.Wh2 k x) (a15 : ∀ k, V (Proc.devRef .tc main_arg15) (ix1 k : S128.Idx) = I.bh2 k)
    (b : Fin 16) (n : Fin 96) (k : Fin 128) : after s23 V (Proc.devRef .tc main_v158) (ix3 b n k : S16x96x128.Idx) = hout I b n k := by
  after_results
  pointwise
  simp only [a0, v151, a14, a15, ndiv, nmod]
  rfl

end Cert.ReferenceIdeal.Own
-- ==== Proof.Ref.All.lean ====
/- The reference's results: every stretch read in turn, from the arguments on. -/
module

public import proofs.«01_k».proof.Proof.Ref.Val

@[expose] public section

set_option maxRecDepth 16384

noncomputable section

namespace Cert.ReferenceIdeal.Own

open Cert.ReferenceIdeal Cert.ReferenceIdeal.Gen Cert.Spec
open Idealize.ShloMosaic Idealize.ShloMosaic.TcCoe Idealize.ShloMosaic.StableHlo

/-- The reference's arguments hold the layer's. -/
structure Args (V : Valuation τ sig (Elt Ideal)) (I : Inp) : Prop where
  a0 : ∀ b n x, V (Proc.devRef .tc main_arg0) (ix3 b n x : S16x96x128.Idx) = I.h b n x
  a1 : ∀ b n c, V (Proc.devRef .tc main_arg1) (ix3 b n c : S16x96x4.Idx) = I.x b n c
  a2 : ∀ b e, V (Proc.devRef .tc main_arg2) (ix2 b e : S16x9120.Idx) = BitVec.ofNat 32 (I.ei b e).val
  a3 : ∀ b e, V (Proc.devRef .tc main_arg3) (ix2 b e : S16x9120.Idx) = BitVec.ofNat 32 (I.ej b e).val
  a4 : ∀ b n x, V (Proc.devRef .tc main_arg4) (ix3 b n x : S16x96x16.Idx) = I.na b n x
  a5 : ∀ k y, V (Proc.devRef .tc main_arg5) (ix2 k y : S128x258.Idx) = I.W1 k y
  a6 : ∀ k, V (Proc.devRef .tc main_arg6) (ix1 k : S128.Idx) = I.g1 k
  a7 : ∀ k, V (Proc.devRef .tc main_arg7) (ix1 k : S128.Idx) = I.b1 k
  a8 : ∀ k x, V (Proc.devRef .tc main_arg8) (ix2 k x : S128x128.Idx) = I.W2 k x
  a9 : ∀ k, V (Proc.devRef .tc main_arg9) (ix1 k : S128.Idx) = I.b2 k
  a10 : ∀ k y, V (Proc.devRef .tc main_arg10) (ix2 k y : S128x272.Idx) = I.Wh1 k y
  a11 : ∀ k, V (Proc.devRef .tc main_arg11) (ix1 k : S128.Idx) = I.bh1 k
  a12 : ∀ k, V (Proc.devRef .tc main_arg12) (ix1 k : S128.Idx) = I.gh k
  a13 : ∀ k, V (Proc.devRef .tc main_arg13) (ix1 k : S128.Idx) = I.bh k
  a14 : ∀ k x, V (Proc.devRef .tc main_arg14) (ix2 k x : S128x128.Idx) = I.Wh2 k x
  a15 : ∀ k, V (Proc.devRef .tc main_arg15) (ix1 k : S128.Idx) = I.bh2 k
  a16 : ∀ k x, V (Proc.devRef .tc main_arg16) (ix2 k x : S128x128.Idx) = I.Wx1 k x
  a17 : ∀ k, V (Proc.devRef .tc main_arg17) (ix1 k : S128.Idx) = I.bx1 k
  a18 : ∀ x, V (Proc.devRef .tc main_arg18) (ix2 0 x : S1x128.Idx) = I.Wx2 x
  a19 : ∀ x, V (Proc.devRef .tc main_arg19) (ix2 0 x : S1x128.Idx) = I.Wm x
  a20 : V (Proc.devRef .tc main_arg20) (ix1 0 : S1.Idx) = I.bm

variable (V : Valuation τ sig (Elt Ideal)) (I : Inp) (A : Args V I)
include A

theorem X_v1 : ∀ (b : Fin 16) (e : Fin 9120) (c : Fin 4), X1 V (Proc.devRef .tc main_v1) (ix3 b e c : S16x9120x4.Idx) = I.x b (I.ei b e) c :=
  v1_at (X0 V) I (A.a1)
    (A.a2)

theorem X_v3 : ∀ (b : Fin 16) (e : Fin 9120) (c : Fin 4), X2 V (Proc.devRef .tc main_v3) (ix3 b e c : S16x9120x4.Idx) = I.x b (I.ej b e) c :=
  v3_at (X1 V) I (fun y0 y1 y2 => (congrFun (s0_keeps (X0 V) (by decide)) _).trans (A.a1 y0 y1 y2))
    (fun y0 y1 => (congrFun (s0_keeps (X0 V) (by decide)) _).trans (A.a3 y0 y1))

theorem X_v4 : ∀ (b : Fin 16) (e : Fin 9120) (c : Fin 4), X3 V (Proc.devRef .tc main_v4) (ix3 b e c : S16x9120x4.Idx) = diff I b (I.ei b e) (I.ej b e) c :=
  v4_at (X2 V) I (fun y0 y1 y2 => (congrFun (s1_keeps (X1 V) (by decide)) _).trans (X_v1 V I A y0 y1 y2))
    (X_v3 V I A)

theorem X_v18 : ∀ (b : Fin 16) (e : Fin 9120), X3 V (Proc.devRef .tc main_v18) (ix3 b e 0 : S16x9120x1.Idx) = nrm I b (I.ei b e) (I.ej b e) :=
  v18_at (X2 V) I (fun y0 y1 y2 => (congrFun (s1_keeps (X1 V) (by decide)) _).trans (X_v1 V I A y0 y1 y2))
    (X_v3 V I A)

theorem X_v32 : ∀ (b : Fin 16) (e : Fin 9120), X4 V (Proc.devRef .tc main_v32) (ix3 b e 0 : S16x9120x1.Idx) = dts I b (I.ei b e) (I.ej b e) :=
  v32_at (X3 V) I (fun y0 y1 y2 => (congrFun ((s2_keeps (X2 V) (by decide)).trans (s1_keeps (X1 V) (by decide))) _).trans (X_v1 V I A y0 y1 y2))
    (fun y0 y1 y2 => (congrFun (s2_keeps (X2 V) (by decide)) _).trans (X_v3 V I A y0 y1 y2))

theorem X_v34 : ∀ (b : Fin 16) (e : Fin 9120) (c : Fin 128), X5 V (Proc.devRef .tc main_v34) (ix3 b e c : S16x9120x128.Idx) = I.h b (I.ei b e) c :=
  v34_at (X4 V) I (fun y0 y1 y2 => (congrFun ((((s3_keeps (X3 V) (by decide)).trans (s2_keeps (X2 V) (by decide))).trans (s1_keeps (X1 V) (by decide))).trans (s0_keeps (X0 V) (by decide))) _).trans (A.a0 y0 y1 y2))
    (fun y0 y1 => (congrFun ((((s3_keeps (X3 V) (by decide)).trans (s2_keeps (X2 V) (by decide))).trans (s1_keeps (X1 V) (by decide))).trans (s0_keeps (X0 V) (by decide))) _).trans (A.a2 y0 y1))

theorem X_v36 : ∀ (b : Fin 16) (e : Fin 9120) (c : Fin 128), X6 V (Proc.devRef .tc main_v36) (ix3 b e c : S16x9120x128.Idx) = I.h b (I.ej b e) c :=
  v36_at (X5 V) I (fun y0 y1 y2 => (congrFun (((((s4_keeps (X4 V) (by decide)).trans (s3_keeps (X3 V) (by decide))).trans (s2_keeps (X2 V) (by decide))).trans (s1_keeps (X1 V) (by decide))).trans (s0_keeps (X0 V) (by decide))) _).trans (A.a0 y0 y1 y2))
    (fun y0 y1 => (congrFun (((((s4_keeps (X4 V) (by decide)).trans (s3_keeps (X3 V) (by decide))).trans (s2_keeps (X2 V) (by decide))).trans (s1_keeps (X1 V) (by decide))).trans (s0_keeps (X0 V) (by decide))) _).trans (A.a3 y0 y1))

theorem X_v40 : ∀ (r : Fin 145920) (k : Fin 128), X7 V (Proc.devRef .tc main_v40) (ix2 r k : S145920x128.Idx) = Z I ⟨r.val / 9120, by omega⟩ ⟨r.val % 9120, by omega⟩ k :=
  v40_at (X6 V) I (fun y0 y1 y2 => (congrFun (s5_keeps (X5 V) (by decide)) _).trans (X_v34 V I A y0 y1 y2))
    (X_v36 V I A)
    (fun y0 y1 => (congrFun (((s5_keeps (X5 V) (by decide)).trans (s4_keeps (X4 V) (by decide))).trans (s3_keeps (X3 V) (by decide))) _).trans (X_v18 V I A y0 y1))
    (fun y0 y1 => (congrFun ((s5_keeps (X5 V) (by decide)).trans (s4_keeps (X4 V) (by decide))) _).trans (X_v32 V I A y0 y1))
    (fun y0 y1 => (congrFun ((((((s5_keeps (X5 V) (by decide)).trans (s4_keeps (X4 V) (by decide))).trans (s3_keeps (X3 V) (by decide))).trans (s2_keeps (X2 V) (by decide))).trans (s1_keeps (X1 V) (by decide))).trans (s0_keeps (X0 V) (by decide))) _).trans (A.a5 y0 y1))

theorem X_v43 : ∀ (k : Fin 128), X8 V (Proc.devRef .tc main_v43) (ix1 k : S128.Idx) = mean I k :=
  v43_at (X7 V) I (X_v40 V I A)

theorem X_v44 : ∀ (k : Fin 128), X9 V (Proc.devRef .tc main_v44) (ix1 k : S128.Idx) = var I k :=
  v44_at (X8 V) I (fun y0 y1 => (congrFun (s7_keeps (X7 V) (by decide)) _).trans (X_v40 V I A y0 y1))

theorem X_v61 : ∀ (r : Fin 145920) (k : Fin 128), X10 V (Proc.devRef .tc main_v61) (ix2 r k : S145920x128.Idx) = zn I ⟨r.val / 9120, by omega⟩ ⟨r.val % 9120, by omega⟩ k :=
  v61_at (X9 V) I (fun y0 y1 => (congrFun ((s8_keeps (X8 V) (by decide)).trans (s7_keeps (X7 V) (by decide))) _).trans (X_v40 V I A y0 y1))
    (fun y0 => (congrFun (s8_keeps (X8 V) (by decide)) _).trans (X_v43 V I A y0))
    (X_v44 V I A)
    (fun y0 => (congrFun (((((((((s8_keeps (X8 V) (by decide)).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a6 y0))
    (fun y0 => (congrFun (((((((((s8_keeps (X8 V) (by decide)).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a7 y0))

theorem X_v69 : ∀ (b : Fin 16) (e : Fin 9120) (k : Fin 128), X11 V (Proc.devRef .tc main_v69) (ix3 b e k : S16x9120x128.Idx) = mp I b e k :=
  v69_at (X10 V) I (X_v61 V I A)
    (fun y0 y1 => (congrFun ((((((((((s9_keeps (X9 V) (by decide)).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a8 y0 y1))
    (fun y0 => (congrFun ((((((((((s9_keeps (X9 V) (by decide)).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a9 y0))

theorem X_v82 : ∀ (b : Fin 16) (e : Fin 9120) (k : Fin 128), X12 V (Proc.devRef .tc main_v82) (ix3 b e k : S16x9120x128.Idx) = msg I b e k :=
  v82_at (X11 V) I (X_v69 V I A)
    (fun y0 => (congrFun (((((((((((s10_keeps (X10 V) (by decide)).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a19 y0))
    ((congrFun (((((((((((s10_keeps (X10 V) (by decide)).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a20 ))

theorem X_v89 : ∀ (r : Fin 145920), X13 V (Proc.devRef .tc main_v89) (ix1 r : S145920.Idx) = BitVec.ofNat 32 (flat I r) :=
  v89_at (X12 V) I (fun y0 y1 => (congrFun ((((((((((((s11_keeps (X11 V) (by decide)).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a2 y0 y1))

theorem X_v100 : ∀ (b : Fin 16) (e : Fin 9120) (c : Fin 4), X14 V (Proc.devRef .tc main_v100) (ix3 b e c : S16x9120x4.Idx) = diff I b (I.ei b e) (I.ej b e) c * px I b e :=
  v100_at (X13 V) I (fun y0 y1 y2 => (congrFun ((((((((((s12_keeps (X12 V) (by decide)).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))) _).trans (X_v4 V I A y0 y1 y2))
    (fun y0 y1 y2 => (congrFun (s12_keeps (X12 V) (by decide)) _).trans (X_v82 V I A y0 y1 y2))
    (fun y0 y1 => (congrFun (((((((((((((s12_keeps (X12 V) (by decide)).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a16 y0 y1))
    (fun y0 => (congrFun (((((((((((((s12_keeps (X12 V) (by decide)).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a17 y0))
    (fun y0 => (congrFun (((((((((((((s12_keeps (X12 V) (by decide)).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a18 y0))

theorem X_v101 : ∀ (b : Fin 16) (e : Fin 9120) (c : Fin 4), X15 V (Proc.devRef .tc main_v101) (ix3 b e c : S16x9120x4.Idx) = step I b e c :=
  v101_at (X14 V) I (X_v100 V I A)

theorem X_v107 : ∀ (b : Fin 16) (n : Fin 96) (c : Fin 4), X16 V (Proc.devRef .tc main_v107) (ix3 b n c : S16x96x4.Idx) = seg I (fun _ => 1) b n :=
  v107_at (X15 V) I (fun y0 => (congrFun ((s14_keeps (X14 V) (by decide)).trans (s13_keeps (X13 V) (by decide))) _).trans (X_v89 V I A y0))

theorem X_v112 : ∀ (b : Fin 16) (n : Fin 96) (c : Fin 4), X17 V (Proc.devRef .tc main_v112) (ix3 b n c : S16x96x4.Idx) = seg I (fun e => step I b e c) b n :=
  v112_at (X16 V) I (fun y0 => (congrFun (((s15_keeps (X15 V) (by decide)).trans (s14_keeps (X14 V) (by decide))).trans (s13_keeps (X13 V) (by decide))) _).trans (X_v89 V I A y0))
    (fun y0 y1 y2 => (congrFun (s15_keeps (X15 V) (by decide)) _).trans (X_v101 V I A y0 y1 y2))

theorem X_v118 : ∀ (b : Fin 16) (n : Fin 96) (c : Fin 4), X18 V (Proc.devRef .tc main_v118) (ix3 b n c : S16x96x4.Idx) = xout I b n c :=
  v118_at (X17 V) I (fun y0 y1 y2 => (congrFun (((((((((((((((((s16_keeps (X16 V) (by decide)).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a1 y0 y1 y2))
    (fun y0 y1 y2 => (congrFun (s16_keeps (X16 V) (by decide)) _).trans (X_v107 V I A y0 y1 y2))
    (X_v112 V I A)

theorem X_v123 : ∀ (b : Fin 16) (n : Fin 96) (k : Fin 128), X19 V (Proc.devRef .tc main_v123) (ix3 b n k : S16x96x128.Idx) = aggm I b n k :=
  v123_at (X18 V) I (fun y0 => (congrFun (((((s17_keeps (X17 V) (by decide)).trans (s16_keeps (X16 V) (by decide))).trans (s15_keeps (X15 V) (by decide))).trans (s14_keeps (X14 V) (by decide))).trans (s13_keeps (X13 V) (by decide))) _).trans (X_v89 V I A y0))
    (fun y0 y1 y2 => (congrFun ((((((s17_keeps (X17 V) (by decide)).trans (s16_keeps (X16 V) (by decide))).trans (s15_keeps (X15 V) (by decide))).trans (s14_keeps (X14 V) (by decide))).trans (s13_keeps (X13 V) (by decide))).trans (s12_keeps (X12 V) (by decide))) _).trans (X_v82 V I A y0 y1 y2))

theorem X_v130 : ∀ (r : Fin 1536) (k : Fin 128), X20 V (Proc.devRef .tc main_v130) (ix2 r k : S1536x128.Idx) = zh I ⟨r.val / 96, by omega⟩ ⟨r.val % 96, by omega⟩ k :=
  v130_at (X19 V) I (fun y0 y1 y2 => (congrFun (((((((((((((((((((s18_keeps (X18 V) (by decide)).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a0 y0 y1 y2))
    (X_v123 V I A)
    (fun y0 y1 y2 => (congrFun (((((((((((((((((((s18_keeps (X18 V) (by decide)).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a4 y0 y1 y2))
    (fun y0 y1 => (congrFun (((((((((((((((((((s18_keeps (X18 V) (by decide)).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a10 y0 y1))
    (fun y0 => (congrFun (((((((((((((((((((s18_keeps (X18 V) (by decide)).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a11 y0))

theorem X_v133 : ∀ (k : Fin 128), X21 V (Proc.devRef .tc main_v133) (ix1 k : S128.Idx) = mean2 I k :=
  v133_at (X20 V) I (X_v130 V I A)

theorem X_v134 : ∀ (k : Fin 128), X22 V (Proc.devRef .tc main_v134) (ix1 k : S128.Idx) = var2 I k :=
  v134_at (X21 V) I (fun y0 y1 => (congrFun (s20_keeps (X20 V) (by decide)) _).trans (X_v130 V I A y0 y1))

theorem X_v151 : ∀ (r : Fin 1536) (k : Fin 128), X23 V (Proc.devRef .tc main_v151) (ix2 r k : S1536x128.Idx) = zhn I ⟨r.val / 96, by omega⟩ ⟨r.val % 96, by omega⟩ k :=
  v151_at (X22 V) I (fun y0 y1 => (congrFun ((s21_keeps (X21 V) (by decide)).trans (s20_keeps (X20 V) (by decide))) _).trans (X_v130 V I A y0 y1))
    (fun y0 => (congrFun (s21_keeps (X21 V) (by decide)) _).trans (X_v133 V I A y0))
    (X_v134 V I A)
    (fun y0 => (congrFun ((((((((((((((((((((((s21_keeps (X21 V) (by decide)).trans (s20_keeps (X20 V) (by decide))).trans (s19_keeps (X19 V) (by decide))).trans (s18_keeps (X18 V) (by decide))).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a12 y0))
    (fun y0 => (congrFun ((((((((((((((((((((((s21_keeps (X21 V) (by decide)).trans (s20_keeps (X20 V) (by decide))).trans (s19_keeps (X19 V) (by decide))).trans (s18_keeps (X18 V) (by decide))).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a13 y0))

theorem X_v158 : ∀ (b : Fin 16) (n : Fin 96) (k : Fin 128), X24 V (Proc.devRef .tc main_v158) (ix3 b n k : S16x96x128.Idx) = hout I b n k :=
  v158_at (X23 V) I (fun y0 y1 y2 => (congrFun (((((((((((((((((((((((s22_keeps (X22 V) (by decide)).trans (s21_keeps (X21 V) (by decide))).trans (s20_keeps (X20 V) (by decide))).trans (s19_keeps (X19 V) (by decide))).trans (s18_keeps (X18 V) (by decide))).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a0 y0 y1 y2))
    (X_v151 V I A)
    (fun y0 y1 => (congrFun (((((((((((((((((((((((s22_keeps (X22 V) (by decide)).trans (s21_keeps (X21 V) (by decide))).trans (s20_keeps (X20 V) (by decide))).trans (s19_keeps (X19 V) (by decide))).trans (s18_keeps (X18 V) (by decide))).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a14 y0 y1))
    (fun y0 => (congrFun (((((((((((((((((((((((s22_keeps (X22 V) (by decide)).trans (s21_keeps (X21 V) (by decide))).trans (s20_keeps (X20 V) (by decide))).trans (s19_keeps (X19 V) (by decide))).trans (s18_keeps (X18 V) (by decide))).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))).trans (s11_keeps (X11 V) (by decide))).trans (s10_keeps (X10 V) (by decide))).trans (s9_keeps (X9 V) (by decide))).trans (s8_keeps (X8 V) (by decide))).trans (s7_keeps (X7 V) (by decide))).trans (s6_keeps (X6 V) (by decide))).trans (s5_keeps (X5 V) (by decide))).trans (s4_keeps (X4 V) (by decide))).trans (s3_keeps (X3 V) (by decide))).trans (s2_keeps (X2 V) (by decide))).trans (s1_keeps (X1 V) (by decide))).trans (s0_keeps (X0 V) (by decide))) _).trans (A.a15 y0))

theorem out_h : ∀ (b : Fin 16) (n : Fin 96) (k : Fin 128), X24 V (Proc.devRef .tc main_v158) (ix3 b n k : S16x96x128.Idx) = hout I b n k :=
  (X_v158 V I A)

theorem out_x : ∀ (b : Fin 16) (n : Fin 96) (c : Fin 4), X24 V (Proc.devRef .tc main_v118) (ix3 b n c : S16x96x4.Idx) = xout I b n c :=
  (fun y0 y1 y2 => (congrFun ((((((s23_keeps (X23 V) (by decide)).trans (s22_keeps (X22 V) (by decide))).trans (s21_keeps (X21 V) (by decide))).trans (s20_keeps (X20 V) (by decide))).trans (s19_keeps (X19 V) (by decide))).trans (s18_keeps (X18 V) (by decide))) _).trans (X_v118 V I A y0 y1 y2))

theorem out_m : ∀ (b : Fin 16) (e : Fin 9120) (k : Fin 128), X24 V (Proc.devRef .tc main_v82) (ix3 b e k : S16x9120x128.Idx) = msg I b e k :=
  (fun y0 y1 y2 => (congrFun ((((((((((((s23_keeps (X23 V) (by decide)).trans (s22_keeps (X22 V) (by decide))).trans (s21_keeps (X21 V) (by decide))).trans (s20_keeps (X20 V) (by decide))).trans (s19_keeps (X19 V) (by decide))).trans (s18_keeps (X18 V) (by decide))).trans (s17_keeps (X17 V) (by decide))).trans (s16_keeps (X16 V) (by decide))).trans (s15_keeps (X15 V) (by decide))).trans (s14_keeps (X14 V) (by decide))).trans (s13_keeps (X13 V) (by decide))).trans (s12_keeps (X12 V) (by decide))) _).trans (X_v82 V I A y0 y1 y2))

end Cert.ReferenceIdeal.Own
-- ==== Proof.Value.lean ====
/- The equation: run by run, the kernel and the reference end with the layer's three results. -/
module

public import proofs.«01_k».proof.Defs
public import proofs.«01_k».proof.Proof.KernelIdeal.All
public import proofs.«01_k».proof.Proof.Ref.All

@[expose] public section

set_option maxRecDepth 16384

noncomputable section

namespace Cert.Proof

open Idealize.ShloMosaic Idealize.ShloMosaic.TcCoe Idealize.SL.Sem Cert.Spec

/-! ## What the precondition says of one entry -/

theorem real_of_lt (v : EReal) (h : max v (-v) < ⊤) : ∃ r : ℝ, v = r := by
  induction v with
  | bot => simp at h
  | top => simp at h
  | coe r => exact ⟨r, rfl⟩

theorem real_of_word (v : Ideal .f32) (h : FloatOps.cmpf (F := Ideal) .olt (FloatOps.absf v) (FloatOps.ofBits .f32 0x7F800000#32) = 1#1) : ∃ r : ℝ, (v : EReal) = r := by
  refine real_of_lt v ?_
  by_contra hn
  have h0 : FloatOps.cmpf (F := Ideal) .olt (FloatOps.absf v) (FloatOps.ofBits .f32 0x7F800000#32) = BitVec.ofBool (decide (max (v : EReal) (-v) < ⊤)) := by
    rw [← bits_inf]; rfl
  rw [h0, decide_eq_false hn] at h
  exact absurd h (by decide)

theorem node_of_word (w : BitVec 32) (h : IntOp.andi (IntOp.cmpi .sge w 0#32) (IntOp.cmpi .slt w 96#32) = 1#1) : BitVec.ofNat 32 (w.toNat % 96) = w := by
  have h1 : (0#32).sle w = true ∧ w.slt 96#32 = true := by
    have h' : BitVec.ofBool ((0#32).sle w) &&& BitVec.ofBool (w.slt 96#32) = 1#1 := h
    cases ha : (0#32).sle w <;> cases hb : w.slt 96#32 <;> rw [ha, hb] at h' <;> first | exact ⟨rfl, rfl⟩ | exact absurd h' (by decide)
  have h2 : 0 ≤ w.toInt := by have := h1.1; rw [BitVec.sle_iff_toInt_le] at this; simpa using this
  have h3 : w.toInt < 96 := by have := h1.2; rw [BitVec.slt_iff_toInt_lt] at this; simpa using this
  have h4 : w.toNat < 96 := by
    have := BitVec.toInt_eq_toNat_cond w
    have := w.isLt
    split at * <;> omega
  rw [Nat.mod_eq_of_lt h4]
  exact BitVec.eq_of_toNat_eq (by simp [BitVec.toNat_ofNat])

/-! ## The layer's arguments in a launch memory -/

section
open Cert.KernelIdeal
variable (m : (ℓ : Loc nD τ sig) → Buf (Elt Ideal) ℓ) (c : Dev nD)

def inp : Inp where
  h b n x := m ((c : Thread nD τ).loc main_arg0) (ix3 b n x : S16x96x128.Idx)
  x b n d := m ((c : Thread nD τ).loc main_arg1) (ix3 b n d : S16x96x4.Idx)
  ei b e := ⟨BitVec.toNat (m ((c : Thread nD τ).loc main_arg2) (ix2 b e : S16x9120.Idx)) % 96, Nat.mod_lt _ (by norm_num)⟩
  ej b e := ⟨BitVec.toNat (m ((c : Thread nD τ).loc main_arg3) (ix2 b e : S16x9120.Idx)) % 96, Nat.mod_lt _ (by norm_num)⟩
  na b n x := m ((c : Thread nD τ).loc main_arg4) (ix3 b n x : S16x96x16.Idx)
  W1 k y := m ((c : Thread nD τ).loc main_arg5) (ix2 k y : S128x258.Idx)
  g1 k := m ((c : Thread nD τ).loc main_arg6) (ix1 k : S128.Idx)
  b1 k := m ((c : Thread nD τ).loc main_arg7) (ix1 k : S128.Idx)
  W2 k y := m ((c : Thread nD τ).loc main_arg8) (ix2 k y : S128x128.Idx)
  b2 k := m ((c : Thread nD τ).loc main_arg9) (ix1 k : S128.Idx)
  Wh1 k y := m ((c : Thread nD τ).loc main_arg10) (ix2 k y : S128x272.Idx)
  bh1 k := m ((c : Thread nD τ).loc main_arg11) (ix1 k : S128.Idx)
  gh k := m ((c : Thread nD τ).loc main_arg12) (ix1 k : S128.Idx)
  bh k := m ((c : Thread nD τ).loc main_arg13) (ix1 k : S128.Idx)
  Wh2 k y := m ((c : Thread nD τ).loc main_arg14) (ix2 k y : S128x128.Idx)
  bh2 k := m ((c : Thread nD τ).loc main_arg15) (ix1 k : S128.Idx)
  Wx1 k y := m ((c : Thread nD τ).loc main_arg16) (ix2 k y : S128x128.Idx)
  bx1 k := m ((c : Thread nD τ).loc main_arg17) (ix1 k : S128.Idx)
  Wx2 k := m ((c : Thread nD τ).loc main_arg18) (ix2 0 k : S1x128.Idx)
  Wm k := m ((c : Thread nD τ).loc main_arg19) (ix2 0 k : S1x128.Idx)
  bm := m ((c : Thread nD τ).loc main_arg20) (ix1 0 : S1.Idx)

variable [Cert.Pre_tame.Facts] (hpre : Cert.Pre_KernelIdeal_tame m)
include hpre

theorem inp_tame : Tame (inp m c) where
  h := fun b n x => real_of_word _ (congrFun (hpre c).1 (ix3 b n x))
  x := fun b n d => real_of_word _ (congrFun (hpre c).2.1 (ix3 b n d))
  W1 := fun k y => real_of_word _ (congrFun (hpre c).2.2.2.2.1 (ix2 k y))
  g1 := fun k => real_of_word _ (congrFun (hpre c).2.2.2.2.2 (ix1 k))

theorem inp_ei (b : Fin 16) (e : Fin 9120) : m ((c : Thread nD τ).loc main_arg2) (ix2 b e : S16x9120.Idx) = BitVec.ofNat 32 ((inp m c).ei b e).val :=
  (node_of_word _ (congrFun (hpre c).2.2.1 (ix2 b e))).symm
theorem inp_ej (b : Fin 16) (e : Fin 9120) : m ((c : Thread nD τ).loc main_arg3) (ix2 b e : S16x9120.Idx) = BitVec.ofNat 32 ((inp m c).ej b e).val :=
  (node_of_word _ (congrFun (hpre c).2.2.2.1 (ix2 b e))).symm

theorem args_kernel : Own.Args (Own.W0 m c) (inp m c) where
  a0 := fun _ _ _ => rfl
  a1 := fun _ _ _ => rfl
  a2 := inp_ei m c hpre
  a3 := inp_ej m c hpre
  a4 := fun _ _ _ => rfl
  a5 := fun _ _ => rfl
  a6 := fun _ => rfl
  a7 := fun _ => rfl
  a8 := fun _ _ => rfl
  a9 := fun _ => rfl
  a10 := fun _ _ => rfl
  a11 := fun _ => rfl
  a12 := fun _ => rfl
  a13 := fun _ => rfl
  a14 := fun _ _ => rfl
  a15 := fun _ => rfl
  a16 := fun _ _ => rfl
  a17 := fun _ => rfl
  a18 := fun _ => rfl
  a19 := fun _ => rfl
  a20 := rfl
end

open Cert.ReferenceIdeal in
theorem args_ref [Cert.Pre_tame.Facts] (m : (ℓ : Loc Cert.KernelIdeal.nD Cert.KernelIdeal.τ Cert.KernelIdeal.sig) → Buf (Elt Ideal) ℓ)
    (m' : (ℓ : Loc nD τ sig) → Buf (Elt Ideal) ℓ) (c : Dev nD) (hpre : Cert.Pre_KernelIdeal_tame m)
    (h0 : m' ((c.tc : Thread nD τ).loc main_arg0) = m ((c.tc : Thread Cert.KernelIdeal.nD Cert.KernelIdeal.τ).loc Cert.KernelIdeal.main_arg0))
    (h1 : m' ((c.tc : Thread nD τ).loc main_arg1) = m ((c.tc : Thread Cert.KernelIdeal.nD Cert.KernelIdeal.τ).loc Cert.KernelIdeal.main_arg1))
    (h2 : m' ((c.tc : Thread nD τ).loc main_arg2) = m ((c.tc : Thread Cert.KernelIdeal.nD Cert.KernelIdeal.τ).loc Cert.KernelIdeal.main_arg2))
    (h3 : m' ((c.tc : Thread nD τ).loc main_arg3) = m ((c.tc : Thread Cert.KernelIdeal.nD Cert.KernelIdeal.τ).loc Cert.KernelIdeal.main_arg3))
    (h4 : m' ((c.tc : Thread nD τ).loc main_arg4) = m ((c.tc : Thread Cert.KernelIdeal.nD Cert.KernelIdeal.τ).loc Cert.KernelIdeal.main_arg4))
    (h5 : m' ((c.tc : Thread nD τ).loc main_arg5) = m ((c.tc : Thread Cert.KernelIdeal.nD Cert.KernelIdeal.τ).loc Cert.KernelIdeal.main_arg5))
    (h6 : m' ((c.tc : Thread nD τ).loc main_arg6) = m ((c.tc : Thread Cert.KernelIdeal.nD Cert.KernelIdeal.τ).loc Cert.KernelIdeal.main_arg6))
    (h7 : m' ((c.tc : Thread nD τ).loc main_arg7) = m ((c.tc : Thread Cert.KernelIdeal.nD Cert.KernelIdeal.τ).loc Cert.KernelIdeal.main_arg7))
    (h8 : m' ((c.tc : Thread nD τ).loc main_arg8) = m ((c.tc : Thread Cert.KernelIdeal.nD Cert.KernelIdeal.τ).loc Cert.KernelIdeal.main_arg8))
    (h9 : m' ((c.tc : Thread nD τ).loc main_arg9) = m ((c.tc : Thread Cert.KernelIdeal.nD Cert.KernelIdeal.τ).loc Cert.KernelIdeal.main_arg9))
    (h10 : m' ((c.tc : Thread nD τ).loc main_arg10) = m ((c.tc : Thread Cert.KernelIdeal.nD Cert.KernelIdeal.τ).loc Cert.KernelIdeal.main_arg10))
    (h11 : m' ((c.tc : Thread nD τ).loc main_arg11) = m ((c.tc : Thread Cert.KernelIdeal.nD Cert.KernelIdeal.τ).loc Cert.KernelIdeal.main_arg11))
    (h12 : m' ((c.tc : Thread nD τ).loc main_arg12) = m ((c.tc : Thread Cert.KernelIdeal.nD Cert.KernelIdeal.τ).loc Cert.KernelIdeal.main_arg12))
    (h13 : m' ((c.tc : Thread nD τ).loc main_arg13) = m ((c.tc : Thread Cert.KernelIdeal.nD Cert.KernelIdeal.τ).loc Cert.KernelIdeal.main_arg13))
    (h14 : m' ((c.tc : Thread nD τ).loc main_arg14) = m ((c.tc : Thread Cert.KernelIdeal.nD Cert.KernelIdeal.τ).loc Cert.KernelIdeal.main_arg14))
    (h15 : m' ((c.tc : Thread nD τ).loc main_arg15) = m ((c.tc : Thread Cert.KernelIdeal.nD Cert.KernelIdeal.τ).loc Cert.KernelIdeal.main_arg15))
    (h16 : m' ((c.tc : Thread nD τ).loc main_arg16) = m ((c.tc : Thread Cert.KernelIdeal.nD Cert.KernelIdeal.τ).loc Cert.KernelIdeal.main_arg16))
    (h17 : m' ((c.tc : Thread nD τ).loc main_arg17) = m ((c.tc : Thread Cert.KernelIdeal.nD Cert.KernelIdeal.τ).loc Cert.KernelIdeal.main_arg17))
    (h18 : m' ((c.tc : Thread nD τ).loc main_arg18) = m ((c.tc : Thread Cert.KernelIdeal.nD Cert.KernelIdeal.τ).loc Cert.KernelIdeal.main_arg18))
    (h19 : m' ((c.tc : Thread nD τ).loc main_arg19) = m ((c.tc : Thread Cert.KernelIdeal.nD Cert.KernelIdeal.τ).loc Cert.KernelIdeal.main_arg19))
    (h20 : m' ((c.tc : Thread nD τ).loc main_arg20) = m ((c.tc : Thread Cert.KernelIdeal.nD Cert.KernelIdeal.τ).loc Cert.KernelIdeal.main_arg20))
    : Own.Args (StableHlo.launchContents m' c) (inp m c) where
  a0 := fun y0 y1 y2 => congrFun h0 _
  a1 := fun y0 y1 y2 => congrFun h1 _
  a2 := fun y0 y1 => (congrFun h2 _).trans (inp_ei m c hpre y0 y1)
  a3 := fun y0 y1 => (congrFun h3 _).trans (inp_ej m c hpre y0 y1)
  a4 := fun y0 y1 y2 => congrFun h4 _
  a5 := fun y0 y1 => congrFun h5 _
  a6 := fun y0 => congrFun h6 _
  a7 := fun y0 => congrFun h7 _
  a8 := fun y0 y1 => congrFun h8 _
  a9 := fun y0 => congrFun h9 _
  a10 := fun y0 y1 => congrFun h10 _
  a11 := fun y0 => congrFun h11 _
  a12 := fun y0 => congrFun h12 _
  a13 := fun y0 => congrFun h13 _
  a14 := fun y0 y1 => congrFun h14 _
  a15 := fun y0 => congrFun h15 _
  a16 := fun y0 y1 => congrFun h16 _
  a17 := fun y0 => congrFun h17 _
  a18 := fun y0 => congrFun h18 _
  a19 := fun y0 => congrFun h19 _
  a20 := congrFun h20 _

theorem algebraic [Cert.Pre_tame.Facts] : Cert.algebraic_KernelIdeal_ReferenceIdeal_pre_tame := by
  intro m g m' g' hpre hagree
  refine ⟨fun c => fun i : Cert.KernelIdeal.S16x96x128.Idx => hout (inp m c) (i 0) (i 1) (i 2), fun c => fun i : Cert.KernelIdeal.S16x96x4.Idx => xout (inp m c) (i 0) (i 1) (i 2),
    fun c => fun i : Cert.KernelIdeal.S16x9120x128.Idx => msg (inp m c) (i 0) (i 1) (i 2), ?_, ?_⟩
  · refine (θ_run _ _ _).mono (fun r h => fun c => ?_) (Cert.KernelIdeal.Own.run_main m g)
    have A := args_kernel m c hpre
    have T := inp_tame m c hpre
    exact ⟨(h.1 c Cert.KernelIdeal.main_v62_0 rfl).trans (Cert.KernelIdeal.Own.out_h m c _ A T), (h.1 c Cert.KernelIdeal.main_v62_1 rfl).trans (Cert.KernelIdeal.Own.out_x m c _ A T),
      (h.1 c Cert.KernelIdeal.main_v50_0 rfl).trans (Cert.KernelIdeal.Own.out_m m c _ A T), (h.1 c Cert.KernelIdeal.main_arg0 rfl).trans (Cert.KernelIdeal.Own.W6_main_arg0 m c), (h.1 c Cert.KernelIdeal.main_arg1 rfl).trans (Cert.KernelIdeal.Own.W6_main_arg1 m c), (h.1 c Cert.KernelIdeal.main_arg2 rfl).trans (Cert.KernelIdeal.Own.W6_main_arg2 m c), (h.1 c Cert.KernelIdeal.main_arg3 rfl).trans (Cert.KernelIdeal.Own.W6_main_arg3 m c), (h.1 c Cert.KernelIdeal.main_arg4 rfl).trans (Cert.KernelIdeal.Own.W6_main_arg4 m c), (h.1 c Cert.KernelIdeal.main_arg5 rfl).trans (Cert.KernelIdeal.Own.W6_main_arg5 m c), (h.1 c Cert.KernelIdeal.main_arg6 rfl).trans (Cert.KernelIdeal.Own.W6_main_arg6 m c), (h.1 c Cert.KernelIdeal.main_arg7 rfl).trans (Cert.KernelIdeal.Own.W6_main_arg7 m c), (h.1 c Cert.KernelIdeal.main_arg8 rfl).trans (Cert.KernelIdeal.Own.W6_main_arg8 m c), (h.1 c Cert.KernelIdeal.main_arg9 rfl).trans (Cert.KernelIdeal.Own.W6_main_arg9 m c), (h.1 c Cert.KernelIdeal.main_arg10 rfl).trans (Cert.KernelIdeal.Own.W6_main_arg10 m c), (h.1 c Cert.KernelIdeal.main_arg11 rfl).trans (Cert.KernelIdeal.Own.W6_main_arg11 m c), (h.1 c Cert.KernelIdeal.main_arg12 rfl).trans (Cert.KernelIdeal.Own.W6_main_arg12 m c), (h.1 c Cert.KernelIdeal.main_arg13 rfl).trans (Cert.KernelIdeal.Own.W6_main_arg13 m c), (h.1 c Cert.KernelIdeal.main_arg14 rfl).trans (Cert.KernelIdeal.Own.W6_main_arg14 m c), (h.1 c Cert.KernelIdeal.main_arg15 rfl).trans (Cert.KernelIdeal.Own.W6_main_arg15 m c), (h.1 c Cert.KernelIdeal.main_arg16 rfl).trans (Cert.KernelIdeal.Own.W6_main_arg16 m c), (h.1 c Cert.KernelIdeal.main_arg17 rfl).trans (Cert.KernelIdeal.Own.W6_main_arg17 m c), (h.1 c Cert.KernelIdeal.main_arg18 rfl).trans (Cert.KernelIdeal.Own.W6_main_arg18 m c), (h.1 c Cert.KernelIdeal.main_arg19 rfl).trans (Cert.KernelIdeal.Own.W6_main_arg19 m c), (h.1 c Cert.KernelIdeal.main_arg20 rfl).trans (Cert.KernelIdeal.Own.W6_main_arg20 m c)⟩
  · refine (θ_run _ _ _).mono (fun r h => fun c => ?_) (Cert.ReferenceIdeal.Own.run_main m' g')
    obtain ⟨h0, h1, h2, h3, h4, h5, h6, h7, h8, h9, h10, h11, h12, h13, h14, h15, h16, h17, h18, h19, h20⟩ := hagree c
    have A := args_ref m m' c hpre h0 h1 h2 h3 h4 h5 h6 h7 h8 h9 h10 h11 h12 h13 h14 h15 h16 h17 h18 h19 h20
    refine ⟨(h c Cert.ReferenceIdeal.main_v158).trans (funext fun i => ?_), (h c Cert.ReferenceIdeal.main_v118).trans (funext fun i => ?_),
      (h c Cert.ReferenceIdeal.main_v82).trans (funext fun i => ?_), (h c Cert.ReferenceIdeal.main_arg0).trans (Cert.ReferenceIdeal.Own.keeps_arg0 _), (h c Cert.ReferenceIdeal.main_arg1).trans (Cert.ReferenceIdeal.Own.keeps_arg1 _), (h c Cert.ReferenceIdeal.main_arg2).trans (Cert.ReferenceIdeal.Own.keeps_arg2 _), (h c Cert.ReferenceIdeal.main_arg3).trans (Cert.ReferenceIdeal.Own.keeps_arg3 _), (h c Cert.ReferenceIdeal.main_arg4).trans (Cert.ReferenceIdeal.Own.keeps_arg4 _), (h c Cert.ReferenceIdeal.main_arg5).trans (Cert.ReferenceIdeal.Own.keeps_arg5 _), (h c Cert.ReferenceIdeal.main_arg6).trans (Cert.ReferenceIdeal.Own.keeps_arg6 _), (h c Cert.ReferenceIdeal.main_arg7).trans (Cert.ReferenceIdeal.Own.keeps_arg7 _), (h c Cert.ReferenceIdeal.main_arg8).trans (Cert.ReferenceIdeal.Own.keeps_arg8 _), (h c Cert.ReferenceIdeal.main_arg9).trans (Cert.ReferenceIdeal.Own.keeps_arg9 _), (h c Cert.ReferenceIdeal.main_arg10).trans (Cert.ReferenceIdeal.Own.keeps_arg10 _), (h c Cert.ReferenceIdeal.main_arg11).trans (Cert.ReferenceIdeal.Own.keeps_arg11 _), (h c Cert.ReferenceIdeal.main_arg12).trans (Cert.ReferenceIdeal.Own.keeps_arg12 _), (h c Cert.ReferenceIdeal.main_arg13).trans (Cert.ReferenceIdeal.Own.keeps_arg13 _), (h c Cert.ReferenceIdeal.main_arg14).trans (Cert.ReferenceIdeal.Own.keeps_arg14 _), (h c Cert.ReferenceIdeal.main_arg15).trans (Cert.ReferenceIdeal.Own.keeps_arg15 _), (h c Cert.ReferenceIdeal.main_arg16).trans (Cert.ReferenceIdeal.Own.keeps_arg16 _), (h c Cert.ReferenceIdeal.main_arg17).trans (Cert.ReferenceIdeal.Own.keeps_arg17 _), (h c Cert.ReferenceIdeal.main_arg18).trans (Cert.ReferenceIdeal.Own.keeps_arg18 _), (h c Cert.ReferenceIdeal.main_arg19).trans (Cert.ReferenceIdeal.Own.keeps_arg19 _), (h c Cert.ReferenceIdeal.main_arg20).trans (Cert.ReferenceIdeal.Own.keeps_arg20 _)⟩
    · exact (congrArg _ (ix3_eta i).symm).trans (Cert.ReferenceIdeal.Own.out_h _ _ A (i 0) (i 1) (i 2))
    · exact (congrArg _ (ix3_eta i).symm).trans (Cert.ReferenceIdeal.Own.out_x _ _ A (i 0) (i 1) (i 2))
    · exact (congrArg _ (ix3_eta i).symm).trans (Cert.ReferenceIdeal.Own.out_m _ _ A (i 0) (i 1) (i 2))

end Cert.Proof
-- ==== Proof.lean ====
/-
  The claims of this certificate, assembled: the kernel's runs and the reference's runs (Proof/Kernel/Whole.lean,
  Proof/KernelIdeal/Whole.lean, Proof/Ref/Run.lean) leave the arguments alone and the counters at zero,
  and the printed kernel's sign test is the ideal one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Whole
public import proofs.«01_k».proof.Proof.KernelIdeal.Whole
public import proofs.«01_k».proof.Proof.Ref.Run
public import proofs.«01_k».proof.Proof.Value
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem quiescent_Kernel : Cert.quiescent_Kernel := fun m g _ =>
  (θ_run _ _ _).mono (fun r h => ⟨fun c => ⟨(h.1 c Cert.Kernel.main_arg0 rfl).trans (Cert.Kernel.Own.W6_main_arg0 m c), (h.1 c Cert.Kernel.main_arg1 rfl).trans (Cert.Kernel.Own.W6_main_arg1 m c), (h.1 c Cert.Kernel.main_arg2 rfl).trans (Cert.Kernel.Own.W6_main_arg2 m c), (h.1 c Cert.Kernel.main_arg3 rfl).trans (Cert.Kernel.Own.W6_main_arg3 m c), (h.1 c Cert.Kernel.main_arg4 rfl).trans (Cert.Kernel.Own.W6_main_arg4 m c), (h.1 c Cert.Kernel.main_arg5 rfl).trans (Cert.Kernel.Own.W6_main_arg5 m c), (h.1 c Cert.Kernel.main_arg6 rfl).trans (Cert.Kernel.Own.W6_main_arg6 m c), (h.1 c Cert.Kernel.main_arg7 rfl).trans (Cert.Kernel.Own.W6_main_arg7 m c), (h.1 c Cert.Kernel.main_arg8 rfl).trans (Cert.Kernel.Own.W6_main_arg8 m c), (h.1 c Cert.Kernel.main_arg9 rfl).trans (Cert.Kernel.Own.W6_main_arg9 m c), (h.1 c Cert.Kernel.main_arg10 rfl).trans (Cert.Kernel.Own.W6_main_arg10 m c), (h.1 c Cert.Kernel.main_arg11 rfl).trans (Cert.Kernel.Own.W6_main_arg11 m c), (h.1 c Cert.Kernel.main_arg12 rfl).trans (Cert.Kernel.Own.W6_main_arg12 m c), (h.1 c Cert.Kernel.main_arg13 rfl).trans (Cert.Kernel.Own.W6_main_arg13 m c), (h.1 c Cert.Kernel.main_arg14 rfl).trans (Cert.Kernel.Own.W6_main_arg14 m c), (h.1 c Cert.Kernel.main_arg15 rfl).trans (Cert.Kernel.Own.W6_main_arg15 m c), (h.1 c Cert.Kernel.main_arg16 rfl).trans (Cert.Kernel.Own.W6_main_arg16 m c), (h.1 c Cert.Kernel.main_arg17 rfl).trans (Cert.Kernel.Own.W6_main_arg17 m c), (h.1 c Cert.Kernel.main_arg18 rfl).trans (Cert.Kernel.Own.W6_main_arg18 m c), (h.1 c Cert.Kernel.main_arg19 rfl).trans (Cert.Kernel.Own.W6_main_arg19 m c), (h.1 c Cert.Kernel.main_arg20 rfl).trans (Cert.Kernel.Own.W6_main_arg20 m c)⟩, h.2⟩)
    (Cert.Kernel.Own.run_main m g)

theorem quiescent_KernelIdeal : Cert.quiescent_KernelIdeal := fun m g _ =>
  (θ_run _ _ _).mono (fun r h => ⟨fun c => ⟨(h.1 c Cert.KernelIdeal.main_arg0 rfl).trans (Cert.KernelIdeal.Own.W6_main_arg0 m c), (h.1 c Cert.KernelIdeal.main_arg1 rfl).trans (Cert.KernelIdeal.Own.W6_main_arg1 m c), (h.1 c Cert.KernelIdeal.main_arg2 rfl).trans (Cert.KernelIdeal.Own.W6_main_arg2 m c), (h.1 c Cert.KernelIdeal.main_arg3 rfl).trans (Cert.KernelIdeal.Own.W6_main_arg3 m c), (h.1 c Cert.KernelIdeal.main_arg4 rfl).trans (Cert.KernelIdeal.Own.W6_main_arg4 m c), (h.1 c Cert.KernelIdeal.main_arg5 rfl).trans (Cert.KernelIdeal.Own.W6_main_arg5 m c), (h.1 c Cert.KernelIdeal.main_arg6 rfl).trans (Cert.KernelIdeal.Own.W6_main_arg6 m c), (h.1 c Cert.KernelIdeal.main_arg7 rfl).trans (Cert.KernelIdeal.Own.W6_main_arg7 m c), (h.1 c Cert.KernelIdeal.main_arg8 rfl).trans (Cert.KernelIdeal.Own.W6_main_arg8 m c), (h.1 c Cert.KernelIdeal.main_arg9 rfl).trans (Cert.KernelIdeal.Own.W6_main_arg9 m c), (h.1 c Cert.KernelIdeal.main_arg10 rfl).trans (Cert.KernelIdeal.Own.W6_main_arg10 m c), (h.1 c Cert.KernelIdeal.main_arg11 rfl).trans (Cert.KernelIdeal.Own.W6_main_arg11 m c), (h.1 c Cert.KernelIdeal.main_arg12 rfl).trans (Cert.KernelIdeal.Own.W6_main_arg12 m c), (h.1 c Cert.KernelIdeal.main_arg13 rfl).trans (Cert.KernelIdeal.Own.W6_main_arg13 m c), (h.1 c Cert.KernelIdeal.main_arg14 rfl).trans (Cert.KernelIdeal.Own.W6_main_arg14 m c), (h.1 c Cert.KernelIdeal.main_arg15 rfl).trans (Cert.KernelIdeal.Own.W6_main_arg15 m c), (h.1 c Cert.KernelIdeal.main_arg16 rfl).trans (Cert.KernelIdeal.Own.W6_main_arg16 m c), (h.1 c Cert.KernelIdeal.main_arg17 rfl).trans (Cert.KernelIdeal.Own.W6_main_arg17 m c), (h.1 c Cert.KernelIdeal.main_arg18 rfl).trans (Cert.KernelIdeal.Own.W6_main_arg18 m c), (h.1 c Cert.KernelIdeal.main_arg19 rfl).trans (Cert.KernelIdeal.Own.W6_main_arg19 m c), (h.1 c Cert.KernelIdeal.main_arg20 rfl).trans (Cert.KernelIdeal.Own.W6_main_arg20 m c)⟩, h.2⟩)
    (Cert.KernelIdeal.Own.run_main m g)

theorem quiescent_KernelIdeal_tame [Cert.Pre_tame.Facts] : Cert.quiescent_KernelIdeal_pre_tame := fun m g _ => quiescent_KernelIdeal m g trivial

/-- The reference has no semaphore at all. -/
theorem no_sem : ∀ s : SemLoc Cert.ReferenceIdeal.sig, False := by decide

theorem quiescent_ReferenceIdeal : Cert.quiescent_ReferenceIdeal := fun m g _ =>
  (θ_run _ _ _).mono (fun r h => ⟨fun c => ⟨(h c Cert.ReferenceIdeal.main_arg0).trans (Cert.ReferenceIdeal.Own.keeps_arg0 _), (h c Cert.ReferenceIdeal.main_arg1).trans (Cert.ReferenceIdeal.Own.keeps_arg1 _), (h c Cert.ReferenceIdeal.main_arg2).trans (Cert.ReferenceIdeal.Own.keeps_arg2 _), (h c Cert.ReferenceIdeal.main_arg3).trans (Cert.ReferenceIdeal.Own.keeps_arg3 _), (h c Cert.ReferenceIdeal.main_arg4).trans (Cert.ReferenceIdeal.Own.keeps_arg4 _), (h c Cert.ReferenceIdeal.main_arg5).trans (Cert.ReferenceIdeal.Own.keeps_arg5 _), (h c Cert.ReferenceIdeal.main_arg6).trans (Cert.ReferenceIdeal.Own.keeps_arg6 _), (h c Cert.ReferenceIdeal.main_arg7).trans (Cert.ReferenceIdeal.Own.keeps_arg7 _), (h c Cert.ReferenceIdeal.main_arg8).trans (Cert.ReferenceIdeal.Own.keeps_arg8 _), (h c Cert.ReferenceIdeal.main_arg9).trans (Cert.ReferenceIdeal.Own.keeps_arg9 _), (h c Cert.ReferenceIdeal.main_arg10).trans (Cert.ReferenceIdeal.Own.keeps_arg10 _), (h c Cert.ReferenceIdeal.main_arg11).trans (Cert.ReferenceIdeal.Own.keeps_arg11 _), (h c Cert.ReferenceIdeal.main_arg12).trans (Cert.ReferenceIdeal.Own.keeps_arg12 _), (h c Cert.ReferenceIdeal.main_arg13).trans (Cert.ReferenceIdeal.Own.keeps_arg13 _), (h c Cert.ReferenceIdeal.main_arg14).trans (Cert.ReferenceIdeal.Own.keeps_arg14 _), (h c Cert.ReferenceIdeal.main_arg15).trans (Cert.ReferenceIdeal.Own.keeps_arg15 _), (h c Cert.ReferenceIdeal.main_arg16).trans (Cert.ReferenceIdeal.Own.keeps_arg16 _), (h c Cert.ReferenceIdeal.main_arg17).trans (Cert.ReferenceIdeal.Own.keeps_arg17 _), (h c Cert.ReferenceIdeal.main_arg18).trans (Cert.ReferenceIdeal.Own.keeps_arg18 _), (h c Cert.ReferenceIdeal.main_arg19).trans (Cert.ReferenceIdeal.Own.keeps_arg19 _), (h c Cert.ReferenceIdeal.main_arg20).trans (Cert.ReferenceIdeal.Own.keeps_arg20 _)⟩, funext fun s => (no_sem s.2).elim⟩)
    (Cert.ReferenceIdeal.Own.run_main m g)

theorem quiescent_ReferenceIdeal_tame [Cert.Pre_tame.Facts] : Cert.quiescent_ReferenceIdeal_pre_tame := fun m g _ => quiescent_ReferenceIdeal m g trivial

theorem preserves : Cert.preserves_Kernel_KernelIdeal := IdealRules.sign_bit.statement Cert.KernelIdeal.S96x96 .f32

instance preFacts : Cert.Pre_tame.Facts := ⟨by decide, by decide, by decide, by decide, by decide⟩

theorem claim : Cert.Claim := ⟨Cert.Kernel.Gen.facts, Cert.KernelIdeal.Gen.facts, Cert.ReferenceIdeal.Gen.facts, preFacts,
  quiescent_Kernel, quiescent_KernelIdeal, quiescent_KernelIdeal_tame, quiescent_ReferenceIdeal, quiescent_ReferenceIdeal_tame, preserves, algebraic⟩

end Cert.Proof

end
